-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandRefIdeal (m : (ℓ : Loc Cert.BandRefIdeal.nD Cert.BandRefIdeal.τ Cert.BandRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dilp (m : (ℓ : Loc Cert.Dilp.nD Cert.Dilp.τ Cert.Dilp.sig) → Buf (Elt Bits) ℓ) : Prop :=
  True

def Pre_DilpIdeal (m : (ℓ : Loc Cert.DilpIdeal.nD Cert.DilpIdeal.τ Cert.DilpIdeal.sig) → Buf (Elt Ideal) ℓ) : Prop :=
  True

def Pre_DilpRefIdeal (m : (ℓ : Loc Cert.DilpRefIdeal.nD Cert.DilpRefIdeal.τ Cert.DilpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearRefIdeal (m : (ℓ : Loc Cert.NearRefIdeal.nD Cert.NearRefIdeal.τ Cert.NearRefIdeal.sig) → Buf (Elt Ideal) ℓ) : Prop :=
  True

def Pre_Far (m : (ℓ : Loc Cert.Far.nD Cert.Far.τ Cert.Far.sig) → Buf (Elt Bits) ℓ) : Prop :=
  True

def Pre_FarIdeal (m : (ℓ : Loc Cert.FarIdeal.nD Cert.FarIdeal.τ Cert.FarIdeal.sig) → Buf (Elt Ideal) ℓ) : Prop :=
  True

def Pre_FarRefIdeal (m : (ℓ : Loc Cert.FarRefIdeal.nD Cert.FarRefIdeal.τ Cert.FarRefIdeal.sig) → Buf (Elt Ideal) ℓ) : Prop :=
  True

def Pre_NewA (m : (ℓ : Loc Cert.NewA.nD Cert.NewA.τ Cert.NewA.sig) → Buf (Elt Bits) ℓ) : Prop :=
  True

def Pre_NewAIdeal (m : (ℓ : Loc Cert.NewAIdeal.nD Cert.NewAIdeal.τ Cert.NewAIdeal.sig) → Buf (Elt Ideal) ℓ) : Prop :=
  True

def Pre_NewARefIdeal (m : (ℓ : Loc Cert.NewARefIdeal.nD Cert.NewARefIdeal.τ Cert.NewARefIdeal.sig) → Buf (Elt Ideal) ℓ) : Prop :=
  True

def Pre_NewC (m : (ℓ : Loc Cert.NewC.nD Cert.NewC.τ Cert.NewC.sig) → Buf (Elt Bits) ℓ) : Prop :=
  True

def Pre_NewCIdeal (m : (ℓ : Loc Cert.NewCIdeal.nD Cert.NewCIdeal.τ Cert.NewCIdeal.sig) → Buf (Elt Ideal) ℓ) : Prop :=
  True

def Pre_NewCRefIdeal (m : (ℓ : Loc Cert.NewCRefIdeal.nD Cert.NewCRefIdeal.τ Cert.NewCRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_softmax_statistics [hPre_softmax_statistics : Cert.Pre_softmax_statistics.Facts] (m : (ℓ : Loc Cert.MergeIdeal.nD Cert.MergeIdeal.τ Cert.MergeIdeal.sig) → Buf (Elt Ideal) ℓ) : Prop :=
  ∀ c : Dev Cert.MergeIdeal.nD,
    (Cert.Pre_softmax_statistics.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_softmax_statistics [hPre_softmax_statistics : Cert.Pre_softmax_statistics.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_softmax_statistics.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_Dils (m : (ℓ : Loc Cert.Dils.nD Cert.Dils.τ Cert.Dils.sig) → Buf (Elt Bits) ℓ) : Prop :=
  True

def Pre_DilsIdeal (m : (ℓ : Loc Cert.DilsIdeal.nD Cert.DilsIdeal.τ Cert.DilsIdeal.sig) → Buf (Elt Ideal) ℓ) : Prop :=
  True

def Pre_DilsRefIdeal (m : (ℓ : Loc Cert.DilsRefIdeal.nD Cert.DilsRefIdeal.τ Cert.DilsRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Dilp [hDilp : Cert.Dilp.Facts] : Prop :=
  ∀ (m : (ℓ : Loc Cert.Dilp.nD Cert.Dilp.τ Cert.Dilp.sig) → Buf (Elt Bits) ℓ) (g : Dev Cert.Dilp.nD → PrngReg), Pre_Dilp m →
    θ_run (Cert.Dilp.defs (F := Bits)) (onTc (τ := Cert.Dilp.τ) (Cert.Dilp.main (F := Bits))) ⟨m, fun _ => 0, g⟩ (fun r => (∀ c : Dev Cert.Dilp.nD,
      r.2.mem ((c.tc : Thread Cert.Dilp.nD Cert.Dilp.τ).loc Cert.Dilp.main_arg0) = m ((c.tc : Thread Cert.Dilp.nD Cert.Dilp.τ).loc Cert.Dilp.main_arg0)
      ∧ r.2.mem ((c.tc : Thread Cert.Dilp.nD Cert.Dilp.τ).loc Cert.Dilp.main_arg1) = m ((c.tc : Thread Cert.Dilp.nD Cert.Dilp.τ).loc Cert.Dilp.main_arg1))
      ∧ r.2.sem = fun _ => 0)

def quiescent_DilpIdeal [hDilpIdeal : Cert.DilpIdeal.Facts] : Prop :=
  ∀ (m : (ℓ : Loc Cert.DilpIdeal.nD Cert.DilpIdeal.τ Cert.DilpIdeal.sig) → Buf (Elt Ideal) ℓ) (g : Dev Cert.DilpIdeal.nD → PrngReg), Pre_DilpIdeal m →
    θ_run (Cert.DilpIdeal.defs (F := Ideal)) (onTc (τ := Cert.DilpIdeal.τ) (Cert.DilpIdeal.main (F := Ideal))) ⟨m, fun _ => 0, g⟩ (fun r => (∀ c : Dev Cert.DilpIdeal.nD,
      r.2.mem ((c.tc : Thread Cert.DilpIdeal.nD Cert.DilpIdeal.τ).loc Cert.DilpIdeal.main_arg0) = m ((c.tc : Thread Cert.DilpIdeal.nD Cert.DilpIdeal.τ).loc Cert.DilpIdeal.main_arg0)
      ∧ r.2.mem ((c.tc : Thread Cert.DilpIdeal.nD Cert.DilpIdeal.τ).loc Cert.DilpIdeal.main_arg1) = m ((c.tc : Thread Cert.DilpIdeal.nD Cert.DilpIdeal.τ).loc Cert.DilpIdeal.main_arg1))
      ∧ r.2.sem = fun _ => 0)

def quiescent_DilpRefIdeal [hDilpRefIdeal : Cert.DilpRefIdeal.Facts] : Prop :=
  ∀ (m : (ℓ : Loc Cert.DilpRefIdeal.nD Cert.DilpRefIdeal.τ Cert.DilpRefIdeal.sig) → Buf (Elt Ideal) ℓ) (g : Dev Cert.DilpRefIdeal.nD → PrngReg), Pre_DilpRefIdeal m →
    θ_run (Cert.DilpRefIdeal.defs (F := Ideal)) (onTc (τ := Cert.DilpRefIdeal.τ) (Cert.DilpRefIdeal.main (F := Ideal))) ⟨m, fun _ => 0, g⟩ (fun r => (∀ c : Dev Cert.DilpRefIdeal.nD,
      r.2.mem ((c.tc : Thread Cert.DilpRefIdeal.nD Cert.DilpRefIdeal.τ).loc Cert.DilpRefIdeal.main_arg0) = m ((c.tc : Thread Cert.DilpRefIdeal.nD Cert.DilpRefIdeal.τ).loc Cert.DilpRefIdeal.main_arg0)
      ∧ r.2.mem ((c.tc : Thread Cert.DilpRefIdeal.nD Cert.DilpRefIdeal.τ).loc Cert.DilpRefIdeal.main_arg1) = m ((c.tc : Thread Cert.DilpRefIdeal.nD Cert.DilpRefIdeal.τ).loc Cert.DilpRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0))
      ∧ r.2.sem = fun _ => 0)

def quiescent_NearRefIdeal [hNearRefIdeal : Cert.NearRefIdeal.Facts] : Prop :=
  ∀ (m : (ℓ : Loc Cert.NearRefIdeal.nD Cert.NearRefIdeal.τ Cert.NearRefIdeal.sig) → Buf (Elt Ideal) ℓ) (g : Dev Cert.NearRefIdeal.nD → PrngReg), Pre_NearRefIdeal m →
    θ_run (Cert.NearRefIdeal.defs (F := Ideal)) (onTc (τ := Cert.NearRefIdeal.τ) (Cert.NearRefIdeal.main (F := Ideal))) ⟨m, fun _ => 0, g⟩ (fun r => (∀ c : Dev Cert.NearRefIdeal.nD,
      r.2.mem ((c.tc : Thread Cert.NearRefIdeal.nD Cert.NearRefIdeal.τ).loc Cert.NearRefIdeal.main_arg0) = m ((c.tc : Thread Cert.NearRefIdeal.nD Cert.NearRefIdeal.τ).loc Cert.NearRefIdeal.main_arg0))
      ∧ r.2.sem = fun _ => 0)

def quiescent_Far [hFar : Cert.Far.Facts] : Prop :=
  ∀ (m : (ℓ : Loc Cert.Far.nD Cert.Far.τ Cert.Far.sig) → Buf (Elt Bits) ℓ) (g : Dev Cert.Far.nD → PrngReg), Pre_Far m →
    θ_run (Cert.Far.defs (F := Bits)) (onTc (τ := Cert.Far.τ) (Cert.Far.main (F := Bits))) ⟨m, fun _ => 0, g⟩ (fun r => (∀ c : Dev Cert.Far.nD,
      r.2.mem ((c.tc : Thread Cert.Far.nD Cert.Far.τ).loc Cert.Far.main_arg0) = m ((c.tc : Thread Cert.Far.nD Cert.Far.τ).loc Cert.Far.main_arg0))
      ∧ r.2.sem = fun _ => 0)

def quiescent_FarIdeal [hFarIdeal : Cert.FarIdeal.Facts] : Prop :=
  ∀ (m : (ℓ : Loc Cert.FarIdeal.nD Cert.FarIdeal.τ Cert.FarIdeal.sig) → Buf (Elt Ideal) ℓ) (g : Dev Cert.FarIdeal.nD → PrngReg), Pre_FarIdeal m →
    θ_run (Cert.FarIdeal.defs (F := Ideal)) (onTc (τ := Cert.FarIdeal.τ) (Cert.FarIdeal.main (F := Ideal))) ⟨m, fun _ => 0, g⟩ (fun r => (∀ c : Dev Cert.FarIdeal.nD,
      r.2.mem ((c.tc : Thread Cert.FarIdeal.nD Cert.FarIdeal.τ).loc Cert.FarIdeal.main_arg0) = m ((c.tc : Thread Cert.FarIdeal.nD Cert.FarIdeal.τ).loc Cert.FarIdeal.main_arg0))
      ∧ r.2.sem = fun _ => 0)

def quiescent_FarRefIdeal [hFarRefIdeal : Cert.FarRefIdeal.Facts] : Prop :=
  ∀ (m : (ℓ : Loc Cert.FarRefIdeal.nD Cert.FarRefIdeal.τ Cert.FarRefIdeal.sig) → Buf (Elt Ideal) ℓ) (g : Dev Cert.FarRefIdeal.nD → PrngReg), Pre_FarRefIdeal m →
    θ_run (Cert.FarRefIdeal.defs (F := Ideal)) (onTc (τ := Cert.FarRefIdeal.τ) (Cert.FarRefIdeal.main (F := Ideal))) ⟨m, fun _ => 0, g⟩ (fun r => (∀ c : Dev Cert.FarRefIdeal.nD,
      r.2.mem ((c.tc : Thread Cert.FarRefIdeal.nD Cert.FarRefIdeal.τ).loc Cert.FarRefIdeal.main_arg0) = m ((c.tc : Thread Cert.FarRefIdeal.nD Cert.FarRefIdeal.τ).loc Cert.FarRefIdeal.main_arg0))
      ∧ r.2.sem = fun _ => 0)

def quiescent_NewA [hNewA : Cert.NewA.Facts] : Prop :=
  ∀ (m : (ℓ : Loc Cert.NewA.nD Cert.NewA.τ Cert.NewA.sig) → Buf (Elt Bits) ℓ) (g : Dev Cert.NewA.nD → PrngReg), Pre_NewA m →
    θ_run (Cert.NewA.defs (F := Bits)) (onTc (τ := Cert.NewA.τ) (Cert.NewA.main (F := Bits))) ⟨m, fun _ => 0, g⟩ (fun r => (∀ c : Dev Cert.NewA.nD,
      r.2.mem ((c.tc : Thread Cert.NewA.nD Cert.NewA.τ).loc Cert.NewA.main_arg0) = m ((c.tc : Thread Cert.NewA.nD Cert.NewA.τ).loc Cert.NewA.main_arg0)
      ∧ r.2.mem ((c.tc : Thread Cert.NewA.nD Cert.NewA.τ).loc Cert.NewA.main_arg1) = m ((c.tc : Thread Cert.NewA.nD Cert.NewA.τ).loc Cert.NewA.main_arg1))
      ∧ r.2.sem = fun _ => 0)

def quiescent_NewAIdeal [hNewAIdeal : Cert.NewAIdeal.Facts] : Prop :=
  ∀ (m : (ℓ : Loc Cert.NewAIdeal.nD Cert.NewAIdeal.τ Cert.NewAIdeal.sig) → Buf (Elt Ideal) ℓ) (g : Dev Cert.NewAIdeal.nD → PrngReg), Pre_NewAIdeal m →
    θ_run (Cert.NewAIdeal.defs (F := Ideal)) (onTc (τ := Cert.NewAIdeal.τ) (Cert.NewAIdeal.main (F := Ideal))) ⟨m, fun _ => 0, g⟩ (fun r => (∀ c : Dev Cert.NewAIdeal.nD,
      r.2.mem ((c.tc : Thread Cert.NewAIdeal.nD Cert.NewAIdeal.τ).loc Cert.NewAIdeal.main_arg0) = m ((c.tc : Thread Cert.NewAIdeal.nD Cert.NewAIdeal.τ).loc Cert.NewAIdeal.main_arg0)
      ∧ r.2.mem ((c.tc : Thread Cert.NewAIdeal.nD Cert.NewAIdeal.τ).loc Cert.NewAIdeal.main_arg1) = m ((c.tc : Thread Cert.NewAIdeal.nD Cert.NewAIdeal.τ).loc Cert.NewAIdeal.main_arg1))
      ∧ r.2.sem = fun _ => 0)

def quiescent_NewARefIdeal [hNewARefIdeal : Cert.NewARefIdeal.Facts] : Prop :=
  ∀ (m : (ℓ : Loc Cert.NewARefIdeal.nD Cert.NewARefIdeal.τ Cert.NewARefIdeal.sig) → Buf (Elt Ideal) ℓ) (g : Dev Cert.NewARefIdeal.nD → PrngReg), Pre_NewARefIdeal m →
    θ_run (Cert.NewARefIdeal.defs (F := Ideal)) (onTc (τ := Cert.NewARefIdeal.τ) (Cert.NewARefIdeal.main (F := Ideal))) ⟨m, fun _ => 0, g⟩ (fun r => (∀ c : Dev Cert.NewARefIdeal.nD,
      r.2.mem ((c.tc : Thread Cert.NewARefIdeal.nD Cert.NewARefIdeal.τ).loc Cert.NewARefIdeal.main_arg0) = m ((c.tc : Thread Cert.NewARefIdeal.nD Cert.NewARefIdeal.τ).loc Cert.NewARefIdeal.main_arg0)
      ∧ r.2.mem ((c.tc : Thread Cert.NewARefIdeal.nD Cert.NewARefIdeal.τ).loc Cert.NewARefIdeal.main_arg1) = m ((c.tc : Thread Cert.NewARefIdeal.nD Cert.NewARefIdeal.τ).loc Cert.NewARefIdeal.main_arg1))
      ∧ r.2.sem = fun _ => 0)

def quiescent_NewC [hNewC : Cert.NewC.Facts] : Prop :=
  ∀ (m : (ℓ : Loc Cert.NewC.nD Cert.NewC.τ Cert.NewC.sig) → Buf (Elt Bits) ℓ) (g : Dev Cert.NewC.nD → PrngReg), Pre_NewC m →
    θ_run (Cert.NewC.defs (F := Bits)) (onTc (τ := Cert.NewC.τ) (Cert.NewC.main (F := Bits))) ⟨m, fun _ => 0, g⟩ (fun r => (∀ c : Dev Cert.NewC.nD,
      r.2.mem ((c.tc : Thread Cert.NewC.nD Cert.NewC.τ).loc Cert.NewC.main_arg0) = m ((c.tc : Thread Cert.NewC.nD Cert.NewC.τ).loc Cert.NewC.main_arg0)
      ∧ r.2.mem ((c.tc : Thread Cert.NewC.nD Cert.NewC.τ).loc Cert.NewC.main_arg1) = m ((c.tc : Thread Cert.NewC.nD Cert.NewC.τ).loc Cert.NewC.main_arg1))
      ∧ r.2.sem = fun _ => 0)

def quiescent_NewCIdeal [hNewCIdeal : Cert.NewCIdeal.Facts] : Prop :=
  ∀ (m : (ℓ : Loc Cert.NewCIdeal.nD Cert.NewCIdeal.τ Cert.NewCIdeal.sig) → Buf (Elt Ideal) ℓ) (g : Dev Cert.NewCIdeal.nD → PrngReg), Pre_NewCIdeal m →
    θ_run (Cert.NewCIdeal.defs (F := Ideal)) (onTc (τ := Cert.NewCIdeal.τ) (Cert.NewCIdeal.main (F := Ideal))) ⟨m, fun _ => 0, g⟩ (fun r => (∀ c : Dev Cert.NewCIdeal.nD,
      r.2.mem ((c.tc : Thread Cert.NewCIdeal.nD Cert.NewCIdeal.τ).loc Cert.NewCIdeal.main_arg0) = m ((c.tc : Thread Cert.NewCIdeal.nD Cert.NewCIdeal.τ).loc Cert.NewCIdeal.main_arg0)
      ∧ r.2.mem ((c.tc : Thread Cert.NewCIdeal.nD Cert.NewCIdeal.τ).loc Cert.NewCIdeal.main_arg1) = m ((c.tc : Thread Cert.NewCIdeal.nD Cert.NewCIdeal.τ).loc Cert.NewCIdeal.main_arg1))
      ∧ r.2.sem = fun _ => 0)

def quiescent_NewCRefIdeal [hNewCRefIdeal : Cert.NewCRefIdeal.Facts] : Prop :=
  ∀ (m : (ℓ : Loc Cert.NewCRefIdeal.nD Cert.NewCRefIdeal.τ Cert.NewCRefIdeal.sig) → Buf (Elt Ideal) ℓ) (g : Dev Cert.NewCRefIdeal.nD → PrngReg), Pre_NewCRefIdeal m →
    θ_run (Cert.NewCRefIdeal.defs (F := Ideal)) (onTc (τ := Cert.NewCRefIdeal.τ) (Cert.NewCRefIdeal.main (F := Ideal))) ⟨m, fun _ => 0, g⟩ (fun r => (∀ c : Dev Cert.NewCRefIdeal.nD,
      r.2.mem ((c.tc : Thread Cert.NewCRefIdeal.nD Cert.NewCRefIdeal.τ).loc Cert.NewCRefIdeal.main_arg0) = m ((c.tc : Thread Cert.NewCRefIdeal.nD Cert.NewCRefIdeal.τ).loc Cert.NewCRefIdeal.main_arg0)
      ∧ r.2.mem ((c.tc : Thread Cert.NewCRefIdeal.nD Cert.NewCRefIdeal.τ).loc Cert.NewCRefIdeal.main_arg1) = m ((c.tc : Thread Cert.NewCRefIdeal.nD Cert.NewCRefIdeal.τ).loc Cert.NewCRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_softmax_statistics [hMergeIdeal : Cert.MergeIdeal.Facts] [hPre_softmax_statistics : Cert.Pre_softmax_statistics.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_softmax_statistics m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_softmax_statistics [hMergeRefIdeal : Cert.MergeRefIdeal.Facts] [hPre_softmax_statistics : Cert.Pre_softmax_statistics.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_softmax_statistics m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Dils [hDils : Cert.Dils.Facts] : Prop :=
  ∀ (m : (ℓ : Loc Cert.Dils.nD Cert.Dils.τ Cert.Dils.sig) → Buf (Elt Bits) ℓ) (g : Dev Cert.Dils.nD → PrngReg), Pre_Dils m →
    θ_run (Cert.Dils.defs (F := Bits)) (onTc (τ := Cert.Dils.τ) (Cert.Dils.main (F := Bits))) ⟨m, fun _ => 0, g⟩ (fun r => (∀ c : Dev Cert.Dils.nD,
      r.2.mem ((c.tc : Thread Cert.Dils.nD Cert.Dils.τ).loc Cert.Dils.main_arg0) = m ((c.tc : Thread Cert.Dils.nD Cert.Dils.τ).loc Cert.Dils.main_arg0)
      ∧ r.2.mem ((c.tc : Thread Cert.Dils.nD Cert.Dils.τ).loc Cert.Dils.main_arg1) = m ((c.tc : Thread Cert.Dils.nD Cert.Dils.τ).loc Cert.Dils.main_arg1)
      ∧ r.2.mem ((c.tc : Thread Cert.Dils.nD Cert.Dils.τ).loc Cert.Dils.main_arg2) = m ((c.tc : Thread Cert.Dils.nD Cert.Dils.τ).loc Cert.Dils.main_arg2)
      ∧ r.2.mem ((c.tc : Thread Cert.Dils.nD Cert.Dils.τ).loc Cert.Dils.main_arg3) = m ((c.tc : Thread Cert.Dils.nD Cert.Dils.τ).loc Cert.Dils.main_arg3))
      ∧ r.2.sem = fun _ => 0)

def quiescent_DilsIdeal [hDilsIdeal : Cert.DilsIdeal.Facts] : Prop :=
  ∀ (m : (ℓ : Loc Cert.DilsIdeal.nD Cert.DilsIdeal.τ Cert.DilsIdeal.sig) → Buf (Elt Ideal) ℓ) (g : Dev Cert.DilsIdeal.nD → PrngReg), Pre_DilsIdeal m →
    θ_run (Cert.DilsIdeal.defs (F := Ideal)) (onTc (τ := Cert.DilsIdeal.τ) (Cert.DilsIdeal.main (F := Ideal))) ⟨m, fun _ => 0, g⟩ (fun r => (∀ c : Dev Cert.DilsIdeal.nD,
      r.2.mem ((c.tc : Thread Cert.DilsIdeal.nD Cert.DilsIdeal.τ).loc Cert.DilsIdeal.main_arg0) = m ((c.tc : Thread Cert.DilsIdeal.nD Cert.DilsIdeal.τ).loc Cert.DilsIdeal.main_arg0)
      ∧ r.2.mem ((c.tc : Thread Cert.DilsIdeal.nD Cert.DilsIdeal.τ).loc Cert.DilsIdeal.main_arg1) = m ((c.tc : Thread Cert.DilsIdeal.nD Cert.DilsIdeal.τ).loc Cert.DilsIdeal.main_arg1)
      ∧ r.2.mem ((c.tc : Thread Cert.DilsIdeal.nD Cert.DilsIdeal.τ).loc Cert.DilsIdeal.main_arg2) = m ((c.tc : Thread Cert.DilsIdeal.nD Cert.DilsIdeal.τ).loc Cert.DilsIdeal.main_arg2)
      ∧ r.2.mem ((c.tc : Thread Cert.DilsIdeal.nD Cert.DilsIdeal.τ).loc Cert.DilsIdeal.main_arg3) = m ((c.tc : Thread Cert.DilsIdeal.nD Cert.DilsIdeal.τ).loc Cert.DilsIdeal.main_arg3))
      ∧ r.2.sem = fun _ => 0)

def quiescent_DilsRefIdeal [hDilsRefIdeal : Cert.DilsRefIdeal.Facts] : Prop :=
  ∀ (m : (ℓ : Loc Cert.DilsRefIdeal.nD Cert.DilsRefIdeal.τ Cert.DilsRefIdeal.sig) → Buf (Elt Ideal) ℓ) (g : Dev Cert.DilsRefIdeal.nD → PrngReg), Pre_DilsRefIdeal m →
    θ_run (Cert.DilsRefIdeal.defs (F := Ideal)) (onTc (τ := Cert.DilsRefIdeal.τ) (Cert.DilsRefIdeal.main (F := Ideal))) ⟨m, fun _ => 0, g⟩ (fun r => (∀ c : Dev Cert.DilsRefIdeal.nD,
      r.2.mem ((c.tc : Thread Cert.DilsRefIdeal.nD Cert.DilsRefIdeal.τ).loc Cert.DilsRefIdeal.main_arg0) = m ((c.tc : Thread Cert.DilsRefIdeal.nD Cert.DilsRefIdeal.τ).loc Cert.DilsRefIdeal.main_arg0)
      ∧ r.2.mem ((c.tc : Thread Cert.DilsRefIdeal.nD Cert.DilsRefIdeal.τ).loc Cert.DilsRefIdeal.main_arg1) = m ((c.tc : Thread Cert.DilsRefIdeal.nD Cert.DilsRefIdeal.τ).loc Cert.DilsRefIdeal.main_arg1)
      ∧ r.2.mem ((c.tc : Thread Cert.DilsRefIdeal.nD Cert.DilsRefIdeal.τ).loc Cert.DilsRefIdeal.main_arg2) = m ((c.tc : Thread Cert.DilsRefIdeal.nD Cert.DilsRefIdeal.τ).loc Cert.DilsRefIdeal.main_arg2)
      ∧ r.2.mem ((c.tc : Thread Cert.DilsRefIdeal.nD Cert.DilsRefIdeal.τ).loc Cert.DilsRefIdeal.main_arg3) = m ((c.tc : Thread Cert.DilsRefIdeal.nD Cert.DilsRefIdeal.τ).loc Cert.DilsRefIdeal.main_arg3))
      ∧ r.2.sem = fun _ => 0)

def preserves_Band_BandIdeal : Prop :=
  IdealRules.named_const.Statement Cert.BandIdeal.κ "mask" .f32 0xF149F2CA#32 ⊥

def algebraic_BandIdeal_BandRefIdeal [hBandIdeal : Cert.BandIdeal.Facts] [hBandRefIdeal : Cert.BandRefIdeal.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)) →
    ∃ (v0 : (c : Dev Cert.BandIdeal.nD) → Buf (Elt Ideal) ((c.tc : Thread Cert.BandIdeal.nD Cert.BandIdeal.τ).loc Cert.BandIdeal.main_v1_0)) (v1 : (c : Dev Cert.BandIdeal.nD) → Buf (Elt Ideal) ((c.tc : Thread Cert.BandIdeal.nD Cert.BandIdeal.τ).loc Cert.BandIdeal.main_v1_1)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v1_0) = v0 c
          ∧ r.2.mem ((c.tc : Thread Cert.BandIdeal.nD Cert.BandIdeal.τ).loc Cert.BandIdeal.main_v1_1) = v1 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v65) = v0 c
          ∧ r.2.mem ((c.tc : Thread Cert.BandRefIdeal.nD Cert.BandRefIdeal.τ).loc Cert.BandRefIdeal.main_v68) = v1 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0))

def preserves_Ffn_FfnIdeal : Prop :=
  True

def algebraic_FfnIdeal_FfnRefIdeal_on_last_rows [hFfnIdeal : Cert.FfnIdeal.Facts] [hFfnRefIdeal : Cert.FfnRefIdeal.Facts] [hOn_last_rows : Cert.On_last_rows.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨2, ![16384, 1024]⟩ : Shape).Idx, (Cert.On_last_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 i = 1#1 → r.2.mem ((c.tc : Thread Cert.FfnIdeal.nD Cert.FfnIdeal.τ).loc Cert.FfnIdeal.main_v8_0) i = v0 c i)
          ∧ (∀ i : (⟨2, ![256, 5632]⟩ : Shape).Idx, (Cert.On_last_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2 i = 1#1 → r.2.mem ((c.tc : Thread Cert.FfnIdeal.nD Cert.FfnIdeal.τ).loc Cert.FfnIdeal.main_v8_1) i = v1 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          (∀ i : (⟨2, ![16384, 1024]⟩ : Shape).Idx, (Cert.On_last_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 i = 1#1 → r.2.mem ((c.tc : Thread Cert.FfnRefIdeal.nD Cert.FfnRefIdeal.τ).loc Cert.FfnRefIdeal.main_v60) i = v0 c i)
          ∧ (∀ i : (⟨2, ![256, 5632]⟩ : Shape).Idx, (Cert.On_last_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2 i = 1#1 → r.2.mem ((c.tc : Thread Cert.FfnRefIdeal.nD Cert.FfnRefIdeal.τ).loc Cert.FfnRefIdeal.main_v33) i = v1 c i)
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)) →
    ∃ (v0 : (c : Dev Cert.StepIdeal.nD) → Buf (Elt Ideal) ((c.tc : Thread Cert.StepIdeal.nD Cert.StepIdeal.τ).loc Cert.StepIdeal.main_v11_0)) (v1 : (c : Dev Cert.StepIdeal.nD) → Buf (Elt Ideal) ((c.tc : Thread Cert.StepIdeal.nD Cert.StepIdeal.τ).loc Cert.StepIdeal.main_v11_1)) (v2 : (c : Dev Cert.StepIdeal.nD) → Buf (Elt Ideal) ((c.tc : Thread Cert.StepIdeal.nD Cert.StepIdeal.τ).loc Cert.StepIdeal.main_v11_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v11_0) = v0 c
          ∧ r.2.mem ((c.tc : Thread Cert.StepIdeal.nD Cert.StepIdeal.τ).loc Cert.StepIdeal.main_v11_1) = v1 c
          ∧ r.2.mem ((c.tc : Thread Cert.StepIdeal.nD Cert.StepIdeal.τ).loc Cert.StepIdeal.main_v11_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v59) = v0 c
          ∧ r.2.mem ((c.tc : Thread Cert.StepRefIdeal.nD Cert.StepRefIdeal.τ).loc Cert.StepRefIdeal.main_v61) = v1 c
          ∧ r.2.mem ((c.tc : Thread Cert.StepRefIdeal.nD Cert.StepRefIdeal.τ).loc Cert.StepRefIdeal.main_v63) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Dilp_DilpIdeal : Prop :=
  True

def algebraic_DilpIdeal_DilpRefIdeal [hDilpIdeal : Cert.DilpIdeal.Facts] [hDilpRefIdeal : Cert.DilpRefIdeal.Facts] : Prop :=
  ∀ (m : (ℓ : Loc Cert.DilpIdeal.nD Cert.DilpIdeal.τ Cert.DilpIdeal.sig) → Buf (Elt Ideal) ℓ) (g : Dev Cert.DilpIdeal.nD → PrngReg)
    (m' : (ℓ : Loc Cert.DilpRefIdeal.nD Cert.DilpRefIdeal.τ Cert.DilpRefIdeal.sig) → Buf (Elt Ideal) ℓ) (g' : Dev Cert.DilpRefIdeal.nD → PrngReg), Pre_DilpIdeal m →
    (∀ c : Dev Cert.DilpIdeal.nD,
      m' ((c.tc : Thread Cert.DilpRefIdeal.nD Cert.DilpRefIdeal.τ).loc Cert.DilpRefIdeal.main_arg0) = m ((c.tc : Thread Cert.DilpIdeal.nD Cert.DilpIdeal.τ).loc Cert.DilpIdeal.main_arg0)
      ∧ m' ((c.tc : Thread Cert.DilpRefIdeal.nD Cert.DilpRefIdeal.τ).loc Cert.DilpRefIdeal.main_arg1) = m ((c.tc : Thread Cert.DilpIdeal.nD Cert.DilpIdeal.τ).loc Cert.DilpIdeal.main_arg1)) →
    ∃ (v0 : (c : Dev Cert.DilpIdeal.nD) → Buf (Elt Ideal) ((c.tc : Thread Cert.DilpIdeal.nD Cert.DilpIdeal.τ).loc Cert.DilpIdeal.main_v26_0)) (v1 : (c : Dev Cert.DilpIdeal.nD) → Buf (Elt Ideal) ((c.tc : Thread Cert.DilpIdeal.nD Cert.DilpIdeal.τ).loc Cert.DilpIdeal.main_v26_1)),
      θ_run (Cert.DilpIdeal.defs (F := Ideal)) (onTc (τ := Cert.DilpIdeal.τ) (Cert.DilpIdeal.main (F := Ideal))) ⟨m, fun _ => 0, g⟩ (fun r => ∀ c : Dev Cert.DilpIdeal.nD,
          r.2.mem ((c.tc : Thread Cert.DilpIdeal.nD Cert.DilpIdeal.τ).loc Cert.DilpIdeal.main_v26_0) = v0 c
          ∧ r.2.mem ((c.tc : Thread Cert.DilpIdeal.nD Cert.DilpIdeal.τ).loc Cert.DilpIdeal.main_v26_1) = v1 c
          ∧ r.2.mem ((c.tc : Thread Cert.DilpIdeal.nD Cert.DilpIdeal.τ).loc Cert.DilpIdeal.main_arg0) = m ((c.tc : Thread Cert.DilpIdeal.nD Cert.DilpIdeal.τ).loc Cert.DilpIdeal.main_arg0)
          ∧ r.2.mem ((c.tc : Thread Cert.DilpIdeal.nD Cert.DilpIdeal.τ).loc Cert.DilpIdeal.main_arg1) = m ((c.tc : Thread Cert.DilpIdeal.nD Cert.DilpIdeal.τ).loc Cert.DilpIdeal.main_arg1))
      ∧ θ_run (Cert.DilpRefIdeal.defs (F := Ideal)) (onTc (τ := Cert.DilpRefIdeal.τ) (Cert.DilpRefIdeal.main (F := Ideal))) ⟨m', fun _ => 0, g'⟩ (fun r => ∀ c : Dev Cert.DilpRefIdeal.nD,
          r.2.mem ((c.tc : Thread Cert.DilpRefIdeal.nD Cert.DilpRefIdeal.τ).loc Cert.DilpRefIdeal.main_v72) = v0 c
          ∧ r.2.mem ((c.tc : Thread Cert.DilpRefIdeal.nD Cert.DilpRefIdeal.τ).loc Cert.DilpRefIdeal.main_v76) = v1 c
          ∧ r.2.mem ((c.tc : Thread Cert.DilpRefIdeal.nD Cert.DilpRefIdeal.τ).loc Cert.DilpRefIdeal.main_arg0) = m' ((c.tc : Thread Cert.DilpRefIdeal.nD Cert.DilpRefIdeal.τ).loc Cert.DilpRefIdeal.main_arg0)
          ∧ r.2.mem ((c.tc : Thread Cert.DilpRefIdeal.nD Cert.DilpRefIdeal.τ).loc Cert.DilpRefIdeal.main_arg1) = m' ((c.tc : Thread Cert.DilpRefIdeal.nD Cert.DilpRefIdeal.τ).loc Cert.DilpRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v28) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v25_0)) (v1 : (c : Dev Cert.RopeIdeal.nD) → Buf (Elt Ideal) ((c.tc : Thread Cert.RopeIdeal.nD Cert.RopeIdeal.τ).loc Cert.RopeIdeal.main_v25_1)) (v2 : (c : Dev Cert.RopeIdeal.nD) → Buf (Elt Ideal) ((c.tc : Thread Cert.RopeIdeal.nD Cert.RopeIdeal.τ).loc Cert.RopeIdeal.main_v25_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v25_0) = v0 c
          ∧ r.2.mem ((c.tc : Thread Cert.RopeIdeal.nD Cert.RopeIdeal.τ).loc Cert.RopeIdeal.main_v25_1) = v1 c
          ∧ r.2.mem ((c.tc : Thread Cert.RopeIdeal.nD Cert.RopeIdeal.τ).loc Cert.RopeIdeal.main_v25_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v32) = v0 c
          ∧ r.2.mem ((c.tc : Thread Cert.RopeRefIdeal.nD Cert.RopeRefIdeal.τ).loc Cert.RopeRefIdeal.main_v64) = v1 c
          ∧ r.2.mem ((c.tc : Thread Cert.RopeRefIdeal.nD Cert.RopeRefIdeal.τ).loc Cert.RopeRefIdeal.main_v96) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Near_NearIdeal : Prop :=
  IdealRules.named_const.Statement Cert.NearIdeal.κ "mask" .f32 0xF149F2CA#32 ⊥

def algebraic_NearIdeal_NearRefIdeal [hNearIdeal : Cert.NearIdeal.Facts] [hNearRefIdeal : Cert.NearRefIdeal.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearRefIdeal.nD Cert.NearRefIdeal.τ Cert.NearRefIdeal.sig) → Buf (Elt Ideal) ℓ) (g' : Dev Cert.NearRefIdeal.nD → PrngReg), Pre_NearIdeal m →
    (∀ c : Dev Cert.NearIdeal.nD,
      m' ((c.tc : Thread Cert.NearRefIdeal.nD Cert.NearRefIdeal.τ).loc Cert.NearRefIdeal.main_arg0) = m ((c.tc : Thread Cert.NearIdeal.nD Cert.NearIdeal.τ).loc Cert.NearIdeal.main_arg0)) →
    ∃ (v0 : (c : Dev Cert.NearIdeal.nD) → Buf (Elt Ideal) ((c.tc : Thread Cert.NearIdeal.nD Cert.NearIdeal.τ).loc Cert.NearIdeal.main_v0_0)) (v1 : (c : Dev Cert.NearIdeal.nD) → Buf (Elt Ideal) ((c.tc : Thread Cert.NearIdeal.nD Cert.NearIdeal.τ).loc Cert.NearIdeal.main_v0_1)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v0_0) = v0 c
          ∧ r.2.mem ((c.tc : Thread Cert.NearIdeal.nD Cert.NearIdeal.τ).loc Cert.NearIdeal.main_v0_1) = v1 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0))
      ∧ θ_run (Cert.NearRefIdeal.defs (F := Ideal)) (onTc (τ := Cert.NearRefIdeal.τ) (Cert.NearRefIdeal.main (F := Ideal))) ⟨m', fun _ => 0, g'⟩ (fun r => ∀ c : Dev Cert.NearRefIdeal.nD,
          r.2.mem ((c.tc : Thread Cert.NearRefIdeal.nD Cert.NearRefIdeal.τ).loc Cert.NearRefIdeal.main_v65) = v0 c
          ∧ r.2.mem ((c.tc : Thread Cert.NearRefIdeal.nD Cert.NearRefIdeal.τ).loc Cert.NearRefIdeal.main_v68) = v1 c
          ∧ r.2.mem ((c.tc : Thread Cert.NearRefIdeal.nD Cert.NearRefIdeal.τ).loc Cert.NearRefIdeal.main_arg0) = m' ((c.tc : Thread Cert.NearRefIdeal.nD Cert.NearRefIdeal.τ).loc Cert.NearRefIdeal.main_arg0))

def preserves_Far_FarIdeal : Prop :=
  IdealRules.named_const.Statement Cert.FarIdeal.κ "mask" .f32 0xF149F2CA#32 ⊥

def algebraic_FarIdeal_FarRefIdeal [hFarIdeal : Cert.FarIdeal.Facts] [hFarRefIdeal : Cert.FarRefIdeal.Facts] : Prop :=
  ∀ (m : (ℓ : Loc Cert.FarIdeal.nD Cert.FarIdeal.τ Cert.FarIdeal.sig) → Buf (Elt Ideal) ℓ) (g : Dev Cert.FarIdeal.nD → PrngReg)
    (m' : (ℓ : Loc Cert.FarRefIdeal.nD Cert.FarRefIdeal.τ Cert.FarRefIdeal.sig) → Buf (Elt Ideal) ℓ) (g' : Dev Cert.FarRefIdeal.nD → PrngReg), Pre_FarIdeal m →
    (∀ c : Dev Cert.FarIdeal.nD,
      m' ((c.tc : Thread Cert.FarRefIdeal.nD Cert.FarRefIdeal.τ).loc Cert.FarRefIdeal.main_arg0) = m ((c.tc : Thread Cert.FarIdeal.nD Cert.FarIdeal.τ).loc Cert.FarIdeal.main_arg0)) →
    ∃ (v0 : (c : Dev Cert.FarIdeal.nD) → Buf (Elt Ideal) ((c.tc : Thread Cert.FarIdeal.nD Cert.FarIdeal.τ).loc Cert.FarIdeal.main_v1_0)) (v1 : (c : Dev Cert.FarIdeal.nD) → Buf (Elt Ideal) ((c.tc : Thread Cert.FarIdeal.nD Cert.FarIdeal.τ).loc Cert.FarIdeal.main_v1_1)),
      θ_run (Cert.FarIdeal.defs (F := Ideal)) (onTc (τ := Cert.FarIdeal.τ) (Cert.FarIdeal.main (F := Ideal))) ⟨m, fun _ => 0, g⟩ (fun r => ∀ c : Dev Cert.FarIdeal.nD,
          r.2.mem ((c.tc : Thread Cert.FarIdeal.nD Cert.FarIdeal.τ).loc Cert.FarIdeal.main_v1_0) = v0 c
          ∧ r.2.mem ((c.tc : Thread Cert.FarIdeal.nD Cert.FarIdeal.τ).loc Cert.FarIdeal.main_v1_1) = v1 c
          ∧ r.2.mem ((c.tc : Thread Cert.FarIdeal.nD Cert.FarIdeal.τ).loc Cert.FarIdeal.main_arg0) = m ((c.tc : Thread Cert.FarIdeal.nD Cert.FarIdeal.τ).loc Cert.FarIdeal.main_arg0))
      ∧ θ_run (Cert.FarRefIdeal.defs (F := Ideal)) (onTc (τ := Cert.FarRefIdeal.τ) (Cert.FarRefIdeal.main (F := Ideal))) ⟨m', fun _ => 0, g'⟩ (fun r => ∀ c : Dev Cert.FarRefIdeal.nD,
          r.2.mem ((c.tc : Thread Cert.FarRefIdeal.nD Cert.FarRefIdeal.τ).loc Cert.FarRefIdeal.main_v65) = v0 c
          ∧ r.2.mem ((c.tc : Thread Cert.FarRefIdeal.nD Cert.FarRefIdeal.τ).loc Cert.FarRefIdeal.main_v68) = v1 c
          ∧ r.2.mem ((c.tc : Thread Cert.FarRefIdeal.nD Cert.FarRefIdeal.τ).loc Cert.FarRefIdeal.main_arg0) = m' ((c.tc : Thread Cert.FarRefIdeal.nD Cert.FarRefIdeal.τ).loc Cert.FarRefIdeal.main_arg0))

def preserves_NewA_NewAIdeal : Prop :=
  True

def algebraic_NewAIdeal_NewARefIdeal [hNewAIdeal : Cert.NewAIdeal.Facts] [hNewARefIdeal : Cert.NewARefIdeal.Facts] : Prop :=
  ∀ (m : (ℓ : Loc Cert.NewAIdeal.nD Cert.NewAIdeal.τ Cert.NewAIdeal.sig) → Buf (Elt Ideal) ℓ) (g : Dev Cert.NewAIdeal.nD → PrngReg)
    (m' : (ℓ : Loc Cert.NewARefIdeal.nD Cert.NewARefIdeal.τ Cert.NewARefIdeal.sig) → Buf (Elt Ideal) ℓ) (g' : Dev Cert.NewARefIdeal.nD → PrngReg), Pre_NewAIdeal m →
    (∀ c : Dev Cert.NewAIdeal.nD,
      m' ((c.tc : Thread Cert.NewARefIdeal.nD Cert.NewARefIdeal.τ).loc Cert.NewARefIdeal.main_arg0) = m ((c.tc : Thread Cert.NewAIdeal.nD Cert.NewAIdeal.τ).loc Cert.NewAIdeal.main_arg0)
      ∧ m' ((c.tc : Thread Cert.NewARefIdeal.nD Cert.NewARefIdeal.τ).loc Cert.NewARefIdeal.main_arg1) = m ((c.tc : Thread Cert.NewAIdeal.nD Cert.NewAIdeal.τ).loc Cert.NewAIdeal.main_arg1)) →
    ∃ (v0 : (c : Dev Cert.NewAIdeal.nD) → Buf (Elt Ideal) ((c.tc : Thread Cert.NewAIdeal.nD Cert.NewAIdeal.τ).loc Cert.NewAIdeal.main_v3)),
      θ_run (Cert.NewAIdeal.defs (F := Ideal)) (onTc (τ := Cert.NewAIdeal.τ) (Cert.NewAIdeal.main (F := Ideal))) ⟨m, fun _ => 0, g⟩ (fun r => ∀ c : Dev Cert.NewAIdeal.nD,
          r.2.mem ((c.tc : Thread Cert.NewAIdeal.nD Cert.NewAIdeal.τ).loc Cert.NewAIdeal.main_v3) = v0 c
          ∧ r.2.mem ((c.tc : Thread Cert.NewAIdeal.nD Cert.NewAIdeal.τ).loc Cert.NewAIdeal.main_arg0) = m ((c.tc : Thread Cert.NewAIdeal.nD Cert.NewAIdeal.τ).loc Cert.NewAIdeal.main_arg0)
          ∧ r.2.mem ((c.tc : Thread Cert.NewAIdeal.nD Cert.NewAIdeal.τ).loc Cert.NewAIdeal.main_arg1) = m ((c.tc : Thread Cert.NewAIdeal.nD Cert.NewAIdeal.τ).loc Cert.NewAIdeal.main_arg1))
      ∧ θ_run (Cert.NewARefIdeal.defs (F := Ideal)) (onTc (τ := Cert.NewARefIdeal.τ) (Cert.NewARefIdeal.main (F := Ideal))) ⟨m', fun _ => 0, g'⟩ (fun r => ∀ c : Dev Cert.NewARefIdeal.nD,
          r.2.mem ((c.tc : Thread Cert.NewARefIdeal.nD Cert.NewARefIdeal.τ).loc Cert.NewARefIdeal.main_v3) = v0 c
          ∧ r.2.mem ((c.tc : Thread Cert.NewARefIdeal.nD Cert.NewARefIdeal.τ).loc Cert.NewARefIdeal.main_arg0) = m' ((c.tc : Thread Cert.NewARefIdeal.nD Cert.NewARefIdeal.τ).loc Cert.NewARefIdeal.main_arg0)
          ∧ r.2.mem ((c.tc : Thread Cert.NewARefIdeal.nD Cert.NewARefIdeal.τ).loc Cert.NewARefIdeal.main_arg1) = m' ((c.tc : Thread Cert.NewARefIdeal.nD Cert.NewARefIdeal.τ).loc Cert.NewARefIdeal.main_arg1))

def preserves_NewC_NewCIdeal : Prop :=
  True

def algebraic_NewCIdeal_NewCRefIdeal [hNewCIdeal : Cert.NewCIdeal.Facts] [hNewCRefIdeal : Cert.NewCRefIdeal.Facts] : Prop :=
  ∀ (m : (ℓ : Loc Cert.NewCIdeal.nD Cert.NewCIdeal.τ Cert.NewCIdeal.sig) → Buf (Elt Ideal) ℓ) (g : Dev Cert.NewCIdeal.nD → PrngReg)
    (m' : (ℓ : Loc Cert.NewCRefIdeal.nD Cert.NewCRefIdeal.τ Cert.NewCRefIdeal.sig) → Buf (Elt Ideal) ℓ) (g' : Dev Cert.NewCRefIdeal.nD → PrngReg), Pre_NewCIdeal m →
    (∀ c : Dev Cert.NewCIdeal.nD,
      m' ((c.tc : Thread Cert.NewCRefIdeal.nD Cert.NewCRefIdeal.τ).loc Cert.NewCRefIdeal.main_arg0) = m ((c.tc : Thread Cert.NewCIdeal.nD Cert.NewCIdeal.τ).loc Cert.NewCIdeal.main_arg0)
      ∧ m' ((c.tc : Thread Cert.NewCRefIdeal.nD Cert.NewCRefIdeal.τ).loc Cert.NewCRefIdeal.main_arg1) = m ((c.tc : Thread Cert.NewCIdeal.nD Cert.NewCIdeal.τ).loc Cert.NewCIdeal.main_arg1)) →
    ∃ (v0 : (c : Dev Cert.NewCIdeal.nD) → Buf (Elt Ideal) ((c.tc : Thread Cert.NewCIdeal.nD Cert.NewCIdeal.τ).loc Cert.NewCIdeal.main_v3)),
      θ_run (Cert.NewCIdeal.defs (F := Ideal)) (onTc (τ := Cert.NewCIdeal.τ) (Cert.NewCIdeal.main (F := Ideal))) ⟨m, fun _ => 0, g⟩ (fun r => ∀ c : Dev Cert.NewCIdeal.nD,
          r.2.mem ((c.tc : Thread Cert.NewCIdeal.nD Cert.NewCIdeal.τ).loc Cert.NewCIdeal.main_v3) = v0 c
          ∧ r.2.mem ((c.tc : Thread Cert.NewCIdeal.nD Cert.NewCIdeal.τ).loc Cert.NewCIdeal.main_arg0) = m ((c.tc : Thread Cert.NewCIdeal.nD Cert.NewCIdeal.τ).loc Cert.NewCIdeal.main_arg0)
          ∧ r.2.mem ((c.tc : Thread Cert.NewCIdeal.nD Cert.NewCIdeal.τ).loc Cert.NewCIdeal.main_arg1) = m ((c.tc : Thread Cert.NewCIdeal.nD Cert.NewCIdeal.τ).loc Cert.NewCIdeal.main_arg1))
      ∧ θ_run (Cert.NewCRefIdeal.defs (F := Ideal)) (onTc (τ := Cert.NewCRefIdeal.τ) (Cert.NewCRefIdeal.main (F := Ideal))) ⟨m', fun _ => 0, g'⟩ (fun r => ∀ c : Dev Cert.NewCRefIdeal.nD,
          r.2.mem ((c.tc : Thread Cert.NewCRefIdeal.nD Cert.NewCRefIdeal.τ).loc Cert.NewCRefIdeal.main_v1) = v0 c
          ∧ r.2.mem ((c.tc : Thread Cert.NewCRefIdeal.nD Cert.NewCRefIdeal.τ).loc Cert.NewCRefIdeal.main_arg0) = m' ((c.tc : Thread Cert.NewCRefIdeal.nD Cert.NewCRefIdeal.τ).loc Cert.NewCRefIdeal.main_arg0)
          ∧ r.2.mem ((c.tc : Thread Cert.NewCRefIdeal.nD Cert.NewCRefIdeal.τ).loc Cert.NewCRefIdeal.main_arg1) = m' ((c.tc : Thread Cert.NewCRefIdeal.nD Cert.NewCRefIdeal.τ).loc Cert.NewCRefIdeal.main_arg1))

def preserves_Merge_MergeIdeal : Prop :=
  True

def algebraic_MergeIdeal_MergeRefIdeal_pre_softmax_statistics [hMergeIdeal : Cert.MergeIdeal.Facts] [hMergeRefIdeal : Cert.MergeRefIdeal.Facts] [hPre_softmax_statistics : Cert.Pre_softmax_statistics.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_softmax_statistics m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v64) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Dils_DilsIdeal : Prop :=
  True

def algebraic_DilsIdeal_DilsRefIdeal [hDilsIdeal : Cert.DilsIdeal.Facts] [hDilsRefIdeal : Cert.DilsRefIdeal.Facts] : Prop :=
  ∀ (m : (ℓ : Loc Cert.DilsIdeal.nD Cert.DilsIdeal.τ Cert.DilsIdeal.sig) → Buf (Elt Ideal) ℓ) (g : Dev Cert.DilsIdeal.nD → PrngReg)
    (m' : (ℓ : Loc Cert.DilsRefIdeal.nD Cert.DilsRefIdeal.τ Cert.DilsRefIdeal.sig) → Buf (Elt Ideal) ℓ) (g' : Dev Cert.DilsRefIdeal.nD → PrngReg), Pre_DilsIdeal m →
    (∀ c : Dev Cert.DilsIdeal.nD,
      m' ((c.tc : Thread Cert.DilsRefIdeal.nD Cert.DilsRefIdeal.τ).loc Cert.DilsRefIdeal.main_arg0) = m ((c.tc : Thread Cert.DilsIdeal.nD Cert.DilsIdeal.τ).loc Cert.DilsIdeal.main_arg0)
      ∧ m' ((c.tc : Thread Cert.DilsRefIdeal.nD Cert.DilsRefIdeal.τ).loc Cert.DilsRefIdeal.main_arg1) = m ((c.tc : Thread Cert.DilsIdeal.nD Cert.DilsIdeal.τ).loc Cert.DilsIdeal.main_arg1)
      ∧ m' ((c.tc : Thread Cert.DilsRefIdeal.nD Cert.DilsRefIdeal.τ).loc Cert.DilsRefIdeal.main_arg2) = m ((c.tc : Thread Cert.DilsIdeal.nD Cert.DilsIdeal.τ).loc Cert.DilsIdeal.main_arg2)
      ∧ m' ((c.tc : Thread Cert.DilsRefIdeal.nD Cert.DilsRefIdeal.τ).loc Cert.DilsRefIdeal.main_arg3) = m ((c.tc : Thread Cert.DilsIdeal.nD Cert.DilsIdeal.τ).loc Cert.DilsIdeal.main_arg3)) →
    ∃ (v0 : (c : Dev Cert.DilsIdeal.nD) → Buf (Elt Ideal) ((c.tc : Thread Cert.DilsIdeal.nD Cert.DilsIdeal.τ).loc Cert.DilsIdeal.main_v57_0)) (v1 : (c : Dev Cert.DilsIdeal.nD) → Buf (Elt Ideal) ((c.tc : Thread Cert.DilsIdeal.nD Cert.DilsIdeal.τ).loc Cert.DilsIdeal.main_v57_1)),
      θ_run (Cert.DilsIdeal.defs (F := Ideal)) (onTc (τ := Cert.DilsIdeal.τ) (Cert.DilsIdeal.main (F := Ideal))) ⟨m, fun _ => 0, g⟩ (fun r => ∀ c : Dev Cert.DilsIdeal.nD,
          r.2.mem ((c.tc : Thread Cert.DilsIdeal.nD Cert.DilsIdeal.τ).loc Cert.DilsIdeal.main_v57_0) = v0 c
          ∧ r.2.mem ((c.tc : Thread Cert.DilsIdeal.nD Cert.DilsIdeal.τ).loc Cert.DilsIdeal.main_v57_1) = v1 c
          ∧ r.2.mem ((c.tc : Thread Cert.DilsIdeal.nD Cert.DilsIdeal.τ).loc Cert.DilsIdeal.main_arg0) = m ((c.tc : Thread Cert.DilsIdeal.nD Cert.DilsIdeal.τ).loc Cert.DilsIdeal.main_arg0)
          ∧ r.2.mem ((c.tc : Thread Cert.DilsIdeal.nD Cert.DilsIdeal.τ).loc Cert.DilsIdeal.main_arg1) = m ((c.tc : Thread Cert.DilsIdeal.nD Cert.DilsIdeal.τ).loc Cert.DilsIdeal.main_arg1)
          ∧ r.2.mem ((c.tc : Thread Cert.DilsIdeal.nD Cert.DilsIdeal.τ).loc Cert.DilsIdeal.main_arg2) = m ((c.tc : Thread Cert.DilsIdeal.nD Cert.DilsIdeal.τ).loc Cert.DilsIdeal.main_arg2)
          ∧ r.2.mem ((c.tc : Thread Cert.DilsIdeal.nD Cert.DilsIdeal.τ).loc Cert.DilsIdeal.main_arg3) = m ((c.tc : Thread Cert.DilsIdeal.nD Cert.DilsIdeal.τ).loc Cert.DilsIdeal.main_arg3))
      ∧ θ_run (Cert.DilsRefIdeal.defs (F := Ideal)) (onTc (τ := Cert.DilsRefIdeal.τ) (Cert.DilsRefIdeal.main (F := Ideal))) ⟨m', fun _ => 0, g'⟩ (fun r => ∀ c : Dev Cert.DilsRefIdeal.nD,
          r.2.mem ((c.tc : Thread Cert.DilsRefIdeal.nD Cert.DilsRefIdeal.τ).loc Cert.DilsRefIdeal.main_v72) = v0 c
          ∧ r.2.mem ((c.tc : Thread Cert.DilsRefIdeal.nD Cert.DilsRefIdeal.τ).loc Cert.DilsRefIdeal.main_v81) = v1 c
          ∧ r.2.mem ((c.tc : Thread Cert.DilsRefIdeal.nD Cert.DilsRefIdeal.τ).loc Cert.DilsRefIdeal.main_arg0) = m' ((c.tc : Thread Cert.DilsRefIdeal.nD Cert.DilsRefIdeal.τ).loc Cert.DilsRefIdeal.main_arg0)
          ∧ r.2.mem ((c.tc : Thread Cert.DilsRefIdeal.nD Cert.DilsRefIdeal.τ).loc Cert.DilsRefIdeal.main_arg1) = m' ((c.tc : Thread Cert.DilsRefIdeal.nD Cert.DilsRefIdeal.τ).loc Cert.DilsRefIdeal.main_arg1)
          ∧ r.2.mem ((c.tc : Thread Cert.DilsRefIdeal.nD Cert.DilsRefIdeal.τ).loc Cert.DilsRefIdeal.main_arg2) = m' ((c.tc : Thread Cert.DilsRefIdeal.nD Cert.DilsRefIdeal.τ).loc Cert.DilsRefIdeal.main_arg2)
          ∧ r.2.mem ((c.tc : Thread Cert.DilsRefIdeal.nD Cert.DilsRefIdeal.τ).loc Cert.DilsRefIdeal.main_arg3) = m' ((c.tc : Thread Cert.DilsRefIdeal.nD Cert.DilsRefIdeal.τ).loc Cert.DilsRefIdeal.main_arg3))

def Claim : Prop :=
  ∃ (hBand : Cert.Band.Facts) (hBandIdeal : Cert.BandIdeal.Facts) (hBandRefIdeal : Cert.BandRefIdeal.Facts) (hFfn : Cert.Ffn.Facts) (hFfnIdeal : Cert.FfnIdeal.Facts) (hFfnRefIdeal : Cert.FfnRefIdeal.Facts) (hStep : Cert.Step.Facts) (hStepIdeal : Cert.StepIdeal.Facts) (hStepRefIdeal : Cert.StepRefIdeal.Facts) (hProj : Cert.Proj.Facts) (hProjIdeal : Cert.ProjIdeal.Facts) (hProjRefIdeal : Cert.ProjRefIdeal.Facts) (hDilp : Cert.Dilp.Facts) (hDilpIdeal : Cert.DilpIdeal.Facts) (hDilpRefIdeal : Cert.DilpRefIdeal.Facts) (hMix : Cert.Mix.Facts) (hMixIdeal : Cert.MixIdeal.Facts) (hMixRefIdeal : Cert.MixRefIdeal.Facts) (hRope : Cert.Rope.Facts) (hRopeIdeal : Cert.RopeIdeal.Facts) (hRopeRefIdeal : Cert.RopeRefIdeal.Facts) (hNear : Cert.Near.Facts) (hNearIdeal : Cert.NearIdeal.Facts) (hNearRefIdeal : Cert.NearRefIdeal.Facts) (hFar : Cert.Far.Facts) (hFarIdeal : Cert.FarIdeal.Facts) (hFarRefIdeal : Cert.FarRefIdeal.Facts) (hNewA : Cert.NewA.Facts) (hNewAIdeal : Cert.NewAIdeal.Facts) (hNewARefIdeal : Cert.NewARefIdeal.Facts) (hNewC : Cert.NewC.Facts) (hNewCIdeal : Cert.NewCIdeal.Facts) (hNewCRefIdeal : Cert.NewCRefIdeal.Facts) (hMerge : Cert.Merge.Facts) (hMergeIdeal : Cert.MergeIdeal.Facts) (hMergeRefIdeal : Cert.MergeRefIdeal.Facts) (hDils : Cert.Dils.Facts) (hDilsIdeal : Cert.DilsIdeal.Facts) (hDilsRefIdeal : Cert.DilsRefIdeal.Facts) (hPre_softmax_statistics : Cert.Pre_softmax_statistics.Facts) (hOn_last_rows : Cert.On_last_rows.Facts),
    quiescent_Band (hBand := hBand)
    ∧ quiescent_BandIdeal (hBandIdeal := hBandIdeal)
    ∧ quiescent_BandRefIdeal (hBandRefIdeal := hBandRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Step (hStep := hStep)
    ∧ quiescent_StepIdeal (hStepIdeal := hStepIdeal)
    ∧ quiescent_StepRefIdeal (hStepRefIdeal := hStepRefIdeal)
    ∧ quiescent_Proj (hProj := hProj)
    ∧ quiescent_ProjIdeal (hProjIdeal := hProjIdeal)
    ∧ quiescent_ProjRefIdeal (hProjRefIdeal := hProjRefIdeal)
    ∧ quiescent_Dilp (hDilp := hDilp)
    ∧ quiescent_DilpIdeal (hDilpIdeal := hDilpIdeal)
    ∧ quiescent_DilpRefIdeal (hDilpRefIdeal := hDilpRefIdeal)
    ∧ quiescent_Mix (hMix := hMix)
    ∧ quiescent_MixIdeal (hMixIdeal := hMixIdeal)
    ∧ quiescent_MixRefIdeal (hMixRefIdeal := hMixRefIdeal)
    ∧ quiescent_Rope (hRope := hRope)
    ∧ quiescent_RopeIdeal (hRopeIdeal := hRopeIdeal)
    ∧ quiescent_RopeRefIdeal (hRopeRefIdeal := hRopeRefIdeal)
    ∧ quiescent_Near (hNear := hNear)
    ∧ quiescent_NearIdeal (hNearIdeal := hNearIdeal)
    ∧ quiescent_NearRefIdeal (hNearRefIdeal := hNearRefIdeal)
    ∧ quiescent_Far (hFar := hFar)
    ∧ quiescent_FarIdeal (hFarIdeal := hFarIdeal)
    ∧ quiescent_FarRefIdeal (hFarRefIdeal := hFarRefIdeal)
    ∧ quiescent_NewA (hNewA := hNewA)
    ∧ quiescent_NewAIdeal (hNewAIdeal := hNewAIdeal)
    ∧ quiescent_NewARefIdeal (hNewARefIdeal := hNewARefIdeal)
    ∧ quiescent_NewC (hNewC := hNewC)
    ∧ quiescent_NewCIdeal (hNewCIdeal := hNewCIdeal)
    ∧ quiescent_NewCRefIdeal (hNewCRefIdeal := hNewCRefIdeal)
    ∧ quiescent_Merge (hMerge := hMerge)
    ∧ quiescent_MergeIdeal (hMergeIdeal := hMergeIdeal)
    ∧ quiescent_MergeIdeal_pre_softmax_statistics (hMergeIdeal := hMergeIdeal) (hPre_softmax_statistics := hPre_softmax_statistics)
    ∧ quiescent_MergeRefIdeal (hMergeRefIdeal := hMergeRefIdeal)
    ∧ quiescent_MergeRefIdeal_pre_softmax_statistics (hMergeRefIdeal := hMergeRefIdeal) (hPre_softmax_statistics := hPre_softmax_statistics)
    ∧ quiescent_Dils (hDils := hDils)
    ∧ quiescent_DilsIdeal (hDilsIdeal := hDilsIdeal)
    ∧ quiescent_DilsRefIdeal (hDilsRefIdeal := hDilsRefIdeal)
    ∧ preserves_Band_BandIdeal
    ∧ algebraic_BandIdeal_BandRefIdeal (hBandIdeal := hBandIdeal) (hBandRefIdeal := hBandRefIdeal)
    ∧ preserves_Ffn_FfnIdeal
    ∧ algebraic_FfnIdeal_FfnRefIdeal_on_last_rows (hFfnIdeal := hFfnIdeal) (hFfnRefIdeal := hFfnRefIdeal) (hOn_last_rows := hOn_last_rows)
    ∧ preserves_Step_StepIdeal
    ∧ algebraic_StepIdeal_StepRefIdeal (hStepIdeal := hStepIdeal) (hStepRefIdeal := hStepRefIdeal)
    ∧ preserves_Proj_ProjIdeal
    ∧ algebraic_ProjIdeal_ProjRefIdeal (hProjIdeal := hProjIdeal) (hProjRefIdeal := hProjRefIdeal)
    ∧ preserves_Dilp_DilpIdeal
    ∧ algebraic_DilpIdeal_DilpRefIdeal (hDilpIdeal := hDilpIdeal) (hDilpRefIdeal := hDilpRefIdeal)
    ∧ preserves_Mix_MixIdeal
    ∧ algebraic_MixIdeal_MixRefIdeal (hMixIdeal := hMixIdeal) (hMixRefIdeal := hMixRefIdeal)
    ∧ preserves_Rope_RopeIdeal
    ∧ algebraic_RopeIdeal_RopeRefIdeal (hRopeIdeal := hRopeIdeal) (hRopeRefIdeal := hRopeRefIdeal)
    ∧ preserves_Near_NearIdeal
    ∧ algebraic_NearIdeal_NearRefIdeal (hNearIdeal := hNearIdeal) (hNearRefIdeal := hNearRefIdeal)
    ∧ preserves_Far_FarIdeal
    ∧ algebraic_FarIdeal_FarRefIdeal (hFarIdeal := hFarIdeal) (hFarRefIdeal := hFarRefIdeal)
    ∧ preserves_NewA_NewAIdeal
    ∧ algebraic_NewAIdeal_NewARefIdeal (hNewAIdeal := hNewAIdeal) (hNewARefIdeal := hNewARefIdeal)
    ∧ preserves_NewC_NewCIdeal
    ∧ algebraic_NewCIdeal_NewCRefIdeal (hNewCIdeal := hNewCIdeal) (hNewCRefIdeal := hNewCRefIdeal)
    ∧ preserves_Merge_MergeIdeal
    ∧ algebraic_MergeIdeal_MergeRefIdeal_pre_softmax_statistics (hMergeIdeal := hMergeIdeal) (hMergeRefIdeal := hMergeRefIdeal) (hPre_softmax_statistics := hPre_softmax_statistics)
    ∧ preserves_Dils_DilsIdeal
    ∧ algebraic_DilsIdeal_DilsRefIdeal (hDilsIdeal := hDilsIdeal) (hDilsRefIdeal := hDilsRefIdeal)
-- ==== On_last_rows.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S256x5632 : Shape := ⟨2, ![256, 5632]⟩
abbrev S_ : Shape := ⟨0, ![]⟩

class Facts : Prop where
  bcast_S_S16384x1024 : S_.BroadcastsInDim S16384x1024 (![] : Fin 0 → Fin S16384x1024.rank)
  bcast_S_S256x5632 : S_.BroadcastsInDim S256x5632 (![] : Fin 0 → Fin S256x5632.rank)

variable [Facts]

def fn {F : FTy → Type} [FloatOps F] (main_arg0 : FVec F S16384x1024 .f32) (main_arg1 : FVec F S1024x5632 .f32) (main_arg2 : FVec F S3x5632 .f32) (main_arg3 : FVec F S5632 .f32) (main_arg4 : FVec F S2816x1024 .f32) (main_arg5 : FVec F S1024 .f32) (main_arg6 : FVec F S1024 .f32) : IVec S16384x1024 1 × IVec S256x5632 1 :=
  let main_v0 : IVec S256x5632 32 := iotaInDim S256x5632 32 0
  let main_c : IVec S_ 1 := constantI S_ 1 1#1
  let main_v1 : IVec S16384x1024 1 := broadcastInDim S16384x1024 ![] bcast_S_S16384x1024 main_c
  let main_c_0 : IVec S_ 32 := constantI S_ 32 254#32
  let main_v2 : IVec S256x5632 32 := broadcastInDim S256x5632 ![] bcast_S_S256x5632 main_c_0
  let main_v3 : IVec S256x5632 1 := cmpi .sge main_v0 main_v2
  (main_v1, main_v3)
-- ==== Pre_softmax_statistics.lean ====
abbrev S16384x1024 : Shape := ⟨2, ![16384, 1024]⟩
abbrev S16384x128 : Shape := ⟨2, ![16384, 128]⟩
abbrev S1024x1024 : Shape := ⟨2, ![1024, 1024]⟩
abbrev S1024 : Shape := ⟨1, ![1024]⟩
abbrev S16384x16 : Shape := ⟨2, ![16384, 16]⟩
abbrev S16384x48 : Shape := ⟨2, ![16384, 48]⟩
abbrev S_ : Shape := ⟨0, ![]⟩

class Facts : Prop where
  slices_S16384x128_S16384x16_0_0 : S16384x128.Slices ![0, 0] S16384x16
  concatenates_S16384x16_S16384x16_S16384x16_S16384x48_d1 : Shape.Concatenates [S16384x16, S16384x16, S16384x16] S16384x48 1
  slices_S16384x128_S16384x16_0_16 : S16384x128.Slices ![0, 16] S16384x16
  bcast_S_S16384x48 : S_.BroadcastsInDim S16384x48 (![] : Fin 0 → Fin S16384x48.rank)

variable [Facts]

def fn {F : FTy → Type} [FloatOps F] (main_arg0 : FVec F S16384x1024 .f32) (main_arg1 : FVec F S16384x1024 .f32) (main_arg2 : FVec F S16384x1024 .f32) (main_arg3 : FVec F S16384x128 .f32) (main_arg4 : FVec F S16384x128 .f32) (main_arg5 : FVec F S16384x128 .f32) (main_arg6 : FVec F S1024x1024 .f32) (main_arg7 : FVec F S16384x1024 .f32) (main_arg8 : FVec F S1024 .f32) (main_arg9 : FVec F S1024 .f32) : IVec S16384x48 1 :=
  let main_v0 : FVec F S16384x16 .f32 := (extractStridedSlice S16384x16 ![0, 0] · slices_S16384x128_S16384x16_0_0) main_arg3
  let main_v1 : FVec F S16384x16 .f32 := (extractStridedSlice S16384x16 ![0, 0] · slices_S16384x128_S16384x16_0_0) main_arg4
  let main_v2 : FVec F S16384x16 .f32 := (extractStridedSlice S16384x16 ![0, 0] · slices_S16384x128_S16384x16_0_0) main_arg5
  let main_v3 : FVec F S16384x48 .f32 := concatenate S16384x48 1 [⟨S16384x16, main_v0⟩, ⟨S16384x16, main_v1⟩, ⟨S16384x16, main_v2⟩] concatenates_S16384x16_S16384x16_S16384x16_S16384x48_d1
  let main_v4 : FVec F S16384x16 .f32 := (extractStridedSlice S16384x16 ![0, 16] · slices_S16384x128_S16384x16_0_16) main_arg3
  let main_v5 : FVec F S16384x16 .f32 := (extractStridedSlice S16384x16 ![0, 16] · slices_S16384x128_S16384x16_0_16) main_arg4
  let main_v6 : FVec F S16384x16 .f32 := (extractStridedSlice S16384x16 ![0, 16] · slices_S16384x128_S16384x16_0_16) main_arg5
  let main_v7 : FVec F S16384x48 .f32 := concatenate S16384x48 1 [⟨S16384x16, main_v4⟩, ⟨S16384x16, main_v5⟩, ⟨S16384x16, main_v6⟩] concatenates_S16384x16_S16384x16_S16384x16_S16384x48_d1
  let main_cst : FVec F S_ .f32 := constant S_ .f32 0xFF800000#32
  let main_v8 : FVec F S16384x48 .f32 := broadcastInDim S16384x48 ![] bcast_S_S16384x48 main_cst
  let main_v9 : IVec S16384x48 1 := cmpf .ogt main_v3 main_v8
  let main_cst_0 : FVec F S_ .f32 := constant S_ .f32 0x7F800000#32
  let main_v10 : FVec F S16384x48 .f32 := broadcastInDim S16384x48 ![] bcast_S_S16384x48 main_cst_0
  let main_v11 : IVec S16384x48 1 := cmpf .olt main_v3 main_v10
  let main_v12 : IVec S16384x48 1 := andi main_v9 main_v11
  let main_cst_1 : FVec F S_ .f32 := constant S_ .f32 0x00000000#32
  let main_v13 : FVec F S16384x48 .f32 := broadcastInDim S16384x48 ![] bcast_S_S16384x48 main_cst_1
  let main_v14 : IVec S16384x48 1 := cmpf .ogt main_v7 main_v13
  let main_v15 : IVec S16384x48 1 := andi main_v12 main_v14
  main_v15
-- ==== Band.lean ====
abbrev S16384x3072 : Shape := ⟨2, ![16384, 3072]⟩
abbrev S4096x12288 : Shape := ⟨2, ![4096, 12288]⟩
abbrev S4096x4096 : Shape := ⟨2, ![4096, 4096]⟩
abbrev S4096x512 : Shape := ⟨2, ![4096, 512]⟩
abbrev S128x1024 : Shape := ⟨2, ![128, 1024]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S4096x12288, .bf16⟩
  | .hbm, ⟨2, _⟩ => ⟨S4096x4096, .f32⟩
  | .hbm, ⟨3, _⟩ => ⟨S4096x512, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c1_i32_0 : BitVec 32 := 1#32
  let v3 : BitVec 32 := Scalar.addi v2 c1_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c2_i32 : BitVec 32 := 2#32
  let v3 : BitVec 32 := Scalar.addi v2 c2_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== BandIdeal.lean ====
variable {F : FTy → Type} [FloatOps F] [Named F]
def κ : String → Option EReal := fun
  | "mask" => some ⊥
  | _ => none
-- ==== BandRefIdeal.lean ====
abbrev S16384x3072 : Shape := ⟨2, ![16384, 3072]⟩
abbrev S16384x1024 : Shape := ⟨2, ![16384, 1024]⟩
abbrev S32x128x4x16x64 : Shape := ⟨5, ![32, 128, 4, 16, 64]⟩
abbrev S1x128x4x16x64 : Shape := ⟨5, ![1, 128, 4, 16, 64]⟩
abbrev S_ : Shape := ⟨0, ![]⟩
abbrev S31x128x4x16x64 : Shape := ⟨5, ![31, 128, 4, 16, 64]⟩
abbrev S32x256x4x16x64 : Shape := ⟨5, ![32, 256, 4, 16, 64]⟩
abbrev S32x4x16x128x256 : Shape := ⟨5, ![32, 4, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S32x4x16x128 : Shape := ⟨4, ![32, 4, 16, 128]⟩
abbrev S32x4x16x128x1 : Shape := ⟨5, ![32, 4, 16, 128, 1]⟩
abbrev S32x4x16x128x64 : Shape := ⟨5, ![32, 4, 16, 128, 64]⟩
abbrev S32x128x4x16 : Shape := ⟨4, ![32, 128, 4, 16]⟩
abbrev S4096x4x16 : Shape := ⟨3, ![4096, 4, 16]⟩
abbrev S4096x4096 : Shape := ⟨2, ![4096, 4096]⟩
abbrev S4096x4x96 : Shape := ⟨3, ![4096, 4, 96]⟩
abbrev S4096x4x128 : Shape := ⟨3, ![4096, 4, 128]⟩
abbrev S4096x512 : Shape := ⟨2, ![4096, 512]⟩

abbrev nBuf : Space → Nat
  | .hbm => 85
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S32x128x4x16x64, .f32⟩
  | .hbm, ⟨6, _⟩ => ⟨S16384x1024, .f32⟩
  | .hbm, ⟨7, _⟩ => ⟨S32x128x4x16x64, .f32⟩
  | .hbm, ⟨8, _⟩ => ⟨S16384x1024, .f32⟩
  | .hbm, ⟨9, _⟩ => ⟨S32x128x4x16x64, .f32⟩
  | .hbm, ⟨10, _⟩ => ⟨S1x128x4x16x64, .f32⟩
  | .hbm, ⟨11, _⟩ => ⟨S_, .f32⟩
  | .hbm, ⟨12, _⟩ => ⟨S1x128x4x16x64, .f32⟩
  | .hbm, ⟨13, _⟩ => ⟨S31x128x4x16x64, .f32⟩
  | .hbm, ⟨14, _⟩ => ⟨S32x128x4x16x64, .f32⟩
  | .hbm, ⟨15, _⟩ => ⟨S32x256x4x16x64, .f32⟩
  | .hbm, ⟨16, _⟩ => ⟨S1x128x4x16x64, .f32⟩
  | .hbm, ⟨17, _⟩ => ⟨S_, .f32⟩
  | .hbm, ⟨18, _⟩ => ⟨S1x128x4x16x64, .f32⟩
  | .hbm, ⟨19, _⟩ => ⟨S31x128x4x16x64, .f32⟩
  | .hbm, ⟨20, _⟩ => ⟨S32x128x4x16x64, .f32⟩
  | .hbm, ⟨21, _⟩ => ⟨S32x256x4x16x64, .f32⟩
  | .hbm, ⟨22, _⟩ => ⟨S32x4x16x128x256, .f32⟩
  | .hbm, ⟨23, _⟩ => ⟨S_, .f32⟩
  | .hbm, ⟨24, _⟩ => ⟨S32x4x16x128x256, .f32⟩
  | .hbm, ⟨25, _⟩ => ⟨S32x4x16x128x256, .f32⟩
  | .hbm, ⟨26, _⟩ => ⟨S128, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S128x1, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S32, .i32⟩
  | .hbm, ⟨37, _⟩ => ⟨S32x1x1, .i32⟩
  | .hbm, ⟨38, _⟩ => ⟨S_, .i32⟩
  | .hbm, ⟨39, _⟩ => ⟨S32x1x1, .i32⟩
  | .hbm, ⟨40, _⟩ => ⟨S32x1x1, .i32⟩
  | .hbm, ⟨41, _⟩ => ⟨S1x1x256, .i32⟩
  | .hbm, ⟨42, _⟩ => ⟨S32x1x256, .i32⟩
  | .hbm, ⟨43, _⟩ => ⟨S32x1x256, .i32⟩
  | .hbm, ⟨44, _⟩ => ⟨S32x1x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S1x128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S1x128x256, .i1⟩
  | .hbm, ⟨53, _⟩ => ⟨S1x128x256, .i1⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S32x1x1x128x256, .i1⟩
  | .hbm, ⟨61, _⟩ => ⟨S_, .f32⟩
  | .hbm, ⟨62, _⟩ => ⟨S_, .f32⟩
  | .hbm, ⟨63, _⟩ => ⟨S32x4x16x128x256, .i1⟩
  | .hbm, ⟨64, _⟩ => ⟨S32x4x16x128x256, .f32⟩
  | .hbm, ⟨65, _⟩ => ⟨S32x4x16x128x256, .f32⟩
  | .hbm, ⟨66, _⟩ => ⟨S_, .f32⟩
  | .hbm, ⟨67, _⟩ => ⟨S32x4x16x128, .f32⟩
  | .hbm, ⟨68, _⟩ => ⟨S32x4x16x128x1, .f32⟩
  | .hbm, ⟨69, _⟩ => ⟨S32x4x16x128x256, .f32⟩
  | .hbm, ⟨70, _⟩ => ⟨S32x4x16x128x256, .f32⟩
  | .hbm, ⟨71, _⟩ => ⟨S32x4x16x128x256, .f32⟩
  | .hbm, ⟨72, _⟩ => ⟨S_, .f32⟩
  | .hbm, ⟨73, _⟩ => ⟨S32x4x16x128, .f32⟩
  | .hbm, ⟨74, _⟩ => ⟨S32x4x16x128x64, .f32⟩
  | .hbm, ⟨75, _⟩ => ⟨S32x128x4x16, .f32⟩
  | .hbm, ⟨76, _⟩ => ⟨S4096x4x16, .f32⟩
  | .hbm, ⟨77, _⟩ => ⟨S32x128x4x16, .f32⟩
  | .hbm, ⟨78, _⟩ => ⟨S4096x4x16, .f32⟩
  | .hbm, ⟨79, _⟩ => ⟨S32x128x4x16x64, .f32⟩
  | .hbm, ⟨80, _⟩ => ⟨S4096x4096, .f32⟩
  | .hbm, ⟨81, _⟩ => ⟨S_, .f32⟩
  | .hbm, ⟨82, _⟩ => ⟨S4096x4x96, .f32⟩
  | .hbm, ⟨83, _⟩ => ⟨S4096x4x128, .f32⟩
  | .hbm, ⟨84, _⟩ => ⟨S4096x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S8x5632 : Shape := ⟨2, ![8, 5632]⟩
abbrev S1 : Shape := ⟨1, ![1]⟩
abbrev S1x5632 : Shape := ⟨2, ![1, 5632]⟩
abbrev S1x1024 : Shape := ⟨2, ![1, 1024]⟩
abbrev S256x5632 : Shape := ⟨2, ![256, 5632]⟩
abbrev S512x1024 : Shape := ⟨2, ![512, 1024]⟩
abbrev S8x2816 : Shape := ⟨2, ![8, 2816]⟩
abbrev S1024x2816 : Shape := ⟨2, ![1024, 2816]⟩
abbrev S512x2816 : Shape := ⟨2, ![512, 2816]⟩
abbrev S1x2816 : Shape := ⟨2, ![1, 2816]⟩
abbrev S504x2816 : Shape := ⟨2, ![504, 2816]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8x5632, .f32⟩
  | .hbm, ⟨9, _⟩ => ⟨S_, .i32⟩
  | .hbm, ⟨10, _⟩ => ⟨S1, .i32⟩
  | .hbm, ⟨11, _⟩ => ⟨S8x5632, .f32⟩
  | .hbm, ⟨12, _⟩ => ⟨S1x5632, .f32⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S256x5632, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S8x5632, .f32⟩
  | .local _ .vmem, ⟨4, _⟩ => ⟨S1x5632, .f32⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S8x5632, .f32⟩
  | .local _ .vmem, ⟨12, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S2x5632 : Shape := ⟨2, ![2, 5632]⟩
abbrev S16384x5632 : Shape := ⟨2, ![16384, 5632]⟩
abbrev S16386x5632 : Shape := ⟨2, ![16386, 5632]⟩
abbrev S1x5632 : Shape := ⟨2, ![1, 5632]⟩
abbrev S16384x2816 : Shape := ⟨2, ![16384, 2816]⟩
abbrev S254x5632 : Shape := ⟨2, ![254, 5632]⟩
abbrev S256x5632 : Shape := ⟨2, ![256, 5632]⟩
abbrev S16384 : Shape := ⟨1, ![16384]⟩
abbrev S16384x1 : Shape := ⟨2, ![16384, 1]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S2x5632, .f32⟩
  | .hbm, ⟨9, _⟩ => ⟨S16384x5632, .f32⟩
  | .hbm, ⟨10, _⟩ => ⟨S16386x5632, .f32⟩
  | .hbm, ⟨11, _⟩ => ⟨S1x5632, .f32⟩
  | .hbm, ⟨12, _⟩ => ⟨S5632, .f32⟩
  | .hbm, ⟨13, _⟩ => ⟨S16384x5632, .f32⟩
  | .hbm, ⟨14, _⟩ => ⟨S1x5632, .f32⟩
  | .hbm, ⟨15, _⟩ => ⟨S16384x5632, .f32⟩
  | .hbm, ⟨16, _⟩ => ⟨S16384x5632, .f32⟩
  | .hbm, ⟨17, _⟩ => ⟨S1x5632, .f32⟩
  | .hbm, ⟨18, _⟩ => ⟨S5632, .f32⟩
  | .hbm, ⟨19, _⟩ => ⟨S16384x5632, .f32⟩
  | .hbm, ⟨20, _⟩ => ⟨S1x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S1x5632, .f32⟩
  | .hbm, ⟨25, _⟩ => ⟨S5632, .f32⟩
  | .hbm, ⟨26, _⟩ => ⟨S16384x5632, .f32⟩
  | .hbm, ⟨27, _⟩ => ⟨S1x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S2x5632, .f32⟩
  | .hbm, ⟨32, _⟩ => ⟨S1x5632, .f32⟩
  | .hbm, ⟨33, _⟩ => ⟨S16384x5632, .f32⟩
  | .hbm, ⟨34, _⟩ => ⟨S16384x5632, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x1024, .f32⟩
  | .hbm, ⟨48, _⟩ => ⟨S_, .f32⟩
  | .hbm, ⟨49, _⟩ => ⟨S254x5632, .f32⟩
  | .hbm, ⟨50, _⟩ => ⟨S256x5632, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Step.lean ====
abbrev S32x1024 : Shape := ⟨2, ![32, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S8x5632 : Shape := ⟨2, ![8, 5632]⟩
abbrev S1 : Shape := ⟨1, ![1]⟩
abbrev S1x5632 : Shape := ⟨2, ![1, 5632]⟩
abbrev S2x32x5632 : Shape := ⟨3, ![2, 32, 5632]⟩
abbrev S2x32x2x2816 : Shape := ⟨4, ![2, 32, 2, 2816]⟩
abbrev S2x2x32x2816 : Shape := ⟨4, ![2, 2, 32, 2816]⟩
abbrev S1x1024 : Shape := ⟨2, ![1, 1024]⟩
abbrev S32x2816 : Shape := ⟨2, ![32, 2816]⟩
abbrev S1024x2816 : Shape := ⟨2, ![1024, 2816]⟩
abbrev S8x2816 : Shape := ⟨2, ![8, 2816]⟩
abbrev S1x2816 : Shape := ⟨2, ![1, 2816]⟩
abbrev S1x1x32x2816 : Shape := ⟨4, ![1, 1, 32, 2816]⟩
abbrev S32 : Shape := ⟨1, ![32]⟩
abbrev S32x1 : Shape := ⟨2, ![32, 1]⟩

abbrev nBuf : Space → Nat
  | .hbm => 24
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x5632, .bf16⟩
  | .hbm, ⟨9, _⟩ => ⟨S_, .f32⟩
  | .hbm, ⟨10, _⟩ => ⟨S8x5632, .f32⟩
  | .hbm, ⟨11, _⟩ => ⟨S_, .i32⟩
  | .hbm, ⟨12, _⟩ => ⟨S1, .i32⟩
  | .hbm, ⟨13, _⟩ => ⟨S8x5632, .f32⟩
  | .hbm, ⟨14, _⟩ => ⟨S1x5632, .f32⟩
  | .hbm, ⟨15, _⟩ => ⟨S2x32x5632, .f32⟩
  | .hbm, ⟨16, _⟩ => ⟨S2x32x2x2816, .f32⟩
  | .hbm, ⟨17, _⟩ => ⟨S2x2x32x2816, .f32⟩
  | .hbm, ⟨18, _⟩ => ⟨S2816x1024, .bf16⟩
  | .hbm, ⟨19, _⟩ => ⟨S1x1024, .f32⟩
  | .hbm, ⟨20, _⟩ => ⟨S1x1024, .f32⟩
  | .hbm, ⟨21, _⟩ => ⟨S32x1024, .f32⟩
  | .hbm, ⟨22, _⟩ => ⟨S32x2816, .f32⟩
  | .hbm, ⟨23, _⟩ => ⟨S32x2816, .f32⟩
  | .local _ .vmem, ⟨0, _⟩ => ⟨S32x1024, .f32⟩
  | .local _ .vmem, ⟨1, _⟩ => ⟨S2x2x32x2816, .f32⟩
  | .local _ .vmem, ⟨2, _⟩ => ⟨S1024x2816, .bf16⟩
  | .local _ .vmem, ⟨3, _⟩ => ⟨S1024x2816, .bf16⟩
  | .local _ .vmem, ⟨4, _⟩ => ⟨S8x2816, .f32⟩
  | .local _ .vmem, ⟨5, _⟩ => ⟨S8x2816, .f32⟩
  | .local _ .vmem, ⟨6, _⟩ => ⟨S1x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S32x1024, .f32⟩
  | .local _ .vmem, ⟨12, _⟩ => ⟨S32x2816, .f32⟩
  | .local _ .vmem, ⟨13, _⟩ => ⟨S32x2816, .f32⟩
  | .local _ .vmem, ⟨14, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def k0_cond3 (i : grid0.Coords) : BitVec 1 :=
  let arg0 : BitVec 32 := BitVec.ofNat 32 (i 0).val
  let c0_i32_39 : BitVec 32 := 0#32
  let v65 : BitVec 1 := Scalar.cmpi .eq arg0 c0_i32_39
  let v66 : BitVec 32 := Scalar.extui v65
  let c0_i32_40 : BitVec 32 := 0#32
  let v67 : BitVec 1 := Scalar.cmpi .ne v66 c0_i32_40
  v67

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x32x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== StepRefIdeal.lean ====
abbrev S32x1024 : Shape := ⟨2, ![32, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32x1x1024 : Shape := ⟨3, ![32, 1, 1024]⟩
abbrev S32x1x5632 : Shape := ⟨3, ![32, 1, 5632]⟩
abbrev S32x3x5632 : Shape := ⟨3, ![32, 3, 5632]⟩
abbrev S1x5632 : Shape := ⟨2, ![1, 5632]⟩
abbrev S1x1x5632 : Shape := ⟨3, ![1, 1, 5632]⟩
abbrev S32x1x2816 : Shape := ⟨3, ![32, 1, 2816]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x2816 : Shape := ⟨2, ![32, 2816]⟩

abbrev nBuf : Space → Nat
  | .hbm => 86
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2x5632, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S32x1x1024, .f32⟩
  | .hbm, ⟨9, _⟩ => ⟨S32x1x5632, .f32⟩
  | .hbm, ⟨10, _⟩ => ⟨S32x3x5632, .f32⟩
  | .hbm, ⟨11, _⟩ => ⟨S1x5632, .f32⟩
  | .hbm, ⟨12, _⟩ => ⟨S5632, .f32⟩
  | .hbm, ⟨13, _⟩ => ⟨S32x1x5632, .f32⟩
  | .hbm, ⟨14, _⟩ => ⟨S1x1x5632, .f32⟩
  | .hbm, ⟨15, _⟩ => ⟨S32x1x5632, .f32⟩
  | .hbm, ⟨16, _⟩ => ⟨S32x1x5632, .f32⟩
  | .hbm, ⟨17, _⟩ => ⟨S1x5632, .f32⟩
  | .hbm, ⟨18, _⟩ => ⟨S5632, .f32⟩
  | .hbm, ⟨19, _⟩ => ⟨S32x1x5632, .f32⟩
  | .hbm, ⟨20, _⟩ => ⟨S1x1x5632, .f32⟩
  | .hbm, ⟨21, _⟩ => ⟨S32x1x5632, .f32⟩
  | .hbm, ⟨22, _⟩ => ⟨S32x1x5632, .f32⟩
  | .hbm, ⟨23, _⟩ => ⟨S32x1x5632, .f32⟩
  | .hbm, ⟨24, _⟩ => ⟨S1x5632, .f32⟩
  | .hbm, ⟨25, _⟩ => ⟨S5632, .f32⟩
  | .hbm, ⟨26, _⟩ => ⟨S32x1x5632, .f32⟩
  | .hbm, ⟨27, _⟩ => ⟨S1x1x5632, .f32⟩
  | .hbm, ⟨28, _⟩ => ⟨S32x1x5632, .f32⟩
  | .hbm, ⟨29, _⟩ => ⟨S32x1x5632, .f32⟩
  | .hbm, ⟨30, _⟩ => ⟨S32x1x5632, .f32⟩
  | .hbm, ⟨31, _⟩ => ⟨S32x2x5632, .f32⟩
  | .hbm, ⟨32, _⟩ => ⟨S1x1x5632, .f32⟩
  | .hbm, ⟨33, _⟩ => ⟨S32x1x5632, .f32⟩
  | .hbm, ⟨34, _⟩ => ⟨S32x1x5632, .f32⟩
  | .hbm, ⟨35, _⟩ => ⟨S32x1x2816, .f32⟩
  | .hbm, ⟨36, _⟩ => ⟨S32x1x2816, .f32⟩
  | .hbm, ⟨37, _⟩ => ⟨S32x1x2816, .f32⟩
  | .hbm, ⟨38, _⟩ => ⟨S32x1x2816, .f32⟩
  | .hbm, ⟨39, _⟩ => ⟨S_, .f32⟩
  | .hbm, ⟨40, _⟩ => ⟨S32x1x2816, .f32⟩
  | .hbm, ⟨41, _⟩ => ⟨S32x1x2816, .f32⟩
  | .hbm, ⟨42, _⟩ => ⟨S_, .f32⟩
  | .hbm, ⟨43, _⟩ => ⟨S32x1x2816, .f32⟩
  | .hbm, ⟨44, _⟩ => ⟨S32x1x2816, .f32⟩
  | .hbm, ⟨45, _⟩ => ⟨S32x1x2816, .f32⟩
  | .hbm, ⟨46, _⟩ => ⟨S32x1x2816, .f32⟩
  | .hbm, ⟨47, _⟩ => ⟨S32x1x1024, .f32⟩
  | .hbm, ⟨48, _⟩ => ⟨S_, .f32⟩
  | .hbm, ⟨49, _⟩ => ⟨S32x1x1024, .f32⟩
  | .hbm, ⟨50, _⟩ => ⟨S32x1x1024, .f32⟩
  | .hbm, ⟨51, _⟩ => ⟨S32x1x1024, .f32⟩
  | .hbm, ⟨52, _⟩ => ⟨S_, .f32⟩
  | .hbm, ⟨53, _⟩ => ⟨S32x1, .f32⟩
  | .hbm, ⟨54, _⟩ => ⟨S32x1x1, .f32⟩
  | .hbm, ⟨55, _⟩ => ⟨S_, .f32⟩
  | .hbm, ⟨56, _⟩ => ⟨S32x1x1, .f32⟩
  | .hbm, ⟨57, _⟩ => ⟨S32x1x1, .f32⟩
  | .hbm, ⟨58, _⟩ => ⟨S32x1x1024, .f32⟩
  | .hbm, ⟨59, _⟩ => ⟨S32x1x1024, .f32⟩
  | .hbm, ⟨60, _⟩ => ⟨S32x1x1024, .f32⟩
  | .hbm, ⟨61, _⟩ => ⟨S_, .f32⟩
  | .hbm, ⟨62, _⟩ => ⟨S32x1, .f32⟩
  | .hbm, ⟨63, _⟩ => ⟨S32x1x1, .f32⟩
  | .hbm, ⟨64, _⟩ => ⟨S_, .f32⟩
  | .hbm, ⟨65, _⟩ => ⟨S32x1x1, .f32⟩
  | .hbm, ⟨66, _⟩ => ⟨S32x1x1, .f32⟩
  | .hbm, ⟨67, _⟩ => ⟨S32x1x1024, .f32⟩
  | .hbm, ⟨68, _⟩ => ⟨S32x1x1024, .f32⟩
  | .hbm, ⟨69, _⟩ => ⟨S_, .f32⟩
  | .hbm, ⟨70, _⟩ => ⟨S32x1x1, .f32⟩
  | .hbm, ⟨71, _⟩ => ⟨S32x1x1, .f32⟩
  | .hbm, ⟨72, _⟩ => ⟨S32x1x1, .f32⟩
  | .hbm, ⟨73, _⟩ => ⟨S32x1x1024, .f32⟩
  | .hbm, ⟨74, _⟩ => ⟨S32x1x1024, .f32⟩
  | .hbm, ⟨75, _⟩ => ⟨S1x1x1024, .f32⟩
  | .hbm, ⟨76, _⟩ => ⟨S32x1x1024, .f32⟩
  | .hbm, ⟨77, _⟩ => ⟨S32x1x1024, .f32⟩
  | .hbm, ⟨78, _⟩ => ⟨S1x1x1024, .f32⟩
  | .hbm, ⟨79, _⟩ => ⟨S32x1x1024, .f32⟩
  | .hbm, ⟨80, _⟩ => ⟨S32x1x1024, .f32⟩
  | .hbm, ⟨81, _⟩ => ⟨S32x1024, .f32⟩
  | .hbm, ⟨82, _⟩ => ⟨S32x1x2816, .f32⟩
  | .hbm, ⟨83, _⟩ => ⟨S32x2816, .f32⟩
  | .hbm, ⟨84, _⟩ => ⟨S32x1x2816, .f32⟩
  | .hbm, ⟨85, _⟩ => ⟨S32x2816, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_0 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Proj.lean ====
abbrev S1x16384x1024 : Shape := ⟨3, ![1, 16384, 1024]⟩
abbrev S1024x3368 : Shape := ⟨2, ![1024, 3368]⟩
abbrev S_ : Shape := ⟨0, ![]⟩
abbrev S1024x3456 : Shape := ⟨2, ![1024, 3456]⟩
abbrev S16384x1024 : Shape := ⟨2, ![16384, 1024]⟩
abbrev S16384x3456 : Shape := ⟨2, ![16384, 3456]⟩
abbrev S512x1024 : Shape := ⟨2, ![512, 1024]⟩
abbrev S512x3456 : Shape := ⟨2, ![512, 3456]⟩

abbrev nBuf : Space → Nat
  | .hbm => 8
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024x3368, .f32⟩
  | .hbm, ⟨2, _⟩ => ⟨S_, .i32⟩
  | .hbm, ⟨3, _⟩ => ⟨S_, .f32⟩
  | .hbm, ⟨4, _⟩ => ⟨S1024x3456, .f32⟩
  | .hbm, ⟨5, _⟩ => ⟨S16384x1024, .f32⟩
  | .hbm, ⟨6, _⟩ => ⟨S1024x3456, .bf16⟩
  | .hbm, ⟨7, _⟩ => ⟨S16384x3456, .f32⟩
  | .local _ .vmem, ⟨0, _⟩ => ⟨S512x1024, .f32⟩
  | .local _ .vmem, ⟨1, _⟩ => ⟨S512x1024, .f32⟩
  | .local _ .vmem, ⟨2, _⟩ => ⟨S1024x3456, .bf16⟩
  | .local _ .vmem, ⟨3, _⟩ => ⟨S512x3456, .f32⟩
  | .local _ .vmem, ⟨4, _⟩ => ⟨S512x3456, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3456 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S1x16384x1024 : Shape := ⟨3, ![1, 16384, 1024]⟩
abbrev S1024x3368 : Shape := ⟨2, ![1024, 3368]⟩
abbrev S16384x1024 : Shape := ⟨2, ![16384, 1024]⟩
abbrev S16384x3368 : Shape := ⟨2, ![16384, 3368]⟩
abbrev S_ : Shape := ⟨0, ![]⟩
abbrev S16384x88 : Shape := ⟨2, ![16384, 88]⟩
abbrev S16384x3456 : Shape := ⟨2, ![16384, 3456]⟩

abbrev nBuf : Space → Nat
  | .hbm => 7
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x3368, .f32⟩
  | .hbm, ⟨2, _⟩ => ⟨S16384x1024, .f32⟩
  | .hbm, ⟨3, _⟩ => ⟨S16384x3368, .f32⟩
  | .hbm, ⟨4, _⟩ => ⟨S_, .f32⟩
  | .hbm, ⟨5, _⟩ => ⟨S16384x88, .f32⟩
  | .hbm, ⟨6, _⟩ => ⟨S16384x3456, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dilp.lean ====
abbrev S16384x1024 : Shape := ⟨2, ![16384, 1024]⟩
abbrev S1024x3072 : Shape := ⟨2, ![1024, 3072]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x3072 : Shape := ⟨2, ![16384, 3072]⟩
abbrev S16384x2048 : Shape := ⟨2, ![16384, 2048]⟩
abbrev S512x1024 : Shape := ⟨2, ![512, 1024]⟩
abbrev S512x128 : Shape := ⟨2, ![512, 128]⟩
abbrev S512x3072 : Shape := ⟨2, ![512, 3072]⟩
abbrev S512x2048 : Shape := ⟨2, ![512, 2048]⟩

abbrev nBuf : Space → Nat
  | .hbm => 33
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S16384, .f32⟩
  | .hbm, ⟨14, _⟩ => ⟨S16384x1, .f32⟩
  | .hbm, ⟨15, _⟩ => ⟨S1x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x64, .f32⟩
  | .hbm, ⟨22, _⟩ => ⟨S1x16384x1x64, .f32⟩
  | .hbm, ⟨23, _⟩ => ⟨S1x16384x2x64, .f32⟩
  | .hbm, ⟨24, _⟩ => ⟨S16384x128, .f32⟩
  | .hbm, ⟨25, _⟩ => ⟨S16384x32, .f32⟩
  | .hbm, ⟨26, _⟩ => ⟨S16384x64, .f32⟩
  | .hbm, ⟨27, _⟩ => ⟨S1x16384x1x64, .f32⟩
  | .hbm, ⟨28, _⟩ => ⟨S1x16384x2x64, .f32⟩
  | .hbm, ⟨29, _⟩ => ⟨S16384x128, .f32⟩
  | .hbm, ⟨30, _⟩ => ⟨S1024x3072, .bf16⟩
  | .hbm, ⟨31, _⟩ => ⟨S16384x3072, .bf16⟩
  | .hbm, ⟨32, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x3072, .bf16⟩
  | .local _ .vmem, ⟨8, _⟩ => ⟨S512x3072, .bf16⟩
  | .local _ .vmem, ⟨9, _⟩ => ⟨S512x2048, .f32⟩
  | .local _ .vmem, ⟨10, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DilpRefIdeal.lean ====
abbrev S16384x1024 : Shape := ⟨2, ![16384, 1024]⟩
abbrev S1024x3072 : Shape := ⟨2, ![1024, 3072]⟩
abbrev S16384x3072 : Shape := ⟨2, ![16384, 3072]⟩
abbrev S16384x16x64 : Shape := ⟨3, ![16384, 16, 64]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x16x32 : Shape := ⟨3, ![16384, 16, 32]⟩
abbrev S16384x1x16x64 : Shape := ⟨4, ![16384, 1, 16, 64]⟩
abbrev S16384x2x16x64 : Shape := ⟨4, ![16384, 2, 16, 64]⟩
abbrev S16384x2048 : Shape := ⟨2, ![16384, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x16x64, .f32⟩
  | .hbm, ⟨7, _⟩ => ⟨S16384x16x64, .f32⟩
  | .hbm, ⟨8, _⟩ => ⟨S16384x16x64, .f32⟩
  | .hbm, ⟨9, _⟩ => ⟨S16384, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384, .f32⟩
  | .hbm, ⟨21, _⟩ => ⟨S16384x1, .f32⟩
  | .hbm, ⟨22, _⟩ => ⟨S1x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x1x32, .f32⟩
  | .hbm, ⟨28, _⟩ => ⟨S16384x32, .f32⟩
  | .hbm, ⟨29, _⟩ => ⟨S16384x1x32, .f32⟩
  | .hbm, ⟨30, _⟩ => ⟨S16384x16x32, .f32⟩
  | .hbm, ⟨31, _⟩ => ⟨S16384x16x32, .f32⟩
  | .hbm, ⟨32, _⟩ => ⟨S16384x16x32, .f32⟩
  | .hbm, ⟨33, _⟩ => ⟨S16384x16x32, .f32⟩
  | .hbm, ⟨34, _⟩ => ⟨S16384x16x32, .f32⟩
  | .hbm, ⟨35, _⟩ => ⟨S16384x16x32, .f32⟩
  | .hbm, ⟨36, _⟩ => ⟨S16384x16x32, .f32⟩
  | .hbm, ⟨37, _⟩ => ⟨S16384x16x32, .f32⟩
  | .hbm, ⟨38, _⟩ => ⟨S16384x16x32, .f32⟩
  | .hbm, ⟨39, _⟩ => ⟨S16384x16x32, .f32⟩
  | .hbm, ⟨40, _⟩ => ⟨S16384x16x32, .f32⟩
  | .hbm, ⟨41, _⟩ => ⟨S16384x16x32, .f32⟩
  | .hbm, ⟨42, _⟩ => ⟨S16384x16x64, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S16384, .f32⟩
  | .hbm, ⟨54, _⟩ => ⟨S16384x1, .f32⟩
  | .hbm, ⟨55, _⟩ => ⟨S1x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x32, .f32⟩
  | .hbm, ⟨60, _⟩ => ⟨S16384x1x32, .f32⟩
  | .hbm, ⟨61, _⟩ => ⟨S16384x32, .f32⟩
  | .hbm, ⟨62, _⟩ => ⟨S16384x1x32, .f32⟩
  | .hbm, ⟨63, _⟩ => ⟨S16384x16x32, .f32⟩
  | .hbm, ⟨64, _⟩ => ⟨S16384x16x32, .f32⟩
  | .hbm, ⟨65, _⟩ => ⟨S16384x16x32, .f32⟩
  | .hbm, ⟨66, _⟩ => ⟨S16384x16x32, .f32⟩
  | .hbm, ⟨67, _⟩ => ⟨S16384x16x32, .f32⟩
  | .hbm, ⟨68, _⟩ => ⟨S16384x16x32, .f32⟩
  | .hbm, ⟨69, _⟩ => ⟨S16384x16x32, .f32⟩
  | .hbm, ⟨70, _⟩ => ⟨S16384x16x32, .f32⟩
  | .hbm, ⟨71, _⟩ => ⟨S16384x16x32, .f32⟩
  | .hbm, ⟨72, _⟩ => ⟨S16384x16x32, .f32⟩
  | .hbm, ⟨73, _⟩ => ⟨S16384x16x32, .f32⟩
  | .hbm, ⟨74, _⟩ => ⟨S16384x16x32, .f32⟩
  | .hbm, ⟨75, _⟩ => ⟨S16384x16x64, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x3072, .f32⟩
  | .hbm, ⟨80, _⟩ => ⟨S16384x3072, .bf16⟩
  | .hbm, ⟨81, _⟩ => ⟨S16384x1x16x64, .f32⟩
  | .hbm, ⟨82, _⟩ => ⟨S16384x1x16x64, .f32⟩
  | .hbm, ⟨83, _⟩ => ⟨S16384x2x16x64, .f32⟩
  | .hbm, ⟨84, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩

abbrev nD : Nat := 1
abbrev τ : Topo := Topo.v7x

variable {F : FTy → Type} [FloatOps F]
-- ==== Mix.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Rope.lean ====
abbrev S16384x512 : Shape := ⟨2, ![16384, 512]⟩
abbrev S16384x128 : Shape := ⟨2, ![16384, 128]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S512x128 : Shape := ⟨2, ![512, 128]⟩
abbrev S512x512 : Shape := ⟨2, ![512, 512]⟩

abbrev nBuf : Space → Nat
  | .hbm => 34
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S16384, .f32⟩
  | .hbm, ⟨15, _⟩ => ⟨S16384x1, .f32⟩
  | .hbm, ⟨16, _⟩ => ⟨S1x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x64, .f32⟩
  | .hbm, ⟨23, _⟩ => ⟨S1x16384x1x64, .f32⟩
  | .hbm, ⟨24, _⟩ => ⟨S1x16384x2x64, .f32⟩
  | .hbm, ⟨25, _⟩ => ⟨S16384x128, .f32⟩
  | .hbm, ⟨26, _⟩ => ⟨S16384x32, .f32⟩
  | .hbm, ⟨27, _⟩ => ⟨S16384x64, .f32⟩
  | .hbm, ⟨28, _⟩ => ⟨S1x16384x1x64, .f32⟩
  | .hbm, ⟨29, _⟩ => ⟨S1x16384x2x64, .f32⟩
  | .hbm, ⟨30, _⟩ => ⟨S16384x128, .f32⟩
  | .hbm, ⟨31, _⟩ => ⟨S16384x512, .f32⟩
  | .hbm, ⟨32, _⟩ => ⟨S16384x128, .f32⟩
  | .hbm, ⟨33, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeRefIdeal.lean ====
abbrev S16384x512 : Shape := ⟨2, ![16384, 512]⟩
abbrev S16384x128 : Shape := ⟨2, ![16384, 128]⟩
abbrev S16384 : Shape := ⟨1, ![16384]⟩
abbrev S16384x8x64 : Shape := ⟨3, ![16384, 8, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x8x32 : Shape := ⟨3, ![16384, 8, 32]⟩
abbrev S16384x2x64 : Shape := ⟨3, ![16384, 2, 64]⟩
abbrev S16384x2x32 : Shape := ⟨3, ![16384, 2, 32]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384, .i32⟩
  | .hbm, ⟨4, _⟩ => ⟨S16384x8x64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384, .f32⟩
  | .hbm, ⟨16, _⟩ => ⟨S16384x1, .f32⟩
  | .hbm, ⟨17, _⟩ => ⟨S1x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x1x32, .f32⟩
  | .hbm, ⟨23, _⟩ => ⟨S16384x32, .f32⟩
  | .hbm, ⟨24, _⟩ => ⟨S16384x1x32, .f32⟩
  | .hbm, ⟨25, _⟩ => ⟨S16384x8x32, .f32⟩
  | .hbm, ⟨26, _⟩ => ⟨S16384x8x32, .f32⟩
  | .hbm, ⟨27, _⟩ => ⟨S16384x8x32, .f32⟩
  | .hbm, ⟨28, _⟩ => ⟨S16384x8x32, .f32⟩
  | .hbm, ⟨29, _⟩ => ⟨S16384x8x32, .f32⟩
  | .hbm, ⟨30, _⟩ => ⟨S16384x8x32, .f32⟩
  | .hbm, ⟨31, _⟩ => ⟨S16384x8x32, .f32⟩
  | .hbm, ⟨32, _⟩ => ⟨S16384x8x32, .f32⟩
  | .hbm, ⟨33, _⟩ => ⟨S16384x8x32, .f32⟩
  | .hbm, ⟨34, _⟩ => ⟨S16384x8x32, .f32⟩
  | .hbm, ⟨35, _⟩ => ⟨S16384x8x32, .f32⟩
  | .hbm, ⟨36, _⟩ => ⟨S16384x8x32, .f32⟩
  | .hbm, ⟨37, _⟩ => ⟨S16384x8x64, .f32⟩
  | .hbm, ⟨38, _⟩ => ⟨S16384x512, .f32⟩
  | .hbm, ⟨39, _⟩ => ⟨S16384x2x64, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S16384, .f32⟩
  | .hbm, ⟨51, _⟩ => ⟨S16384x1, .f32⟩
  | .hbm, ⟨52, _⟩ => ⟨S1x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x1x32, .f32⟩
  | .hbm, ⟨58, _⟩ => ⟨S16384x32, .f32⟩
  | .hbm, ⟨59, _⟩ => ⟨S16384x1x32, .f32⟩
  | .hbm, ⟨60, _⟩ => ⟨S16384x2x32, .f32⟩
  | .hbm, ⟨61, _⟩ => ⟨S16384x2x32, .f32⟩
  | .hbm, ⟨62, _⟩ => ⟨S16384x2x32, .f32⟩
  | .hbm, ⟨63, _⟩ => ⟨S16384x2x32, .f32⟩
  | .hbm, ⟨64, _⟩ => ⟨S16384x2x32, .f32⟩
  | .hbm, ⟨65, _⟩ => ⟨S16384x2x32, .f32⟩
  | .hbm, ⟨66, _⟩ => ⟨S16384x2x32, .f32⟩
  | .hbm, ⟨67, _⟩ => ⟨S16384x2x32, .f32⟩
  | .hbm, ⟨68, _⟩ => ⟨S16384x2x32, .f32⟩
  | .hbm, ⟨69, _⟩ => ⟨S16384x2x32, .f32⟩
  | .hbm, ⟨70, _⟩ => ⟨S16384x2x32, .f32⟩
  | .hbm, ⟨71, _⟩ => ⟨S16384x2x32, .f32⟩
  | .hbm, ⟨72, _⟩ => ⟨S16384x2x64, .f32⟩
  | .hbm, ⟨73, _⟩ => ⟨S16384x128, .f32⟩
  | .hbm, ⟨74, _⟩ => ⟨S16384x2x64, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S16384, .f32⟩
  | .hbm, ⟨86, _⟩ => ⟨S16384x1, .f32⟩
  | .hbm, ⟨87, _⟩ => ⟨S1x32, .f32⟩
  | .hbm, ⟨88, _⟩ => ⟨S16384x32, .f32⟩
  | .hbm, ⟨89, _⟩ => ⟨S16384x32, .f32⟩
  | .hbm, ⟨90, _⟩ => ⟨S16384x32, .f32⟩
  | .hbm, ⟨91, _⟩ => ⟨S16384x32, .f32⟩
  | .hbm, ⟨92, _⟩ => ⟨S16384x1x32, .f32⟩
  | .hbm, ⟨93, _⟩ => ⟨S16384x32, .f32⟩
  | .hbm, ⟨94, _⟩ => ⟨S16384x1x32, .f32⟩
  | .hbm, ⟨95, _⟩ => ⟨S16384x2x32, .f32⟩
  | .hbm, ⟨96, _⟩ => ⟨S16384x2x32, .f32⟩
  | .hbm, ⟨97, _⟩ => ⟨S16384x2x32, .f32⟩
  | .hbm, ⟨98, _⟩ => ⟨S16384x2x32, .f32⟩
  | .hbm, ⟨99, _⟩ => ⟨S16384x2x32, .f32⟩
  | .hbm, ⟨100, _⟩ => ⟨S16384x2x32, .f32⟩
  | .hbm, ⟨101, _⟩ => ⟨S16384x2x32, .f32⟩
  | .hbm, ⟨102, _⟩ => ⟨S16384x2x32, .f32⟩
  | .hbm, ⟨103, _⟩ => ⟨S16384x2x32, .f32⟩
  | .hbm, ⟨104, _⟩ => ⟨S16384x2x32, .f32⟩
  | .hbm, ⟨105, _⟩ => ⟨S16384x2x32, .f32⟩
  | .hbm, ⟨106, _⟩ => ⟨S16384x2x32, .f32⟩
  | .hbm, ⟨107, _⟩ => ⟨S16384x2x64, .f32⟩
  | .hbm, ⟨108, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_cst_6 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩

abbrev nD : Nat := 1
abbrev τ : Topo := Topo.v7x

variable {F : FTy → Type} [FloatOps F]
-- ==== Near.lean ====
abbrev S16384x3072 : Shape := ⟨2, ![16384, 3072]⟩
abbrev S16384x1024 : Shape := ⟨2, ![16384, 1024]⟩
abbrev S16384x128 : Shape := ⟨2, ![16384, 128]⟩
abbrev S128x1024 : Shape := ⟨2, ![128, 1024]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .f32⟩
  | .hbm, ⟨2, _⟩ => ⟨S16384x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c1_i32_0 : BitVec 32 := 1#32
  let v3 : BitVec 32 := Scalar.addi v2 c1_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c2_i32 : BitVec 32 := 2#32
  let v3 : BitVec 32 := Scalar.addi v2 c2_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NearIdeal.lean ====
variable {F : FTy → Type} [FloatOps F] [Named F]
def κ : String → Option EReal := fun
  | "mask" => some ⊥
  | _ => none
-- ==== NearRefIdeal.lean ====
abbrev S16384x3072 : Shape := ⟨2, ![16384, 3072]⟩
abbrev S16384x1024 : Shape := ⟨2, ![16384, 1024]⟩
abbrev S128x128x1x16x64 : Shape := ⟨5, ![128, 128, 1, 16, 64]⟩
abbrev S1x128x1x16x64 : Shape := ⟨5, ![1, 128, 1, 16, 64]⟩
abbrev S_ : Shape := ⟨0, ![]⟩
abbrev S127x128x1x16x64 : Shape := ⟨5, ![127, 128, 1, 16, 64]⟩
abbrev S128x256x1x16x64 : Shape := ⟨5, ![128, 256, 1, 16, 64]⟩
abbrev S128x1x16x128x256 : Shape := ⟨5, ![128, 1, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S128x1x1x128x256 : Shape := ⟨5, ![128, 1, 1, 128, 256]⟩
abbrev S128x1x16x128 : Shape := ⟨4, ![128, 1, 16, 128]⟩
abbrev S128x1x16x128x1 : Shape := ⟨5, ![128, 1, 16, 128, 1]⟩
abbrev S128x1x16x128x64 : Shape := ⟨5, ![128, 1, 16, 128, 64]⟩
abbrev S128x128x1x16 : Shape := ⟨4, ![128, 128, 1, 16]⟩
abbrev S16384x1x16 : Shape := ⟨3, ![16384, 1, 16]⟩
abbrev S16384x1x96 : Shape := ⟨3, ![16384, 1, 96]⟩
abbrev S16384x1x128 : Shape := ⟨3, ![16384, 1, 128]⟩
abbrev S16384x128 : Shape := ⟨2, ![16384, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S128x128x1x16x64, .f32⟩
  | .hbm, ⟨6, _⟩ => ⟨S16384x1024, .f32⟩
  | .hbm, ⟨7, _⟩ => ⟨S128x128x1x16x64, .f32⟩
  | .hbm, ⟨8, _⟩ => ⟨S16384x1024, .f32⟩
  | .hbm, ⟨9, _⟩ => ⟨S128x128x1x16x64, .f32⟩
  | .hbm, ⟨10, _⟩ => ⟨S1x128x1x16x64, .f32⟩
  | .hbm, ⟨11, _⟩ => ⟨S_, .f32⟩
  | .hbm, ⟨12, _⟩ => ⟨S1x128x1x16x64, .f32⟩
  | .hbm, ⟨13, _⟩ => ⟨S127x128x1x16x64, .f32⟩
  | .hbm, ⟨14, _⟩ => ⟨S128x128x1x16x64, .f32⟩
  | .hbm, ⟨15, _⟩ => ⟨S128x256x1x16x64, .f32⟩
  | .hbm, ⟨16, _⟩ => ⟨S1x128x1x16x64, .f32⟩
  | .hbm, ⟨17, _⟩ => ⟨S_, .f32⟩
  | .hbm, ⟨18, _⟩ => ⟨S1x128x1x16x64, .f32⟩
  | .hbm, ⟨19, _⟩ => ⟨S127x128x1x16x64, .f32⟩
  | .hbm, ⟨20, _⟩ => ⟨S128x128x1x16x64, .f32⟩
  | .hbm, ⟨21, _⟩ => ⟨S128x256x1x16x64, .f32⟩
  | .hbm, ⟨22, _⟩ => ⟨S128x1x16x128x256, .f32⟩
  | .hbm, ⟨23, _⟩ => ⟨S_, .f32⟩
  | .hbm, ⟨24, _⟩ => ⟨S128x1x16x128x256, .f32⟩
  | .hbm, ⟨25, _⟩ => ⟨S128x1x16x128x256, .f32⟩
  | .hbm, ⟨26, _⟩ => ⟨S128, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S128x1, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128, .i32⟩
  | .hbm, ⟨37, _⟩ => ⟨S128x1x1, .i32⟩
  | .hbm, ⟨38, _⟩ => ⟨S_, .i32⟩
  | .hbm, ⟨39, _⟩ => ⟨S128x1x1, .i32⟩
  | .hbm, ⟨40, _⟩ => ⟨S128x1x1, .i32⟩
  | .hbm, ⟨41, _⟩ => ⟨S1x1x256, .i32⟩
  | .hbm, ⟨42, _⟩ => ⟨S128x1x256, .i32⟩
  | .hbm, ⟨43, _⟩ => ⟨S128x1x256, .i32⟩
  | .hbm, ⟨44, _⟩ => ⟨S128x1x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S1x128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S1x128x256, .i1⟩
  | .hbm, ⟨53, _⟩ => ⟨S1x128x256, .i1⟩
  | .hbm, ⟨54, _⟩ => ⟨S_, .i32⟩
  | .hbm, ⟨55, _⟩ => ⟨S128x1x256, .i32⟩
  | .hbm, ⟨56, _⟩ => ⟨S128x1x256, .i1⟩
  | .hbm, ⟨57, _⟩ => ⟨S128x128x256, .i1⟩
  | .hbm, ⟨58, _⟩ => ⟨S128x128x256, .i1⟩
  | .hbm, ⟨59, _⟩ => ⟨S128x128x256, .i1⟩
  | .hbm, ⟨60, _⟩ => ⟨S128x1x1x128x256, .i1⟩
  | .hbm, ⟨61, _⟩ => ⟨S_, .f32⟩
  | .hbm, ⟨62, _⟩ => ⟨S_, .f32⟩
  | .hbm, ⟨63, _⟩ => ⟨S128x1x16x128x256, .i1⟩
  | .hbm, ⟨64, _⟩ => ⟨S128x1x16x128x256, .f32⟩
  | .hbm, ⟨65, _⟩ => ⟨S128x1x16x128x256, .f32⟩
  | .hbm, ⟨66, _⟩ => ⟨S_, .f32⟩
  | .hbm, ⟨67, _⟩ => ⟨S128x1x16x128, .f32⟩
  | .hbm, ⟨68, _⟩ => ⟨S128x1x16x128x1, .f32⟩
  | .hbm, ⟨69, _⟩ => ⟨S128x1x16x128x256, .f32⟩
  | .hbm, ⟨70, _⟩ => ⟨S128x1x16x128x256, .f32⟩
  | .hbm, ⟨71, _⟩ => ⟨S128x1x16x128x256, .f32⟩
  | .hbm, ⟨72, _⟩ => ⟨S_, .f32⟩
  | .hbm, ⟨73, _⟩ => ⟨S128x1x16x128, .f32⟩
  | .hbm, ⟨74, _⟩ => ⟨S128x1x16x128x64, .f32⟩
  | .hbm, ⟨75, _⟩ => ⟨S128x128x1x16, .f32⟩
  | .hbm, ⟨76, _⟩ => ⟨S16384x1x16, .f32⟩
  | .hbm, ⟨77, _⟩ => ⟨S128x128x1x16, .f32⟩
  | .hbm, ⟨78, _⟩ => ⟨S16384x1x16, .f32⟩
  | .hbm, ⟨79, _⟩ => ⟨S128x128x1x16x64, .f32⟩
  | .hbm, ⟨80, _⟩ => ⟨S16384x1024, .f32⟩
  | .hbm, ⟨81, _⟩ => ⟨S_, .f32⟩
  | .hbm, ⟨82, _⟩ => ⟨S16384x1x96, .f32⟩
  | .hbm, ⟨83, _⟩ => ⟨S16384x1x128, .f32⟩
  | .hbm, ⟨84, _⟩ => ⟨S16384x128, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Far.lean ====
abbrev S16384x3072 : Shape := ⟨2, ![16384, 3072]⟩
abbrev S1024x49152 : Shape := ⟨2, ![1024, 49152]⟩
abbrev S1024x16384 : Shape := ⟨2, ![1024, 16384]⟩
abbrev S1024x2048 : Shape := ⟨2, ![1024, 2048]⟩
abbrev S128x1024 : Shape := ⟨2, ![128, 1024]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 4
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S1024x49152, .bf16⟩
  | .hbm, ⟨2, _⟩ => ⟨S1024x16384, .f32⟩
  | .hbm, ⟨3, _⟩ => ⟨S1024x2048, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c1_i32_0 : BitVec 32 := 1#32
  let v3 : BitVec 32 := Scalar.addi v2 c1_i32_0
  let c0_i32_1 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.muli c3_i32 arg1
  let c2_i32 : BitVec 32 := 2#32
  let v3 : BitVec 32 := Scalar.addi v2 c2_i32
  let c0_i32_0 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FarIdeal.lean ====
variable {F : FTy → Type} [FloatOps F] [Named F]
def κ : String → Option EReal := fun
  | "mask" => some ⊥
  | _ => none
-- ==== FarRefIdeal.lean ====
abbrev S16384x3072 : Shape := ⟨2, ![16384, 3072]⟩
abbrev S16384x1024 : Shape := ⟨2, ![16384, 1024]⟩
abbrev S8x128x16x16x64 : Shape := ⟨5, ![8, 128, 16, 16, 64]⟩
abbrev S1x128x16x16x64 : Shape := ⟨5, ![1, 128, 16, 16, 64]⟩
abbrev S_ : Shape := ⟨0, ![]⟩
abbrev S7x128x16x16x64 : Shape := ⟨5, ![7, 128, 16, 16, 64]⟩
abbrev S8x256x16x16x64 : Shape := ⟨5, ![8, 256, 16, 16, 64]⟩
abbrev S8x16x16x128x256 : Shape := ⟨5, ![8, 16, 16, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S8x1x1x128x256 : Shape := ⟨5, ![8, 1, 1, 128, 256]⟩
abbrev S8x16x16x128 : Shape := ⟨4, ![8, 16, 16, 128]⟩
abbrev S8x16x16x128x1 : Shape := ⟨5, ![8, 16, 16, 128, 1]⟩
abbrev S8x16x16x128x64 : Shape := ⟨5, ![8, 16, 16, 128, 64]⟩
abbrev S8x128x16x16 : Shape := ⟨4, ![8, 128, 16, 16]⟩
abbrev S1024x16x16 : Shape := ⟨3, ![1024, 16, 16]⟩
abbrev S1024x16384 : Shape := ⟨2, ![1024, 16384]⟩
abbrev S1024x16x96 : Shape := ⟨3, ![1024, 16, 96]⟩
abbrev S1024x16x128 : Shape := ⟨3, ![1024, 16, 128]⟩
abbrev S1024x2048 : Shape := ⟨2, ![1024, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S8x128x16x16x64, .f32⟩
  | .hbm, ⟨6, _⟩ => ⟨S16384x1024, .f32⟩
  | .hbm, ⟨7, _⟩ => ⟨S8x128x16x16x64, .f32⟩
  | .hbm, ⟨8, _⟩ => ⟨S16384x1024, .f32⟩
  | .hbm, ⟨9, _⟩ => ⟨S8x128x16x16x64, .f32⟩
  | .hbm, ⟨10, _⟩ => ⟨S1x128x16x16x64, .f32⟩
  | .hbm, ⟨11, _⟩ => ⟨S_, .f32⟩
  | .hbm, ⟨12, _⟩ => ⟨S1x128x16x16x64, .f32⟩
  | .hbm, ⟨13, _⟩ => ⟨S7x128x16x16x64, .f32⟩
  | .hbm, ⟨14, _⟩ => ⟨S8x128x16x16x64, .f32⟩
  | .hbm, ⟨15, _⟩ => ⟨S8x256x16x16x64, .f32⟩
  | .hbm, ⟨16, _⟩ => ⟨S1x128x16x16x64, .f32⟩
  | .hbm, ⟨17, _⟩ => ⟨S_, .f32⟩
  | .hbm, ⟨18, _⟩ => ⟨S1x128x16x16x64, .f32⟩
  | .hbm, ⟨19, _⟩ => ⟨S7x128x16x16x64, .f32⟩
  | .hbm, ⟨20, _⟩ => ⟨S8x128x16x16x64, .f32⟩
  | .hbm, ⟨21, _⟩ => ⟨S8x256x16x16x64, .f32⟩
  | .hbm, ⟨22, _⟩ => ⟨S8x16x16x128x256, .f32⟩
  | .hbm, ⟨23, _⟩ => ⟨S_, .f32⟩
  | .hbm, ⟨24, _⟩ => ⟨S8x16x16x128x256, .f32⟩
  | .hbm, ⟨25, _⟩ => ⟨S8x16x16x128x256, .f32⟩
  | .hbm, ⟨26, _⟩ => ⟨S128, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S128x1, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S8, .i32⟩
  | .hbm, ⟨37, _⟩ => ⟨S8x1x1, .i32⟩
  | .hbm, ⟨38, _⟩ => ⟨S_, .i32⟩
  | .hbm, ⟨39, _⟩ => ⟨S8x1x1, .i32⟩
  | .hbm, ⟨40, _⟩ => ⟨S8x1x1, .i32⟩
  | .hbm, ⟨41, _⟩ => ⟨S1x1x256, .i32⟩
  | .hbm, ⟨42, _⟩ => ⟨S8x1x256, .i32⟩
  | .hbm, ⟨43, _⟩ => ⟨S8x1x256, .i32⟩
  | .hbm, ⟨44, _⟩ => ⟨S8x1x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S1x128x256, .i1⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S1x128x256, .i1⟩
  | .hbm, ⟨53, _⟩ => ⟨S1x128x256, .i1⟩
  | .hbm, ⟨54, _⟩ => ⟨S_, .i32⟩
  | .hbm, ⟨55, _⟩ => ⟨S8x1x256, .i32⟩
  | .hbm, ⟨56, _⟩ => ⟨S8x1x256, .i1⟩
  | .hbm, ⟨57, _⟩ => ⟨S8x128x256, .i1⟩
  | .hbm, ⟨58, _⟩ => ⟨S8x128x256, .i1⟩
  | .hbm, ⟨59, _⟩ => ⟨S8x128x256, .i1⟩
  | .hbm, ⟨60, _⟩ => ⟨S8x1x1x128x256, .i1⟩
  | .hbm, ⟨61, _⟩ => ⟨S_, .f32⟩
  | .hbm, ⟨62, _⟩ => ⟨S_, .f32⟩
  | .hbm, ⟨63, _⟩ => ⟨S8x16x16x128x256, .i1⟩
  | .hbm, ⟨64, _⟩ => ⟨S8x16x16x128x256, .f32⟩
  | .hbm, ⟨65, _⟩ => ⟨S8x16x16x128x256, .f32⟩
  | .hbm, ⟨66, _⟩ => ⟨S_, .f32⟩
  | .hbm, ⟨67, _⟩ => ⟨S8x16x16x128, .f32⟩
  | .hbm, ⟨68, _⟩ => ⟨S8x16x16x128x1, .f32⟩
  | .hbm, ⟨69, _⟩ => ⟨S8x16x16x128x256, .f32⟩
  | .hbm, ⟨70, _⟩ => ⟨S8x16x16x128x256, .f32⟩
  | .hbm, ⟨71, _⟩ => ⟨S8x16x16x128x256, .f32⟩
  | .hbm, ⟨72, _⟩ => ⟨S_, .f32⟩
  | .hbm, ⟨73, _⟩ => ⟨S8x16x16x128, .f32⟩
  | .hbm, ⟨74, _⟩ => ⟨S8x16x16x128x64, .f32⟩
  | .hbm, ⟨75, _⟩ => ⟨S8x128x16x16, .f32⟩
  | .hbm, ⟨76, _⟩ => ⟨S1024x16x16, .f32⟩
  | .hbm, ⟨77, _⟩ => ⟨S8x128x16x16, .f32⟩
  | .hbm, ⟨78, _⟩ => ⟨S1024x16x16, .f32⟩
  | .hbm, ⟨79, _⟩ => ⟨S8x128x16x16x64, .f32⟩
  | .hbm, ⟨80, _⟩ => ⟨S1024x16384, .f32⟩
  | .hbm, ⟨81, _⟩ => ⟨S_, .f32⟩
  | .hbm, ⟨82, _⟩ => ⟨S1024x16x96, .f32⟩
  | .hbm, ⟨83, _⟩ => ⟨S1024x16x128, .f32⟩
  | .hbm, ⟨84, _⟩ => ⟨S1024x2048, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_c_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== NewA.lean ====
abbrev S32x1x1024 : Shape := ⟨3, ![32, 1, 1024]⟩
abbrev S1024x3368 : Shape := ⟨2, ![1024, 3368]⟩
abbrev S_ : Shape := ⟨0, ![]⟩
abbrev S1024x3456 : Shape := ⟨2, ![1024, 3456]⟩
abbrev S32x1024 : Shape := ⟨2, ![32, 1024]⟩
abbrev S32x3456 : Shape := ⟨2, ![32, 3456]⟩

abbrev nBuf : Space → Nat
  | .hbm => 8
  | .vmem => 3
  | .smem => 0
  | _ => 0

abbrev bufTy : (tb : Table) → Fin (tcTables nBuf tb) → BufTy
  | .hbm, ⟨0, _⟩ => ⟨S32x1x1024, .f32⟩
  | .hbm, ⟨1, _⟩ => ⟨S1024x3368, .f32⟩
  | .hbm, ⟨2, _⟩ => ⟨S_, .i32⟩
  | .hbm, ⟨3, _⟩ => ⟨S_, .f32⟩
  | .hbm, ⟨4, _⟩ => ⟨S1024x3456, .f32⟩
  | .hbm, ⟨5, _⟩ => ⟨S32x1024, .f32⟩
  | .hbm, ⟨6, _⟩ => ⟨S1024x3456, .bf16⟩
  | .hbm, ⟨7, _⟩ => ⟨S32x3456, .f32⟩
  | .local _ .vmem, ⟨0, _⟩ => ⟨S32x1024, .f32⟩
  | .local _ .vmem, ⟨1, _⟩ => ⟨S1024x3456, .bf16⟩
  | .local _ .vmem, ⟨2, _⟩ => ⟨S32x3456, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== NewARefIdeal.lean ====
abbrev S32x1x1024 : Shape := ⟨3, ![32, 1, 1024]⟩
abbrev S1024x3368 : Shape := ⟨2, ![1024, 3368]⟩
abbrev S32x1024 : Shape := ⟨2, ![32, 1024]⟩
abbrev S32x3368 : Shape := ⟨2, ![32, 3368]⟩
abbrev S_ : Shape := ⟨0, ![]⟩
abbrev S32x88 : Shape := ⟨2, ![32, 88]⟩
abbrev S32x3456 : Shape := ⟨2, ![32, 3456]⟩

abbrev nBuf : Space → Nat
  | .hbm => 7
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024x3368, .f32⟩
  | .hbm, ⟨2, _⟩ => ⟨S32x1024, .f32⟩
  | .hbm, ⟨3, _⟩ => ⟨S32x3368, .f32⟩
  | .hbm, ⟨4, _⟩ => ⟨S_, .f32⟩
  | .hbm, ⟨5, _⟩ => ⟨S32x88, .f32⟩
  | .hbm, ⟨6, _⟩ => ⟨S32x3456, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NewC.lean ====
abbrev S32x1x1024 : Shape := ⟨3, ![32, 1, 1024]⟩
abbrev S1024x3072 : Shape := ⟨2, ![1024, 3072]⟩
abbrev S_ : Shape := ⟨0, ![]⟩
abbrev S32x1024 : Shape := ⟨2, ![32, 1024]⟩
abbrev S32x3072 : Shape := ⟨2, ![32, 3072]⟩

abbrev nBuf : Space → Nat
  | .hbm => 8
  | .vmem => 3
  | .smem => 0
  | _ => 0

abbrev bufTy : (tb : Table) → Fin (tcTables nBuf tb) → BufTy
  | .hbm, ⟨0, _⟩ => ⟨S32x1x1024, .f32⟩
  | .hbm, ⟨1, _⟩ => ⟨S1024x3072, .f32⟩
  | .hbm, ⟨2, _⟩ => ⟨S_, .i32⟩
  | .hbm, ⟨3, _⟩ => ⟨S_, .f32⟩
  | .hbm, ⟨4, _⟩ => ⟨S1024x3072, .f32⟩
  | .hbm, ⟨5, _⟩ => ⟨S32x1024, .f32⟩
  | .hbm, ⟨6, _⟩ => ⟨S1024x3072, .bf16⟩
  | .hbm, ⟨7, _⟩ => ⟨S32x3072, .f32⟩
  | .local _ .vmem, ⟨0, _⟩ => ⟨S32x1024, .f32⟩
  | .local _ .vmem, ⟨1, _⟩ => ⟨S1024x3072, .bf16⟩
  | .local _ .vmem, ⟨2, _⟩ => ⟨S32x3072, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S32x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== NewCRefIdeal.lean ====
abbrev S32x1x1024 : Shape := ⟨3, ![32, 1, 1024]⟩
abbrev S1024x3072 : Shape := ⟨2, ![1024, 3072]⟩
abbrev S32x1024 : Shape := ⟨2, ![32, 1024]⟩
abbrev S32x3072 : Shape := ⟨2, ![32, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024x3072, .f32⟩
  | .hbm, ⟨2, _⟩ => ⟨S32x1024, .f32⟩
  | .hbm, ⟨3, _⟩ => ⟨S32x3072, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S16384x1024 : Shape := ⟨2, ![16384, 1024]⟩
abbrev S16384x128 : Shape := ⟨2, ![16384, 128]⟩
abbrev S1024x1024 : Shape := ⟨2, ![1024, 1024]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S_ : Shape := ⟨0, ![]⟩
abbrev S128x1024 : Shape := ⟨2, ![128, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S128, .i32⟩
  | .hbm, ⟨11, _⟩ => ⟨S128x1, .i32⟩
  | .hbm, ⟨12, _⟩ => ⟨S1024, .i32⟩
  | .hbm, ⟨13, _⟩ => ⟨S1x1024, .i32⟩
  | .hbm, ⟨14, _⟩ => ⟨S_, .i32⟩
  | .hbm, ⟨15, _⟩ => ⟨S_, .i32⟩
  | .hbm, ⟨16, _⟩ => ⟨S1x1024, .i32⟩
  | .hbm, ⟨17, _⟩ => ⟨S1x1024, .i32⟩
  | .hbm, ⟨18, _⟩ => ⟨S1x1024, .i32⟩
  | .hbm, ⟨19, _⟩ => ⟨S_, .i32⟩
  | .hbm, ⟨20, _⟩ => ⟨S1x1024, .i32⟩
  | .hbm, ⟨21, _⟩ => ⟨S1x1024, .i1⟩
  | .hbm, ⟨22, _⟩ => ⟨S1x1024, .i32⟩
  | .hbm, ⟨23, _⟩ => ⟨S1x1024, .i32⟩
  | .hbm, ⟨24, _⟩ => ⟨S_, .i32⟩
  | .hbm, ⟨25, _⟩ => ⟨S1x1024, .i32⟩
  | .hbm, ⟨26, _⟩ => ⟨S1x1024, .i1⟩
  | .hbm, ⟨27, _⟩ => ⟨S1x1024, .i1⟩
  | .hbm, ⟨28, _⟩ => ⟨S_, .i32⟩
  | .hbm, ⟨29, _⟩ => ⟨S1x1024, .i32⟩
  | .hbm, ⟨30, _⟩ => ⟨S1x1024, .i32⟩
  | .hbm, ⟨31, _⟩ => ⟨S1x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128x1024, .bf16⟩
  | .hbm, ⟨36, _⟩ => ⟨S1024x1024, .bf16⟩
  | .hbm, ⟨37, _⟩ => ⟨S1x1024, .f32⟩
  | .hbm, ⟨38, _⟩ => ⟨S1x1024, .f32⟩
  | .hbm, ⟨39, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S128x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x1024 : Shape := ⟨2, ![16384, 1024]⟩
abbrev S16384x128 : Shape := ⟨2, ![16384, 128]⟩
abbrev S1024x1024 : Shape := ⟨2, ![1024, 1024]⟩
abbrev S1024 : Shape := ⟨1, ![1024]⟩
abbrev S16384x16 : Shape := ⟨2, ![16384, 16]⟩
abbrev S16384x16x64 : Shape := ⟨3, ![16384, 16, 64]⟩
abbrev S16384x16x1 : Shape := ⟨3, ![16384, 16, 1]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S16384x16, .f32⟩
  | .hbm, ⟨11, _⟩ => ⟨S16384x16, .f32⟩
  | .hbm, ⟨12, _⟩ => ⟨S16384x16x64, .f32⟩
  | .hbm, ⟨13, _⟩ => ⟨S16384x16, .f32⟩
  | .hbm, ⟨14, _⟩ => ⟨S16384x16, .f32⟩
  | .hbm, ⟨15, _⟩ => ⟨S16384x16x64, .f32⟩
  | .hbm, ⟨16, _⟩ => ⟨S16384x16, .f32⟩
  | .hbm, ⟨17, _⟩ => ⟨S16384x16, .f32⟩
  | .hbm, ⟨18, _⟩ => ⟨S16384x16x64, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16x1, .f32⟩
  | .hbm, ⟨24, _⟩ => ⟨S16384x16x64, .f32⟩
  | .hbm, ⟨25, _⟩ => ⟨S16384x16x64, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16x1, .f32⟩
  | .hbm, ⟨30, _⟩ => ⟨S16384x16x64, .f32⟩
  | .hbm, ⟨31, _⟩ => ⟨S16384x16x64, .f32⟩
  | .hbm, ⟨32, _⟩ => ⟨S16384x16x64, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S16384x16x1, .f32⟩
  | .hbm, ⟨38, _⟩ => ⟨S16384x16x64, .f32⟩
  | .hbm, ⟨39, _⟩ => ⟨S16384x16x64, .f32⟩
  | .hbm, ⟨40, _⟩ => ⟨S16384x16x64, .f32⟩
  | .hbm, ⟨41, _⟩ => ⟨S16384x16, .f32⟩
  | .hbm, ⟨42, _⟩ => ⟨S16384x16, .f32⟩
  | .hbm, ⟨43, _⟩ => ⟨S16384x16x1, .f32⟩
  | .hbm, ⟨44, _⟩ => ⟨S16384x16x64, .f32⟩
  | .hbm, ⟨45, _⟩ => ⟨S16384x16x64, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Dils.lean ====
abbrev S32x16x64 : Shape := ⟨3, ![32, 16, 64]⟩
abbrev S32x1024 : Shape := ⟨2, ![32, 1024]⟩
abbrev S32x2048x2x16x64 : Shape := ⟨5, ![32, 2048, 2, 16, 64]⟩
abbrev S32x2x16x64x2048 : Shape := ⟨5, ![32, 2, 16, 64, 2048]⟩
abbrev S32x2x1024x2048 : Shape := ⟨4, ![32, 2, 1024, 2048]⟩
abbrev S16x16 : Shape := ⟨2, ![16, 16]⟩
abbrev S_ : Shape := ⟨0, ![]⟩
abbrev S32x16x1x64 : Shape := ⟨4, ![32, 16, 1, 64]⟩
abbrev S1x16x16x1 : Shape := ⟨4, ![1, 16, 16, 1]⟩
abbrev S32x16x16x64 : Shape := ⟨4, ![32, 16, 16, 64]⟩
abbrev S32x16x1024 : Shape := ⟨3, ![32, 16, 1024]⟩
abbrev S32x1x1024 : Shape := ⟨3, ![32, 1, 1024]⟩
abbrev S32x2x1024 : Shape := ⟨3, ![32, 2, 1024]⟩
abbrev S32x8x1024 : Shape := ⟨3, ![32, 8, 1024]⟩
abbrev S32x1024x1 : Shape := ⟨3, ![32, 1024, 1]⟩
abbrev S32x1024x2 : Shape := ⟨3, ![32, 1024, 2]⟩
abbrev S32x1024x128 : Shape := ⟨3, ![32, 1024, 128]⟩
abbrev S2048 : Shape := ⟨1, ![2048]⟩
abbrev S1x2048 : Shape := ⟨2, ![1, 2048]⟩
abbrev S3x2048 : Shape := ⟨2, ![3, 2048]⟩
abbrev S8x2048 : Shape := ⟨2, ![8, 2048]⟩
abbrev S1x16x1024 : Shape := ⟨3, ![1, 16, 1024]⟩
abbrev S1x1x1024x2048 : Shape := ⟨4, ![1, 1, 1024, 2048]⟩
abbrev S1x1024x128 : Shape := ⟨3, ![1, 1024, 128]⟩
abbrev S1x8x1024 : Shape := ⟨3, ![1, 8, 1024]⟩
abbrev S16x2048 : Shape := ⟨2, ![16, 2048]⟩
abbrev S16x1 : Shape := ⟨2, ![16, 1]⟩
abbrev S16x1024 : Shape := ⟨2, ![16, 1024]⟩
abbrev S1024x2048 : Shape := ⟨2, ![1024, 2048]⟩
abbrev S1x1x1024 : Shape := ⟨3, ![1, 1, 1024]⟩
abbrev S1x1024 : Shape := ⟨2, ![1, 1024]⟩
abbrev S16 : Shape := ⟨1, ![16]⟩
abbrev S1024 : Shape := ⟨1, ![1024]⟩
abbrev S8x1024 : Shape := ⟨2, ![8, 1024]⟩
abbrev S64x2048 : Shape := ⟨2, ![64, 2048]⟩
abbrev S1x64x1 : Shape := ⟨3, ![1, 64, 1]⟩
abbrev S64x1 : Shape := ⟨2, ![64, 1]⟩
abbrev S1x1x64x2048 : Shape := ⟨4, ![1, 1, 64, 2048]⟩

abbrev nBuf : Space → Nat
  | .hbm => 204
  | .vmem => 16
  | .smem => 0
  | _ => 0

abbrev hbmTy0_0 (i : Nat) : BufTy := match i % 128 with
  | 0 => ⟨S32x16x64, .f32⟩
  | 1 => ⟨S32x1024, .f32⟩
  | 2 => ⟨S32x1024, .f32⟩
  | 3 => ⟨S32x2048x2x16x64, .f32⟩
  | 4 => ⟨S32x2x16x64x2048, .f32⟩
  | 5 => ⟨S32x2x1024x2048, .f32⟩
  | 6 => ⟨S16x16, .i32⟩
  | 7 => ⟨S16x16, .i32⟩
  | 8 => ⟨S_, .i32⟩
  | 9 => ⟨S16x16, .i32⟩
  | 10 => ⟨S16x16, .i32⟩
  | 11 => ⟨S16x16, .i1⟩
  | 12 => ⟨S16x16, .f32⟩
  | 13 => ⟨S_, .f32⟩
  | 14 => ⟨S32x16x64, .f32⟩
  | 15 => ⟨S32x16x64, .f32⟩
  | 16 => ⟨S32x16x1x64, .f32⟩
  | 17 => ⟨S1x16x16x1, .f32⟩
  | 18 => ⟨S32x16x16x64, .f32⟩
  | 19 => ⟨S32x16x16x64, .f32⟩
  | 20 => ⟨S32x16x16x64, .f32⟩
  | 21 => ⟨S32x16x1024, .f32⟩
  | 22 => ⟨S32x1x1024, .f32⟩
  | 23 => ⟨S32x1x1024, .f32⟩
  | 24 => ⟨S32x2x1024, .f32⟩
  | 25 => ⟨S_, .i32⟩
  | 26 => ⟨S_, .f32⟩
  | 27 => ⟨S32x8x1024, .f32⟩
  | 28 => ⟨S32x1024x1, .f32⟩
  | 29 => ⟨S32x1024x1, .f32⟩
  | 30 => ⟨S32x1024x2, .f32⟩
  | 31 => ⟨S_, .i32⟩
  | 32 => ⟨S_, .f32⟩
  | 33 => ⟨S32x1024x128, .f32⟩
  | 34 => ⟨S2048, .i32⟩
  | 35 => ⟨S_, .i32⟩
  | 36 => ⟨S2048, .i32⟩
  | 37 => ⟨S2048, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i1⟩
  | 52 => ⟨S_, .i32⟩
  | 53 => ⟨S_, .i1⟩
  | 54 => ⟨S2048, .i1⟩
  | 55 => ⟨S2048, .i1⟩
  | 56 => ⟨S2048, .i1⟩
  | 57 => ⟨S2048, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S2048, .i32⟩
  | 72 => ⟨S2048, .i32⟩
  | 73 => ⟨S_, .i32⟩
  | 74 => ⟨S2048, .i32⟩
  | 75 => ⟨S2048, .i1⟩
  | 76 => ⟨S2048, .i1⟩
  | 77 => ⟨S_, .i32⟩
  | 78 => ⟨S2048, .i32⟩
  | 79 => ⟨S2048, .i32⟩
  | 80 => ⟨S2048, .i32⟩
  | 81 => ⟨S_, .i32⟩
  | 82 => ⟨S2048, .i32⟩
  | 83 => ⟨S2048, .i1⟩
  | 84 => ⟨S2048, .i1⟩
  | 85 => ⟨S_, .f32⟩
  | 86 => ⟨S_, .f32⟩
  | 87 => ⟨S2048, .f32⟩
  | 88 => ⟨S2048, .f32⟩
  | 89 => ⟨S2048, .f32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i1⟩
  | 101 => ⟨S_, .i32⟩
  | 102 => ⟨S2048, .i32⟩
  | 103 => ⟨S2048, .i1⟩
  | 104 => ⟨S_, .i32⟩
  | 105 => ⟨S_, .i1⟩
  | 106 => ⟨S2048, .i1⟩
  | 107 => ⟨S2048, .i1⟩
  | 108 => ⟨S2048, .i1⟩
  | 109 => ⟨S2048, .i32⟩
  | 110 => ⟨S2048, .i32⟩
  | 111 => ⟨S2048, .i32⟩
  | 112 => ⟨S_, .i32⟩
  | 113 => ⟨S2048, .i32⟩
  | 114 => ⟨S2048, .i1⟩
  | 115 => ⟨S_, .i32⟩
  | 116 => ⟨S_, .i32⟩
  | 117 => ⟨S2048, .i32⟩
  | 118 => ⟨S2048, .i32⟩
  | 119 => ⟨S2048, .i32⟩
  | 120 => ⟨S_, .i32⟩
  | 121 => ⟨S2048, .i32⟩
  | 122 => ⟨S2048, .i1⟩
  | 123 => ⟨S2048, .i32⟩
  | 124 => ⟨S2048, .i32⟩
  | 125 => ⟨S_, .i32⟩
  | 126 => ⟨S2048, .i32⟩
  | 127 => ⟨S2048, .i1⟩
  | _ => ⟨S32x16x64, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S_, .i32⟩
  | 6 => ⟨S2048, .i32⟩
  | 7 => ⟨S2048, .i1⟩
  | 8 => ⟨S2048, .i1⟩
  | 9 => ⟨S_, .f32⟩
  | 10 => ⟨S_, .f32⟩
  | 11 => ⟨S2048, .f32⟩
  | 12 => ⟨S2048, .f32⟩
  | 13 => ⟨S2048, .f32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i1⟩
  | 25 => ⟨S_, .i32⟩
  | 26 => ⟨S2048, .i32⟩
  | 27 => ⟨S2048, .i1⟩
  | 28 => ⟨S_, .i32⟩
  | 29 => ⟨S_, .i1⟩
  | 30 => ⟨S2048, .i1⟩
  | 31 => ⟨S2048, .i1⟩
  | 32 => ⟨S2048, .i1⟩
  | 33 => ⟨S2048, .i32⟩
  | 34 => ⟨S2048, .i32⟩
  | 35 => ⟨S2048, .i32⟩
  | 36 => ⟨S_, .i32⟩
  | 37 => ⟨S2048, .i32⟩
  | 38 => ⟨S2048, .i1⟩
  | 39 => ⟨S_, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S_, .i32⟩
  | 58 => ⟨S2048, .i32⟩
  | 59 => ⟨S2048, .i1⟩
  | 60 => ⟨S2048, .i1⟩
  | 61 => ⟨S_, .f32⟩
  | 62 => ⟨S_, .f32⟩
  | 63 => ⟨S2048, .f32⟩
  | 64 => ⟨S2048, .f32⟩
  | 65 => ⟨S2048, .f32⟩
  | 66 => ⟨S1x2048, .f32⟩
  | 67 => ⟨S1x2048, .f32⟩
  | 68 => ⟨S1x2048, .f32⟩
  | 69 => ⟨S3x2048, .f32⟩
  | 70 => ⟨S_, .i32⟩
  | 71 => ⟨S_, .f32⟩
  | 72 => ⟨S8x2048, .f32⟩
  | 73 => ⟨S8x2048, .f32⟩
  | 74 => ⟨S32x8x1024, .f32⟩
  | 75 => ⟨S32x2x1024x2048, .f32⟩
  | _ => ⟨S32x16x64, .f32⟩

abbrev hbmTy (i : Nat) : BufTy := match i / 128 with
  | 0 => hbmTy0_0 i
  | 1 => hbmTy0_1 i
  | _ => ⟨S32x16x64, .f32⟩

abbrev bufTy : (tb : Table) → Fin (tcTables nBuf tb) → BufTy
  | .hbm, ⟨i, _⟩ => hbmTy i
  | .local _ .vmem, ⟨0, _⟩ => ⟨S1x16x1024, .f32⟩
  | .local _ .vmem, ⟨1, _⟩ => ⟨S1x16x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1024x128, .f32⟩
  | .local _ .vmem, ⟨5, _⟩ => ⟨S1x1024x128, .f32⟩
  | .local _ .vmem, ⟨6, _⟩ => ⟨S1x8x1024, .f32⟩
  | .local _ .vmem, ⟨7, _⟩ => ⟨S1x8x1024, .f32⟩
  | .local _ .vmem, ⟨8, _⟩ => ⟨S8x2048, .f32⟩
  | .local _ .vmem, ⟨9, _⟩ => ⟨S1x8x1024, .f32⟩
  | .local _ .vmem, ⟨10, _⟩ => ⟨S1x8x1024, .f32⟩
  | .local _ .vmem, ⟨11, _⟩ => ⟨S1x1x1024x2048, .f32⟩
  | .local _ .vmem, ⟨12, _⟩ => ⟨S1x1x1024x2048, .f32⟩
  | .local _ .vmem, ⟨13, _⟩ => ⟨S16x2048, .f32⟩
  | .local _ .vmem, ⟨14, _⟩ => ⟨S16x1, .f32⟩
  | .local _ .vmem, ⟨15, _⟩ => ⟨S16x1, .f32⟩
  | _, _ => ⟨S32x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v27 : Ref sig .tc := ⟨.hbm, 59, rfl⟩
abbrev main_c_4 : Ref sig .tc := ⟨.hbm, 60, rfl⟩
abbrev main_v28 : Ref sig .tc := ⟨.hbm, 61, rfl⟩
abbrev main_v29 : Ref sig .tc := ⟨.hbm, 62, rfl⟩
abbrev main_c_5 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v30 : Ref sig .tc := ⟨.hbm, 80, rfl⟩
abbrev main_c_6 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_7 : Ref sig .tc := ⟨.hbm, 85, rfl⟩
abbrev main_cst_8 : Ref sig .tc := ⟨.hbm, 86, rfl⟩
abbrev main_call4_v0 : Ref sig .tc := ⟨.hbm, 87, rfl⟩
abbrev main_call4_v1 : Ref sig .tc := ⟨.hbm, 88, rfl⟩
abbrev main_v34 : Ref sig .tc := ⟨.hbm, 89, rfl⟩
abbrev main_c_9 : Ref sig .tc := ⟨.hbm, 90, rfl⟩
abbrev main_call5_v0 : Ref sig .tc := ⟨.hbm, 91, rfl⟩
abbrev main_call5_c : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_c_1 : Ref sig .tc := ⟨.hbm, 98, rfl⟩
abbrev main_call5_v5 : Ref sig .tc := ⟨.hbm, 99, rfl⟩
abbrev main_call5_v6 : Ref sig .tc := ⟨.hbm, 100, rfl⟩
abbrev main_call5_c_2 : Ref sig .tc := ⟨.hbm, 101, rfl⟩
abbrev main_call5_v7 : Ref sig .tc := ⟨.hbm, 102, rfl⟩
abbrev main_call5_v8 : Ref sig .tc := ⟨.hbm, 103, rfl⟩
abbrev main_call5_c_3 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_v35 : Ref sig .tc := ⟨.hbm, 111, rfl⟩
abbrev main_c_10 : Ref sig .tc := ⟨.hbm, 112, rfl⟩
abbrev main_v36 : Ref sig .tc := ⟨.hbm, 113, rfl⟩
abbrev main_v37 : Ref sig .tc := ⟨.hbm, 114, rfl⟩
abbrev main_c_11 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_c : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_c_0 : Ref sig .tc := ⟨.hbm, 129, rfl⟩
abbrev main_call6_v12 : Ref sig .tc := ⟨.hbm, 130, rfl⟩
abbrev main_call6_v13 : Ref sig .tc := ⟨.hbm, 131, rfl⟩
abbrev main_v38 : Ref sig .tc := ⟨.hbm, 132, rfl⟩
abbrev main_c_12 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_cst_13 : Ref sig .tc := ⟨.hbm, 137, rfl⟩
abbrev main_cst_14 : Ref sig .tc := ⟨.hbm, 138, rfl⟩
abbrev main_call7_v0 : Ref sig .tc := ⟨.hbm, 139, rfl⟩
abbrev main_call7_v1 : Ref sig .tc := ⟨.hbm, 140, rfl⟩
abbrev main_v42 : Ref sig .tc := ⟨.hbm, 141, rfl⟩
abbrev main_c_15 : Ref sig .tc := ⟨.hbm, 142, rfl⟩
abbrev main_call8_v0 : Ref sig .tc := ⟨.hbm, 143, rfl⟩
abbrev main_call8_c : Ref sig .tc := ⟨.hbm, 144, rfl⟩
abbrev main_call8_v1 : Ref sig .tc := ⟨.hbm, 145, rfl⟩
abbrev main_call8_c_0 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_call8_c_1 : Ref sig .tc := ⟨.hbm, 150, rfl⟩
abbrev main_call8_v5 : Ref sig .tc := ⟨.hbm, 151, rfl⟩
abbrev main_call8_v6 : Ref sig .tc := ⟨.hbm, 152, rfl⟩
abbrev main_call8_c_2 : Ref sig .tc := ⟨.hbm, 153, rfl⟩
abbrev main_call8_v7 : Ref sig .tc := ⟨.hbm, 154, rfl⟩
abbrev main_call8_v8 : Ref sig .tc := ⟨.hbm, 155, rfl⟩
abbrev main_call8_c_3 : Ref sig .tc := ⟨.hbm, 156, rfl⟩
abbrev main_call8_v9 : Ref sig .tc := ⟨.hbm, 157, rfl⟩
abbrev main_call8_v10 : Ref sig .tc := ⟨.hbm, 158, rfl⟩
abbrev main_call8_v11 : Ref sig .tc := ⟨.hbm, 159, rfl⟩
abbrev main_call8_v12 : Ref sig .tc := ⟨.hbm, 160, rfl⟩
abbrev main_call8_v13 : Ref sig .tc := ⟨.hbm, 161, rfl⟩
abbrev main_call8_v14 : Ref sig .tc := ⟨.hbm, 162, rfl⟩
abbrev main_v43 : Ref sig .tc := ⟨.hbm, 163, rfl⟩
abbrev main_c_16 : Ref sig .tc := ⟨.hbm, 164, rfl⟩
abbrev main_v44 : Ref sig .tc := ⟨.hbm, 165, rfl⟩
abbrev main_v45 : Ref sig .tc := ⟨.hbm, 166, rfl⟩
abbrev main_c_17 : Ref sig .tc := ⟨.hbm, 167, rfl⟩
abbrev main_call9_v0 : Ref sig .tc := ⟨.hbm, 168, rfl⟩
abbrev main_call9_v1 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_v6 : Ref sig .tc := ⟨.hbm, 174, rfl⟩
abbrev main_call9_v7 : Ref sig .tc := ⟨.hbm, 175, rfl⟩
abbrev main_call9_v8 : Ref sig .tc := ⟨.hbm, 176, rfl⟩
abbrev main_call9_c : Ref sig .tc := ⟨.hbm, 177, rfl⟩
abbrev main_call9_v9 : Ref sig .tc := ⟨.hbm, 178, rfl⟩
abbrev main_call9_v10 : Ref sig .tc := ⟨.hbm, 179, rfl⟩
abbrev main_call9_v11 : Ref sig .tc := ⟨.hbm, 180, rfl⟩
abbrev main_call9_c_0 : Ref sig .tc := ⟨.hbm, 181, rfl⟩
abbrev main_call9_v12 : Ref sig .tc := ⟨.hbm, 182, rfl⟩
abbrev main_call9_v13 : Ref sig .tc := ⟨.hbm, 183, rfl⟩
abbrev main_v46 : Ref sig .tc := ⟨.hbm, 184, rfl⟩
abbrev main_c_18 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_cst_19 : Ref sig .tc := ⟨.hbm, 189, rfl⟩
abbrev main_cst_20 : Ref sig .tc := ⟨.hbm, 190, rfl⟩
abbrev main_call10_v0 : Ref sig .tc := ⟨.hbm, 191, rfl⟩
abbrev main_call10_v1 : Ref sig .tc := ⟨.hbm, 192, rfl⟩
abbrev main_v50 : Ref sig .tc := ⟨.hbm, 193, rfl⟩
abbrev main_v51 : Ref sig .tc := ⟨.hbm, 194, rfl⟩
abbrev main_v52 : Ref sig .tc := ⟨.hbm, 195, rfl⟩
abbrev main_v53 : Ref sig .tc := ⟨.hbm, 196, rfl⟩
abbrev main_v54 : Ref sig .tc := ⟨.hbm, 197, rfl⟩
abbrev main_c_21 : Ref sig .tc := ⟨.hbm, 198, rfl⟩
abbrev main_call11_v0 : Ref sig .tc := ⟨.hbm, 199, rfl⟩
abbrev main_v55 : Ref sig .tc := ⟨.hbm, 200, rfl⟩
abbrev main_v56 : Ref sig .tc := ⟨.hbm, 201, rfl⟩
abbrev main_v57_0 : Ref sig .tc := ⟨.hbm, 202, rfl⟩
abbrev main_v57_1 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilsRefIdeal.lean ====
abbrev S32x16x64 : Shape := ⟨3, ![32, 16, 64]⟩
abbrev S32x1024 : Shape := ⟨2, ![32, 1024]⟩
abbrev S32x2048x2x16x64 : Shape := ⟨5, ![32, 2048, 2, 16, 64]⟩
abbrev S32x2048x1x16x64 : Shape := ⟨5, ![32, 2048, 1, 16, 64]⟩
abbrev S32x2048x16x64 : Shape := ⟨4, ![32, 2048, 16, 64]⟩
abbrev S32x1x16x64 : Shape := ⟨4, ![32, 1, 16, 64]⟩
abbrev S32x2049x16x64 : Shape := ⟨4, ![32, 2049, 16, 64]⟩
abbrev S32x129x16x64 : Shape := ⟨4, ![32, 129, 16, 64]⟩
abbrev S32x16x129 : Shape := ⟨3, ![32, 16, 129]⟩
abbrev S_ : Shape := ⟨0, ![]⟩
abbrev S32x16 : Shape := ⟨2, ![32, 16]⟩
abbrev S32x16x1 : Shape := ⟨3, ![32, 16, 1]⟩
abbrev S32x1x1024 : Shape := ⟨3, ![32, 1, 1024]⟩
abbrev S32x8x1024 : Shape := ⟨3, ![32, 8, 1024]⟩
abbrev S32x2048x1024 : Shape := ⟨3, ![32, 2048, 1024]⟩
abbrev S32x1024x2048 : Shape := ⟨3, ![32, 1024, 2048]⟩
abbrev S32x1x1024x2048 : Shape := ⟨4, ![32, 1, 1024, 2048]⟩
abbrev S32x2x1024x2048 : Shape := ⟨4, ![32, 2, 1024, 2048]⟩

abbrev nBuf : Space → Nat
  | .hbm => 95
  | .vmem => 0
  | .smem => 0
  | _ => 0

abbrev bufTy : (tb : Table) → Fin (tcTables nBuf tb) → BufTy
  | .hbm, ⟨0, _⟩ => ⟨S32x16x64, .f32⟩
  | .hbm, ⟨1, _⟩ => ⟨S32x1024, .f32⟩
  | .hbm, ⟨2, _⟩ => ⟨S32x1024, .f32⟩
  | .hbm, ⟨3, _⟩ => ⟨S32x2048x2x16x64, .f32⟩
  | .hbm, ⟨4, _⟩ => ⟨S32x2048x1x16x64, .f32⟩
  | .hbm, ⟨5, _⟩ => ⟨S32x2048x16x64, .f32⟩
  | .hbm, ⟨6, _⟩ => ⟨S32x1x16x64, .f32⟩
  | .hbm, ⟨7, _⟩ => ⟨S32x2049x16x64, .f32⟩
  | .hbm, ⟨8, _⟩ => ⟨S32x2048x1x16x64, .f32⟩
  | .hbm, ⟨9, _⟩ => ⟨S32x2048x16x64, .f32⟩
  | .hbm, ⟨10, _⟩ => ⟨S32x1x16x64, .f32⟩
  | .hbm, ⟨11, _⟩ => ⟨S32x2049x16x64, .f32⟩
  | .hbm, ⟨12, _⟩ => ⟨S32x129x16x64, .f32⟩
  | .hbm, ⟨13, _⟩ => ⟨S32x129x16x64, .f32⟩
  | .hbm, ⟨14, _⟩ => ⟨S32x16x129, .f32⟩
  | .hbm, ⟨15, _⟩ => ⟨S_, .f32⟩
  | .hbm, ⟨16, _⟩ => ⟨S32x16x129, .f32⟩
  | .hbm, ⟨17, _⟩ => ⟨S32x16x129, .f32⟩
  | .hbm, ⟨18, _⟩ => ⟨S_, .f32⟩
  | .hbm, ⟨19, _⟩ => ⟨S32x16, .f32⟩
  | .hbm, ⟨20, _⟩ => ⟨S32x16x1, .f32⟩
  | .hbm, ⟨21, _⟩ => ⟨S32x16x129, .f32⟩
  | .hbm, ⟨22, _⟩ => ⟨S32x16x129, .f32⟩
  | .hbm, ⟨23, _⟩ => ⟨S32x16x129, .f32⟩
  | .hbm, ⟨24, _⟩ => ⟨S_, .f32⟩
  | .hbm, ⟨25, _⟩ => ⟨S32x16, .f32⟩
  | .hbm, ⟨26, _⟩ => ⟨S32x16x64, .f32⟩
  | .hbm, ⟨27, _⟩ => ⟨S32x129x16x64, .f32⟩
  | .hbm, ⟨28, _⟩ => ⟨S32x129x16x64, .f32⟩
  | .hbm, ⟨29, _⟩ => ⟨S32x16x129, .f32⟩
  | .hbm, ⟨30, _⟩ => ⟨S_, .f32⟩
  | .hbm, ⟨31, _⟩ => ⟨S32x16x129, .f32⟩
  | .hbm, ⟨32, _⟩ => ⟨S32x16x129, .f32⟩
  | .hbm, ⟨33, _⟩ => ⟨S_, .f32⟩
  | .hbm, ⟨34, _⟩ => ⟨S32x16, .f32⟩
  | .hbm, ⟨35, _⟩ => ⟨S32x16x1, .f32⟩
  | .hbm, ⟨36, _⟩ => ⟨S32x16x129, .f32⟩
  | .hbm, ⟨37, _⟩ => ⟨S32x16x129, .f32⟩
  | .hbm, ⟨38, _⟩ => ⟨S32x16x129, .f32⟩
  | .hbm, ⟨39, _⟩ => ⟨S_, .f32⟩
  | .hbm, ⟨40, _⟩ => ⟨S32x16, .f32⟩
  | .hbm, ⟨41, _⟩ => ⟨S32x16x64, .f32⟩
  | .hbm, ⟨42, _⟩ => ⟨S32x129x16x64, .f32⟩
  | .hbm, ⟨43, _⟩ => ⟨S32x129x16x64, .f32⟩
  | .hbm, ⟨44, _⟩ => ⟨S32x16x129, .f32⟩
  | .hbm, ⟨45, _⟩ => ⟨S_, .f32⟩
  | .hbm, ⟨46, _⟩ => ⟨S32x16x129, .f32⟩
  | .hbm, ⟨47, _⟩ => ⟨S32x16x129, .f32⟩
  | .hbm, ⟨48, _⟩ => ⟨S_, .f32⟩
  | .hbm, ⟨49, _⟩ => ⟨S32x16, .f32⟩
  | .hbm, ⟨50, _⟩ => ⟨S32x16x1, .f32⟩
  | .hbm, ⟨51, _⟩ => ⟨S32x16x129, .f32⟩
  | .hbm, ⟨52, _⟩ => ⟨S32x16x129, .f32⟩
  | .hbm, ⟨53, _⟩ => ⟨S32x16x129, .f32⟩
  | .hbm, ⟨54, _⟩ => ⟨S_, .f32⟩
  | .hbm, ⟨55, _⟩ => ⟨S32x16, .f32⟩
  | .hbm, ⟨56, _⟩ => ⟨S32x16x64, .f32⟩
  | .hbm, ⟨57, _⟩ => ⟨S32x16, .f32⟩
  | .hbm, ⟨58, _⟩ => ⟨S32x16, .f32⟩
  | .hbm, ⟨59, _⟩ => ⟨S32x16, .f32⟩
  | .hbm, ⟨60, _⟩ => ⟨S32x16, .f32⟩
  | .hbm, ⟨61, _⟩ => ⟨S32x16x1, .f32⟩
  | .hbm, ⟨62, _⟩ => ⟨S32x16x64, .f32⟩
  | .hbm, ⟨63, _⟩ => ⟨S32x16x64, .f32⟩
  | .hbm, ⟨64, _⟩ => ⟨S32x16, .f32⟩
  | .hbm, ⟨65, _⟩ => ⟨S32x16, .f32⟩
  | .hbm, ⟨66, _⟩ => ⟨S32x16, .f32⟩
  | .hbm, ⟨67, _⟩ => ⟨S32x16x1, .f32⟩
  | .hbm, ⟨68, _⟩ => ⟨S32x16x64, .f32⟩
  | .hbm, ⟨69, _⟩ => ⟨S32x16x64, .f32⟩
  | .hbm, ⟨70, _⟩ => ⟨S32x16x64, .f32⟩
  | .hbm, ⟨71, _⟩ => ⟨S32x16, .f32⟩
  | .hbm, ⟨72, _⟩ => ⟨S32x16, .f32⟩
  | .hbm, ⟨73, _⟩ => ⟨S32x16, .f32⟩
  | .hbm, ⟨74, _⟩ => ⟨S32x16, .f32⟩
  | .hbm, ⟨75, _⟩ => ⟨S32x16x1, .f32⟩
  | .hbm, ⟨76, _⟩ => ⟨S32x16x64, .f32⟩
  | .hbm, ⟨77, _⟩ => ⟨S32x16x64, .f32⟩
  | .hbm, ⟨78, _⟩ => ⟨S32x16x64, .f32⟩
  | .hbm, ⟨79, _⟩ => ⟨S32x16, .f32⟩
  | .hbm, ⟨80, _⟩ => ⟨S32x16, .f32⟩
  | .hbm, ⟨81, _⟩ => ⟨S32x16x1, .f32⟩
  | .hbm, ⟨82, _⟩ => ⟨S32x16x64, .f32⟩
  | .hbm, ⟨83, _⟩ => ⟨S32x16x64, .f32⟩
  | .hbm, ⟨84, _⟩ => ⟨S32x1x1024, .f32⟩
  | .hbm, ⟨85, _⟩ => ⟨S32x8x1024, .f32⟩
  | .hbm, ⟨86, _⟩ => ⟨S32x2048x16x64, .f32⟩
  | .hbm, ⟨87, _⟩ => ⟨S32x2048x1024, .f32⟩
  | .hbm, ⟨88, _⟩ => ⟨S32x1024x2048, .f32⟩
  | .hbm, ⟨89, _⟩ => ⟨S32x2048x16x64, .f32⟩
  | .hbm, ⟨90, _⟩ => ⟨S32x2048x1024, .f32⟩
  | .hbm, ⟨91, _⟩ => ⟨S32x1024x2048, .f32⟩
  | .hbm, ⟨92, _⟩ => ⟨S32x1x1024x2048, .f32⟩
  | .hbm, ⟨93, _⟩ => ⟨S32x1x1024x2048, .f32⟩
  | .hbm, ⟨94, _⟩ => ⟨S32x2x1024x2048, .f32⟩
  | _, _ => ⟨S32x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.Band.Spec.lean ====
/-
  The dilated band attention in plain formulas over the extended reals.

  The position of a row is `(n * 128 + a) * d + r`: block `n`, place `a` in the block, residue `r` of the dilation `d`.
  A query attends to the 256 places of its own block and the block before it in its residue class, those at a distance
  of 0 to 128 places. Before block 0 there is nothing: there the keys and values are zero and the mask is off.
-/
module

public import Idealize.ShloMosaic.Lib.Pointwise

@[expose] public section

noncomputable section

namespace Cert.BandSpec

open Idealize.ShloMosaic

/-- The rows of queries, keys and values side by side. -/
abbrev Rows := (⟨2, ![16384, 3072]⟩ : Shape).Idx → EReal

/-- Row `i`, column `j` of the array, zero outside it. -/
def cell (X : Rows) (i j : ℕ) : EReal := if h : i < 16384 ∧ j < 3072 then X (ix2 ⟨i, h.1⟩ ⟨j, h.2⟩) else 0

/-- An element of the array is its cell. -/
theorem cell_eq (X : Rows) {i j : ℕ} (hi : i < 16384) (hj : j < 3072) : X (ix2 ⟨i, hi⟩ ⟨j, hj⟩) = cell X i j := by
  rw [cell, dif_pos ⟨hi, hj⟩]

/-- The mask: query place `a` of block `n` sees place `j` of the two blocks (`j - 128` counted from the block's start). -/
def sees (n a j : ℕ) : BitVec 1 :=
  IntOp.andi
    (IntOp.andi
      (IntOp.cmpi .sge (IntOp.subi (BitVec.ofNat 32 a) (IntOp.subi (BitVec.ofNat 32 j) 128#32)) 0#32)
      (IntOp.cmpi .sle (IntOp.subi (BitVec.ofNat 32 a) (IntOp.subi (BitVec.ofNat 32 j) 128#32)) 128#32))
    (IntOp.cmpi .sge (IntOp.addi (IntOp.muli (BitVec.ofNat 32 n) 128#32) (IntOp.subi (BitVec.ofNat 32 j) 128#32)) 0#32)

/-- Nothing before block 0 is seen. -/
theorem sees_before (a : ℕ) (j : Fin 128) : sees 0 a j = 0#1 := by
  have h : ∀ j : Fin 128, IntOp.cmpi .sge (IntOp.addi (IntOp.muli (BitVec.ofNat 32 0) 128#32)
      (IntOp.subi (BitVec.ofNat 32 j) 128#32)) 0#32 = 0#1 := by decide +kernel
  rw [sees, h j]
  exact BitVec.and_zero

/-- Component `e` of head `h` at place `j` of the block before `n` and block `n`; `off` is 1024 for keys, 2048 for values. -/
def pairRow (X : Rows) (d off n r h j e : ℕ) : EReal :=
  if j < 128 then if n < 1 then 0 else cell X ((n - 1) * (128 * d) + j * d + r) (off + (h * 64 + e))
  else cell X (n * (128 * d) + (j - 128) * d + r) (off + (h * 64 + e))

/-- The same with block 0 standing in for the block before it. -/
def pairRow' (X : Rows) (d off n r h j e : ℕ) : EReal :=
  if j < 128 then cell X ((n - 1) * (128 * d) + j * d + r) (off + (h * 64 + e))
  else cell X (n * (128 * d) + (j - 128) * d + r) (off + (h * 64 + e))

/-- They agree wherever something is seen. -/
theorem pairRow_eq (X : Rows) (d off n r h a e : ℕ) (j : Fin 256) (hs : sees n a j ≠ 0#1) :
    pairRow' X d off n r h j e = pairRow X d off n r h j e := by
  unfold pairRow pairRow'
  by_cases hj : j.val < 128
  · by_cases hn : n < 1
    · obtain rfl : n = 0 := by omega
      exact absurd (sees_before a ⟨j, hj⟩) hs
    · rw [if_pos hj, if_pos hj, if_neg hn]
  · rw [if_neg hj, if_neg hj]

/-- The scale of the scores: one eighth. -/
abbrev scale : EReal := Ideal.ofBits .f32 0x3E000000#32

/-- A masked value: the value where seen, minus infinity elsewhere. -/
abbrev masked (c : BitVec 1) (x : EReal) : EReal := Scalar.select c x ⊥

/-- The score of query place `a` of block `n`, residue `r`, head `h` against place `j`, the keys given. -/
def score (X : Rows) (key : ℕ → ℕ → EReal) (d n r h a j : ℕ) : EReal :=
  masked (sees n a j) ((∑ e : Fin 64, cell X (n * (128 * d) + a * d + r) (h * 64 + e) * key j e) * scale)

/-- The largest of 256 scores. -/
def top (s : Fin 256 → EReal) : EReal := (Finset.univ : Finset (Fin 256)).fold max ⊥ s

/-- The weight of place `j` before division by the sum of all. -/
def weight (s : Fin 256 → EReal) (j : Fin 256) : EReal := Ideal.exp (s j - top s)

/-- The sum of the weights. -/
def total (s : Fin 256 → EReal) : EReal := ∑ j, weight s j

/-- The weighted sum of values. -/
def blend (s v : Fin 256 → EReal) : EReal := ∑ j, weight s j * v j

/-- A score of minus infinity has weight zero. -/
theorem weight_of_bot (s : Fin 256 → EReal) (j : Fin 256) (h : s j = ⊥) : weight s j = 0 := by
  rw [weight, h, EReal.bot_sub, Ideal.exp_bot]

/-- Values whose score is minus infinity do not count. -/
theorem blend_congr (s v w : Fin 256 → EReal) (h : ∀ j, s j ≠ ⊥ → v j = w j) : blend s v = blend s w := by
  refine Finset.sum_congr rfl fun j _ => ?_
  by_cases hj : s j = ⊥
  · rw [weight_of_bot s j hj, zero_mul, zero_mul]
  · rw [h j hj]

/-- The scores of one query, the keys before block 0 zero. -/
def scores (X : Rows) (d n r h a : ℕ) (j : Fin 256) : EReal := score X (pairRow X d 1024 n r h) d n r h a j

/-- The scores do not depend on what stands before block 0. -/
theorem scores_eq (X : Rows) (d n r h a : ℕ) (j : Fin 256) :
    score X (pairRow' X d 1024 n r h) d n r h a j = scores X d n r h a j := by
  unfold scores score masked Scalar.select
  by_cases hs : sees n a j = 1
  · rw [if_pos hs, if_pos hs]
    refine congrArg (· * scale) (Finset.sum_congr rfl fun e _ => ?_)
    rw [pairRow_eq X d 1024 n r h a e j (by rw [hs]; decide)]
  · rw [if_neg hs, if_neg hs]

/-- The numerator of the attention: component `e` of head `h`. -/
def num (X : Rows) (d n r h a e : ℕ) : EReal := blend (scores X d n r h a) fun j => pairRow X d 2048 n r h j e

/-- Nor does the numerator. -/
theorem num_eq (X : Rows) (d n r h a e : ℕ) :
    blend (scores X d n r h a) (fun j => pairRow' X d 2048 n r h j e) = num X d n r h a e := by
  refine blend_congr _ _ _ fun j hj => pairRow_eq X d 2048 n r h a e j fun hs => hj ?_
  simp [scores, score, masked, hs, Scalar.select]

/-- A sum over the 256 places, block by block. -/
theorem sum_blocks (f : Fin 256 → EReal) :
    ∑ j, f j = ∑ j : Fin 128, f ⟨j, by omega⟩ + ∑ j : Fin 128, f ⟨128 + j, by omega⟩ :=
  Fin.sum_univ_add (a := 128) (b := 128) f

/-- The bit pattern that the largest score starts from is minus infinity. -/
theorem start_eq : Ideal.ofBits .f32 0xFF800000#32 = (⊥ : EReal) := by
  simp [Ideal.ofBits, Ideal.ieee]

/-- The statistics: lane `l` below 16 has head `l`'s largest score, the next 16 lanes the heads' sums, the rest zero. -/
def stat (X : Rows) (d n r a l : ℕ) : EReal :=
  if l < 16 then top (scores X d n r l a) else if l < 32 then total (scores X d n r (l - 16) a) else 0

end Cert.BandSpec

end
-- ==== Proof.Band.Pair.lean ====
/-
  One pair of heads of the kernel's body, read at an index.

  The 128 lanes of a pair hold two heads of 64 components. The body stacks the queries of the first head over those of
  the second, each with the other head's lanes set to zero, so that one product over 128 lanes gives both heads' scores.
-/
module

public import proofs.«01_k».proof.Proof.Gen.BandIdeal.Skeleton
public import proofs.«01_k».proof.Proof.Band.Spec

@[expose] public section

set_option maxRecDepth 16384

noncomputable section

namespace Cert.BandIdeal.Pair

open Cert.BandIdeal Cert.BandIdeal.Gen Cert.BandSpec
open Idealize.ShloMosaic Idealize.ShloMosaic.TcCoe Idealize.SL.Sem

/-- A block of 128 places and 128 lanes. -/
abbrev Block := FVec Ideal S128x128 .bf16

/-- Lane `l` at place `j` of two blocks, one after the other. -/
def both (p q : Block) (j : Fin 256) (l : Fin 128) : EReal :=
  if h : j.val < 128 then p (ix2 ⟨j, h⟩ l) else q (ix2 ⟨j - 128, by omega⟩ l)

/-- Multiplying a sum by one eighth multiplies its terms. -/
theorem sum_scale {ι : Type} (s : Finset ι) (f : ι → EReal) : (∑ i ∈ s, f i) * scale = ∑ i ∈ s, f i * scale := by
  have h : scale = (((1 : ℝ) / 8 : ℝ) : EReal) := by
    simp [scale, Ideal.ofBits, Ideal.ieee, -EReal.coe_mul, ← EReal.coe_mul]
    norm_num
  have h0 : (0 : EReal) ≤ scale := by rw [h]; exact_mod_cast (by norm_num : (0 : ℝ) ≤ 1 / 8)
  have ht : scale ≠ ⊤ := by rw [h]; exact EReal.coe_ne_top _
  classical
  induction s using Finset.induction_on with
  | empty => simp
  | insert a s ha ih =>
    rw [Finset.sum_insert ha, Finset.sum_insert ha, ← ih, EReal.right_distrib_of_nonneg_of_ne_top h0 ht]

/-- One eighth has the same value in either format. -/
theorem scale_bf16 : Ideal.ofBits .bf16 0x3E00#16 = scale := by
  simp [scale, Ideal.ofBits, Ideal.ieee, -EReal.coe_mul, ← EReal.coe_mul]
  norm_num

/-- A sum over a pair's lanes that keeps only one head's is a sum over that head's components. -/
theorem sum_half (s : Fin 2) (f : Fin 128 → EReal) :
    (∑ l : Fin 128, if l.val / 64 = s.val then f l else 0) = ∑ e : Fin 64, f ⟨64 * s + e, by omega⟩ := by
  rw [show (∑ l : Fin 128, if l.val / 64 = s.val then f l else 0) = _ from
    Fin.sum_univ_add (a := 64) (b := 64) fun l : Fin 128 => if l.val / 64 = s.val then f l else 0]
  have h0 : ∀ e : Fin 64, (Fin.castAdd 64 e : Fin 128).val / 64 = 0 := fun e => by
    simp only [Fin.val_castAdd]; omega
  have h1 : ∀ e : Fin 64, (Fin.natAdd 64 e : Fin 128).val / 64 = 1 := fun e => by
    simp only [Fin.val_natAdd]; omega
  simp only [h0, h1]
  fin_cases s
  · simp
    exact Finset.sum_congr rfl fun e _ => congrArg f (Fin.ext (by simp [add_comm]))
  · simp
    exact Finset.sum_congr rfl fun e _ => congrArg f (Fin.ext (by simp [add_comm]))

/-- The first 64 lanes are the first head's. -/
theorem lane_lt : ∀ l : Fin 128, IntOp.cmpi .slt (BitVec.ofNat 32 l) 64#32 = if l.val < 64 then 1#1 else 0#1 := by
  decide +kernel

/-- The places of the queries and of the keys, the keys' counted from the block's start. -/
def queryPlace : IVec S128x256 32 := iota .tc S128x256 32 [0] iota_S128x256_d0_w32
def keyPlace : IVec S128x256 32 := subi (iota .tc S128x256 32 [1] iota_S128x256_d1_w32) (broadcast S128x256 128#32)

/-- The mask of block `n`, one head's. -/
def maskOf (n : ℕ) : IVec S128x256 1 :=
  andi (andi (cmpi .sge (subi queryPlace keyPlace) (broadcast S128x256 0#32)) (cmpi .sle (subi queryPlace keyPlace) (broadcast S128x256 128#32)))
    (cmpi .sge (addi (broadcast S128x256 (Scalar.muli (BitVec.ofNat 32 n) 128#32)) keyPlace) (broadcast S128x256 0#32))

/-- The bias of one head's scores. -/
def headBias (n : ℕ) : FVec Ideal S128x256 .f32 :=
  select (maskOf n) (broadcast S128x256 (Scalar.ofBits .f32 0x00000000#32)) (broadcast S128x256 (Named.named κ "mask" 0xF149F2CA#32))

/-- The bias of block `n`, for the two heads of a pair. It is the same at every dilation. -/
def bias (n : ℕ) : FVec Ideal S256x256 .f32 :=
  concatenate S256x256 0 [⟨S128x256, headBias n⟩, ⟨S128x256, headBias n⟩] concatenates_S128x256_S128x256_S256x256_d0

/-- The bias added to the scores: zero where seen, minus infinity elsewhere; the same for both heads. -/
theorem bias_apply (n : ℕ) (s : Fin 2) (a : Fin 128) (j : Fin 256) :
    bias n (ix2 ⟨128 * s + a, by omega⟩ j) = Scalar.select (sees n a j) 0 ⊥ := by
  pointwise [bias, headBias, maskOf, queryPlace, keyPlace]
  fin_cases s
  · simp
    rfl
  · simp
    rfl

/-- The product over a pair's lanes is the product over the head's lanes. -/
theorem dot_apply (b : FVec Ideal S256x256 .f32) (q kp kc : Block) (s : Fin 2) (a : Fin 128) (j : Fin 256) :
    k0_pay7 b (k0_pay4 q) kp kc (ix2 ⟨128 * s + a, by omega⟩ j)
      = (∑ e : Fin 64, q (ix2 a ⟨64 * s + e, by omega⟩) * both kp kc j ⟨64 * s + e, by omega⟩) * scale
        + b (ix2 ⟨128 * s + a, by omega⟩ j) := by
  rw [sum_scale, show (∑ e : Fin 64, q (ix2 a ⟨64 * s + e, by omega⟩) * both kp kc j ⟨64 * s + e, by omega⟩ * scale) = _ from
    (sum_half s fun l => q (ix2 a l) * both kp kc j l * scale).symm]
  pointwise [k0_pay7, k0_pay4, k0_pay2]
  simp only [lane_lt, scale_bf16]
  refine congrArg (· + _) (Finset.sum_congr rfl fun l _ => ?_)
  have hs : l.val / 64 = s.val ↔ (l.val < 64 ↔ s.val = 0) := by omega
  have hb : (if h : j.val < 128 then kp (ix2 ⟨j, h⟩ l) else kc (ix2 ⟨j - 128, by omega⟩ l)) = both kp kc j l := rfl
  rw [hb]
  fin_cases s
  · by_cases hl : l.val < 64
    · simp [hl, hs, Scalar.select, mul_right_comm]
    · simp [hl, hs, Scalar.select]
  · by_cases hl : l.val < 64
    · simp [hl, hs, Scalar.select]
    · simp [hl, hs, Scalar.select, mul_right_comm]

/-- The bias masks the score. -/
theorem add_bias (c : BitVec 1) (x : EReal) : x + Scalar.select c 0 ⊥ = masked c x := by
  unfold masked Scalar.select
  by_cases h : c = 1
  · rw [if_pos h, if_pos h, add_zero]
  · rw [if_neg h, if_neg h, EReal.add_bot]

/-- The score of place `a` against place `j`, head `s` of the pair, from the pair's blocks. -/
def pairScore (n : ℕ) (q kp kc : Block) (s : Fin 2) (a : Fin 128) (j : Fin 256) : EReal :=
  masked (sees n a j) ((∑ e : Fin 64, q (ix2 a ⟨64 * s + e, by omega⟩) * both kp kc j ⟨64 * s + e, by omega⟩) * scale)

variable (n : ℕ) (q kp kc vp vc : Block) (s : Fin 2) (a : Fin 128)

/-- The body's scores. -/
theorem score_apply (j : Fin 256) :
    k0_pay7 (bias n) (k0_pay4 q) kp kc (ix2 ⟨128 * s + a, by omega⟩ j) = pairScore n q kp kc s a j := by
  rw [dot_apply, bias_apply, add_bias]
  rfl

/-- The body's largest scores. -/
theorem top_apply : k0_pay8 (bias n) (k0_pay4 q) kp kc (ix2 ⟨128 * s + a, by omega⟩ 0) = top (pairScore n q kp kc s a) := by
  pointwise [k0_pay8]
  simp only [start_eq, score_apply]
  rfl

/-- The body's weights. -/
theorem weight_apply (j : Fin 256) :
    k0_pay9 (bias n) (k0_pay4 q) kp kc (ix2 ⟨128 * s + a, by omega⟩ j) = weight (pairScore n q kp kc s a) j := by
  pointwise [k0_pay9]
  rw [score_apply, top_apply]
  rfl

/-- The numerators of a pair, as the body writes them for the first pair. -/
abbrev pairNum (q kp kc vp vc : Block) : FVec Ideal S128x128 .f32 :=
  k0_pay10 (bias n) k0_pay2 (k0_pay4 q) (k0_pay5 kp) (k0_pay6 kc) vp vc

/-- The body's numerators. -/
theorem num_apply (l : Fin 128) :
    pairNum n q kp kc vp vc (ix2 a l)
      = blend (pairScore n q kp kc ⟨l / 64, by omega⟩ a) fun j => both vp vc j l := by
  pointwise [k0_pay10, k0_pay2, k0_pay5, k0_pay6]
  have lo : ∀ (t : Fin 2) (x : Fin 128), k0_pay9 (bias n) (k0_pay4 q) kp kc (ix2 ⟨128 * t + a, by omega⟩ ⟨x, by omega⟩)
      = weight (pairScore n q kp kc t a) (Fin.castAdd 128 x) := fun t x => weight_apply n q kp kc t a _
  have hi : ∀ (t : Fin 2) (x : Fin 128), k0_pay9 (bias n) (k0_pay4 q) kp kc (ix2 ⟨128 * t + a, by omega⟩ ⟨128 + x, by omega⟩)
      = weight (pairScore n q kp kc t a) (Fin.natAdd 128 x) := fun t x => weight_apply n q kp kc t a _
  have hsum : ∀ t : Fin 2, blend (pairScore n q kp kc t a) (fun j => both vp vc j l)
      = (∑ x : Fin 128, weight (pairScore n q kp kc t a) (Fin.castAdd 128 x) * vp (ix2 x l))
        + ∑ x : Fin 128, weight (pairScore n q kp kc t a) (Fin.natAdd 128 x) * vc (ix2 x l) := fun t => by
    unfold blend
    rw [Fin.sum_univ_add (a := 128) (b := 128)]
    refine congrArg₂ (· + ·) (Finset.sum_congr rfl fun x _ => ?_) (Finset.sum_congr rfl fun x _ => ?_)
    · simp [both]
    · simp [both]
  have l0 := lo 0
  have h0 := hi 0
  have l1 := lo 1
  have h1 := hi 1
  simp only [Fin.val_zero, Fin.val_one, Nat.mul_zero, Nat.mul_one, Nat.zero_add] at l0 h0 l1 h1
  simp only [l0, h0, l1, h1, lane_lt, ← hsum]
  by_cases hl : l.val < 64
  · rw [show (⟨l / 64, by omega⟩ : Fin 2) = 0 from Fin.ext (by simp; omega)]
    simp [hl, Scalar.select]
  · rw [show (⟨l / 64, by omega⟩ : Fin 2) = 1 from Fin.ext (by simp; omega)]
    simp [hl, Scalar.select]

end Cert.BandIdeal.Pair

end
-- ==== Proof.Band.Body.lean ====
/-
  What the kernel's body leaves in its two output blocks: the eight pairs side by side in the numerators, and the
  statistics written lane by lane, pair after pair.
-/
module

public import proofs.«01_k».proof.Proof.Gen.BandIdeal.Frame
public import proofs.«01_k».proof.Proof.Band.Pair
public import Idealize.ShloMosaic.Lib.Pipeline.ValueKit

@[expose] public section

set_option maxRecDepth 16384

noncomputable section

namespace Cert.BandIdeal.Body

open Cert.BandIdeal Cert.BandIdeal.Gen Cert.BandSpec Cert.BandIdeal.Pair
open Idealize.ShloMosaic Idealize.ShloMosaic.TcCoe Idealize.SL.Sem

/-- A window of 128 places and the lanes of all heads. -/
abbrev Window := Vec Ideal S128x1024 .bf16

/-- The lanes of pair `p`. -/
def lanesOf (x : Window) (p : Fin 8) : Block := fun y => x (ix2 (y 0) ⟨128 * p + (y 1).val, by have := (y 1).isLt; have : (y 1).val < 128 := this; omega⟩)

/-- A load of 128 lanes is a pair's lanes. -/
theorem load_eq (x : Window) (p : Fin 8) (inb) : View.ld x (Rect.unit (s := S128x1024) ![0, 128 * p.val] S128x128.size inb) = lanesOf x p := by
  funext y
  refine View.ld_unit_apply_of x _ _ _ y _ fun a => ?_
  fin_cases a <;> simp [lanesOf]

variable (n : ℕ)

/-- The number of each lane. -/
def lanes : IVec S128x128 32 := iota .tc S128x128 32 [1] iota_S128x128_d1_w32

/-- The first head's column laid over all lanes. -/
def first (t : FVec Ideal S256x1 .f32) : FVec Ideal S128x128 .f32 :=
  broadcastTo S128x128 (shapeCast S128x1 (extractStridedSlice S128x1 ![0, 0] t slices_S256x1_o0_0_S128x1) shapeCasts_S128x1_S128x1) broadcasts_S128x1_S128x128

/-- The second head's column laid over all lanes. -/
def second (t : FVec Ideal S256x1 .f32) : FVec Ideal S128x128 .f32 :=
  broadcastTo S128x128 (shapeCast S128x1 (extractStridedSlice S128x1 ![128, 0] t slices_S256x1_o128_0_S128x1) shapeCasts_S128x1_S128x1) broadcasts_S128x1_S128x128

/-- A pair's four columns put into its four lanes. -/
def put (b : BitVec 32) (t d : FVec Ideal S256x1 .f32) (st : FVec Ideal S128x128 .f32) : FVec Ideal S128x128 .f32 :=
  select (cmpi .eq lanes (broadcast S128x128 (b + 17#32))) (second d)
    (select (cmpi .eq lanes (broadcast S128x128 (b + 1#32))) (second t)
      (select (cmpi .eq lanes (broadcast S128x128 (b + 16#32))) (first d)
        (select (cmpi .eq lanes (broadcast S128x128 b)) (first t) st)))

/-- The largest scores of a pair. -/
def tops (q kp kc : Block) : FVec Ideal S256x1 .f32 := k0_pay8 (bias n) (k0_pay4 q) (k0_pay5 kp) (k0_pay6 kc)

/-- The sums of the weights of a pair. -/
def totals (q kp kc : Block) : FVec Ideal S256x1 .f32 :=
  shapeCast S256x1 (multiReduction .add [1] S256 (k0_pay9 (bias n) (k0_pay4 q) (k0_pay5 kp) (k0_pay6 kc)) 0x00000000#32 reduces_S256x256_S256 (.inl rfl) rfl) shapeCasts_S256_S256x1

variable (x0 x1 x2 x3 x4 : Window)

/-- The numerators of pair `p`. -/
abbrev nums (p : Fin 8) : FVec Ideal S128x128 .f32 :=
  pairNum n (lanesOf x0 p) (lanesOf x1 p) (lanesOf x2 p) (lanesOf x3 p) (lanesOf x4 p)

/-- The statistics after pair `p`. -/
abbrev step (p : Fin 8) (st : FVec Ideal S128x128 .f32) : FVec Ideal S128x128 .f32 :=
  put (BitVec.ofNat 32 (2 * p)) (tops n (lanesOf x0 p) (lanesOf x1 p) (lanesOf x2 p)) (totals n (lanesOf x0 p) (lanesOf x1 p) (lanesOf x2 p)) st

/-- The loads of the body. -/
theorem loads (x : Window) : View.ld x r0_0 = lanesOf x 0 ∧ View.ld x r0_1 = lanesOf x 1 ∧ View.ld x r0_2 = lanesOf x 2 ∧ View.ld x r0_3 = lanesOf x 3
    ∧ View.ld x r0_4 = lanesOf x 4 ∧ View.ld x r0_5 = lanesOf x 5 ∧ View.ld x r0_6 = lanesOf x 6 ∧ View.ld x r0_7 = lanesOf x 7 :=
  ⟨load_eq x 0 _, load_eq x 1 _, load_eq x 2 _, load_eq x 3 _, load_eq x 4 _, load_eq x 5 _, load_eq x 6 _, load_eq x 7 _⟩

/-- The numerators' block of block `n`: every pair's in its lanes. -/
def numBlock : Vec Ideal S128x1024 .f32 :=
  View.canon [⟨r0_7, nums n x0 x1 x2 x3 x4 7⟩,
    ⟨r0_6, nums n x0 x1 x2 x3 x4 6⟩,
    ⟨r0_5, nums n x0 x1 x2 x3 x4 5⟩,
    ⟨r0_4, nums n x0 x1 x2 x3 x4 4⟩,
    ⟨r0_3, nums n x0 x1 x2 x3 x4 3⟩,
    ⟨r0_2, nums n x0 x1 x2 x3 x4 2⟩,
    ⟨r0_1, nums n x0 x1 x2 x3 x4 1⟩,
    ⟨r0_0, nums n x0 x1 x2 x3 x4 0⟩]

/-- The statistics' block of block `n`: the pairs' lanes put in one after the other. -/
def statBlock : Vec Ideal S128x128 .f32 :=
  View.canon [⟨r0_8, step n x0 x1 x2 7 (step n x0 x1 x2 6 (step n x0 x1 x2 5 (step n x0 x1 x2 4 (step n x0 x1 x2 3 (step n x0 x1 x2 2 (step n x0 x1 x2 1 (step n x0 x1 x2 0 k0_pay3)))))))⟩]

/-- The numerators' block, each pair's lanes as the body loads them. -/
def numLoads : Vec Ideal S128x1024 .f32 :=
  View.canon [⟨r0_7, pairNum n (View.ld x0 r0_7) (View.ld x1 r0_7) (View.ld x2 r0_7) (View.ld x3 r0_7) (View.ld x4 r0_7)⟩,
    ⟨r0_6, pairNum n (View.ld x0 r0_6) (View.ld x1 r0_6) (View.ld x2 r0_6) (View.ld x3 r0_6) (View.ld x4 r0_6)⟩,
    ⟨r0_5, pairNum n (View.ld x0 r0_5) (View.ld x1 r0_5) (View.ld x2 r0_5) (View.ld x3 r0_5) (View.ld x4 r0_5)⟩,
    ⟨r0_4, pairNum n (View.ld x0 r0_4) (View.ld x1 r0_4) (View.ld x2 r0_4) (View.ld x3 r0_4) (View.ld x4 r0_4)⟩,
    ⟨r0_3, pairNum n (View.ld x0 r0_3) (View.ld x1 r0_3) (View.ld x2 r0_3) (View.ld x3 r0_3) (View.ld x4 r0_3)⟩,
    ⟨r0_2, pairNum n (View.ld x0 r0_2) (View.ld x1 r0_2) (View.ld x2 r0_2) (View.ld x3 r0_2) (View.ld x4 r0_2)⟩,
    ⟨r0_1, pairNum n (View.ld x0 r0_1) (View.ld x1 r0_1) (View.ld x2 r0_1) (View.ld x3 r0_1) (View.ld x4 r0_1)⟩,
    ⟨r0_0, pairNum n (View.ld x0 r0_0) (View.ld x1 r0_0) (View.ld x2 r0_0) (View.ld x3 r0_0) (View.ld x4 r0_0)⟩]

/-- The statistics' block, each pair's lanes as the body loads them. -/
def statLoads : Vec Ideal S128x128 .f32 :=
  View.canon [⟨r0_8, put 14#32 (tops n (View.ld x0 r0_7) (View.ld x1 r0_7) (View.ld x2 r0_7)) (totals n (View.ld x0 r0_7) (View.ld x1 r0_7) (View.ld x2 r0_7))
    (put 12#32 (tops n (View.ld x0 r0_6) (View.ld x1 r0_6) (View.ld x2 r0_6)) (totals n (View.ld x0 r0_6) (View.ld x1 r0_6) (View.ld x2 r0_6))
    (put 10#32 (tops n (View.ld x0 r0_5) (View.ld x1 r0_5) (View.ld x2 r0_5)) (totals n (View.ld x0 r0_5) (View.ld x1 r0_5) (View.ld x2 r0_5))
    (put 8#32 (tops n (View.ld x0 r0_4) (View.ld x1 r0_4) (View.ld x2 r0_4)) (totals n (View.ld x0 r0_4) (View.ld x1 r0_4) (View.ld x2 r0_4))
    (put 6#32 (tops n (View.ld x0 r0_3) (View.ld x1 r0_3) (View.ld x2 r0_3)) (totals n (View.ld x0 r0_3) (View.ld x1 r0_3) (View.ld x2 r0_3))
    (put 4#32 (tops n (View.ld x0 r0_2) (View.ld x1 r0_2) (View.ld x2 r0_2)) (totals n (View.ld x0 r0_2) (View.ld x1 r0_2) (View.ld x2 r0_2))
    (put 2#32 (tops n (View.ld x0 r0_1) (View.ld x1 r0_1) (View.ld x2 r0_1)) (totals n (View.ld x0 r0_1) (View.ld x1 r0_1) (View.ld x2 r0_1))
    (put 0#32 (tops n (View.ld x0 r0_0) (View.ld x1 r0_0) (View.ld x2 r0_0)) (totals n (View.ld x0 r0_0) (View.ld x1 r0_0) (View.ld x2 r0_0))
    k0_pay3)))))))⟩]

/-- The loads are the lanes. -/
theorem numLoads_eq : numLoads n x0 x1 x2 x3 x4 = numBlock n x0 x1 x2 x3 x4 := by
  unfold numLoads numBlock
  simp only [loads]

theorem statLoads_eq : statLoads n x0 x1 x2 = statBlock n x0 x1 x2 := by
  unfold statLoads statBlock
  simp only [loads]
  rfl

/-- The body writes the numerators' block. -/
theorem out5_eq (g : grid0.Coords) : out0_5 g x0 x1 x2 x3 x4 = numLoads (g 0) x0 x1 x2 x3 x4 := by
  unfold_out out0_5
  rfl

/-- And the statistics' block. -/
theorem out6_eq (g : grid0.Coords) : out0_6 g x0 x1 x2 x3 x4 = statLoads (g 0) x0 x1 x2 := by
  unfold_out out0_6
  rfl

end Cert.BandIdeal.Body

end
-- ==== Proof.Band.Block.lean ====
/-
  The two output blocks at an index, in the entries of the five input blocks.
-/
module

public import proofs.«01_k».proof.Proof.Band.Body

@[expose] public section

set_option maxRecDepth 16384

noncomputable section

namespace Cert.BandIdeal.Body

open Cert.BandIdeal Cert.BandIdeal.Gen Cert.BandSpec Cert.BandIdeal.Pair
open Idealize.ShloMosaic Idealize.ShloMosaic.TcCoe Idealize.SL.Sem

/-- Column `c` at place `j` of two windows, one after the other. -/
def rows2 (x y : Window) (j : Fin 256) (c : Fin 1024) : EReal :=
  if h : j.val < 128 then x (ix2 ⟨j, h⟩ c) else y (ix2 ⟨j - 128, by omega⟩ c)

/-- The score of head `h` in the windows of queries and keys. -/
def winScore (n : ℕ) (x0 x1 x2 : Window) (h : Fin 16) (a : Fin 128) (j : Fin 256) : EReal :=
  masked (sees n a j) ((∑ e : Fin 64, x0 (ix2 a ⟨h * 64 + e, by omega⟩) * rows2 x1 x2 j ⟨h * 64 + e, by omega⟩) * scale)

/-- A pair's lane is the window's column. -/
theorem lanesOf_apply (x : Window) (p : Fin 8) (j l : Fin 128) (c : Fin 1024) (h : c.val = 128 * p + l) : lanesOf x p (ix2 j l) = x (ix2 j c) :=
  congrArg (fun k => x (ix2 j k)) (Fin.ext h.symm)

/-- Likewise of two windows. -/
theorem both_eq (x y : Window) (p : Fin 8) (j : Fin 256) (l : Fin 128) (c : Fin 1024) (h : c.val = 128 * p + l) :
    both (lanesOf x p) (lanesOf y p) j l = rows2 x y j c := by
  unfold both rows2
  simp only [lanesOf_apply _ p _ l c h]

variable (n : ℕ) (x0 x1 x2 x3 x4 : Window)

/-- The scores of head `s` of pair `p` are those of head `2 p + s`. -/
theorem pairScore_eq (p : Fin 8) (s : Fin 2) (a : Fin 128) (j : Fin 256) :
    pairScore n (lanesOf x0 p) (lanesOf x1 p) (lanesOf x2 p) s a j = winScore n x0 x1 x2 ⟨2 * p + s, by omega⟩ a j := by
  unfold pairScore winScore
  refine congrArg (fun t => masked (sees n a j) (t * scale)) (Finset.sum_congr rfl fun e _ => ?_)
  rw [lanesOf_apply x0 p a _ ⟨(2 * p + s) * 64 + e, by omega⟩ (by simp; omega),
    both_eq x1 x2 p j _ ⟨(2 * p + s) * 64 + e, by omega⟩ (by simp; omega)]

/-- The numerators' block. -/
theorem numBlock_apply (a : Fin 128) (c : Fin 1024) :
    numBlock n x0 x1 x2 x3 x4 (ix2 a c) = blend (winScore n x0 x1 x2 ⟨c / 64, by omega⟩ a) fun j => rows2 x3 x4 j c := by
  have key : ∀ (p : Fin 8) (l : Fin 128) (hc : c.val = 128 * p + l), nums n x0 x1 x2 x3 x4 p (ix2 a l)
      = blend (winScore n x0 x1 x2 ⟨c / 64, by omega⟩ a) fun j => rows2 x3 x4 j c := fun p l hc => by
    refine (num_apply n _ _ _ _ _ a l).trans ?_
    have e1 : pairScore n (lanesOf x0 p) (lanesOf x1 p) (lanesOf x2 p) ⟨l / 64, by omega⟩ a
        = winScore n x0 x1 x2 ⟨c / 64, by omega⟩ a := funext fun j => by
      rw [pairScore_eq]
      refine congrArg (fun h => winScore n x0 x1 x2 h a j) (Fin.ext ?_)
      show 2 * p.val + l.val / 64 = c.val / 64
      omega
    rw [e1, show (fun j => both (lanesOf x3 p) (lanesOf x4 p) j l) = fun j => rows2 x3 x4 j c from funext fun j => both_eq x3 x4 p j l c hc]
  unfold numBlock
  canon_tiles x h
  all_goals
    have hx : x = ix2 a (x 1) := by
      funext k
      fin_cases k
      · exact Fin.ext h0.symm
      · rfl
    rw [hx]
    refine (key _ _ ?_)
    first | exact h1 | exact h1.trans (Nat.zero_add _).symm

/-- A pair's lanes at an index. -/
theorem put_apply (p : Fin 8) (t d : FVec Ideal S256x1 .f32) (st : FVec Ideal S128x128 .f32) (a l : Fin 128) :
    put (BitVec.ofNat 32 (2 * p)) t d st (ix2 a l) = if l.val = 2 * p + 17 then d (ix2 ⟨128 + a, by omega⟩ 0)
      else if l.val = 2 * p + 1 then t (ix2 ⟨128 + a, by omega⟩ 0)
      else if l.val = 2 * p + 16 then d (ix2 ⟨a, by omega⟩ 0)
      else if l.val = 2 * p then t (ix2 ⟨a, by omega⟩ 0) else st (ix2 a l) := by
  have hl : ∀ k : Fin 256, IntOp.cmpi .eq (BitVec.ofNat 32 l.val) (BitVec.ofNat 32 k.val) = if l.val = k.val then 1#1 else 0#1 := fun k => by
    have : BitVec.ofNat 32 l.val = BitVec.ofNat 32 k.val ↔ l.val = k.val := by
      constructor
      · intro h
        have := congrArg BitVec.toNat h
        simp only [BitVec.toNat_ofNat] at this
        omega
      · intro h
        rw [h]
    by_cases hk : l.val = k.val
    · simp [IntOp.cmpi, hk]
    · rw [if_neg hk]
      exact congrArg BitVec.ofBool (beq_eq_false_iff_ne.mpr fun h => hk (this.mp h))
  have hk : ∀ k : ℕ, k ≤ 17 → BitVec.ofNat 32 (2 * p.val) + BitVec.ofNat 32 k = BitVec.ofNat 32 (2 * p.val + k) := fun k _ => by
    rw [BitVec.ofNat_add]
  have h17 := hl ⟨2 * p + 17, by omega⟩
  have h1 := hl ⟨2 * p + 1, by omega⟩
  have h16 := hl ⟨2 * p + 16, by omega⟩
  have h0 := hl ⟨2 * p, by omega⟩
  simp only at h17 h1 h16 h0
  pointwise [put, first, second, lanes]
  rw [hk 17 (by omega), hk 1 (by omega), hk 16 (by omega), h17, h1, h16, h0]
  have sel : ∀ (P : Prop) [Decidable P] (u v : EReal), Scalar.select (if P then 1#1 else 0#1) u v = if P then u else v := fun P _ u v => by
    by_cases hP : P
    · rw [if_pos hP, if_pos hP]; rfl
    · rw [if_neg hP, if_neg hP]; rfl
  simp only [sel]

/-- The keys enter as they are. -/
theorem keys_eq (x : Block) : k0_pay5 x = x ∧ k0_pay6 x = x := by
  constructor <;> funext y <;> rw [← ix2_eta y]
  · pointwise [k0_pay5]
  · pointwise [k0_pay6]

/-- The largest scores and the sums of pair `p`, head `s`. -/
theorem tops_apply (p : Fin 8) (s : Fin 2) (a : Fin 128) : tops n (lanesOf x0 p) (lanesOf x1 p) (lanesOf x2 p) (ix2 ⟨128 * s + a, by omega⟩ 0)
    = top (winScore n x0 x1 x2 ⟨2 * p + s, by omega⟩ a) := by
  rw [show winScore n x0 x1 x2 ⟨2 * p + s, by omega⟩ a = pairScore n (lanesOf x0 p) (lanesOf x1 p) (lanesOf x2 p) s a from
    funext fun j => (pairScore_eq n x0 x1 x2 p s a j).symm]
  rw [tops, (keys_eq _).1, (keys_eq _).2]
  exact top_apply n (lanesOf x0 p) (lanesOf x1 p) (lanesOf x2 p) s a

theorem totals_apply (p : Fin 8) (s : Fin 2) (a : Fin 128) : totals n (lanesOf x0 p) (lanesOf x1 p) (lanesOf x2 p) (ix2 ⟨128 * s + a, by omega⟩ 0)
    = total (winScore n x0 x1 x2 ⟨2 * p + s, by omega⟩ a) := by
  rw [show winScore n x0 x1 x2 ⟨2 * p + s, by omega⟩ a = pairScore n (lanesOf x0 p) (lanesOf x1 p) (lanesOf x2 p) s a from
    funext fun j => (pairScore_eq n x0 x1 x2 p s a j).symm]
  rw [totals, (keys_eq _).1, (keys_eq _).2]
  pointwise []
  exact Finset.sum_congr rfl fun j _ => weight_apply n (lanesOf x0 p) (lanesOf x1 p) (lanesOf x2 p) s a j

/-- The statistics once the first `k` heads are in. -/
def upTo (k : ℕ) (t d : Fin 16 → EReal) (l : Fin 128) : EReal :=
  if h : l.val < 16 then if l.val < k then t ⟨l, h⟩ else 0
  else if h : l.val < 32 then if l.val < 16 + k then d ⟨l - 16, by omega⟩ else 0 else 0

/-- A pair adds its two heads. -/
theorem step_upTo (p : Fin 8) (st : FVec Ideal S128x128 .f32) (a : Fin 128)
    (h : ∀ l, st (ix2 a l) = upTo (2 * p) (fun k => top (winScore n x0 x1 x2 k a)) (fun k => total (winScore n x0 x1 x2 k a)) l) (l : Fin 128) :
    step n x0 x1 x2 p st (ix2 a l)
      = upTo (2 * (p + 1)) (fun k => top (winScore n x0 x1 x2 k a)) (fun k => total (winScore n x0 x1 x2 k a)) l := by
  have t0 := tops_apply n x0 x1 x2 p 0 a
  have t1 := tops_apply n x0 x1 x2 p 1 a
  have d0 := totals_apply n x0 x1 x2 p 0 a
  have d1 := totals_apply n x0 x1 x2 p 1 a
  simp only [Fin.val_zero, Fin.val_one, Nat.mul_zero, Nat.mul_one, Nat.zero_add, Nat.add_zero] at t0 t1 d0 d1
  refine (put_apply p _ _ _ a l).trans ?_
  rw [t0, t1, d0, d1, h]
  unfold upTo
  by_cases l0 : l.val = 2 * p
  · rw [if_neg (by omega), if_neg (by omega), if_neg (by omega), if_pos l0, dif_pos (by omega), if_pos (by omega)]
    simp only [l0]
  by_cases l1 : l.val = 2 * p + 1
  · rw [if_neg (by omega), if_pos l1, dif_pos (by omega), if_pos (by omega)]
    simp only [l1]
  by_cases l2 : l.val = 2 * p + 16
  · rw [if_neg (by omega), if_neg (by omega), if_pos l2, dif_neg (by omega), dif_pos (by omega), if_pos (by omega)]
    simp only [l2, Nat.add_sub_cancel]
  by_cases l3 : l.val = 2 * p + 17
  · rw [if_pos l3, dif_neg (by omega), dif_pos (by omega), if_pos (by omega)]
    simp only [l3, show 2 * p.val + 17 - 16 = 2 * p.val + 1 from by omega]
  rw [if_neg l3, if_neg l1, if_neg l2, if_neg l0]
  by_cases a1 : l.val < 16
  · rw [dif_pos a1, dif_pos a1]
    exact if_congr (by omega) rfl rfl
  · rw [dif_neg a1, dif_neg a1]
    by_cases a2 : l.val < 32
    · rw [dif_pos a2, dif_pos a2]
      exact if_congr (by omega) rfl rfl
    · rw [dif_neg a2, dif_neg a2]

/-- The statistics' block. -/
theorem statBlock_apply (a l : Fin 128) : statBlock n x0 x1 x2 (ix2 a l)
    = upTo 16 (fun k => top (winScore n x0 x1 x2 k a)) (fun k => total (winScore n x0 x1 x2 k a)) l := by
  have start : ∀ l, (k0_pay3 (F := Ideal)) (ix2 a l)
      = upTo 0 (fun k => top (winScore n x0 x1 x2 k a)) (fun k => total (winScore n x0 x1 x2 k a)) l := fun l => by
    pointwise [k0_pay3]
    unfold upTo
    by_cases a1 : l.val < 16
    · rw [dif_pos a1, if_neg (by omega)]
    · rw [dif_neg a1]
      by_cases a2 : l.val < 32
      · rw [dif_pos a2, if_neg (by omega)]
      · rw [dif_neg a2]
  unfold statBlock
  canon_tiles x h
  obtain rfl : x = ix2 a l := by
    funext k
    fin_cases k
    · exact Fin.ext h0.symm
    · exact Fin.ext h1.symm
  have s := step_upTo n x0 x1 x2
  exact s 7 _ a (s 6 _ a (s 5 _ a (s 4 _ a (s 3 _ a (s 2 _ a (s 1 _ a (s 0 _ a start))))))) l

end Cert.BandIdeal.Body

end
-- ==== Proof.Band.Cut.lean ====
/-
  The two output blocks of a block and residue, when the five input blocks hold rows of one array.
-/
module

public import proofs.«01_k».proof.Proof.Band.Block

@[expose] public section

set_option maxRecDepth 16384

noncomputable section

namespace Cert.BandIdeal.Body

open Cert.BandIdeal Cert.BandIdeal.Gen Cert.BandSpec Cert.BandIdeal.Pair
open Idealize.ShloMosaic Idealize.ShloMosaic.TcCoe Idealize.SL.Sem

/-- The five input blocks of block `n` and residue `r` at dilation `d`: its queries, and the keys and the values of the
    block before it (block 0 standing in for the one before itself) and its own. -/
structure Cut (X : Rows) (d n r : ℕ) (x0 x1 x2 x3 x4 : Window) : Prop where
  query : ∀ (a : Fin 128) (k : Fin 1024), x0 (ix2 a k) = cell X (n * (128 * d) + a * d + r) (0 + k)
  keyBefore : ∀ (a : Fin 128) (k : Fin 1024), x1 (ix2 a k) = cell X ((n - 1) * (128 * d) + a * d + r) (1024 + k)
  key : ∀ (a : Fin 128) (k : Fin 1024), x2 (ix2 a k) = cell X (n * (128 * d) + a * d + r) (1024 + k)
  valueBefore : ∀ (a : Fin 128) (k : Fin 1024), x3 (ix2 a k) = cell X ((n - 1) * (128 * d) + a * d + r) (2048 + k)
  value : ∀ (a : Fin 128) (k : Fin 1024), x4 (ix2 a k) = cell X (n * (128 * d) + a * d + r) (2048 + k)

variable {X : Rows} {d n r : ℕ} {x0 x1 x2 x3 x4 : Window} (C : Cut X d n r x0 x1 x2 x3 x4)
include C

/-- The scores in the blocks. -/
theorem Cut.scores (h : Fin 16) (a : Fin 128) : winScore n x0 x1 x2 h a = BandSpec.scores X d n r h a := by
  funext j
  rw [← scores_eq]
  unfold winScore score
  refine congrArg (fun s => masked _ (s * scale)) (Finset.sum_congr rfl fun e _ => ?_)
  have hk : rows2 x1 x2 j ⟨h * 64 + e, by omega⟩ = pairRow' X d 1024 n r h j e := by
    unfold rows2 pairRow'
    by_cases hj : j.val < 128
    · rw [dif_pos hj, if_pos hj, C.keyBefore]
    · rw [dif_neg hj, if_neg hj, C.key]
  rw [hk, C.query, Nat.zero_add]

/-- The numerators' block. -/
theorem Cut.num (a : Fin 128) (k : Fin 1024) :
    numBlock n x0 x1 x2 x3 x4 (ix2 a k) = BandSpec.num X d n r (k / 64) a (k % 64) := by
  rw [numBlock_apply, C.scores, ← num_eq]
  refine congrArg (blend _) (funext fun j => ?_)
  have hc : k.val / 64 * 64 + k.val % 64 = k.val := by omega
  unfold rows2 pairRow'
  by_cases hj : j.val < 128
  · rw [dif_pos hj, if_pos hj, C.valueBefore, hc]
  · rw [dif_neg hj, if_neg hj, C.value, hc]

/-- The statistics' block. -/
theorem Cut.stat (a l : Fin 128) : statBlock n x0 x1 x2 (ix2 a l) = BandSpec.stat X d n r a l := by
  rw [statBlock_apply]
  simp only [C.scores]
  unfold upTo BandSpec.stat
  by_cases a1 : l.val < 16
  · rw [dif_pos a1, if_pos a1, if_pos a1]
  · rw [dif_neg a1, if_neg a1]
    by_cases a2 : l.val < 32
    · rw [dif_pos a2, if_pos (show l.val < 16 + 16 from a2)]
    · rw [dif_neg a2, if_neg a2]

end Cert.BandIdeal.Body

end
-- ==== Proof.Band.Array.lean ====
/-
  The kernel's two result arrays at an index, in the entries of its argument.
-/
module

public import proofs.«01_k».proof.Proof.Gen.BandIdeal.Value
public import proofs.«01_k».proof.Proof.Band.Cut
public import Idealize.ShloMosaic.Lib.Claim

@[expose] public section

set_option maxRecDepth 16384

noncomputable section

namespace Cert.BandIdeal.Array

open Cert.BandIdeal Cert.BandIdeal.Gen Cert.BandSpec Cert.BandIdeal.Pair Cert.BandIdeal.Body
open Idealize.ShloMosaic Idealize.ShloMosaic.TcCoe Idealize.SL.Sem
open Idealize.ShloMosaic.Pipeline (Dat)

variable (m : (ℓ : Loc nD τ sig) → Buf (Elt Ideal) ℓ) (c : Dev nD)

/-- The grid runs over the blocks and the residues; the windows follow it. -/
theorem idx0 : ∀ t : Fin cfg0.N, win0_0.index t = ![(grid0.coords t 0).val, (grid0.coords t 1).val * 3] := by decide +kernel
theorem idx1 : ∀ t : Fin cfg0.N, win0_1.index t = ![(grid0.coords t 0).val - 1, (grid0.coords t 1).val * 3 + 1] := by decide +kernel
theorem idx2 : ∀ t : Fin cfg0.N, win0_2.index t = ![(grid0.coords t 0).val, (grid0.coords t 1).val * 3 + 1] := by decide +kernel
theorem idx3 : ∀ t : Fin cfg0.N, win0_3.index t = ![(grid0.coords t 0).val - 1, (grid0.coords t 1).val * 3 + 2] := by decide +kernel
theorem idx4 : ∀ t : Fin cfg0.N, win0_4.index t = ![(grid0.coords t 0).val, (grid0.coords t 1).val * 3 + 2] := by decide +kernel
theorem idx5 : ∀ t : Fin cfg0.N, win0_5.index t = ![(grid0.coords t 0).val, (grid0.coords t 1).val] := by decide +kernel
theorem idx6 : ∀ t : Fin cfg0.N, win0_6.index t = ![(grid0.coords t 0).val, (grid0.coords t 1).val] := by decide +kernel

/-- The argument's array. -/
abbrev rows : Rows := m ((c.tc : Thread nD τ).loc main_arg0)

/-- The array the windows are cut from has four rows of the argument side by side in each of its own. -/
theorem entry (u : S4096x12288.Idx) {i j : ℕ} (hi : (u 0).val * 4 + (u 1).val / 3072 = i) (hj : (u 1).val % 3072 = j) :
    V m c main_v0 u = cell (rows m c) i j := by
  have h0 : (u 0).val < 4096 := (u 0).isLt
  have h1 : (u 1).val < 12288 := (u 1).isLt
  subst hi hj
  rw [← cell_eq (rows m c) (by omega) (by omega)]
  entry_read
  pointwise

/-- The block of queries. -/
theorem block0 (t : Fin cfg0.N) (a : Fin 128) (k : Fin 1024) : iblk m c 0 t (ix2 a k)
    = cell (rows m c) ((grid0.coords t 0).val * (128 * 4) + a * 4 + (grid0.coords t 1).val) (0 + k) := by
  have hr : (grid0.coords t 1).val < 4 := (grid0.coords t 1).isLt
  refine entry m c _ ?_ ?_ <;> blk_simp [idx0] <;> omega

/-- The block of keys before it. -/
theorem block1 (t : Fin cfg0.N) (a : Fin 128) (k : Fin 1024) : iblk m c 1 t (ix2 a k)
    = cell (rows m c) (((grid0.coords t 0).val - 1) * (128 * 4) + a * 4 + (grid0.coords t 1).val) (1024 + k) := by
  have hr : (grid0.coords t 1).val < 4 := (grid0.coords t 1).isLt
  refine entry m c _ ?_ ?_ <;> blk_simp [idx1] <;> omega

/-- The block of keys. -/
theorem block2 (t : Fin cfg0.N) (a : Fin 128) (k : Fin 1024) : iblk m c 2 t (ix2 a k)
    = cell (rows m c) ((grid0.coords t 0).val * (128 * 4) + a * 4 + (grid0.coords t 1).val) (1024 + k) := by
  have hr : (grid0.coords t 1).val < 4 := (grid0.coords t 1).isLt
  refine entry m c _ ?_ ?_ <;> blk_simp [idx2] <;> omega

/-- The block of values before it. -/
theorem block3 (t : Fin cfg0.N) (a : Fin 128) (k : Fin 1024) : iblk m c 3 t (ix2 a k)
    = cell (rows m c) (((grid0.coords t 0).val - 1) * (128 * 4) + a * 4 + (grid0.coords t 1).val) (2048 + k) := by
  have hr : (grid0.coords t 1).val < 4 := (grid0.coords t 1).isLt
  refine entry m c _ ?_ ?_ <;> blk_simp [idx3] <;> omega

/-- The block of values. -/
theorem block4 (t : Fin cfg0.N) (a : Fin 128) (k : Fin 1024) : iblk m c 4 t (ix2 a k)
    = cell (rows m c) ((grid0.coords t 0).val * (128 * 4) + a * 4 + (grid0.coords t 1).val) (2048 + k) := by
  have hr : (grid0.coords t 1).val < 4 := (grid0.coords t 1).isLt
  refine entry m c _ ?_ ?_ <;> blk_simp [idx4] <;> omega

/-- What a point finds in its windows. -/
theorem cut (t : Fin cfg0.N) : Cut (rows m c) 4 (grid0.coords t 0) (grid0.coords t 1)
    (iblk m c 0 t) (iblk m c 1 t) (iblk m c 2 t) (iblk m c 3 t) (iblk m c 4 t) :=
  ⟨block0 m c t, block1 m c t, block2 m c t, block3 m c t, block4 m c t⟩

/-- The numerators' array. -/
theorem arr5 : (dats m 0 c).arrAt 5 cfg0.N = fun i => num (rows m c) 4 ((i 0).val / 128) ((i 1).val / 1024) ((i 1).val / 64 % 16)
    ((i 0).val % 128) ((i 1).val % 64) := by
  refine (dats m 0 c).arrAt_eq_of_covers 5 _ (by decide +kernel) fun t hf y => ?_
  obtain ⟨a, k, rfl⟩ : ∃ (a : Fin 128) (k : Fin 1024), y = ix2 a k := ⟨y 0, y 1, eq_ix2 y⟩
  blk_simp [idx5]
  rw [after0_5, out5_eq, numLoads_eq]
  refine ((cut m c t).num a k).trans ?_
  congr 1 <;> omega

/-- The statistics' array. -/
theorem arr6 : (dats m 0 c).arrAt 6 cfg0.N = fun i => stat (rows m c) 4 ((i 0).val / 128) ((i 1).val / 128)
    ((i 0).val % 128) ((i 1).val % 128) := by
  refine (dats m 0 c).arrAt_eq_of_covers 6 _ (by decide +kernel) fun t hf y => ?_
  obtain ⟨a, l, rfl⟩ : ∃ (a l : Fin 128), y = ix2 a l := ⟨y 0, y 1, eq_ix2 y⟩
  blk_simp [idx6]
  rw [after0_6, out6_eq, statLoads_eq]
  refine ((cut m c t).stat a l).trans ?_
  congr 1 <;> omega

end Cert.BandIdeal.Array

end
-- ==== Proof.Band.Ref.lean ====
/-
  The reference's two results, read at an index, are the formulas of the specification.
-/
module

public import proofs.«01_k».proof.Proof.Gen.BandRefIdeal.Run
public import proofs.«01_k».proof.Proof.Band.Spec

@[expose] public section

set_option maxRecDepth 16384

noncomputable section

namespace Cert.BandRefIdeal.Read

open Cert.BandRefIdeal Cert.BandRefIdeal.Gen Cert.BandRefIdeal.Value Cert.BandSpec
open Idealize.ShloMosaic Idealize.ShloMosaic.TcCoe Idealize.SL.Sem

variable (m : (ℓ : Loc nD τ sig) → Buf (Elt Ideal) ℓ) (c : Dev nD)

set_option maxHeartbeats 1000000 in
/-- The first result: the numerators. -/
theorem num_apply (i j : Fin 4096) :
    res_out0 m c (ix2 i j : S4096x4096.Idx)
      = num (m (c.tc.loc main_arg0)) 4 (i / 128) (j / 1024) (j / 64 % 16) (i % 128) (j % 64) := by
  pointwise [res_main_v65]
  simp only [cell_eq, id_eq, constant, broadcast, start_eq, dite_eq_ite]
  simp only [num, blend, weight, top, scores, score, pairRow, sees, masked, sum_blocks, Fin.is_lt, if_true,
    Nat.add_sub_cancel_left, Nat.reduceMul, show ∀ x : Fin 128, ¬ 128 + x.val < 128 from fun x => by omega, if_false]
  rfl

set_option maxHeartbeats 1000000 in
/-- The second result: the statistics. -/
theorem stat_apply (i : Fin 4096) (j : Fin 512) :
    res_out1 m c (ix2 i j : S4096x512.Idx)
      = stat (m (c.tc.loc main_arg0)) 4 (i / 128) (j / 128) (i % 128) (j % 128) := by
  pointwise [res_main_v68]
  simp only [cell_eq, id_eq, constant, broadcast, start_eq, dite_eq_ite]
  simp only [stat, total, weight, top, scores, score, pairRow, sees, masked, sum_blocks, Fin.is_lt, if_true,
    Nat.add_sub_cancel_left, Nat.reduceMul, show ∀ x : Fin 128, ¬ 128 + x.val < 128 from fun x => by omega, if_false]
  by_cases h1 : j.val % 128 < 16
  · rw [if_pos h1, if_pos h1]
    rfl
  · rw [if_neg h1, if_neg h1]
    by_cases h2 : j.val % 128 < 32
    · rw [if_pos h2, if_pos (by omega)]
      rfl
    · rw [if_neg h2, if_neg (by omega)]

end Cert.BandRefIdeal.Read

end
-- ==== Proof.Band.Claim.lean ====
/-
  The band attention's value claim: the kernel and the reference leave the same numerators and statistics.
-/
module

public import proofs.«01_k».proof.Defs
public import proofs.«01_k».proof.Proof.Band.Array
public import proofs.«01_k».proof.Proof.Band.Ref

@[expose] public section

noncomputable section

namespace Cert.BandClaim

open Idealize.ShloMosaic Idealize.ShloMosaic.TcCoe Idealize.SL.Sem Cert.BandSpec

/-- The two programs agree, from the same rows. -/
theorem algebraic : Cert.algebraic_BandIdeal_BandRefIdeal (hBandIdeal := Cert.BandIdeal.Gen.facts) (hBandRefIdeal := Cert.BandRefIdeal.Gen.facts) := by
  intro m g m' g' hpre hagree
  refine ⟨fun c => (Cert.BandIdeal.Gen.dats m 0 c).arrAt 5 Cert.BandIdeal.cfg0.N,
    fun c => (Cert.BandIdeal.Gen.dats m 0 c).arrAt 6 Cert.BandIdeal.cfg0.N, Cert.BandIdeal.Value.run_blocks m g, ?_⟩
  refine (θ_run _ _ _).mono (fun r h c => ?_) (Cert.BandRefIdeal.Value.run m' g')
  obtain ⟨h0, h1, h2⟩ := h c
  refine ⟨h0.trans ?_, h1.trans ?_, h2⟩
  · dsimp only
    rw [Cert.BandIdeal.Array.arr5]
    funext i
    rw [eq_ix2 i]
    refine (Cert.BandRefIdeal.Read.num_apply m' c (i 0) (i 1)).trans ?_
    rw [hagree c]
    rfl
  · dsimp only
    rw [Cert.BandIdeal.Array.arr6]
    funext i
    rw [eq_ix2 i]
    refine (Cert.BandRefIdeal.Read.stat_apply m' c (i 0) (i 1)).trans ?_
    rw [hagree c]
    rfl

end Cert.BandClaim

end
-- ==== Proof.Ffn.Spec.lean ====
/-
  The feed-forward block with a causal convolution, in plain formulas over the extended reals.

  A row goes up to two halves of 2816 columns; each column is convolved over the row and the two before it (nothing
  before row 0); the first half, gated by its sigmoid, multiplies the second; the product comes down to 1024 columns, is
  added to the row times a constant, and every row is normalised.
-/
module

public import Idealize.ShloMosaic.Lib.Pointwise

@[expose] public section

noncomputable section

namespace Cert.FfnSpec

open Idealize.ShloMosaic

/-- An array of `a` rows and `b` columns. -/
abbrev Mat (a b : ℕ) := (⟨2, ![a, b]⟩ : Shape).Idx → EReal

/-- An array of `a` entries. -/
abbrev Row (a : ℕ) := (⟨1, ![a]⟩ : Shape).Idx → EReal

/-- Row `i` of the input, zero past its end. -/
def row (X : Mat 16384 1024) (i : ℕ) (k : Fin 1024) : EReal := if h : i < 16384 then X (ix2 ⟨i, h⟩ k) else 0

/-- An element of the input is in its row. -/
theorem row_eq (X : Mat 16384 1024) (i : Fin 16384) (k : Fin 1024) : X (ix2 i k) = row X i k := by
  rw [row, dif_pos i.isLt]

/-- Row `i` taken up to column `c`. -/
def up (X : Mat 16384 1024) (W : Mat 1024 5632) (i : ℕ) (c : Fin 5632) : EReal := ∑ k, row X i k * W (ix2 k c)

/-- The same `s` rows earlier. -/
def past (X : Mat 16384 1024) (W : Mat 1024 5632) (s i : ℕ) (c : Fin 5632) : EReal := if i < s then 0 else up X W (i - s) c

/-- One output of the convolution: three taps and a bias. -/
def taps (w0 w1 w2 b u2 u1 u : EReal) : EReal := w0 * u2 + w1 * u1 + w2 * u + b

/-- The convolution along column `c`. -/
def conv (X : Mat 16384 1024) (W : Mat 1024 5632) (T : Mat 3 5632) (B : Row 5632) (i : ℕ) (c : Fin 5632) : EReal :=
  taps (T (ix2 0 c)) (T (ix2 1 c)) (T (ix2 2 c)) (B (ix1 c)) (past X W 2 i c) (past X W 1 i c) (up X W i c)

/-- The gated product of the halves. -/
def gated (a g : EReal) : EReal := a * Ideal.div 1 (1 + Ideal.exp (-a)) * g

/-- The row times the constant, plus what comes down. -/
def mixed (x : EReal) (h w : Fin 2816 → EReal) : EReal := Ideal.ofBits FTy.f32 0x3FB504F3#32 * x + ∑ e, h e * w e

/-- The mean of a row. -/
def mean (r : Fin 1024 → EReal) : EReal := Ideal.div (∑ k, r k) (Ideal.ofBits FTy.f32 0x44800000#32)

/-- The normalised row, scaled and shifted. -/
def normed (r : Fin 1024 → EReal) (g b : EReal) (k : Fin 1024) : EReal :=
  (r k - mean r) * Ideal.rsqrt (mean (fun j => (r j - mean r) * (r j - mean r)) + Ideal.ofBits FTy.f32 0x3727C5AC#32) * g + b

/-- Column `e` of the first and of the second half. -/
def left (e : Fin 2816) : Fin 5632 := ⟨e, by omega⟩
def right (e : Fin 2816) : Fin 5632 := ⟨2816 + e, by omega⟩

variable (X : Mat 16384 1024) (W : Mat 1024 5632) (T : Mat 3 5632) (B : Row 5632) (V : Mat 2816 1024) (G H : Row 1024)

/-- Row `i` before the normalisation. -/
def raw (i : ℕ) (k : Fin 1024) : EReal :=
  mixed (row X i k) (fun e => gated (conv X W T B i (left e)) (conv X W T B i (right e))) fun e => V (ix2 e k)

/-- The block's result. -/
def result (i : ℕ) (k : Fin 1024) : EReal := normed (raw X W T B V i) (G (ix1 k)) (H (ix1 k)) k

end Cert.FfnSpec

end
-- ==== Proof.Ffn.Half.lean ====
/-
  One tile of 512 rows, read at an index: a half of 2816 columns going up, its convolution, and the rows coming down.
-/
module

public import proofs.«01_k».proof.Proof.Gen.FfnIdeal.Value
public import proofs.«01_k».proof.Proof.Ffn.Spec

@[expose] public section

set_option maxRecDepth 16384

noncomputable section

namespace Cert.FfnIdeal.Half

open Cert.FfnIdeal Cert.FfnIdeal.Gen Cert.FfnSpec
open Idealize.ShloMosaic Idealize.ShloMosaic.TcCoe Idealize.SL.Sem

variable (x : Mat 512 1024) (w : Mat 1024 2816) (p : Mat 8 2816) (t : Mat 8 2816) (b : Mat 1 2816)

/-- A row's number against 0 and against 1, as a bit. -/
theorem bit_zero {a : ℕ} (h : a < 8) : IntOp.cmpi .eq (BitVec.ofNat 32 a) 0#32 = if a = 0 then 1#1 else 0#1 :=
  (by decide +kernel : ∀ a : Fin 8, IntOp.cmpi .eq (BitVec.ofNat 32 a.val) 0#32 = if a.val = 0 then 1#1 else 0#1) ⟨a, h⟩
theorem bit_one {a : ℕ} (h : a < 8) : IntOp.cmpi .eq (BitVec.ofNat 32 a) 1#32 = if a = 1 then 1#1 else 0#1 :=
  (by decide +kernel : ∀ a : Fin 8, IntOp.cmpi .eq (BitVec.ofNat 32 a.val) 1#32 = if a.val = 1 then 1#1 else 0#1) ⟨a, h⟩

/-- An entry of a column, by the row's number alone. -/
theorem entry_eq {n : ℕ} (u : Mat n 2816) (e : Fin 2816) {i j : ℕ} (hi : i < n) (hj : j < n) (h : i = j) :
    u (ix2 ⟨i, hi⟩ e) = u (ix2 ⟨j, hj⟩ e) := by
  subst h
  rfl

/-- The tile's rows going up. -/
theorem up_apply (a : Fin 512) (e : Fin 2816) : k0_pay4 (F := Ideal) x w (ix2 a e) = ∑ k, x (ix2 a k) * w (ix2 k e) := by
  pointwise [k0_pay4, k0_pay2]

/-- The rows one earlier: the tile's own, and before its first the last one kept. -/
theorem past1_apply (a : Fin 512) (e : Fin 2816) : k0_pay6 (F := Ideal) x w p (ix2 a e)
    = if h : a.val < 1 then p (ix2 7 e) else k0_pay4 (F := Ideal) x w (ix2 ⟨a - 1, by omega⟩ e) := by
  pointwise [k0_pay6, k0_pay5]
  by_cases h8 : a.val < 8
  · rw [dif_pos h8, bit_zero h8]
    by_cases h0 : a.val = 0
    · rw [if_pos h0, dif_pos (by omega)]
      rfl
    · rw [if_neg h0, dif_neg (by omega)]
      refine entry_eq (k0_pay4 (F := Ideal) x w) e ?_ ?_ ?_ <;> omega
  · rw [dif_neg h8, dif_neg (by omega)]
    refine entry_eq (k0_pay4 (F := Ideal) x w) e ?_ ?_ ?_ <;> omega

/-- The rows two earlier. -/
theorem past2_apply (a : Fin 512) (e : Fin 2816) : k0_pay7 (F := Ideal) x w p (ix2 a e)
    = if h : a.val < 2 then p (ix2 ⟨6 + a, by omega⟩ e) else k0_pay4 (F := Ideal) x w (ix2 ⟨a - 2, by omega⟩ e) := by
  pointwise [k0_pay7, k0_pay5]
  by_cases h8 : a.val < 8
  · rw [dif_pos h8, bit_zero h8, bit_one h8]
    by_cases h0 : a.val = 0
    · rw [if_pos h0, dif_pos (by omega)]
      exact congrArg (fun r => p (ix2 r e)) (Fin.ext (show 6 = 6 + a.val by omega))
    · rw [if_neg h0]
      by_cases h1 : a.val = 1
      · rw [if_pos h1, dif_pos (by omega)]
        exact congrArg (fun r => p (ix2 r e)) (Fin.ext (show 7 = 6 + a.val by omega))
      · rw [if_neg h1, dif_neg (by omega)]
        refine entry_eq (k0_pay4 (F := Ideal) x w) e ?_ ?_ ?_ <;> omega
  · rw [dif_neg h8, dif_neg (by omega)]
    refine entry_eq (k0_pay4 (F := Ideal) x w) e ?_ ?_ ?_ <;> omega

/-- The convolution. -/
theorem conv_apply (u u1 u2 : Mat 512 2816) (a : Fin 512) (e : Fin 2816) : k0_pay10 (F := Ideal) u u1 u2 t b (ix2 a e)
    = taps (t (ix2 0 e)) (t (ix2 1 e)) (t (ix2 2 e)) (b (ix2 0 e)) (u2 (ix2 a e)) (u1 (ix2 a e)) (u (ix2 a e)) := by
  pointwise [k0_pay10]
  rfl

/-- The rows coming down, from the two halves. -/
def down (x : FVec Ideal S512x1024 .f32) (l r : FVec Ideal S512x2816 .f32) (v : FVec Ideal S2816x1024 .bf16) : FVec Ideal S512x1024 .f32 :=
  addf (mulf (broadcast S512x1024 (Scalar.ofBits .f32 0x3FB504F3#32)) x)
    (matmul dot_S512x2816_S2816x1024_S512x1024_1_0_0_1_n_n none (truncf .bf16 (mulf (mulf l (logistic l)) r) bitsLt_bf16_f32)
      (shapeCast S2816x1024 v shapeCasts_S2816x1024_S2816x1024) (constant S512x1024 .f32 0x00000000#32))

/-- At an index. -/
theorem down_apply (l r : Mat 512 2816) (v : Mat 2816 1024) (a : Fin 512) (k : Fin 1024) :
    down x l r v (ix2 a k) = mixed (x (ix2 a k)) (fun e => gated (l (ix2 a e)) (r (ix2 a e))) fun e => v (ix2 e k) := by
  pointwise [down]
  rfl

/-- The normalisation of a tile. -/
theorem norm_apply (s : Mat 512 1024) (g h : Mat 1 1024) (a : Fin 512) (k : Fin 1024) :
    k0_pay1 (F := Ideal) s (k0_pay21 (F := Ideal) g) (k0_pay22 (F := Ideal) h)
      (multiReduction .add [1] S512 (s : FVec Ideal S512x1024 .f32) 0x00000000#32 reduces_S512x1024_S512 (.inl rfl) rfl) (ix2 a k)
      = normed (fun j => s (ix2 a j)) (g (ix2 0 k)) (h (ix2 0 k)) k := by
  pointwise [k0_pay1, k0_pay21, k0_pay22]
  rfl

/-- The second half's convolution is written out inside the rows coming down; it is the first half's with its own columns. -/
theorem down_eq (x0 : FVec Ideal S512x1024 .f32) (l : FVec Ideal S512x2816 .f32) (w : FVec Ideal S1024x2816 .bf16) (p t : FVec Ideal S8x2816 .f32)
    (b : FVec Ideal S1x2816 .f32) (v : FVec Ideal S2816x1024 .bf16) :
    k0_pay20 x0 l (k0_pay11 (k0_pay2 x0) w) (k0_pay13 (k0_pay2 x0) w)
        (k0_pay14 (k0_pay2 x0) (iota .tc S8x2816 32 [0] iota_S8x2816_d0_w32) w p)
        (k0_pay15 (iota .tc S8x2816 32 [0] iota_S8x2816_d0_w32))
        (k0_pay16 (k0_pay2 x0) (iota .tc S8x2816 32 [0] iota_S8x2816_d0_w32) w p) (k0_pay17 p) t b v
      = down x0 l (k0_pay10 (k0_pay4 x0 w) (k0_pay6 x0 w p) (k0_pay7 x0 w p) t b) v := rfl

end Cert.FfnIdeal.Half

end
-- ==== Proof.Ffn.Tile.lean ====
/-
  What the kernel leaves after each grid point, at an index, in the entries of the point's blocks.
-/
module

public import proofs.«01_k».proof.Proof.Ffn.Half
public import Idealize.ShloMosaic.Lib.Pipeline.ValueKit
public import Idealize.ShloMosaic.Lib.Pipeline.ReadBack

@[expose] public section

set_option maxRecDepth 16384

noncomputable section

namespace Cert.FfnIdeal.Tile

open Cert.FfnIdeal Cert.FfnIdeal.Gen Cert.FfnSpec Cert.FfnIdeal.Half
open Idealize.ShloMosaic Idealize.ShloMosaic.TcCoe Idealize.SL.Sem

/-- A half's convolution over a tile. -/
def half (x : FVec Ideal S512x1024 .f32) (w : FVec Ideal S1024x2816 .bf16) (p t : FVec Ideal S8x2816 .f32) (b : FVec Ideal S1x2816 .f32) :
    FVec Ideal S512x2816 .f32 := k0_pay10 (k0_pay4 x w) (k0_pay6 x w p) (k0_pay7 x w p) t b

/-- The two halves of the columns of a window. -/
def wl (w : FVec Ideal S1024x5632 .bf16) : FVec Ideal S1024x2816 .bf16 := View.ld (Val := Elt Ideal) (e' := .bf16) (S := S1024x5632) w (Rect.unit ![0, 0] ![1024, 2816] inb_S1024x5632_S1024x2816_0_0)
def wr (w : FVec Ideal S1024x5632 .bf16) : FVec Ideal S1024x2816 .bf16 := View.ld (Val := Elt Ideal) (e' := .bf16) (S := S1024x5632) w (Rect.unit ![0, 2816] ![1024, 2816] inb_S1024x5632_S1024x2816_0_2816)
def pl (p : FVec Ideal S8x5632 .f32) : FVec Ideal S8x2816 .f32 := View.ld (Val := Elt Ideal) (e' := .f32) (S := S8x5632) p (Rect.unit ![0, 0] ![8, 2816] inb_S8x5632_S8x2816_0_0)
def pr (p : FVec Ideal S8x5632 .f32) : FVec Ideal S8x2816 .f32 := View.ld (Val := Elt Ideal) (e' := .f32) (S := S8x5632) p (Rect.unit ![0, 2816] ![8, 2816] inb_S8x5632_S8x2816_0_2816)
def bl (b : FVec Ideal S1x5632 .f32) : FVec Ideal S1x2816 .f32 := View.ld (Val := Elt Ideal) (e' := .f32) (S := S1x5632) b (Rect.unit ![0, 0] ![1, 2816] inb_S1x5632_S1x2816_0_0)
def br (b : FVec Ideal S1x5632 .f32) : FVec Ideal S1x2816 .f32 := View.ld (Val := Elt Ideal) (e' := .f32) (S := S1x5632) b (Rect.unit ![0, 2816] ![1, 2816] inb_S1x5632_S1x2816_0_2816)

theorem wl_apply (w : Mat 1024 5632) (k : Fin 1024) (e : Fin 2816) : wl w (ix2 k e) = w (ix2 k (left e)) := by
  pointwise [wl]
  rfl
theorem wr_apply (w : Mat 1024 5632) (k : Fin 1024) (e : Fin 2816) : wr w (ix2 k e) = w (ix2 k (right e)) := by
  pointwise [wr]
  rfl
theorem pl_apply (p : Mat 8 5632) (k : Fin 8) (e : Fin 2816) : pl p (ix2 k e) = p (ix2 k (left e)) := by
  pointwise [pl]
  rfl
theorem pr_apply (p : Mat 8 5632) (k : Fin 8) (e : Fin 2816) : pr p (ix2 k e) = p (ix2 k (right e)) := by
  pointwise [pr]
  rfl
theorem bl_apply (b : Mat 1 5632) (e : Fin 2816) : bl b (ix2 0 e) = b (ix2 0 (left e)) := by
  pointwise [bl]
  rfl
theorem br_apply (b : Mat 1 5632) (e : Fin 2816) : br b (ix2 0 e) = b (ix2 0 (right e)) := by
  pointwise [br]
  rfl

/-- A tile's rows before the normalisation, from its blocks and the rows kept from the tile before. -/
def tileRaw (x0 : FVec Ideal S512x1024 .f32) (x1 : FVec Ideal S1024x5632 .bf16) (x2 : FVec Ideal S8x5632 .f32) (x3 : FVec Ideal S1x5632 .f32)
    (x4 : FVec Ideal S2816x1024 .bf16) (p : FVec Ideal S8x5632 .f32) : FVec Ideal S512x1024 .f32 :=
  down x0 (half x0 (wl x1) (pl p) (pl x2) (bl x3)) (half x0 (wr x1) (pr p) (pr x2) (br x3)) x4

/-- A tile's result. -/
def tile (x0 : FVec Ideal S512x1024 .f32) (x1 : FVec Ideal S1024x5632 .bf16) (x2 : FVec Ideal S8x5632 .f32) (x3 : FVec Ideal S1x5632 .f32)
    (x4 : FVec Ideal S2816x1024 .bf16) (x5 x6 : FVec Ideal S1x1024 .f32) (p : FVec Ideal S8x5632 .f32) : FVec Ideal S512x1024 .f32 :=
  k0_pay1 (tileRaw x0 x1 x2 x3 x4 p) (k0_pay21 x5) (k0_pay22 x6)
    (multiReduction .add [1] S512 (tileRaw x0 x1 x2 x3 x4 p) 0x00000000#32 reduces_S512x1024_S512 (.inl rfl) rfl)

variable (m : (ℓ : Loc nD τ sig) → Buf (Elt Ideal) ℓ) (c : Dev nD)

/-- The first point starts from zeros. -/
theorem first_out (t : Fin cfg0.N) (h0 : t.val % 32 = 0) : (outsAt0 m c t.val t.isLt).1
    = tile (iblk m c 0 t) (iblk m c 1 t) (iblk m c 2 t) (iblk m c 3 t) (iblk m c 4 t) (iblk m c 5 t) (iblk m c 6 t) k0_pay3 := by
  rw [outsAt0_A m c t h0]
  dsimp only
  frame_open
  simp (disch := decide) only [↓ View.readCov_skip, ↓ View.readCov_cons_toLoadRect, ↓ View.readCov_fill]
  frame_out
  generalize k0_pay3 (F := Ideal) = p
  rfl

/-- A later one from what the point before kept. -/
theorem next_out (t : Fin cfg0.N) (h0 : ¬ t.val % 32 = 0) : (outsAt0 m c t.val t.isLt).1
    = tile (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2.2 := by
  rw [outsAt0_B m c t h0]
  dsimp only
  frame_out
  simp only [read_unread_whole]
  rfl

/-- The last eight rows going up. -/
def tail (x0 : Mat 512 1024) (x1 : Mat 1024 5632) (r : Fin 8) (j : Fin 5632) : EReal := ∑ k, x0 (ix2 ⟨504 + r, by omega⟩ k) * x1 (ix2 k j)

theorem tail_left (x0 : Mat 512 1024) (x1 : Mat 1024 5632) (r : Fin 8) (e : Fin 2816) :
    k0_pay8 (F := Ideal) x0 (wl x1) (ix2 r e) = tail x0 x1 r (left e) := by
  pointwise [k0_pay8]
  exact (up_apply x0 (wl x1) _ e).trans (Finset.sum_congr rfl fun k _ => by rw [wl_apply])

theorem tail_right (x0 : Mat 512 1024) (x1 : Mat 1024 5632) (r : Fin 8) (e : Fin 2816) :
    k0_pay18 (F := Ideal) (k0_pay11 (k0_pay2 x0) (wr x1)) (ix2 r e) = tail x0 x1 r (right e) := by
  pointwise [k0_pay18]
  exact (up_apply x0 (wr x1) _ e).trans (Finset.sum_congr rfl fun k _ => by rw [wr_apply])

/-- Where an entry of half the columns stands in the whole. -/
theorem place_row (o : ℕ) (inb : ∀ d, (![0, o] : Fin 2 → ℕ) d + (![8, 2816] : Fin 2 → ℕ) d ≤ S8x5632.size d) (a : Fin 8) (e : Fin 2816) :
    ((Rect.unit (s := S8x5632) ![0, o] ![8, 2816] inb).emb (ix2 a e) 0).val = a.val :=
  (ValueKit.rect_emb_unit_val (s := S8x5632) ![0, o] ![8, 2816] inb (ix2 a e) 0).trans (Nat.zero_add a.val)
theorem place_col (o : ℕ) (inb : ∀ d, (![0, o] : Fin 2 → ℕ) d + (![8, 2816] : Fin 2 → ℕ) d ≤ S8x5632.size d) (a : Fin 8) (e : Fin 2816) :
    ((Rect.unit (s := S8x5632) ![0, o] ![8, 2816] inb).emb (ix2 a e) 1).val = o + e.val :=
  ValueKit.rect_emb_unit_val (s := S8x5632) ![0, o] ![8, 2816] inb (ix2 a e) 1

/-- The two stores that keep them, over whatever was stored before. -/
theorem kept (x0 : FVec Ideal S512x1024 .f32) (x1 : FVec Ideal S1024x5632 .bf16) (L : List (View.Piece (Elt Ideal) S8x5632 .f32)) (r : Fin 8) (j : Fin 5632) :
    View.canon ([⟨Rect.unit ![0, 2816] ![8, 2816] inb_S8x5632_S8x2816_0_2816, k0_pay18 (F := Ideal) (k0_pay11 (k0_pay2 x0) (wr x1))⟩,
      ⟨Rect.unit ![0, 0] ![8, 2816] inb_S8x5632_S8x2816_0_0, k0_pay8 (F := Ideal) x0 (wl x1)⟩] ++ L) (ix2 r j) = tail x0 x1 r j := by
  refine View.canon_append_of_piecesOf (fun y => tail x0 x1 (y 0) (y 1)) L [_, _] ⟨fun x => ?_, fun x => ?_, trivial⟩ (ix2 r j)
    (View.cover_of_tiledL _ ![8, 2816] (by sl_kernel_rfl) _)
  · obtain ⟨a, e, rfl⟩ : ∃ (a : Fin 8) (e : Fin 2816), x = ix2 a e := ⟨x 0, x 1, eq_ix2 x⟩
    exact (tail_right x0 x1 a e).trans (congrArg₂ (tail x0 x1) (Fin.ext (place_row 2816 inb_S8x5632_S8x2816_0_2816 a e).symm) (Fin.ext (place_col 2816 inb_S8x5632_S8x2816_0_2816 a e).symm))
  · obtain ⟨a, e, rfl⟩ : ∃ (a : Fin 8) (e : Fin 2816), x = ix2 a e := ⟨x 0, x 1, eq_ix2 x⟩
    exact (tail_left x0 x1 a e).trans (congrArg₂ (tail x0 x1) (Fin.ext (place_row 0 inb_S8x5632_S8x2816_0_0 a e).symm)
      (Fin.ext ((place_col 0 inb_S8x5632_S8x2816_0_0 a e).trans (Nat.zero_add _)).symm))

/-- The two stores alone. -/
theorem kept_only (x0 : FVec Ideal S512x1024 .f32) (x1 : FVec Ideal S1024x5632 .bf16) (r : Fin 8) (j : Fin 5632) :
    View.canon (Val := Elt Ideal) (e := .f32) [⟨Rect.unit ![0, 2816] ![8, 2816] inb_S8x5632_S8x2816_0_2816, k0_pay18 (F := Ideal) (k0_pay11 (k0_pay2 x0) (wr x1))⟩,
      ⟨Rect.unit ![0, 0] ![8, 2816] inb_S8x5632_S8x2816_0_0, k0_pay8 (F := Ideal) x0 (wl x1)⟩] (ix2 r j) = tail x0 x1 r j :=
  kept x0 x1 [] r j

/-- The second result's stores write the same rows. -/
theorem write_left (x0 : FVec Ideal S512x1024 .f32) (w : FVec Ideal S1024x2816 .bf16) : k0_pay9 (F := Ideal) x0 w = k0_pay8 x0 w := by
  funext i
  obtain ⟨a, e, rfl⟩ : ∃ (a : Fin 8) (e : Fin 2816), i = ix2 a e := ⟨i 0, i 1, eq_ix2 i⟩
  pointwise [k0_pay8, k0_pay9]
theorem write_right (u : FVec Ideal S512x2816 .f32) : k0_pay19 (F := Ideal) u = k0_pay18 u := by
  funext i
  obtain ⟨a, e, rfl⟩ : ∃ (a : Fin 8) (e : Fin 2816), i = ix2 a e := ⟨i 0, i 1, eq_ix2 i⟩
  pointwise [k0_pay18, k0_pay19]

/-- So they leave them there. -/
theorem written (x0 : FVec Ideal S512x1024 .f32) (x1 : FVec Ideal S1024x5632 .bf16) (r : Fin 8) (j : Fin 5632) :
    View.canon (Val := Elt Ideal) (e := .f32) [⟨Rect.unit ![0, 2816] ![8, 2816] inb_S8x5632_S8x2816_0_2816, k0_pay19 (F := Ideal) (k0_pay11 (k0_pay2 x0) (wr x1))⟩,
      ⟨Rect.unit ![0, 0] ![8, 2816] inb_S8x5632_S8x2816_0_0, k0_pay9 (F := Ideal) x0 (wl x1)⟩] (ix2 r j) = tail x0 x1 r j := by
  rw [write_left, write_right]
  exact kept_only x0 x1 r j

/-- The first point keeps them for the next. -/
theorem first_carry (t : Fin cfg0.N) (h0 : t.val % 32 = 0) (r : Fin 8) (j : Fin 5632) :
    (outsAt0 m c t.val t.isLt).2.2 (ix2 r j) = tail (iblk m c 0 t) (iblk m c 1 t) r j := by
  rw [outsAt0_A m c t h0]
  dsimp only
  frame_out
  exact kept (iblk m c 0 t) (iblk m c 1 t) [_] r j

/-- So does every later one. -/
theorem next_carry (t : Fin cfg0.N) (h0 : ¬ t.val % 32 = 0) (r : Fin 8) (j : Fin 5632) :
    (outsAt0 m c t.val t.isLt).2.2 (ix2 r j) = tail (iblk m c 0 t) (iblk m c 1 t) r j := by
  rw [outsAt0_B m c t h0]
  dsimp only
  frame_out
  exact kept_only (iblk m c 0 t) (iblk m c 1 t) r j

/-- Every point keeps them. -/
theorem carry (t : Fin cfg0.N) (r : Fin 8) (j : Fin 5632) :
    (outsAt0 m c t.val t.isLt).2.2 (ix2 r j) = tail (iblk m c 0 t) (iblk m c 1 t) r j := by
  by_cases h0 : t.val % 32 = 0
  · exact first_carry m c t h0 r j
  · exact next_carry m c t h0 r j

/-- The first point writes them to the second result. -/
theorem first_hist (t : Fin cfg0.N) (h0 : t.val % 32 = 0) (r : Fin 8) (j : Fin 5632) :
    (outsAt0 m c t.val t.isLt).2.1 (ix2 r j) = tail (iblk m c 0 t) (iblk m c 1 t) r j := by
  rw [outsAt0_A m c t h0]
  dsimp only
  frame_out
  exact written (iblk m c 0 t) (iblk m c 1 t) r j

/-- So does every later one. -/
theorem next_hist (t : Fin cfg0.N) (h0 : ¬ t.val % 32 = 0) (r : Fin 8) (j : Fin 5632) :
    (outsAt0 m c t.val t.isLt).2.1 (ix2 r j) = tail (iblk m c 0 t) (iblk m c 1 t) r j := by
  rw [outsAt0_B m c t h0]
  dsimp only
  frame_out
  exact written (iblk m c 0 t) (iblk m c 1 t) r j

/-- Every point writes them. -/
theorem hist (t : Fin cfg0.N) (r : Fin 8) (j : Fin 5632) :
    (outsAt0 m c t.val t.isLt).2.1 (ix2 r j) = tail (iblk m c 0 t) (iblk m c 1 t) r j := by
  by_cases h0 : t.val % 32 = 0
  · exact first_hist m c t h0 r j
  · exact next_hist m c t h0 r j

/-! What a tile computes, where its blocks are those of tile `n` of the arrays. -/

section values

variable {X : Mat 16384 1024} {W : Mat 1024 5632} {T : Mat 3 5632} {B : Row 5632} {V : Mat 2816 1024} {G H : Row 1024} {n : ℕ}

/-- A half of the columns, the half given by where its columns lie. -/
theorem half_apply (f : Fin 2816 → Fin 5632) {x : Mat 512 1024} {w : Mat 1024 2816} {p t : Mat 8 2816} {b : Mat 1 2816}
    (hx : ∀ a k, x (ix2 a k) = row X (512 * n + a.val) k) (hw : ∀ k e, w (ix2 k e) = W (ix2 k (f e)))
    (hp : ∀ r e, p (ix2 r e) = if n = 0 then 0 else up X W (512 * n + r.val - 8) (f e))
    (ht : ∀ (r : Fin 3) e, t (ix2 ⟨r.val, by omega⟩ e) = T (ix2 r (f e))) (hb : ∀ e, b (ix2 0 e) = B (ix1 (f e))) (a : Fin 512) (e : Fin 2816) :
    half x w p t b (ix2 a e) = conv X W T B (512 * n + a.val) (f e) := by
  have hu : ∀ a : Fin 512, k0_pay4 (F := Ideal) x w (ix2 a e) = up X W (512 * n + a.val) (f e) := fun a => by
    rw [up_apply]
    exact Finset.sum_congr rfl fun k _ => by rw [hx, hw]
  have h1 : k0_pay6 (F := Ideal) x w p (ix2 a e) = past X W 1 (512 * n + a.val) (f e) := by
    rw [past1_apply]
    unfold past
    by_cases h : a.val < 1
    · rw [dif_pos h, hp]
      by_cases hn : n = 0
      · rw [if_pos hn, if_pos (by omega)]
      · rw [if_neg hn, if_neg (by omega)]
        exact congrArg (up X W · _) (show 512 * n + 7 - 8 = 512 * n + a.val - 1 by omega)
    · rw [dif_neg h, hu, if_neg (by omega)]
      exact congrArg (up X W · _) (show 512 * n + (a.val - 1) = 512 * n + a.val - 1 by omega)
  have h2 : k0_pay7 (F := Ideal) x w p (ix2 a e) = past X W 2 (512 * n + a.val) (f e) := by
    rw [past2_apply]
    unfold past
    by_cases h : a.val < 2
    · rw [dif_pos h, hp]
      by_cases hn : n = 0
      · rw [if_pos hn, if_pos (by omega)]
      · rw [if_neg hn, if_neg (by omega)]
        exact congrArg (up X W · _) (show 512 * n + (6 + a.val) - 8 = 512 * n + a.val - 2 by omega)
    · rw [dif_neg h, hu, if_neg (by omega)]
      exact congrArg (up X W · _) (show 512 * n + (a.val - 2) = 512 * n + a.val - 2 by omega)
  unfold half
  rw [conv_apply, h1, h2, hu, hb]
  unfold conv
  rw [← ht 0, ← ht 1, ← ht 2]
  rfl

/-- The whole tile. -/
theorem tile_apply {x0 : Mat 512 1024} {x1 : Mat 1024 5632} {x2 p : Mat 8 5632} {x3 : Mat 1 5632} {x4 : Mat 2816 1024} {x5 x6 : Mat 1 1024}
    (hx : ∀ a k, x0 (ix2 a k) = row X (512 * n + a.val) k) (hw : ∀ k j, x1 (ix2 k j) = W (ix2 k j))
    (ht : ∀ (r : Fin 3) j, x2 (ix2 ⟨r.val, by omega⟩ j) = T (ix2 r j)) (hb : ∀ j, x3 (ix2 0 j) = B (ix1 j))
    (hv : ∀ k j, x4 (ix2 k j) = V (ix2 k j)) (hg : ∀ j, x5 (ix2 0 j) = G (ix1 j)) (hh : ∀ j, x6 (ix2 0 j) = H (ix1 j))
    (hp : ∀ r j, p (ix2 r j) = if n = 0 then 0 else up X W (512 * n + r.val - 8) j) (a : Fin 512) (k : Fin 1024) :
    tile x0 x1 x2 x3 x4 x5 x6 p (ix2 a k) = result X W T B V G H (512 * n + a.val) k := by
  have hr : ∀ k, tileRaw x0 x1 x2 x3 x4 p (ix2 a k) = raw X W T B V (512 * n + a.val) k := fun k => by
    unfold tileRaw
    rw [down_apply]
    unfold raw
    simp only [hx, hv, half_apply (X := X) (W := W) (T := T) (B := B) (n := n) left hx
      (fun k e => (wl_apply x1 k e).trans (hw k _)) (fun r e => (pl_apply p r e).trans (hp r _))
      (fun r e => (pl_apply x2 _ e).trans (ht r _)) (fun e => (bl_apply x3 e).trans (hb _)),
      half_apply (X := X) (W := W) (T := T) (B := B) (n := n) right hx
      (fun k e => (wr_apply x1 k e).trans (hw k _)) (fun r e => (pr_apply p r e).trans (hp r _))
      (fun r e => (pr_apply x2 _ e).trans (ht r _)) (fun e => (br_apply x3 e).trans (hb _))]
  unfold tile
  rw [norm_apply]
  unfold result
  simp only [hr, hg, hh]

end values

end Cert.FfnIdeal.Tile

end
-- ==== Proof.Ffn.Array.lean ====
/-
  The kernel's two arrays: the blocks of its windows in the entries of the arguments, and what all grid points together leave.
-/
module

public import proofs.«01_k».proof.Proof.Ffn.Tile
public import Idealize.ShloMosaic.Lib.Routing.OpsSet
public import Idealize.ShloMosaic.Lib.Pointwise

@[expose] public section

set_option maxRecDepth 16384

noncomputable section

namespace Cert.FfnIdeal.Array

open Cert.FfnIdeal Cert.FfnIdeal.Gen Cert.FfnSpec Cert.FfnIdeal.Half Cert.FfnIdeal.Tile
open Idealize.ShloMosaic Idealize.ShloMosaic.TcCoe Idealize.SL.Sem

variable (m : (ℓ : Loc nD τ sig) → Buf (Elt Ideal) ℓ) (c : Dev nD)

/-! The taps, padded to eight rows: the update of the padding lands on the first three. -/

/-- Update `(q, j')` lands at `(r, j)` when the rows and the columns agree. -/
theorem lands (idx : IVec S1 32) (h0 : (idx (ix1 0)).toInt = 0) (k : S3x5632.Idx) (r : Fin 8) (j : Fin 5632) :
    scatter_S8x5632_S1_S3x5632_01_n_0_0.resultIdx? k idx = some (ix2 r j) ↔ (k 0).val = r.val ∧ (k 1).val = j.val := by
  have hw : ∀ b, scatter_S8x5632_S1_S3x5632_01_n_0_0.window k b = (k b).val := fun b => by
    unfold ScatterDims.window
    fin_cases b <;> rfl
  have hs0 : scatter_S8x5632_S1_S3x5632_01_n_0_0.start k idx 0 = 0 := by
    unfold ScatterDims.start
    rw [dif_pos (by decide)]
    refine (congrArg (fun q => (idx q).toInt) ?_).trans h0
    funext b
    fin_cases b
    exact Subsingleton.elim (α := Fin 1) _ _
  have hs1 : scatter_S8x5632_S1_S3x5632_01_n_0_0.start k idx 1 = 0 := by
    unfold ScatterDims.start
    rw [dif_neg (by decide)]
  rw [ix2_eq_valueIdx, Routing.resultIdx?_ix2, hs0, hs1, hw, hw]
  omega

/-- The padded taps hold the taps in their first three rows. -/
theorem padded (z : FVec Ideal S8x5632 .f32) (idx : IVec S1 32) (h0 : (idx (ix1 0)).toInt = 0) (T : Mat 3 5632) (r : Fin 3) (j : Fin 5632) :
    Host.scatter scatter_S8x5632_S1_S3x5632_01_n_0_0 (fun _ b => b) z idx T (ix2 ⟨r.val, by omega⟩ j) = T (ix2 r j) := by
  refine Routing.scatter_set_hit _ z idx T _ _ (fun k hk => ?_) (ix2 r j) ((lands idx h0 (ix2 r j) ⟨r.val, by omega⟩ j).2 ⟨rfl, rfl⟩)
  have h := (lands idx h0 k _ j).1 hk
  rw [eq_ix2 k]
  exact congrArg₂ (fun a b => T (ix2 a b)) (Fin.ext h.1) (Fin.ext h.2)

/-! Where each window stands. -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel

/-! The arguments' arrays. -/

abbrev aX : Mat 16384 1024 := m ((c.tc : Thread nD τ).loc main_arg0)
abbrev aW : Mat 1024 5632 := m ((c.tc : Thread nD τ).loc main_arg1)
abbrev aT : Mat 3 5632 := m ((c.tc : Thread nD τ).loc main_arg2)
abbrev aB : Row 5632 := m ((c.tc : Thread nD τ).loc main_arg3)
abbrev aV : Mat 2816 1024 := m ((c.tc : Thread nD τ).loc main_arg4)
abbrev aG : Row 1024 := m ((c.tc : Thread nD τ).loc main_arg5)
abbrev aH : Row 1024 := m ((c.tc : Thread nD τ).loc main_arg6)

/-! What each window is cut from. -/

theorem entry0 (u : S16384x1024.Idx) {i : ℕ} (k : Fin 1024) (hi : (u 0).val = i) (hk : (u 1).val = k.val) : V m c main_arg0 u = row (aX m c) i k := by
  obtain ⟨a, b, rfl⟩ : ∃ (a : Fin 16384) (b : Fin 1024), u = ix2 a b := ⟨u 0, u 1, eq_ix2 u⟩
  obtain rfl : b = k := Fin.ext hk
  refine Eq.trans ?_ ((row_eq (aX m c) a b).trans (congrArg (fun n => row (aX m c) n b) hi))
  entry_read
  rfl

theorem entry1 (u : S1024x5632.Idx) (k : Fin 1024) (j : Fin 5632) (hk : (u 0).val = k.val) (hj : (u 1).val = j.val) : V m c main_v4 u = aW m c (ix2 k j) := by
  obtain ⟨a, b, rfl⟩ : ∃ (a : Fin 1024) (b : Fin 5632), u = ix2 a b := ⟨u 0, u 1, eq_ix2 u⟩
  obtain rfl : a = k := Fin.ext hk
  obtain rfl : b = j := Fin.ext hj
  entry_read
  pointwise

theorem entry2 (u : S8x5632.Idx) (r : Fin 3) (j : Fin 5632) (hr : (u 0).val = r.val) (hj : (u 1).val = j.val) : V m c main_v2 u = aT m c (ix2 r j) := by
  obtain ⟨a, b, rfl⟩ : ∃ (a : Fin 8) (b : Fin 5632), u = ix2 a b := ⟨u 0, u 1, eq_ix2 u⟩
  have ha : a = ⟨r.val, by omega⟩ := Fin.ext hr
  rw [ha]
  obtain rfl : b = j := Fin.ext hj
  entry_read
  exact padded _ _ (by pointwise; rfl) _ r b

theorem entry3 (u : S1x5632.Idx) (j : Fin 5632) (hj : (u 1).val = j.val) : V m c main_v3 u = aB m c (ix1 j) := by
  obtain ⟨a, b, rfl⟩ : ∃ (a : Fin 1) (b : Fin 5632), u = ix2 a b := ⟨u 0, u 1, eq_ix2 u⟩
  obtain rfl : b = j := Fin.ext hj
  entry_read
  pointwise

theorem entry4 (u : S2816x1024.Idx) (k : Fin 2816) (j : Fin 1024) (hk : (u 0).val = k.val) (hj : (u 1).val = j.val) : V m c main_v5 u = aV m c (ix2 k j) := by
  obtain ⟨a, b, rfl⟩ : ∃ (a : Fin 2816) (b : Fin 1024), u = ix2 a b := ⟨u 0, u 1, eq_ix2 u⟩
  obtain rfl : a = k := Fin.ext hk
  obtain rfl : b = j := Fin.ext hj
  entry_read
  pointwise

theorem entry5 (u : S1x1024.Idx) (j : Fin 1024) (hj : (u 1).val = j.val) : V m c main_v6 u = aG m c (ix1 j) := by
  obtain ⟨a, b, rfl⟩ : ∃ (a : Fin 1) (b : Fin 1024), u = ix2 a b := ⟨u 0, u 1, eq_ix2 u⟩
  obtain rfl : b = j := Fin.ext hj
  entry_read
  pointwise

theorem entry6 (u : S1x1024.Idx) (j : Fin 1024) (hj : (u 1).val = j.val) : V m c main_v7 u = aH m c (ix1 j) := by
  obtain ⟨a, b, rfl⟩ : ∃ (a : Fin 1) (b : Fin 1024), u = ix2 a b := ⟨u 0, u 1, eq_ix2 u⟩
  obtain rfl : b = j := Fin.ext hj
  entry_read
  pointwise

/-! And so each block. -/

theorem block0 (t : Fin cfg0.N) (a : Fin 512) (k : Fin 1024) : iblk m c 0 t (ix2 a k) = row (aX m c) (512 * t.val + a.val) k := by
  refine entry0 m c _ k ?_ ?_ <;> blk_simp [idx0] <;> omega

theorem block1 (t : Fin cfg0.N) (k : Fin 1024) (j : Fin 5632) : iblk m c 1 t (ix2 k j) = aW m c (ix2 k j) := by
  refine entry1 m c _ k j ?_ ?_ <;> blk_simp [idx1]

theorem block2 (t : Fin cfg0.N) (r : Fin 3) (j : Fin 5632) : iblk m c 2 t (ix2 (⟨r.val, by omega⟩ : Fin 8) j) = aT m c (ix2 r j) := by
  refine entry2 m c _ r j ?_ ?_ <;> blk_simp [idx2]

theorem block3 (t : Fin cfg0.N) (j : Fin 5632) : iblk m c 3 t (ix2 (0 : Fin 1) j) = aB m c (ix1 j) := by
  refine entry3 m c _ j ?_ <;> blk_simp [idx3]

theorem block4 (t : Fin cfg0.N) (k : Fin 2816) (j : Fin 1024) : iblk m c 4 t (ix2 k j) = aV m c (ix2 k j) := by
  refine entry4 m c _ k j ?_ ?_ <;> blk_simp [idx4]

theorem block5 (t : Fin cfg0.N) (j : Fin 1024) : iblk m c 5 t (ix2 (0 : Fin 1) j) = aG m c (ix1 j) := by
  refine entry5 m c _ j ?_ <;> blk_simp [idx5]

theorem block6 (t : Fin cfg0.N) (j : Fin 1024) : iblk m c 6 t (ix2 (0 : Fin 1) j) = aH m c (ix1 j) := by
  refine entry6 m c _ j ?_ <;> blk_simp [idx6]

/-- The last eight rows of tile `t` going up. -/
theorem tail_win (t : Fin cfg0.N) (r : Fin 8) (j : Fin 5632) :
    tail (iblk m c 0 t) (iblk m c 1 t) r j = up (aX m c) (aW m c) (512 * t.val + 504 + r.val) j := by
  unfold tail up
  refine Finset.sum_congr rfl fun k _ => ?_
  rw [block0, block1]
  exact congrArg (fun i => row (aX m c) i k * _) (show 512 * t.val + (504 + r.val) = _ by omega)

/-- What a point writes of the first result. -/
theorem out_win (t : Fin cfg0.N) (a : Fin 512) (k : Fin 1024) : (outsAt0 m c t.val t.isLt).1 (ix2 a k)
    = result (aX m c) (aW m c) (aT m c) (aB m c) (aV m c) (aG m c) (aH m c) (512 * t.val + a.val) k := by
  have ht : t.val < 32 := t.isLt
  by_cases h0 : t.val % 32 = 0
  · rw [first_out m c t h0]
    refine tile_apply (block0 m c t) (block1 m c t) (block2 m c t) (block3 m c t) (block4 m c t) (block5 m c t) (block6 m c t) (fun r j => ?_) a k
    rw [if_pos (by omega)]
    pointwise [k0_pay3]
  · rw [next_out m c t h0]
    refine tile_apply (block0 m c t) (block1 m c t) (block2 m c t) (block3 m c t) (block4 m c t) (block5 m c t) (block6 m c t) (fun r j => ?_) a k
    rw [if_neg (by omega)]
    refine (carry m c ⟨t.val - 1, Nat.lt_of_le_of_lt (Nat.sub_le _ _) t.isLt⟩ r j).trans ((tail_win m c _ r j).trans ?_)
    exact congrArg (up (aX m c) (aW m c) · j) (show 512 * (t.val - 1) + 504 + r.val = 512 * t.val + r.val - 8 by omega)

/-- The first result's array. -/
theorem arr7 : (dats m 0 c).arrAt 7 cfg0.N
    = fun i => result (aX m c) (aW m c) (aT m c) (aB m c) (aV m c) (aG m c) (aH m c) (i 0).val (i 1) := by
  refine (dats m 0 c).arrAt_eq_of_covers 7 _ (by decide +kernel) fun t hf y => ?_
  obtain ⟨a, k, rfl⟩ : ∃ (a : Fin 512) (k : Fin 1024), y = ix2 a k := ⟨y 0, y 1, eq_ix2 y⟩
  blk_simp [idx7]
  rw [after0_7]
  refine (out_win m c t a k).trans ?_
  congr 1 <;> first | omega | (apply Fin.ext; blk_simp [idx7])

/-- The second result's array. -/
theorem arr8 : (dats m 0 c).arrAt 8 cfg0.N
    = fun i => up (aX m c) (aW m c) (512 * ((i 0).val / 8) + 504 + (i 0).val % 8) (i 1) := by
  refine (dats m 0 c).arrAt_eq_of_covers 8 _ (by decide +kernel) fun t hf y => ?_
  obtain ⟨r, j, rfl⟩ : ∃ (r : Fin 8) (j : Fin 5632), y = ix2 r j := ⟨y 0, y 1, eq_ix2 y⟩
  blk_simp [idx8]
  rw [after0_8]
  refine (hist m c t r j).trans ((tail_win m c t r j).trans ?_)
  congr 1 <;> first | omega | (apply Fin.ext; blk_simp [idx8])

end Cert.FfnIdeal.Array

end
-- ==== Proof.Ffn.Ref.lean ====
/-
  The reference's two results, read at an index, are the formulas of the specification.
-/
module

public import proofs.«01_k».proof.Proof.Gen.FfnRefIdeal.Run
public import proofs.«01_k».proof.Proof.Ffn.Spec

@[expose] public section

set_option maxRecDepth 16384

noncomputable section

namespace Cert.FfnRefIdeal.Read

open Cert.FfnRefIdeal Cert.FfnRefIdeal.Gen Cert.FfnRefIdeal.Value Cert.FfnSpec
open Idealize.ShloMosaic Idealize.ShloMosaic.TcCoe Idealize.SL.Sem

variable (m : (ℓ : Loc nD τ sig) → Buf (Elt Ideal) ℓ) (c : Dev nD)

/-- The normalised rows. -/
theorem out_apply (i : Fin 16384) (k : Fin 1024) : res_out0 m c (ix2 i k : S16384x1024.Idx)
    = result (m (c.tc.loc main_arg0)) (m (c.tc.loc main_arg1)) (m (c.tc.loc main_arg2)) (m (c.tc.loc main_arg3))
        (m (c.tc.loc main_arg4)) (m (c.tc.loc main_arg5)) (m (c.tc.loc main_arg6)) i k := by
  have e1 : (1 + i.val < 2) = (i.val < 1) := propext (by omega)
  have e2 : 1 + i.val - 2 = i.val - 1 := by omega
  have hx := row_eq (m (c.tc.loc main_arg0))
  pointwise [res_main_v60]
  simp only [hx, dite_eq_ite, e1, e2]
  rfl

/-- A row going up, as the sum it is. -/
theorem up_eq (X : Mat 16384 1024) (W : Mat 1024 5632) (i : Fin 16384) (j : Fin 5632) {n : ℕ} (h : i.val = n) :
    ∑ k, X (ix2 i k) * W (ix2 k j) = up X W n j := by
  subst h
  exact Finset.sum_congr rfl fun k _ => by rw [row_eq X i k]

/-- What the reference leaves: the normalised rows, and from row 254 of its second result on the last two rows going up; the arguments stay. -/
theorem run_rows (g : Dev nD → PrngReg) :
    θ_run defs (onTc (τ := τ) (main (F := Ideal))) ⟨m, fun _ => 0, g⟩ fun r => ∀ c : Dev nD,
      r.2.mem ((c.tc : Thread nD τ).loc main_v60) = res_out0 m c
      ∧ (∀ (i : Fin 256) (j : Fin 5632), 254 ≤ i.val → r.2.mem ((c.tc : Thread nD τ).loc main_v33) (ix2 i j : S256x5632.Idx)
          = up (m (c.tc.loc main_arg0)) (m (c.tc.loc main_arg1)) (16128 + i.val) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.FfnRefIdeal.Value.run m g)
  obtain ⟨h0, h1, hrest⟩ := h c
  refine ⟨h0, fun i j hi => (congrFun h1 _).trans ?_, hrest⟩
  pointwise
  rw [dif_neg (by omega), dif_neg (by omega)]
  exact up_eq _ _ _ j (show 16384 + (i.val - 254) - 2 = 16128 + i.val by omega)

end Cert.FfnRefIdeal.Read

end
-- ==== Proof.Ffn.Claim.lean ====
/-
  The feed-forward block's value claim: the kernel and the reference leave the same rows, and the same last two rows going up.
-/
module

public import proofs.«01_k».proof.Defs
public import proofs.«01_k».proof.Proof.Ffn.Array
public import proofs.«01_k».proof.Proof.Ffn.Ref

@[expose] public section

noncomputable section

namespace Cert.FfnClaim

open Idealize.ShloMosaic Idealize.ShloMosaic.TcCoe Idealize.SL.Sem Cert.FfnSpec

/-- The mask's shapes broadcast. -/
theorem maskFacts : Cert.On_last_rows.Facts := ⟨by decide, by decide⟩

/-- The rows from the 254th on are the ones whose number is at least 254 as a word. -/
theorem from254 : ∀ i : Fin 256, IntOp.cmpi .sge (BitVec.ofNat 32 i.val) 254#32 = 1#1 → 254 ≤ i.val := by decide

/-- The mask of the second result keeps its last two rows. -/
theorem kept (x : FVec Ideal ⟨2, ![16384, 1024]⟩ .f32) (w : FVec Ideal ⟨2, ![1024, 5632]⟩ .f32) (t : FVec Ideal ⟨2, ![3, 5632]⟩ .f32) (b : FVec Ideal ⟨1, ![5632]⟩ .f32)
    (v : FVec Ideal ⟨2, ![2816, 1024]⟩ .f32) (g h : FVec Ideal ⟨1, ![1024]⟩ .f32) (i : Fin 256) (j : Fin 5632)
    (hi : (@Cert.On_last_rows.fn maskFacts Ideal _ x w t b v g h).2 (ix2 i j) = 1#1) : 254 ≤ i.val := by
  unfold Cert.On_last_rows.fn at hi
  pointwise at hi
  exact from254 i hi

/-- The two programs agree, from the same arrays. -/
theorem algebraic : Cert.algebraic_FfnIdeal_FfnRefIdeal_on_last_rows (hFfnIdeal := Cert.FfnIdeal.Gen.facts) (hFfnRefIdeal := Cert.FfnRefIdeal.Gen.facts)
    (hOn_last_rows := maskFacts) := by
  intro m g m' g' hpre hagree
  refine ⟨fun c => (Cert.FfnIdeal.Gen.dats m 0 c).arrAt 7 Cert.FfnIdeal.cfg0.N,
    fun c => (Cert.FfnIdeal.Gen.dats m 0 c).arrAt 8 Cert.FfnIdeal.cfg0.N, ?_, ?_⟩
  · exact (θ_run _ _ _).mono (fun r h c => ⟨fun i _ => congrFun (h c).1 i, fun i _ => congrFun (h c).2.1 i, (h c).2.2⟩) (Cert.FfnIdeal.Value.run_blocks m g)
  · refine (θ_run _ _ _).mono (fun r h c => ?_) (Cert.FfnRefIdeal.Read.run_rows m' g')
    obtain ⟨h0, h1, h2⟩ := h c
    obtain ⟨e0, e1, e2, e3, e4, e5, e6⟩ := hagree c
    refine ⟨fun i _ => (congrFun h0 i).trans ?_, fun i hi => ?_, h2⟩
    · dsimp only
      rw [Cert.FfnIdeal.Array.arr7, eq_ix2 i]
      refine (Cert.FfnRefIdeal.Read.out_apply m' c (i 0) (i 1)).trans ?_
      rw [e0, e1, e2, e3, e4, e5, e6]
      rfl
    · dsimp only
      rw [Cert.FfnIdeal.Array.arr8]
      rw [eq_ix2 i] at hi ⊢
      have hk := kept (m (c.tc.loc Cert.FfnIdeal.main_arg0)) (m (c.tc.loc Cert.FfnIdeal.main_arg1)) (m (c.tc.loc Cert.FfnIdeal.main_arg2))
        (m (c.tc.loc Cert.FfnIdeal.main_arg3)) (m (c.tc.loc Cert.FfnIdeal.main_arg4)) (m (c.tc.loc Cert.FfnIdeal.main_arg5))
        (m (c.tc.loc Cert.FfnIdeal.main_arg6)) (i 0) (i 1) hi
      refine (h1 (i 0) (i 1) hk).trans ?_
      rw [e0, e1]
      have hlt : (i 0).val < 256 := (i 0).isLt
      exact congrArg (fun n => up _ _ n (i 1)) (show 16128 + (i 0).val = 512 * ((i 0).val / 8) + 504 + (i 0).val % 8 by omega)

end Cert.FfnClaim

end
-- ==== Proof.Step.Spec.lean ====
/-
  One step of the feed-forward block for 32 sequences at once, in plain formulas: the convolution's two earlier rows are
  the kept ones of each sequence.
-/
module

public import proofs.«01_k».proof.Proof.Ffn.Spec

@[expose] public section

noncomputable section

namespace Cert.StepSpec

open Idealize.ShloMosaic Cert.FfnSpec

/-- Two kept rows for each sequence. -/
abbrev Kept := (⟨3, ![32, 2, 5632]⟩ : Shape).Idx → EReal

variable (X : Mat 32 1024) (P : Kept) (W : Mat 1024 5632) (T : Mat 3 5632) (B : Row 5632) (V : Mat 2816 1024) (G H : Row 1024)

/-- Sequence `i`'s new row, taken up to column `j`. -/
def lift (i : Fin 32) (j : Fin 5632) : EReal := ∑ k, X (ix2 i k) * W (ix2 k j)

/-- The convolution along column `j`: the kept rows, then the new one. -/
def mix (i : Fin 32) (j : Fin 5632) : EReal :=
  taps (T (ix2 0 j)) (T (ix2 1 j)) (T (ix2 2 j)) (B (ix1 j)) (P (ix3 i 0 j)) (P (ix3 i 1 j)) (lift X W i j)

/-- The new row before the normalisation. -/
def before (i : Fin 32) (k : Fin 1024) : EReal :=
  mixed (X (ix2 i k)) (fun e => gated (mix X P W T B i (left e)) (mix X P W T B i (right e))) fun e => V (ix2 e k)

/-- The step's result. -/
def stepped (i : Fin 32) (k : Fin 1024) : EReal := normed (before X P W T B V i) (G (ix1 k)) (H (ix1 k)) k

end Cert.StepSpec

end
-- ==== Proof.Step.Tile.lean ====
/-
  What the step's kernel leaves, at an index, in the entries of its blocks.
-/
module

public import proofs.«01_k».proof.Proof.Gen.StepIdeal.Value
public import proofs.«01_k».proof.Proof.Step.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.StepIdeal.Tile

open Cert.StepIdeal Cert.StepIdeal.Gen Cert.FfnSpec Cert.StepSpec
open Idealize.ShloMosaic Idealize.ShloMosaic.TcCoe Idealize.SL.Sem

/-- The kept rows as the kernel holds them: by age, by half, by sequence. -/
abbrev Stack := (⟨4, ![2, 2, 32, 2816]⟩ : Shape).Idx → EReal

/-- One of the four: age `0` or `1`, half `0` or `1`. -/
def old0 (h : FVec Ideal S2x2x32x2816 .f32) : FVec Ideal S1x1x32x2816 .f32 := View.ld (Val := Elt Ideal) (e' := .f32) (S := S2x2x32x2816) h (Rect.unit ![0, 0, 0, 0] ![1, 1, 32, 2816] inb_S2x2x32x2816_S1x1x32x2816_0_0_0_0)
def new0 (h : FVec Ideal S2x2x32x2816 .f32) : FVec Ideal S1x1x32x2816 .f32 := View.ld (Val := Elt Ideal) (e' := .f32) (S := S2x2x32x2816) h (Rect.unit ![1, 0, 0, 0] ![1, 1, 32, 2816] inb_S2x2x32x2816_S1x1x32x2816_1_0_0_0)
def old1 (h : FVec Ideal S2x2x32x2816 .f32) : FVec Ideal S1x1x32x2816 .f32 := View.ld (Val := Elt Ideal) (e' := .f32) (S := S2x2x32x2816) h (Rect.unit ![0, 1, 0, 0] ![1, 1, 32, 2816] inb_S2x2x32x2816_S1x1x32x2816_0_1_0_0)
def new1 (h : FVec Ideal S2x2x32x2816 .f32) : FVec Ideal S1x1x32x2816 .f32 := View.ld (Val := Elt Ideal) (e' := .f32) (S := S2x2x32x2816) h (Rect.unit ![1, 1, 0, 0] ![1, 1, 32, 2816] inb_S2x2x32x2816_S1x1x32x2816_1_1_0_0)

theorem old0_apply (h : Stack) (a : Fin 32) (e : Fin 2816) : old0 h (ix4 0 0 a e) = h (ix4 0 0 a e) := by
  pointwise [old0]
theorem new0_apply (h : Stack) (a : Fin 32) (e : Fin 2816) : new0 h (ix4 0 0 a e) = h (ix4 1 0 a e) := by
  pointwise [new0]
theorem old1_apply (h : Stack) (a : Fin 32) (e : Fin 2816) : old1 h (ix4 0 0 a e) = h (ix4 0 1 a e) := by
  pointwise [old1]
theorem new1_apply (h : Stack) (a : Fin 32) (e : Fin 2816) : new1 h (ix4 0 0 a e) = h (ix4 1 1 a e) := by
  pointwise [new1]

/-- The rows coming down. -/
theorem down_apply (x : Mat 32 1024) (wa wg : Mat 1024 2816) (ta tg : Mat 8 2816) (ba bg : Mat 1 2816) (v : Mat 2816 1024)
    (p0 p1 q0 q1 : (⟨4, ![1, 1, 32, 2816]⟩ : Shape).Idx → EReal) (a : Fin 32) (k : Fin 1024) :
    k0_pay8 (F := Ideal) (k0_pay3 x wg) (k0_pay4 tg) (k0_pay5 x wa ta p0 p1) (k0_pay6 ba) q0 q1 bg v (ix2 a k)
      = ∑ e, gated (taps (ta (ix2 0 e)) (ta (ix2 1 e)) (ta (ix2 2 e)) (ba (ix2 0 e)) (p0 (ix4 0 0 a e)) (p1 (ix4 0 0 a e)) (∑ k, x (ix2 a k) * wa (ix2 k e)))
          (taps (tg (ix2 0 e)) (tg (ix2 1 e)) (tg (ix2 2 e)) (bg (ix2 0 e)) (q0 (ix4 0 0 a e)) (q1 (ix4 0 0 a e)) (∑ k, x (ix2 a k) * wg (ix2 k e))) * v (ix2 e k) := by
  pointwise [k0_pay8, k0_pay7, k0_pay6, k0_pay5, k0_pay4, k0_pay3, k0_pay2, k0_pay1]
  rfl

/-- The normalisation. -/
theorem norm_apply (x s : Mat 32 1024) (g h : Mat 1 1024) (a : Fin 32) (k : Fin 1024) :
    k0_pay10 (F := Ideal) x s g h (ix2 a k)
      = normed (fun j => Ideal.ofBits FTy.f32 0x3FB504F3#32 * x (ix2 a j) + s (ix2 a j)) (g (ix2 0 k)) (h (ix2 0 k)) k := by
  pointwise [k0_pay10]
  rfl

variable (m : (ℓ : Loc nD τ sig) → Buf (Elt Ideal) ℓ) (c : Dev nD)

/-- The first result's block: the normalised rows, the sum coming down read back where it was stored. -/
theorem out (t : Fin cfg0.N) : (outsAt0 m c t).1
    = k0_pay10 (iblk m c 0 t) (k0_pay8 (k0_pay3 (iblk m c 0 t) (iblk m c 3 t)) (k0_pay4 (iblk m c 5 t))
        (k0_pay5 (iblk m c 0 t) (iblk m c 2 t) (iblk m c 4 t) (old0 (iblk m c 1 t)) (new0 (iblk m c 1 t))) (k0_pay6 (iblk m c 6 t))
        (old1 (iblk m c 1 t)) (new1 (iblk m c 1 t)) (iblk m c 7 t) (iblk m c 8 t)) (iblk m c 9 t) (iblk m c 10 t) := by
  unfold outsAt0
  dsimp only
  frame_open
  simp (disch := decide) only [↓ View.readCov_skip, ↓ View.readCov_cons_toLoadRect, ↓ View.readCov_fill]
  frame_out
  rfl

/-- The second's and the third's: a half of the columns going up. -/
theorem out_a (t : Fin cfg0.N) : (outsAt0 m c t).2.1 = k0_pay2 (iblk m c 0 t) (iblk m c 2 t) := by
  unfold outsAt0
  dsimp only
  frame_out
theorem out_g (t : Fin cfg0.N) : (outsAt0 m c t).2.2 = k0_pay3 (iblk m c 0 t) (iblk m c 3 t) := by
  unfold outsAt0
  dsimp only
  frame_out

/-- A half going up. -/
theorem up_a (x : Mat 32 1024) (w : Mat 1024 2816) (a : Fin 32) (e : Fin 2816) : k0_pay2 (F := Ideal) x w (ix2 a e) = ∑ k, x (ix2 a k) * w (ix2 k e) := by
  pointwise [k0_pay2, k0_pay1]
theorem up_g (x : Mat 32 1024) (w : Mat 1024 2816) (a : Fin 32) (e : Fin 2816) : k0_pay3 (F := Ideal) x w (ix2 a e) = ∑ k, x (ix2 a k) * w (ix2 k e) := by
  pointwise [k0_pay3, k0_pay1]

end Cert.StepIdeal.Tile

end
-- ==== Proof.Step.Array.lean ====
/-
  The step's three arrays: the blocks of its windows in the entries of the arguments, and what the one grid point leaves.
-/
module

public import proofs.«01_k».proof.Proof.Step.Tile
public import Idealize.ShloMosaic.Lib.Routing.OpsSet

@[expose] public section

set_option maxRecDepth 16384

noncomputable section

namespace Cert.StepIdeal.Array

open Cert.StepIdeal Cert.StepIdeal.Gen Cert.FfnSpec Cert.StepSpec Cert.StepIdeal.Tile
open Idealize.ShloMosaic Idealize.ShloMosaic.TcCoe Idealize.SL.Sem

variable (m : (ℓ : Loc nD τ sig) → Buf (Elt Ideal) ℓ) (c : Dev nD)

/-! The taps, padded to eight rows: the update of the padding lands on the first three. -/

/-- Update `k` lands at `(r, j)` when the rows and the columns agree. -/
theorem lands (idx : IVec S1 32) (h0 : (idx (ix1 0)).toInt = 0) (k : S3x5632.Idx) (r : Fin 8) (j : Fin 5632) :
    scatter_S8x5632_S1_S3x5632_01_n_0_0.resultIdx? k idx = some (ix2 r j) ↔ (k 0).val = r.val ∧ (k 1).val = j.val := by
  have hw : ∀ b, scatter_S8x5632_S1_S3x5632_01_n_0_0.window k b = (k b).val := fun b => by
    unfold ScatterDims.window
    fin_cases b <;> rfl
  have hs0 : scatter_S8x5632_S1_S3x5632_01_n_0_0.start k idx 0 = 0 := by
    unfold ScatterDims.start
    rw [dif_pos (by decide)]
    refine (congrArg (fun q => (idx q).toInt) ?_).trans h0
    funext b
    fin_cases b
    exact Subsingleton.elim (α := Fin 1) _ _
  have hs1 : scatter_S8x5632_S1_S3x5632_01_n_0_0.start k idx 1 = 0 := by
    unfold ScatterDims.start
    rw [dif_neg (by decide)]
  rw [ix2_eq_valueIdx, Routing.resultIdx?_ix2, hs0, hs1, hw, hw]
  omega

/-- The padded taps hold the taps in their first three rows. -/
theorem padded (z : FVec Ideal S8x5632 .f32) (idx : IVec S1 32) (h0 : (idx (ix1 0)).toInt = 0) (T : Mat 3 5632) (r : Fin 3) (j : Fin 5632) :
    Host.scatter scatter_S8x5632_S1_S3x5632_01_n_0_0 (fun _ b => b) z idx T (ix2 ⟨r.val, by omega⟩ j) = T (ix2 r j) := by
  refine Routing.scatter_set_hit _ z idx T _ _ (fun k hk => ?_) (ix2 r j) ((lands idx h0 (ix2 r j) ⟨r.val, by omega⟩ j).2 ⟨rfl, rfl⟩)
  have h := (lands idx h0 k _ j).1 hk
  rw [eq_ix2 k]
  exact congrArg₂ (fun a b => T (ix2 a b)) (Fin.ext h.1) (Fin.ext h.2)

/-! Where each window stands. -/

theorem idx0 : ∀ t : Fin cfg0.N, win0_0.index t = ![0, 0] := by decide +kernel
theorem idx1 : ∀ t : Fin cfg0.N, win0_1.index t = ![0, 0, 0, 0] := by decide +kernel
theorem idx2 : ∀ t : Fin cfg0.N, win0_2.index t = ![0, 0] := by decide +kernel
theorem idx3 : ∀ t : Fin cfg0.N, win0_3.index t = ![0, 1] := by decide +kernel
theorem idx4 : ∀ t : Fin cfg0.N, win0_4.index t = ![0, 0] := by decide +kernel
theorem idx5 : ∀ t : Fin cfg0.N, win0_5.index t = ![0, 1] := by decide +kernel
theorem idx6 : ∀ t : Fin cfg0.N, win0_6.index t = ![0, 0] := by decide +kernel
theorem idx7 : ∀ t : Fin cfg0.N, win0_7.index t = ![0, 1] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel

/-! The arguments' arrays. -/

abbrev aX : Mat 32 1024 := m ((c.tc : Thread nD τ).loc main_arg0)
abbrev aP : Kept := m ((c.tc : Thread nD τ).loc main_arg1)
abbrev aW : Mat 1024 5632 := m ((c.tc : Thread nD τ).loc main_arg2)
abbrev aT : Mat 3 5632 := m ((c.tc : Thread nD τ).loc main_arg3)
abbrev aB : Row 5632 := m ((c.tc : Thread nD τ).loc main_arg4)
abbrev aV : Mat 2816 1024 := m ((c.tc : Thread nD τ).loc main_arg5)
abbrev aG : Row 1024 := m ((c.tc : Thread nD τ).loc main_arg6)
abbrev aH : Row 1024 := m ((c.tc : Thread nD τ).loc main_arg7)

/-! What each window is cut from. -/

theorem entry_x (u : S32x1024.Idx) (a : Fin 32) (k : Fin 1024) (ha : (u 0).val = a.val) (hk : (u 1).val = k.val) : V m c main_arg0 u = aX m c (ix2 a k) := by
  obtain ⟨p, q, rfl⟩ : ∃ (p : Fin 32) (q : Fin 1024), u = ix2 p q := ⟨u 0, u 1, eq_ix2 u⟩
  obtain rfl : p = a := Fin.ext ha
  obtain rfl : q = k := Fin.ext hk
  entry_read
  rfl

/-- The kept rows, taken apart by age and half. -/
theorem apart (P : Kept) (q : Fin 2) (a : Fin 32) (e : Fin 2816) :
    transpose S2x2x32x2816 [0, 2, 1, 3] (shapeCast S2x32x2x2816 (transpose S2x32x5632 [1, 0, 2] (P : FVec Ideal S32x2x5632 .f32) transposes_S32x2x5632_S2x32x5632_1_0_2)
        shapeCasts_S2x32x5632_S2x32x2x2816) transposes_S2x32x2x2816_S2x2x32x2816_0_2_1_3 (ix4 q 0 a e) = P (ix3 a q (left e))
    ∧ transpose S2x2x32x2816 [0, 2, 1, 3] (shapeCast S2x32x2x2816 (transpose S2x32x5632 [1, 0, 2] (P : FVec Ideal S32x2x5632 .f32) transposes_S32x2x5632_S2x32x5632_1_0_2)
        shapeCasts_S2x32x5632_S2x32x2x2816) transposes_S2x32x2x2816_S2x2x32x2816_0_2_1_3 (ix4 q 1 a e) = P (ix3 a q (right e)) := by
  constructor
  · pointwise
    rfl
  · pointwise
    rfl

theorem entry_left (u : S2x2x32x2816.Idx) (q : Fin 2) (a : Fin 32) (e : Fin 2816) (hq : (u 0).val = q.val) (h0 : (u 1).val = 0) (ha : (u 2).val = a.val)
    (he : (u 3).val = e.val) : V m c main_v7 u = aP m c (ix3 a q (left e)) := by
  obtain ⟨w, x, y, z, rfl⟩ : ∃ (w x : Fin 2) (y : Fin 32) (z : Fin 2816), u = ix4 w x y z := ⟨u 0, u 1, u 2, u 3, eq_ix4 u⟩
  obtain rfl : w = q := Fin.ext hq
  obtain rfl : x = 0 := Fin.ext h0
  obtain rfl : y = a := Fin.ext ha
  obtain rfl : z = e := Fin.ext he
  entry_read
  exact (apart _ w y z).1

theorem entry_right (u : S2x2x32x2816.Idx) (q : Fin 2) (a : Fin 32) (e : Fin 2816) (hq : (u 0).val = q.val) (h0 : (u 1).val = 1) (ha : (u 2).val = a.val)
    (he : (u 3).val = e.val) : V m c main_v7 u = aP m c (ix3 a q (right e)) := by
  obtain ⟨w, x, y, z, rfl⟩ : ∃ (w x : Fin 2) (y : Fin 32) (z : Fin 2816), u = ix4 w x y z := ⟨u 0, u 1, u 2, u 3, eq_ix4 u⟩
  obtain rfl : w = q := Fin.ext hq
  obtain rfl : x = 1 := Fin.ext h0
  obtain rfl : y = a := Fin.ext ha
  obtain rfl : z = e := Fin.ext he
  entry_read
  exact (apart _ w y z).2

theorem entry_w (u : S1024x5632.Idx) (k : Fin 1024) (j : Fin 5632) (hk : (u 0).val = k.val) (hj : (u 1).val = j.val) : V m c main_v0 u = aW m c (ix2 k j) := by
  obtain ⟨a, b, rfl⟩ : ∃ (a : Fin 1024) (b : Fin 5632), u = ix2 a b := ⟨u 0, u 1, eq_ix2 u⟩
  obtain rfl : a = k := Fin.ext hk
  obtain rfl : b = j := Fin.ext hj
  entry_read
  pointwise

theorem entry_t (u : S8x5632.Idx) (r : Fin 3) (j : Fin 5632) (hr : (u 0).val = r.val) (hj : (u 1).val = j.val) : V m c main_v3 u = aT m c (ix2 r j) := by
  obtain ⟨a, b, rfl⟩ : ∃ (a : Fin 8) (b : Fin 5632), u = ix2 a b := ⟨u 0, u 1, eq_ix2 u⟩
  have ha : a = ⟨r.val, by omega⟩ := Fin.ext hr
  rw [ha]
  obtain rfl : b = j := Fin.ext hj
  entry_read
  exact padded _ _ (by pointwise; rfl) _ r b

theorem entry_b (u : S1x5632.Idx) (j : Fin 5632) (hj : (u 1).val = j.val) : V m c main_v4 u = aB m c (ix1 j) := by
  obtain ⟨a, b, rfl⟩ : ∃ (a : Fin 1) (b : Fin 5632), u = ix2 a b := ⟨u 0, u 1, eq_ix2 u⟩
  obtain rfl : b = j := Fin.ext hj
  entry_read
  pointwise

theorem entry_v (u : S2816x1024.Idx) (k : Fin 2816) (j : Fin 1024) (hk : (u 0).val = k.val) (hj : (u 1).val = j.val) : V m c main_v8 u = aV m c (ix2 k j) := by
  obtain ⟨a, b, rfl⟩ : ∃ (a : Fin 2816) (b : Fin 1024), u = ix2 a b := ⟨u 0, u 1, eq_ix2 u⟩
  obtain rfl : a = k := Fin.ext hk
  obtain rfl : b = j := Fin.ext hj
  entry_read
  pointwise

theorem entry_g (u : S1x1024.Idx) (j : Fin 1024) (hj : (u 1).val = j.val) : V m c main_v9 u = aG m c (ix1 j) := by
  obtain ⟨a, b, rfl⟩ : ∃ (a : Fin 1) (b : Fin 1024), u = ix2 a b := ⟨u 0, u 1, eq_ix2 u⟩
  obtain rfl : b = j := Fin.ext hj
  entry_read
  pointwise

theorem entry_h (u : S1x1024.Idx) (j : Fin 1024) (hj : (u 1).val = j.val) : V m c main_v10 u = aH m c (ix1 j) := by
  obtain ⟨a, b, rfl⟩ : ∃ (a : Fin 1) (b : Fin 1024), u = ix2 a b := ⟨u 0, u 1, eq_ix2 u⟩
  obtain rfl : b = j := Fin.ext hj
  entry_read
  pointwise

/-! And so each block. -/

theorem block0 (t : Fin cfg0.N) (a : Fin 32) (k : Fin 1024) : iblk m c 0 t (ix2 a k) = aX m c (ix2 a k) := by
  refine entry_x m c _ a k ?_ ?_ <;> blk_simp [idx0]
theorem block_left (t : Fin cfg0.N) (q : Fin 2) (a : Fin 32) (e : Fin 2816) : iblk m c 1 t (ix4 q (0 : Fin 2) a e) = aP m c (ix3 a q (left e)) := by
  refine entry_left m c _ q a e ?_ ?_ ?_ ?_ <;> blk_simp [idx1]
  rfl
theorem block_right (t : Fin cfg0.N) (q : Fin 2) (a : Fin 32) (e : Fin 2816) : iblk m c 1 t (ix4 q (1 : Fin 2) a e) = aP m c (ix3 a q (right e)) := by
  refine entry_right m c _ q a e ?_ ?_ ?_ ?_ <;> blk_simp [idx1]
  rfl
theorem block2 (t : Fin cfg0.N) (k : Fin 1024) (e : Fin 2816) : iblk m c 2 t (ix2 k e) = aW m c (ix2 k (left e)) := by
  refine entry_w m c _ k (left e) ?_ ?_ <;> blk_simp [idx2] <;> rfl
theorem block3 (t : Fin cfg0.N) (k : Fin 1024) (e : Fin 2816) : iblk m c 3 t (ix2 k e) = aW m c (ix2 k (right e)) := by
  refine entry_w m c _ k (right e) ?_ ?_ <;> blk_simp [idx3] <;> rfl
theorem block4 (t : Fin cfg0.N) (r : Fin 3) (e : Fin 2816) : iblk m c 4 t (ix2 (⟨r.val, by omega⟩ : Fin 8) e) = aT m c (ix2 r (left e)) := by
  refine entry_t m c _ r (left e) ?_ ?_ <;> blk_simp [idx4] <;> rfl
theorem block5 (t : Fin cfg0.N) (r : Fin 3) (e : Fin 2816) : iblk m c 5 t (ix2 (⟨r.val, by omega⟩ : Fin 8) e) = aT m c (ix2 r (right e)) := by
  refine entry_t m c _ r (right e) ?_ ?_ <;> blk_simp [idx5] <;> rfl
theorem block6 (t : Fin cfg0.N) (e : Fin 2816) : iblk m c 6 t (ix2 (0 : Fin 1) e) = aB m c (ix1 (left e)) := by
  refine entry_b m c _ (left e) ?_ <;> blk_simp [idx6] <;> rfl
theorem block7 (t : Fin cfg0.N) (e : Fin 2816) : iblk m c 7 t (ix2 (0 : Fin 1) e) = aB m c (ix1 (right e)) := by
  refine entry_b m c _ (right e) ?_ <;> blk_simp [idx7] <;> rfl
theorem block8 (t : Fin cfg0.N) (k : Fin 2816) (j : Fin 1024) : iblk m c 8 t (ix2 k j) = aV m c (ix2 k j) := by
  refine entry_v m c _ k j ?_ ?_ <;> blk_simp [idx8]
theorem block9 (t : Fin cfg0.N) (j : Fin 1024) : iblk m c 9 t (ix2 (0 : Fin 1) j) = aG m c (ix1 j) := by
  refine entry_g m c _ j ?_ <;> blk_simp [idx9]
theorem block10 (t : Fin cfg0.N) (j : Fin 1024) : iblk m c 10 t (ix2 (0 : Fin 1) j) = aH m c (ix1 j) := by
  refine entry_h m c _ j ?_ <;> blk_simp [idx10]

/-- The first result's block. -/
theorem out_win (t : Fin cfg0.N) (a : Fin 32) (k : Fin 1024) :
    (outsAt0 m c t).1 (ix2 a k) = stepped (aX m c) (aP m c) (aW m c) (aT m c) (aB m c) (aV m c) (aG m c) (aH m c) a k := by
  rw [out]
  refine (norm_apply _ _ _ _ a k).trans ?_
  have hd : ∀ j, _ = _ := fun j => down_apply (iblk m c 0 t) (iblk m c 2 t) (iblk m c 3 t) (iblk m c 4 t) (iblk m c 5 t) (iblk m c 6 t) (iblk m c 7 t)
    (iblk m c 8 t) (old0 (iblk m c 1 t)) (new0 (iblk m c 1 t)) (old1 (iblk m c 1 t)) (new1 (iblk m c 1 t)) a j
  rw [block9, block10]
  unfold stepped
  refine congrArg (fun r => normed r (aG m c (ix1 k)) (aH m c (ix1 k)) k) (funext fun j => ?_)
  rw [hd j, block0]
  unfold before mixed
  refine congrArg (fun z : EReal => Ideal.ofBits FTy.f32 0x3FB504F3#32 * aX m c (ix2 a j) + z) (Finset.sum_congr rfl fun e _ => ?_)
  have tl0 := block4 m c t 0 e
  have tl1 := block4 m c t 1 e
  have tl2 := block4 m c t 2 e
  have tr0 := block5 m c t 0 e
  have tr1 := block5 m c t 1 e
  have tr2 := block5 m c t 2 e
  simp only [block0, block2, block3, block6, block7, block8, old0_apply, new0_apply, old1_apply, new1_apply, block_left, block_right]
  unfold mix
  rw [← tl0, ← tl1, ← tl2, ← tr0, ← tr1, ← tr2]
  rfl

/-- The results' arrays. -/
theorem arr11 : (dats m 0 c).arrAt 11 cfg0.N
    = fun i => stepped (aX m c) (aP m c) (aW m c) (aT m c) (aB m c) (aV m c) (aG m c) (aH m c) (i 0) (i 1) := by
  refine (dats m 0 c).arrAt_eq_of_covers 11 _ (by decide +kernel) fun t hf y => ?_
  obtain ⟨a, k, rfl⟩ : ∃ (a : Fin 32) (k : Fin 1024), y = ix2 a k := ⟨y 0, y 1, eq_ix2 y⟩
  blk_simp [idx11]
  rw [after0_11]
  refine (out_win m c t a k).trans ?_
  refine congrArg₂ (stepped (aX m c) (aP m c) (aW m c) (aT m c) (aB m c) (aV m c) (aG m c) (aH m c)) (Fin.ext ?_) (Fin.ext ?_) <;> blk_simp [idx11]

theorem arr12 : (dats m 0 c).arrAt 12 cfg0.N = fun i => lift (aX m c) (aW m c) (i 0) (left (i 1)) := by
  refine (dats m 0 c).arrAt_eq_of_covers 12 _ (by decide +kernel) fun t hf y => ?_
  obtain ⟨a, e, rfl⟩ : ∃ (a : Fin 32) (e : Fin 2816), y = ix2 a e := ⟨y 0, y 1, eq_ix2 y⟩
  blk_simp [idx12]
  rw [after0_12, out_a]
  refine (up_a _ _ a e).trans ?_
  simp only [block0, block2]
  refine congrArg₂ (fun x y => lift (aX m c) (aW m c) x (left y)) (Fin.ext ?_) (Fin.ext ?_) <;> blk_simp [idx12]

theorem arr13 : (dats m 0 c).arrAt 13 cfg0.N = fun i => lift (aX m c) (aW m c) (i 0) (right (i 1)) := by
  refine (dats m 0 c).arrAt_eq_of_covers 13 _ (by decide +kernel) fun t hf y => ?_
  obtain ⟨a, e, rfl⟩ : ∃ (a : Fin 32) (e : Fin 2816), y = ix2 a e := ⟨y 0, y 1, eq_ix2 y⟩
  blk_simp [idx13]
  rw [after0_13, out_g]
  refine (up_g _ _ a e).trans ?_
  simp only [block0, block3]
  refine congrArg₂ (fun x y => lift (aX m c) (aW m c) x (right y)) (Fin.ext ?_) (Fin.ext ?_) <;> blk_simp [idx13]

end Cert.StepIdeal.Array

end
-- ==== Proof.Step.Ref.lean ====
/-
  The step's reference: its three results, read at an index, are the formulas.
-/
module

public import proofs.«01_k».proof.Proof.Gen.StepRefIdeal.Run
public import proofs.«01_k».proof.Proof.Step.Spec

@[expose] public section

set_option maxRecDepth 16384

noncomputable section

namespace Cert.StepRefIdeal.Read

open Cert.StepRefIdeal Cert.StepRefIdeal.Gen Cert.StepRefIdeal.Value Cert.FfnSpec Cert.StepSpec
open Idealize.ShloMosaic Idealize.ShloMosaic.TcCoe Idealize.SL.Sem

variable (m : (ℓ : Loc nD τ sig) → Buf (Elt Ideal) ℓ) (c : Dev nD)

/-- The normalised rows. -/
theorem out_apply (i : Fin 32) (k : Fin 1024) : res_out0 m c (ix2 i k : S32x1024.Idx)
    = stepped (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) i k := by
  pointwise [res_main_v59]
  rfl

/-- What the reference leaves: the normalised rows, and the new rows going up, half by half; the arguments stay. -/
theorem run_rows (g : Dev nD → PrngReg) :
    θ_run defs (onTc (τ := τ) (main (F := Ideal))) ⟨m, fun _ => 0, g⟩ fun r => ∀ c : Dev nD,
      r.2.mem ((c.tc : Thread nD τ).loc main_v59) = res_out0 m c
      ∧ r.2.mem ((c.tc : Thread nD τ).loc main_v61) = (fun i => lift (m (c.tc.loc main_arg0)) (m (c.tc.loc main_arg2)) (i 0) (left (i 1)) : S32x2816.Idx → EReal)
      ∧ r.2.mem ((c.tc : Thread nD τ).loc main_v63) = (fun i => lift (m (c.tc.loc main_arg0)) (m (c.tc.loc main_arg2)) (i 0) (right (i 1)) : S32x2816.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.StepRefIdeal.Value.run m g)
  obtain ⟨h0, h1, h2, hrest⟩ := h c
  refine ⟨h0, h1.trans ?_, h2.trans ?_, hrest⟩
  · funext i
    obtain ⟨a, e, rfl⟩ : ∃ (a : Fin 32) (e : Fin 2816), i = ix2 a e := ⟨i 0, i 1, eq_ix2 i⟩
    pointwise
    rfl
  · funext i
    obtain ⟨a, e, rfl⟩ : ∃ (a : Fin 32) (e : Fin 2816), i = ix2 a e := ⟨i 0, i 1, eq_ix2 i⟩
    pointwise
    rfl

end Cert.StepRefIdeal.Read

end
-- ==== Proof.Step.Claim.lean ====
/-
  The step's value claim: the kernel and the reference leave the same normalised rows and the same new rows going up.
-/
module

public import proofs.«01_k».proof.Defs
public import proofs.«01_k».proof.Proof.Step.Array
public import proofs.«01_k».proof.Proof.Step.Ref

@[expose] public section

noncomputable section

namespace Cert.StepClaim

open Idealize.ShloMosaic Idealize.ShloMosaic.TcCoe Idealize.SL.Sem Cert.StepSpec

/-- The two programs agree, from the same arrays. -/
theorem algebraic : Cert.algebraic_StepIdeal_StepRefIdeal (hStepIdeal := Cert.StepIdeal.Gen.facts) (hStepRefIdeal := Cert.StepRefIdeal.Gen.facts) := by
  intro m g m' g' hpre hagree
  refine ⟨fun c => (Cert.StepIdeal.Gen.dats m 0 c).arrAt 11 Cert.StepIdeal.cfg0.N, fun c => (Cert.StepIdeal.Gen.dats m 0 c).arrAt 12 Cert.StepIdeal.cfg0.N,
    fun c => (Cert.StepIdeal.Gen.dats m 0 c).arrAt 13 Cert.StepIdeal.cfg0.N, Cert.StepIdeal.Value.run_blocks m g, ?_⟩
  refine (θ_run _ _ _).mono (fun r h c => ?_) (Cert.StepRefIdeal.Read.run_rows m' g')
  obtain ⟨h0, h1, h2, hrest⟩ := h c
  obtain ⟨e0, e1, e2, e3, e4, e5, e6, e7⟩ := hagree c
  refine ⟨h0.trans ?_, h1.trans ?_, h2.trans ?_, hrest⟩
  · dsimp only
    rw [Cert.StepIdeal.Array.arr11]
    funext i
    refine (congrArg (Cert.StepRefIdeal.Value.res_main_v59 m' c) (eq_ix2 i)).trans ?_
    refine (Cert.StepRefIdeal.Read.out_apply _ _ (i 0) (i 1)).trans ?_
    rw [e0, e1, e2, e3, e4, e5, e6, e7]
  · dsimp only
    rw [Cert.StepIdeal.Array.arr12, e0, e2]
    rfl
  · dsimp only
    rw [Cert.StepIdeal.Array.arr13, e0, e2]
    rfl

/-- The reference runs and leaves its arguments alone; it has no semaphore, so every counter ends at zero. -/
theorem frame_ref : Cert.quiescent_StepRefIdeal (hStepRefIdeal := Cert.StepRefIdeal.Gen.facts) := fun m g _ =>
  (θ_run (Cert.StepRefIdeal.defs (F := Ideal)) _ _).mono
    (fun r h => ⟨fun c => (h c).2.2.2, sem_eq_zero_of_no_sems (by decide) r.2⟩) (Cert.StepRefIdeal.Value.run m g)

end Cert.StepClaim

end
-- ==== Proof.Proj.Array.lean ====
/-
  The projection: every row times the weights, the columns past the weights' own being zero. The kernel's array and the
  reference's result are that product.
-/
module

public import proofs.«01_k».proof.Proof.Gen.ProjIdeal.Value
public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.ProjSpec

open Idealize.ShloMosaic

/-- The rows, in a batch of one, and the weights. -/
abbrev Rows := (⟨3, ![1, 16384, 1024]⟩ : Shape).Idx → EReal
abbrev Weights := (⟨2, ![1024, 3368]⟩ : Shape).Idx → EReal

/-- A weight, zero past the last column. -/
def weight (W : Weights) (k : Fin 1024) (j : ℕ) : EReal := if h : j < 3368 then W (ix2 k ⟨j, h⟩) else 0

/-- Row `i` times column `j`. -/
def product (X : Rows) (W : Weights) (i : Fin 16384) (j : ℕ) : EReal := ∑ k, X (ix3 0 i k) * weight W k j

end Cert.ProjSpec

namespace Cert.ProjIdeal.Array

open Cert.ProjIdeal Cert.ProjIdeal.Gen Cert.ProjSpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The arguments' arrays. -/
abbrev aX : Rows := m ((c.tc : Thread nD τ).loc main_arg0)
abbrev aW : Weights := m ((c.tc : Thread nD τ).loc main_arg1)

/-- What the region finds in the rows' array. -/
theorem found_rows : V m c main_v1 = shapeCast S16384x1024 (m ((c.tc : Thread nD τ).loc main_arg0)) shapeCasts_S1x16384x1024_S16384x1024 := by
  unfold V
  simp only [List.flatten_cons, List.flatten_nil, List.append_nil, List.cons_append, List.nil_append]
  after_results
  all_goals rfl

/-- And in the weights': the weights, padded. -/
theorem found_weights : V m c main_v2 = (pad S1024x3456 ![0, 0] ![0, 88] ![0, 0] (m ((c.tc : Thread nD τ).loc main_arg1))
    (sitofp (F := Ideal) .f32 (constantI S_ 32 0#32)) pads_S1024x3368_S1024x3456_000_0880 h_S_ : S1024x3456.Idx → EReal) := by
  unfold V
  simp only [List.flatten_cons, List.flatten_nil, List.append_nil, List.cons_append, List.nil_append]
  after_results
  all_goals rfl

/-- The batch's one array, without the batch. -/
theorem flat_apply (X : Rows) (a : Fin 16384) (k : Fin 1024) :
    shapeCast S16384x1024 X shapeCasts_S1x16384x1024_S16384x1024 (ix2 a k) = X (ix3 0 a k) := by
  pointwise

/-- The padded weights. -/
theorem padded_apply (W : Weights) (k : Fin 1024) (j : Fin 3456) :
    pad S1024x3456 ![0, 0] ![0, 88] ![0, 0] W (sitofp (F := Ideal) .f32 (constantI S_ 32 0#32)) pads_S1024x3368_S1024x3456_000_0880 h_S_ (ix2 k j)
      = weight W k j.val := by
  have h0 : FloatOps.sitofp (F := Ideal) FTy.f32 (0#32 : BitVec 32) = (0 : EReal) := by
    show (((0#32 : BitVec 32).toInt : ℝ) : EReal) = 0
    simp
  pointwise
  rw [h0]
  rfl

/-- The rows' window is cut from them. -/
theorem entry0 (u : S16384x1024.Idx) {i : ℕ} (h : i < 16384) (k : Fin 1024) (hi : (u 0).val = i) (hk : (u 1).val = k.val) :
    V m c main_v1 u = aX m c (ix3 0 ⟨i, h⟩ k) := by
  obtain ⟨a, b, rfl⟩ : ∃ (a : Fin 16384) (b : Fin 1024), u = ix2 a b := ⟨u 0, u 1, eq_ix2 u⟩
  obtain rfl : b = k := Fin.ext hk
  subst hi
  rw [found_rows]
  exact flat_apply (aX m c) a b

/-- The weights' window is cut from the padded weights. -/
theorem entry1 (u : S1024x3456.Idx) (k : Fin 1024) {j : ℕ} (hk : (u 0).val = k.val) (hj : (u 1).val = j) :
    V m c main_v2 u = weight (aW m c) k j := by
  obtain ⟨a, b, rfl⟩ : ∃ (a : Fin 1024) (b : Fin 3456), u = ix2 a b := ⟨u 0, u 1, eq_ix2 u⟩
  obtain rfl : a = k := Fin.ext hk
  subst hj
  rw [found_weights]
  exact padded_apply (aW m c) a b

theorem block0 (t : Fin cfg0.N) (a : Fin 512) (k : Fin 1024) (h : 512 * t.val + a.val < 16384) :
    iblk m c 0 t (ix2 a k) = aX m c (ix3 0 ⟨512 * t.val + a.val, h⟩ k) := by
  refine entry0 m c _ h k ?_ ?_ <;> blk_simp [idx0] <;> omega

theorem block1 (t : Fin cfg0.N) (k : Fin 1024) (j : Fin 3456) : iblk m c 1 t (ix2 k j) = weight (aW m c) k j.val := by
  refine entry1 m c _ k ?_ ?_ <;> blk_simp [idx1]

/-- A tile's product. -/
theorem tile_apply (x : (⟨2, ![512, 1024]⟩ : Shape).Idx → EReal) (w : (⟨2, ![1024, 3456]⟩ : Shape).Idx → EReal) (a : Fin 512) (j : Fin 3456) :
    out0_2 (F := Ideal) x w (ix2 a j) = ∑ k, x (ix2 a k) * w (ix2 k j) := by
  unfold out0_2
  refine Eq.trans (b := k0_pay1 (F := Ideal) x w (ix2 a j)) ?_ ?_
  · frame_out
  · pointwise [k0_pay1]

/-- The result's array. -/
theorem arr2 : (dats m 0 c).arrAt 2 cfg0.N = fun i => product (aX m c) (aW m c) (i 0) (i 1).val := by
  refine (dats m 0 c).arrAt_eq_of_covers 2 _ (by decide +kernel) fun t hf y => ?_
  obtain ⟨a, j, rfl⟩ : ∃ (a : Fin 512) (j : Fin 3456), y = ix2 a j := ⟨y 0, y 1, eq_ix2 y⟩
  blk_simp [idx2]
  rw [after0_2]
  refine (tile_apply _ _ a j).trans ?_
  unfold product
  refine Finset.sum_congr rfl fun k _ => ?_
  have ht : t.val < 32 := t.isLt
  rw [block0 m c t a k (by omega), block1]
  refine congrArg (fun i => aX m c (ix3 0 i k) * _) (Fin.ext ?_)
  show 512 * t.val + a.val = _
  blk_simp [idx2]
  omega

end Cert.ProjIdeal.Array

namespace Cert.ProjRefIdeal.Read

open Cert.ProjRefIdeal Cert.ProjRefIdeal.Gen Cert.ProjSpec
open Idealize.ShloMosaic Idealize.ShloMosaic.TcCoe Idealize.SL.Sem

/-- The reference's result at an index. -/
theorem out_apply (X : Rows) (W : Weights) (i : Fin 16384) (j : Fin 3456) :
    concatenate S16384x3456 1 [⟨S16384x3368, (Host.dotGeneral (F := Ideal) (φ₁ := .f32) (φ₂ := .f32) dot_S16384x1024_S1024x3368_S16384x3368_1_0_0_1_n_n none (shapeCast _ X shapeCasts_S1x16384x1024_S16384x1024) W)⟩,
      ⟨S16384x88, (broadcastInDim S16384x88 ![] bcast_S_S16384x88 (constant (F := Ideal) S_ .f32 0x00000000#32))⟩] concatenates_S16384x3368_S16384x88_S16384x3456_d1 (ix2 i j)
      = product X W i j.val := by
  unfold product weight
  pointwise
  by_cases h : j.val < 3368
  · simp only [dif_pos h]
  · simp only [dif_neg h, mul_zero, Finset.sum_const_zero]

end Cert.ProjRefIdeal.Read

end
-- ==== Proof.Proj.Claim.lean ====
/-
  The projection's value claim: the kernel and the reference leave the same product.
-/
module

public import proofs.«01_k».proof.Defs
public import proofs.«01_k».proof.Proof.Proj.Array

@[expose] public section

noncomputable section

namespace Cert.ProjClaim

open Idealize.ShloMosaic Idealize.ShloMosaic.TcCoe Idealize.SL.Sem Cert.ProjSpec

/-- The two programs agree, from the same rows and weights. -/
theorem algebraic : Cert.algebraic_ProjIdeal_ProjRefIdeal (hProjIdeal := Cert.ProjIdeal.Gen.facts) (hProjRefIdeal := Cert.ProjRefIdeal.Gen.facts) := by
  intro m g m' g' hpre hagree
  refine ⟨fun c => (Cert.ProjIdeal.Gen.dats m 0 c).arrAt 2 Cert.ProjIdeal.cfg0.N, Cert.ProjIdeal.Value.run_blocks m g, ?_⟩
  refine (θ_run _ _ _).mono (fun r h c => ?_) (Cert.ProjRefIdeal.Value.run m' g')
  obtain ⟨h0, h2⟩ := h c
  obtain ⟨e0, e1⟩ := hagree c
  refine ⟨h0.trans ?_, h2⟩
  dsimp only
  rw [Cert.ProjIdeal.Array.arr2]
  funext i
  rw [eq_ix2 i, e0, e1]
  exact Cert.ProjRefIdeal.Read.out_apply _ _ (i 0) (i 1)

/-- The reference runs and leaves its arguments alone; it has no semaphore, so every counter ends at zero. -/
theorem frame_ref : Cert.quiescent_ProjRefIdeal (hProjRefIdeal := Cert.ProjRefIdeal.Gen.facts) := fun m g _ =>
  (θ_run (Cert.ProjRefIdeal.defs (F := Ideal)) _ _).mono
    (fun r h => ⟨fun c => (h c).2, sem_eq_zero_of_no_sems (by decide) r.2⟩) (Cert.ProjRefIdeal.Value.run m g)

end Cert.ProjClaim

end
-- ==== Proof.Rope.Lanes.lean ====
/-
  Rotary positions lane by lane: a row is multiplied by its cosines and its lanes, turned by 32 within each head of 64, by
  the signed sines. The turned lane is taken from one rotation of the whole row in the first half of a head and from the
  other rotation in the second.
-/
module

public import Idealize.ShloMosaic.Lib.Pointwise
public import Idealize.ShloMosaic.Lib.Pipeline.ValueKit
public import Idealize.ShloMosaic.Lib.KernelVsHost
public import proofs.«01_k».proof.Proof.Ffn.Spec

@[expose] public section

set_option maxRecDepth 16384

noncomputable section

namespace Cert.Lanes

open Idealize.ShloMosaic Cert.FfnSpec

/-- A block of 512 rows of `n` lanes. -/
abbrev Sq (n : ℕ) : Shape := ⟨2, ![512, n]⟩

/-- A word's lane number within its head, as the kernel computes it. -/
def lane {n : ℕ} (hι : (Sq n).Iotas .tc 32 [1]) (hβ : (Sq n).Broadcasts (Sq n)) : IVec (Sq n) 32 :=
  have e : IVec (Sq n) 32 := remsi (iota .tc (Sq n) 32 [1] hι) (broadcast (Sq n) (Scalar.select (Scalar.cmpi .eq 64#32 0#32) 1#32 64#32))
  select (andi (xori (cmpi .slt e (broadcast (Sq n) 0#32))
        (broadcastTo (Sq n) (broadcast (Sq n) (Scalar.cmpi .slt (Scalar.select (Scalar.cmpi .eq 64#32 0#32) 1#32 64#32) 0#32)) hβ))
      (cmpi .ne e (broadcast (Sq n) 0#32)))
    (addi e (broadcast (Sq n) (Scalar.select (Scalar.cmpi .eq 64#32 0#32) 1#32 64#32))) e

/-- The kernel's block, from the rows, the cosines and the signed sines. -/
def block {n : ℕ} (s : BitVec 32) (hι : (Sq n).Iotas .tc 32 [1]) (hβ : (Sq n).Broadcasts (Sq n)) (hr : (Sq n).Rotates 1 none)
    (y C S : FVec Ideal (Sq n) .f32) : FVec Ideal (Sq n) .f32 :=
  addf (mulf y C) (mulf (select (cmpi .slt (lane hι hβ) (broadcast (Sq n) 32#32)) (dynamicRotate 1 s none y hr) (dynamicRotate 1 32#32 none y hr)) S)

/-- The lane number's word, up to the widest row. -/
theorem word_eq (k : ℕ) (hk : k < 2048) : IntOp.remsi ArithUnit.vector (BitVec.ofNat 32 k) 64#32 = BitVec.ofNat 32 (k % 64) :=
  (by decide +kernel : ∀ k : Fin 2048, IntOp.remsi ArithUnit.vector (BitVec.ofNat 32 k) 64#32 = BitVec.ofNat 32 (k % 64)) ⟨k, hk⟩

/-- The lane number is the remainder by 64. -/
theorem lane_apply {n : ℕ} (hn : n ≤ 2048) (hι : (Sq n).Iotas .tc 32 [1]) (hβ : (Sq n).Broadcasts (Sq n)) (a : Fin 512) (k : Fin n) :
    lane hι hβ (ix2 a k) = BitVec.ofNat 32 (k.val % 64) := by
  pointwise [lane]
  rw [show Scalar.select (Scalar.cmpi CmpIPredicate.eq 64#32 0#32) 1#32 64#32 = 64#32 from rfl, word_eq k.val (by omega)]
  obtain ⟨e, he⟩ : ∃ e : Fin 64, e.val = k.val % 64 := ⟨⟨k.val % 64, by omega⟩, rfl⟩
  rw [← he]
  clear he
  revert e
  decide +kernel

/-- A number below 64 is below 32. -/
theorem first_half : ∀ e : Fin 64, IntOp.cmpi CmpIPredicate.slt (BitVec.ofNat 32 e.val) 32#32 = if e.val < 32 then 1#1 else 0#1 := by
  decide +kernel

/-- The lane that a lane is turned with. -/
def partner {n : ℕ} (hw : 64 ∣ n) (k : Fin n) : Fin n :=
  if h : k.val % 64 < 32 then ⟨k.val + 32, by omega⟩ else ⟨k.val - 32, by omega⟩

theorem partner_val {n : ℕ} (hw : 64 ∣ n) (k : Fin n) : (partner hw k).val = if k.val % 64 < 32 then k.val + 32 else k.val - 32 := by
  unfold partner
  split <;> rfl

/-- A lane of the block. -/
theorem block_apply {n : ℕ} (hn : n ≤ 2048) (hw : 64 ∣ n) (s : BitVec 32) (hs : s.toNat + 32 = n) (hι : (Sq n).Iotas .tc 32 [1])
    (hβ : (Sq n).Broadcasts (Sq n)) (hr : (Sq n).Rotates 1 none) (y C S : Mat 512 n) (a : Fin 512) (k : Fin n) :
    block s hι hβ hr y C S (ix2 a k) = y (ix2 a k) * C (ix2 a k) + y (ix2 a (partner hw k)) * S (ix2 a k) := by
  have hk : k.val < n := k.isLt
  have turn : (select (cmpi .slt (lane hι hβ) (broadcast (Sq n) 32#32)) (dynamicRotate 1 s none y hr) (dynamicRotate 1 32#32 none y hr)) (ix2 a k)
      = y (ix2 a (partner hw k)) := by
    show Scalar.select (IntOp.cmpi CmpIPredicate.slt (lane hι hβ (ix2 a k)) 32#32) _ _ = _
    rw [lane_apply hn, first_half ⟨k.val % 64, by omega⟩]
    unfold partner
    by_cases h : k.val % 64 < 32
    · rw [if_pos h, dif_pos h]
      refine dynamicRotate_apply 1 s y hr _ _ fun b => ?_
      fin_cases b
      · rfl
      · show k.val + 32 = (k.val + n - s.toNat % n) % n
        have : s.toNat % n = n - 32 := by rw [Nat.mod_eq_of_lt (by omega)]; omega
        rw [this, Nat.mod_eq_of_lt (by omega)]; omega
    · rw [if_neg h, dif_neg h]
      refine dynamicRotate_apply 1 32#32 y hr _ _ fun b => ?_
      fin_cases b
      · rfl
      · show k.val - 32 = (k.val + n - 32 % n) % n
        have : 32 % n = 32 := Nat.mod_eq_of_lt (by omega)
        rw [this, show k.val + n - 32 = k.val - 32 + n by omega, Nat.add_mod_right, Nat.mod_eq_of_lt (by omega)]
  show y (ix2 a k) * C (ix2 a k) + (select _ _ _) (ix2 a k) * S (ix2 a k) = _
  rw [turn]

/-- One array's copies side by side, read at a lane. -/
theorem copies_apply {n N : ℕ} (x : Mat 512 128) (hN : n ≤ N * 128)
    (h : Shape.Concatenates ((List.ofFn fun _ : Fin N => (⟨Sq 128, x⟩ : (s : Shape) × (s.Idx → EReal))).map (·.1)) (Sq n) 1)
    (a : Fin 512) (k : Fin n) :
    concatenate (Sq n) 1 (List.ofFn fun _ : Fin N => (⟨Sq 128, x⟩ : (s : Shape) × (s.Idx → EReal))) h (ix2 a k)
      = x (ix2 a ⟨k.val % 128, by omega⟩) :=
  concatenate_ofFn_apply 1 (fun _ : Fin N => x) h rfl 128 rfl (ix2 a k) ⟨k.val / 128, by omega⟩ rfl _ rfl fun b hb => by
    fin_cases b
    · rfl
    · exact absurd rfl hb

/-! The angles, the tables and a turned lane. -/

/-- The angle of position `i` at a head's lane `e` of 32. -/
def angle (i e : ℕ) : EReal :=
  FloatOps.sitofp (F := Ideal) FTy.f32 (BitVec.ofNat 32 i) *
    Ideal.pow (Ideal.ofBits FTy.f32 0x461C4000#32)
      (Ideal.div (Ideal.ofBits FTy.f32 0xC0000000#32 * FloatOps.sitofp (F := Ideal) FTy.f32 (BitVec.ofNat 32 e))
        (Ideal.ofBits FTy.f32 0x42800000#32))

/-- The cosines, and the sines with the first half's sign turned. -/
def cosines (i k : ℕ) : EReal := if k % 64 < 32 then Ideal.cos (angle i (k % 64)) else Ideal.cos (angle i (k % 64 - 32))
def sines (i k : ℕ) : EReal := if k % 64 < 32 then -Ideal.sin (angle i (k % 64)) else Ideal.sin (angle i (k % 64 - 32))

/-- Lane `k` at position `i`, from its own value `u` and its partner's `v`. -/
def turned (i k : ℕ) (u v : EReal) : EReal :=
  if k % 64 < 32 then u * Ideal.cos (angle i (k % 64)) - v * Ideal.sin (angle i (k % 64))
  else u * Ideal.cos (angle i (k % 64 - 32)) + v * Ideal.sin (angle i (k % 64 - 32))

/-- The tables repeat with every head. -/
theorem cosines_mod (i k : ℕ) : cosines i (k % 128) = cosines i k := by
  unfold cosines
  rw [show k % 128 % 64 = k % 64 by omega]

theorem sines_mod (i k : ℕ) : sines i (k % 128) = sines i k := by
  unfold sines
  rw [show k % 128 % 64 = k % 64 by omega]

/-- The tables' form of a turned lane. -/
theorem turned_eq (i k : ℕ) (u v : EReal) : u * cosines i k + v * sines i k = turned i k u v := by
  unfold cosines sines turned
  by_cases h : k % 64 < 32
  · simp only [if_pos h, mul_neg, sub_eq_add_neg]
  · simp only [if_neg h]

/-- A row of heads, `n` lanes in all: halves of a head, the lane's own value named by its number. -/
theorem turned_own {n : ℕ} (hw : 64 ∣ n) (f : Fin n → EReal) (i : ℕ) (k : Fin n) :
    (if h : k.val % 64 < 32 then
        f k * Ideal.cos (angle i (k.val % 64))
          - f ⟨k.val / 64 * 64 + (32 + k.val % 64), by omega⟩ * Ideal.sin (angle i (k.val % 64))
      else
        f ⟨k.val / 64 * 64 + (32 + (k.val % 64 - 32)), by omega⟩ * Ideal.cos (angle i (k.val % 64 - 32))
          + f ⟨k.val / 64 * 64 + (k.val % 64 - 32), by omega⟩ * Ideal.sin (angle i (k.val % 64 - 32)))
      = turned i k.val (f k) (f (partner hw k)) := by
  unfold turned partner
  by_cases h : k.val % 64 < 32
  · rw [dif_pos h, if_pos h, dif_pos h]
    congr 3 <;> refine Fin.ext ?_ <;> dsimp only <;> omega
  · rw [dif_neg h, if_neg h, dif_neg h]
    congr 3 <;> refine Fin.ext ?_ <;> dsimp only <;> omega

/-- The same with the lane's own value named by its head. -/
theorem turned_heads {n : ℕ} (hw : 64 ∣ n) (f : Fin n → EReal) (i : ℕ) (k : Fin n) :
    (if h : k.val % 64 < 32 then
        f ⟨k.val / 64 * 64 + k.val % 64, by omega⟩ * Ideal.cos (angle i (k.val % 64))
          - f ⟨k.val / 64 * 64 + (32 + k.val % 64), by omega⟩ * Ideal.sin (angle i (k.val % 64))
      else
        f ⟨k.val / 64 * 64 + (32 + (k.val % 64 - 32)), by omega⟩ * Ideal.cos (angle i (k.val % 64 - 32))
          + f ⟨k.val / 64 * 64 + (k.val % 64 - 32), by omega⟩ * Ideal.sin (angle i (k.val % 64 - 32)))
      = turned i k.val (f k) (f (partner hw k)) := by
  rw [← turned_own hw f i k]
  have e (h : k.val / 64 * 64 + k.val % 64 < n) : (⟨k.val / 64 * 64 + k.val % 64, h⟩ : Fin n) = k := Fin.ext (by dsimp only; omega)
  simp only [e]

end Cert.Lanes

end
-- ==== Proof.Dilp.Array.lean ====
/-
  The dilated attention's projection: every position times the weights, the queries' and keys' lanes turned by the position,
  the values left as they are. The kernel's two arrays (all three parts; keys and values) and the reference's results are
  these numbers.
-/
module

public import proofs.«01_k».proof.Proof.Gen.DilpIdeal.Value
public import proofs.«01_k».proof.Proof.Gen.DilpRefIdeal.Run
public import proofs.«01_k».proof.Proof.Rope.Lanes
public import Idealize.ShloMosaic.Lib.Pipeline.ValueKit
public import Idealize.ShloMosaic.Lib.Pointwise

@[expose] public section

set_option maxRecDepth 16384

noncomputable section

namespace Cert.DilpSpec

open Idealize.ShloMosaic Cert.FfnSpec Cert.Lanes

variable (X : Mat 16384 1024) (W : Mat 1024 3072)

/-- The product. -/
def prod (i : Fin 16384) (k : Fin 3072) : EReal := ∑ j, X (ix2 i j) * W (ix2 j k)

/-- Queries and keys are turned, values are not. -/
def lane (i : Fin 16384) (k : Fin 3072) : EReal :=
  if k.val < 2048 then turned i.val k.val (prod X W i k) (prod X W i (partner (by decide) k)) else prod X W i k

/-- Keys and values begin at column 1024. -/
def later (k : Fin 2048) : Fin 3072 := ⟨k.val + 1024, by omega⟩

/-- A part that is turned: 1024 columns from column `o`, a multiple of a head's width. -/
theorem lane_part (o : ℕ) (ho : o + 1024 ≤ 2048) (hd : o % 64 = 0) (i : Fin 16384) (k : Fin 1024) :
    lane X W i ⟨o + k.val, by omega⟩
      = turned i.val k.val (prod X W i ⟨o + k.val, by omega⟩) (prod X W i ⟨o + (partner (n := 1024) (by decide) k).val, by omega⟩) := by
  unfold lane turned
  rw [if_pos (show o + k.val < 2048 by omega), show (o + k.val) % 64 = k.val % 64 by omega]
  have hp : partner (n := 3072) (by decide) ⟨o + k.val, by omega⟩ = ⟨o + (partner (n := 1024) (by decide) k).val, by omega⟩ := by
    refine Fin.ext ?_
    have e : (o + k.val) % 64 = k.val % 64 := by omega
    show (partner (n := 3072) _ ⟨o + k.val, _⟩).val = o + (partner (n := 1024) _ k).val
    rw [partner_val, partner_val]
    show (if (o + k.val) % 64 < 32 then o + k.val + 32 else o + k.val - 32) = _
    rw [e]
    split <;> omega
  rw [hp]

end Cert.DilpSpec

namespace Cert.DilpIdeal.Array

open Cert.DilpIdeal Cert.DilpIdeal.Gen Cert.DilpSpec Cert.FfnSpec Cert.Lanes
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel

/-! The arguments' arrays. -/

abbrev aX : Mat 16384 1024 := m ((c.tc : Thread nD τ).loc main_arg0)
abbrev aW : Mat 1024 3072 := m ((c.tc : Thread nD τ).loc main_arg1)

/-! What each window is cut from. -/

theorem entry0 (u : S16384x1024.Idx) {i : ℕ} (h : i < 16384) (k : Fin 1024) (hi : (u 0).val = i) (hk : (u 1).val = k.val) :
    V m c main_arg0 u = aX m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry1 (u : S1024x3072.Idx) (j : Fin 1024) (k : Fin 3072) (hj : (u 0).val = j.val) (hk : (u 1).val = k.val) :
    V m c main_v25 u = aW m c (ix2 j k) := by
  obtain ⟨a, b, rfl⟩ : ∃ (a : Fin 1024) (b : Fin 3072), u = ix2 a b := ⟨u 0, u 1, eq_ix2 u⟩
  obtain rfl : a = j := Fin.ext hj
  obtain rfl : b = k := Fin.ext hk
  entry_read
  pointwise

/-- The table of the cosines. -/
theorem entry2 (u : S16384x128.Idx) (i k : ℕ) (hi : (u 0).val = i) (hk : (u 1).val = k) : V m c main_v19 u = cosines i k := by
  obtain ⟨a, b, rfl⟩ : ∃ (a : Fin 16384) (b : Fin 128), u = ix2 a b := ⟨u 0, u 1, eq_ix2 u⟩
  subst hi hk
  entry_read
  pointwise
  rfl

/-- The table of the signed sines. -/
theorem entry3 (u : S16384x128.Idx) (i k : ℕ) (hi : (u 0).val = i) (hk : (u 1).val = k) : V m c main_v24 u = sines i k := by
  obtain ⟨a, b, rfl⟩ : ∃ (a : Fin 16384) (b : Fin 128), u = ix2 a b := ⟨u 0, u 1, eq_ix2 u⟩
  subst hi hk
  entry_read
  pointwise
  rfl

/-! And so each block. -/

theorem block0 (t : Fin cfg0.N) (a : Fin 512) (k : Fin 1024) (h : 512 * t.val + a.val < 16384) : iblk m c 0 t (ix2 a k) = aX m c (ix2 ⟨512 * t.val + a.val, h⟩ k) := by
  refine entry0 m c _ h k ?_ ?_ <;> blk_simp [idx0] <;> omega

theorem block1 (t : Fin cfg0.N) (j : Fin 1024) (k : Fin 3072) : iblk m c 1 t (ix2 j k) = aW m c (ix2 j k) := by
  refine entry1 m c _ j k ?_ ?_ <;> blk_simp [idx1]

theorem block2 (t : Fin cfg0.N) (a : Fin 512) (k : Fin 128) : iblk m c 2 t (ix2 a k) = cosines (512 * t.val + a.val) k.val := by
  refine entry2 m c _ _ _ ?_ ?_ <;> blk_simp [idx2] <;> omega

theorem block3 (t : Fin cfg0.N) (a : Fin 512) (k : Fin 128) : iblk m c 3 t (ix2 a k) = sines (512 * t.val + a.val) k.val := by
  refine entry3 m c _ _ _ ?_ ?_ <;> blk_simp [idx3] <;> omega

/-! A tile, from its blocks. -/

section Tile

variable (x : Mat 512 1024) (w : Mat 1024 3072) (p q : Mat 512 128)

/-- A block's product. -/
def dot (a : Fin 512) (k : Fin 3072) : EReal := ∑ j, x (ix2 a j) * w (ix2 j k)

theorem pay2_apply (a : Fin 512) (k : Fin 3072) : k0_pay2 (F := Ideal) x w (ix2 a k) = dot x w a k := by
  pointwise [k0_pay2]
  rfl

/-- The turned part is a block of lanes. -/
theorem pay3_eq : k0_pay3 (F := Ideal) x w p q = Lanes.block 2016#32 iota_S512x2048_d1_w32 broadcasts_S512x2048_S512x2048 rotates_S512x2048_d1
      (extractStridedSlice S512x2048 ![0, 0] (k0_pay2 (F := Ideal) x w) slices_S512x3072_o0_0_S512x2048)
      (concatenate S512x2048 1 (List.ofFn fun _ : Fin 16 => (⟨Sq 128, p⟩ : (s : Shape) × (s.Idx → EReal)))
        concatenates_S512x128_S512x128_S512x128_S512x128_S512x128_S512x128_S512x128_S512x128_S512x128_S512x128_S512x128_S512x128_S512x128_S512x128_S512x128_S512x128_S512x2048_d1)
      (concatenate S512x2048 1 (List.ofFn fun _ : Fin 16 => (⟨Sq 128, q⟩ : (s : Shape) × (s.Idx → EReal)))
        concatenates_S512x128_S512x128_S512x128_S512x128_S512x128_S512x128_S512x128_S512x128_S512x128_S512x128_S512x128_S512x128_S512x128_S512x128_S512x128_S512x128_S512x2048_d1) := by
  have hp : shapeCast S512x128 p shapeCasts_S512x128_S512x128 = p := by funext i; rw [eq_ix2 i]; pointwise
  have hq : shapeCast S512x128 q shapeCasts_S512x128_S512x128 = q := by funext i; rw [eq_ix2 i]; pointwise
  unfold k0_pay3
  rw [hp, hq]
  rfl

theorem first_apply (a : Fin 512) (k : Fin 2048) :
    (extractStridedSlice S512x2048 ![0, 0] (k0_pay2 (F := Ideal) x w) slices_S512x3072_o0_0_S512x2048) (ix2 a k) = dot x w a ⟨k.val, by omega⟩ := by
  pointwise
  exact pay2_apply x w a _

theorem pay3_apply (a : Fin 512) (k : Fin 2048) : k0_pay3 (F := Ideal) x w p q (ix2 a k)
    = dot x w a ⟨k.val, by omega⟩ * p (ix2 a ⟨k.val % 128, by omega⟩)
      + dot x w a ⟨(partner (n := 2048) (by decide) k).val, by omega⟩ * q (ix2 a ⟨k.val % 128, by omega⟩) := by
  rw [pay3_eq, block_apply (by decide) (by decide) 2016#32 (by decide), first_apply, first_apply]
  exact congrArg₂ (· + ·) (congrArg₂ (· * ·) rfl (copies_apply (N := 16) p (by decide) _ a k))
    (congrArg₂ (· * ·) rfl (copies_apply (N := 16) q (by decide) _ a k))

/-- A block's lane at position `i`. -/
def blane (i : ℕ) (a : Fin 512) (k : Fin 3072) : EReal :=
  if k.val < 2048 then turned i k.val (dot x w a k) (dot x w a (partner (by decide) k)) else dot x w a k

variable {p q} {i : ℕ} {a : Fin 512}

/-- With the tables' rows of position `i`, the turned part. -/
theorem early (hp : ∀ k : Fin 128, p (ix2 a k) = cosines i k.val) (hq : ∀ k : Fin 128, q (ix2 a k) = sines i k.val)
    (k : Fin 3072) (hk : k.val < 2048) : k0_pay3 (F := Ideal) x w p q (ix2 a ⟨k.val, hk⟩) = blane x w i a k := by
  rw [pay3_apply, hp, hq]
  dsimp only
  rw [cosines_mod, sines_mod, turned_eq]
  unfold blane
  rw [if_pos hk]
  refine congrArg (turned i k.val _) (congrArg (dot x w a) (Fin.ext ?_))
  show (partner (n := 2048) _ ⟨k.val, hk⟩).val = (partner (n := 3072) _ k).val
  rw [partner_val, partner_val]

/-- The first array's tile. -/
theorem tile4_apply (hp : ∀ k : Fin 128, p (ix2 a k) = cosines i k.val) (hq : ∀ k : Fin 128, q (ix2 a k) = sines i k.val)
    (k : Fin 3072) : out0_4 (F := Ideal) x w p q (ix2 a k) = blane x w i a k := by
  unfold out0_4
  frame_out
  pointwise [k0_pay5, k0_pay4]
  by_cases h : k.val < 2048
  · rw [dif_pos h]
    exact early x w hp hq k h
  · rw [dif_neg h, pay2_apply]
    unfold blane
    rw [if_neg h]
    exact congrArg (dot x w a) (Fin.ext (show 2048 + (k.val - 2048) = k.val by omega))

/-- The second array's tile. -/
theorem tile5_apply (hp : ∀ k : Fin 128, p (ix2 a k) = cosines i k.val) (hq : ∀ k : Fin 128, q (ix2 a k) = sines i k.val)
    (k : Fin 2048) : out0_5 (F := Ideal) x w p q (ix2 a k) = blane x w i a (later k) := by
  unfold out0_5
  frame_out
  pointwise [k0_pay1, k0_pay4]
  by_cases h : k.val < 1024
  · rw [dif_pos h]
    refine (early x w hp hq ⟨1024 + k.val, by omega⟩ (show 1024 + k.val < 2048 by omega)).trans ?_
    exact congrArg (blane x w i a) (Fin.ext (Nat.add_comm _ _))
  · rw [dif_neg h, pay2_apply]
    unfold blane
    rw [if_neg (show ¬(later k).val < 2048 by unfold later; dsimp only; omega)]
    exact congrArg (dot x w a) (Fin.ext (show 2048 + (k.val - 1024) = k.val + 1024 by omega))

end Tile

/-- A tile's lane is the array's. -/
theorem blane_eq (t : Fin cfg0.N) (a : Fin 512) (h : 512 * t.val + a.val < 16384) (k : Fin 3072) :
    blane (iblk m c 0 t) (iblk m c 1 t) (512 * t.val + a.val) a k = DilpSpec.lane (aX m c) (aW m c) ⟨512 * t.val + a.val, h⟩ k := by
  unfold blane DilpSpec.lane dot prod
  simp only [block0 m c t a _ h, block1]

/-- The first result's array. -/
theorem arr4 : (dats m 0 c).arrAt 4 cfg0.N = fun i => DilpSpec.lane (aX m c) (aW m c) (i 0) (i 1) := by
  refine (dats m 0 c).arrAt_eq_of_covers 4 _ (by decide +kernel) fun t hf y => ?_
  obtain ⟨a, k, rfl⟩ : ∃ (a : Fin 512) (k : Fin 3072), y = ix2 a k := ⟨y 0, y 1, eq_ix2 y⟩
  have ht : t.val < 32 := t.isLt
  blk_simp [idx4]
  rw [after0_4]
  refine (tile4_apply _ _ (block2 m c t a) (block3 m c t a) k).trans ?_
  refine (blane_eq m c t a (by omega) k).trans ?_
  refine congrArg₂ (DilpSpec.lane (aX m c) (aW m c)) (Fin.ext ?_) (Fin.ext ?_)
  · show 512 * t.val + a.val = _
    blk_simp [idx4]
    omega
  · blk_simp [idx4]

/-- The second result's array. -/
theorem arr5 : (dats m 0 c).arrAt 5 cfg0.N = fun i => DilpSpec.lane (aX m c) (aW m c) (i 0) (later (i 1)) := by
  refine (dats m 0 c).arrAt_eq_of_covers 5 _ (by decide +kernel) fun t hf y => ?_
  obtain ⟨a, k, rfl⟩ : ∃ (a : Fin 512) (k : Fin 2048), y = ix2 a k := ⟨y 0, y 1, eq_ix2 y⟩
  have ht : t.val < 32 := t.isLt
  blk_simp [idx5]
  rw [after0_5]
  refine (tile5_apply _ _ (block2 m c t a) (block3 m c t a) k).trans ?_
  refine (blane_eq m c t a (by omega) (later k)).trans ?_
  refine congrArg₂ (fun i k => DilpSpec.lane (aX m c) (aW m c) i (later k)) (Fin.ext ?_) (Fin.ext ?_)
  · show 512 * t.val + a.val = _
    blk_simp [idx5]
    omega
  · blk_simp [idx5]

end Cert.DilpIdeal.Array

namespace Cert.DilpRefIdeal.Read

open Cert.DilpRefIdeal Cert.DilpRefIdeal.Gen Cert.DilpRefIdeal.Value Cert.DilpSpec Cert.Lanes
open Idealize.ShloMosaic Idealize.ShloMosaic.TcCoe Idealize.SL.Sem

variable (m : (ℓ : Loc nD τ sig) → Buf (Elt Ideal) ℓ) (c : Dev nD)

/-- The reference's first result at an index. -/
theorem out0_apply (i : Fin 16384) (k : Fin 3072) : res_out0 m c (ix2 i k : S16384x3072.Idx)
    = DilpSpec.lane (m (c.tc.loc main_arg0)) (m (c.tc.loc main_arg1)) i k := by
  pointwise [res_main_v72]
  by_cases h : k.val < 1024
  · rw [dif_pos h]
    refine (turned_heads (n := 1024) (by decide) (fun j => prod (m (c.tc.loc main_arg0)) (m (c.tc.loc main_arg1)) i ⟨j.val, by omega⟩) i.val
      ⟨k.val, h⟩).trans ?_
    have e := lane_part (m (c.tc.loc main_arg0)) (m (c.tc.loc main_arg1)) 0 (by decide) (by decide) i ⟨k.val, h⟩
    simp only [Nat.zero_add] at e
    exact e.symm
  · rw [dif_neg h]
    by_cases h' : k.val - 1024 < 1024
    · rw [dif_pos h']
      refine (turned_heads (n := 1024) (by decide) (fun j => prod (m (c.tc.loc main_arg0)) (m (c.tc.loc main_arg1)) i ⟨1024 + j.val, by omega⟩) i.val
        ⟨k.val - 1024, h'⟩).trans ?_
      refine (lane_part (m (c.tc.loc main_arg0)) (m (c.tc.loc main_arg1)) 1024 (by decide) (by decide) i ⟨k.val - 1024, h'⟩).symm.trans ?_
      exact congrArg (DilpSpec.lane _ _ i) (Fin.ext (show 1024 + (k.val - 1024) = k.val by omega))
    · rw [dif_neg h']
      unfold DilpSpec.lane
      rw [if_neg (show ¬k.val < 2048 by omega)]
      exact congrArg (prod (m (c.tc.loc main_arg0)) (m (c.tc.loc main_arg1)) i) (Fin.ext (show 2048 + (k.val - 1024 - 1024) = k.val by omega))

/-- The reference's second result at an index. -/
theorem out1_apply (i : Fin 16384) (k : Fin 2048) : res_out1 m c (ix2 i k : S16384x2048.Idx)
    = DilpSpec.lane (m (c.tc.loc main_arg0)) (m (c.tc.loc main_arg1)) i (later k) := by
  pointwise [res_main_v76]
  by_cases h : k.val < 1024
  · rw [dif_pos (show k.val / 1024 < 1 by omega)]
    have e : k.val / 64 % 16 = k.val / 64 := by omega
    simp only [e]
    refine (turned_heads (n := 1024) (by decide) (fun j => prod (m (c.tc.loc main_arg0)) (m (c.tc.loc main_arg1)) i ⟨1024 + j.val, by omega⟩) i.val
      ⟨k.val, h⟩).trans ?_
    refine (lane_part (m (c.tc.loc main_arg0)) (m (c.tc.loc main_arg1)) 1024 (by decide) (by decide) i ⟨k.val, h⟩).symm.trans ?_
    exact congrArg (DilpSpec.lane _ _ i) (Fin.ext (Nat.add_comm _ _))
  · rw [dif_neg (show ¬k.val / 1024 < 1 by omega)]
    unfold DilpSpec.lane
    rw [if_neg (show ¬(later k).val < 2048 by unfold later; dsimp only; omega)]
    exact congrArg (prod (m (c.tc.loc main_arg0)) (m (c.tc.loc main_arg1)) i)
      (Fin.ext (show 2048 + (k.val / 64 % 16 * 64 + k.val % 64) = k.val + 1024 by omega))

end Cert.DilpRefIdeal.Read

end
-- ==== Proof.Dilp.Claim.lean ====
/-
  The dilated projection's value claim: the kernel and the reference leave the same lanes, in both results.
-/
module

public import proofs.«01_k».proof.Defs
public import proofs.«01_k».proof.Proof.Dilp.Array

@[expose] public section

noncomputable section

namespace Cert.DilpClaim

open Idealize.ShloMosaic Idealize.ShloMosaic.TcCoe Idealize.SL.Sem

/-- The two programs agree, from the same rows and weights. -/
theorem algebraic : Cert.algebraic_DilpIdeal_DilpRefIdeal (hDilpIdeal := Cert.DilpIdeal.Gen.facts) (hDilpRefIdeal := Cert.DilpRefIdeal.Gen.facts) := by
  intro m g m' g' hpre hagree
  refine ⟨fun c => (Cert.DilpIdeal.Gen.dats m 0 c).arrAt 4 Cert.DilpIdeal.cfg0.N,
    fun c => (Cert.DilpIdeal.Gen.dats m 0 c).arrAt 5 Cert.DilpIdeal.cfg0.N, Cert.DilpIdeal.Value.run_blocks m g, ?_⟩
  refine (θ_run _ _ _).mono (fun r h c => ?_) (Cert.DilpRefIdeal.Value.run m' g')
  obtain ⟨h0, h1, h2⟩ := h c
  obtain ⟨e0, e1⟩ := hagree c
  refine ⟨h0.trans ?_, h1.trans ?_, h2⟩
  · dsimp only
    rw [Cert.DilpIdeal.Array.arr4]
    funext i
    refine (congrArg (Cert.DilpRefIdeal.Value.res_main_v72 m' c) (eq_ix2 i)).trans ?_
    refine (Cert.DilpRefIdeal.Read.out0_apply _ _ (i 0) (i 1)).trans ?_
    rw [e0, e1]
  · dsimp only
    rw [Cert.DilpIdeal.Array.arr5]
    funext i
    refine (congrArg (Cert.DilpRefIdeal.Value.res_main_v76 m' c) (eq_ix2 i)).trans ?_
    refine (Cert.DilpRefIdeal.Read.out1_apply _ _ (i 0) (i 1)).trans ?_
    rw [e0, e1]

/-- The reference runs and leaves its arguments alone; it has no semaphore, so every counter ends at zero. -/
theorem frame_ref : Cert.quiescent_DilpRefIdeal (hDilpRefIdeal := Cert.DilpRefIdeal.Gen.facts) := fun m g _ =>
  (θ_run (Cert.DilpRefIdeal.defs (F := Ideal)) _ _).mono
    (fun r h => ⟨fun c => (h c).2.2, sem_eq_zero_of_no_sems (by decide) r.2⟩) (Cert.DilpRefIdeal.Value.run m g)

end Cert.DilpClaim

end
-- ==== Proof.Mix.Array.lean ====
/-
  The mixers' output projection: two arrays of 512 columns, side by side, times the weights, added to the layer's input
  times a constant, every row normalised. The kernel's array and the reference's result are these rows.
-/
module

public import proofs.«01_k».proof.Proof.Gen.MixIdeal.Value
public import proofs.«01_k».proof.Proof.Gen.MixRefIdeal.Run
public import proofs.«01_k».proof.Proof.Ffn.Spec
public import Idealize.ShloMosaic.Lib.Pipeline.ValueKit
public import Idealize.ShloMosaic.Lib.Pointwise

@[expose] public section

set_option maxRecDepth 16384

noncomputable section

namespace Cert.MixSpec

open Idealize.ShloMosaic Cert.FfnSpec

variable (A B : Mat 16384 512) (W : Mat 1024 1024) (R : Mat 16384 1024) (G H : Row 1024)

/-- Row `512 + j` of the weights. -/
def lower (j : Fin 512) : Fin 1024 := ⟨512 + j, by omega⟩
def upper (j : Fin 512) : Fin 1024 := ⟨j, by omega⟩

/-- Row `i` before the normalisation. -/
def raw (i : Fin 16384) (k : Fin 1024) : EReal :=
  Ideal.ofBits FTy.f32 0x3FB504F3#32 * R (ix2 i k)
    + ((∑ j, A (ix2 i j) * W (ix2 (upper j) k)) + ∑ j, B (ix2 i j) * W (ix2 (lower j) k))

/-- The result. -/
def result (i : Fin 16384) (k : Fin 1024) : EReal := normed (raw A B W R i) (G (ix1 k)) (H (ix1 k)) k

/-- A sum over both arrays' columns is the sum over the one's and over the other's. -/
theorem sum_sides (f : Fin 1024 → EReal) : ∑ x, f x = (∑ j, f (upper j)) + ∑ j, f (lower j) :=
  Fin.sum_univ_add (a := 512) (b := 512) f

end Cert.MixSpec

namespace Cert.MixIdeal.Array

open Cert.MixIdeal Cert.MixIdeal.Gen Cert.MixSpec Cert.FfnSpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel

/-! The arguments' arrays. -/

abbrev aA : Mat 16384 512 := m ((c.tc : Thread nD τ).loc main_arg0)
abbrev aB : Mat 16384 512 := m ((c.tc : Thread nD τ).loc main_arg1)
abbrev aW : Mat 1024 1024 := m ((c.tc : Thread nD τ).loc main_arg2)
abbrev aR : Mat 16384 1024 := m ((c.tc : Thread nD τ).loc main_arg3)
abbrev aG : Row 1024 := m ((c.tc : Thread nD τ).loc main_arg4)
abbrev aH : Row 1024 := m ((c.tc : Thread nD τ).loc main_arg5)

/-! What each window is cut from. -/

theorem entry0 (u : S16384x512.Idx) {i : ℕ} (h : i < 16384) (k : Fin 512) (hi : (u 0).val = i) (hk : (u 1).val = k.val) :
    V m c main_arg0 u = aA m c (ix2 ⟨i, h⟩ k) := by
  obtain ⟨a, b, rfl⟩ : ∃ (a : Fin 16384) (b : Fin 512), u = ix2 a b := ⟨u 0, u 1, eq_ix2 u⟩
  obtain rfl : b = k := Fin.ext hk
  subst hi
  entry_read
  rfl

theorem entry1 (u : S16384x512.Idx) {i : ℕ} (h : i < 16384) (k : Fin 512) (hi : (u 0).val = i) (hk : (u 1).val = k.val) :
    V m c main_arg1 u = aB m c (ix2 ⟨i, h⟩ k) := by
  obtain ⟨a, b, rfl⟩ : ∃ (a : Fin 16384) (b : Fin 512), u = ix2 a b := ⟨u 0, u 1, eq_ix2 u⟩
  obtain rfl : b = k := Fin.ext hk
  subst hi
  entry_read
  rfl

theorem entry2 (u : S512x1024.Idx) (j : Fin 512) (k : Fin 1024) (hj : (u 0).val = j.val) (hk : (u 1).val = k.val) :
    V m c main_v1 u = aW m c (ix2 (upper j) k) := by
  obtain ⟨a, b, rfl⟩ : ∃ (a : Fin 512) (b : Fin 1024), u = ix2 a b := ⟨u 0, u 1, eq_ix2 u⟩
  obtain rfl : a = j := Fin.ext hj
  obtain rfl : b = k := Fin.ext hk
  entry_read
  pointwise
  rfl

theorem entry3 (u : S512x1024.Idx) (j : Fin 512) (k : Fin 1024) (hj : (u 0).val = j.val) (hk : (u 1).val = k.val) :
    V m c main_v2 u = aW m c (ix2 (lower j) k) := by
  obtain ⟨a, b, rfl⟩ : ∃ (a : Fin 512) (b : Fin 1024), u = ix2 a b := ⟨u 0, u 1, eq_ix2 u⟩
  obtain rfl : a = j := Fin.ext hj
  obtain rfl : b = k := Fin.ext hk
  entry_read
  pointwise
  rfl

theorem entry4 (u : S16384x1024.Idx) {i : ℕ} (h : i < 16384) (k : Fin 1024) (hi : (u 0).val = i) (hk : (u 1).val = k.val) :
    V m c main_arg3 u = aR m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry5 (u : S1x1024.Idx) (j : Fin 1024) (hj : (u 1).val = j.val) : V m c main_v3 u = aG m c (ix1 j) := by
  obtain ⟨a, b, rfl⟩ : ∃ (a : Fin 1) (b : Fin 1024), u = ix2 a b := ⟨u 0, u 1, eq_ix2 u⟩
  obtain rfl : b = j := Fin.ext hj
  entry_read
  pointwise

theorem entry6 (u : S1x1024.Idx) (j : Fin 1024) (hj : (u 1).val = j.val) : V m c main_v4 u = aH m c (ix1 j) := by
  obtain ⟨a, b, rfl⟩ : ∃ (a : Fin 1) (b : Fin 1024), u = ix2 a b := ⟨u 0, u 1, eq_ix2 u⟩
  obtain rfl : b = j := Fin.ext hj
  entry_read
  pointwise

/-! And so each block. -/

theorem block0 (t : Fin cfg0.N) (a k : Fin 512) (h : 512 * t.val + a.val < 16384) : iblk m c 0 t (ix2 a k) = aA m c (ix2 ⟨512 * t.val + a.val, h⟩ k) := by
  refine entry0 m c _ h k ?_ ?_ <;> blk_simp [idx0] <;> omega

theorem block1 (t : Fin cfg0.N) (a k : Fin 512) (h : 512 * t.val + a.val < 16384) : iblk m c 1 t (ix2 a k) = aB m c (ix2 ⟨512 * t.val + a.val, h⟩ k) := by
  refine entry1 m c _ h k ?_ ?_ <;> blk_simp [idx1] <;> omega

theorem block2 (t : Fin cfg0.N) (j : Fin 512) (k : Fin 1024) : iblk m c 2 t (ix2 j k) = aW m c (ix2 (upper j) k) := by
  refine entry2 m c _ j k ?_ ?_ <;> blk_simp [idx2]

theorem block3 (t : Fin cfg0.N) (j : Fin 512) (k : Fin 1024) : iblk m c 3 t (ix2 j k) = aW m c (ix2 (lower j) k) := by
  refine entry3 m c _ j k ?_ ?_ <;> blk_simp [idx3]

theorem block4 (t : Fin cfg0.N) (a : Fin 512) (k : Fin 1024) (h : 512 * t.val + a.val < 16384) : iblk m c 4 t (ix2 a k) = aR m c (ix2 ⟨512 * t.val + a.val, h⟩ k) := by
  refine entry4 m c _ h k ?_ ?_ <;> blk_simp [idx4] <;> omega

theorem block5 (t : Fin cfg0.N) (j : Fin 1024) : iblk m c 5 t (ix2 (0 : Fin 1) j) = aG m c (ix1 j) := by
  refine entry5 m c _ j ?_ <;> blk_simp [idx5]

theorem block6 (t : Fin cfg0.N) (j : Fin 1024) : iblk m c 6 t (ix2 (0 : Fin 1) j) = aH m c (ix1 j) := by
  refine entry6 m c _ j ?_ <;> blk_simp [idx6]

/-- A tile, from its blocks. -/
theorem tile_apply (x y : Mat 512 512) (v w : Mat 512 1024) (r : Mat 512 1024) (g h : Mat 1 1024) (a : Fin 512) (k : Fin 1024) :
    out0_7 (F := Ideal) x y v w r g h (ix2 a k)
      = normed (fun k => Ideal.ofBits FTy.f32 0x3FB504F3#32 * r (ix2 a k)
          + ((∑ j, x (ix2 a j) * v (ix2 j k)) + ∑ j, y (ix2 a j) * w (ix2 j k))) (g (ix2 0 k)) (h (ix2 0 k)) k := by
  unfold out0_7
  frame_out
  pointwise [k0_pay1, k0_pay2, k0_pay3, k0_pay4, k0_pay5]
  rfl

/-- The result's array. -/
theorem arr7 : (dats m 0 c).arrAt 7 cfg0.N
    = fun i => MixSpec.result (aA m c) (aB m c) (aW m c) (aR m c) (aG m c) (aH m c) (i 0) (i 1) := by
  refine (dats m 0 c).arrAt_eq_of_covers 7 _ (by decide +kernel) fun t hf y => ?_
  obtain ⟨a, k, rfl⟩ : ∃ (a : Fin 512) (k : Fin 1024), y = ix2 a k := ⟨y 0, y 1, eq_ix2 y⟩
  have ht : t.val < 32 := t.isLt
  blk_simp [idx7]
  rw [after0_7]
  refine (tile_apply _ _ _ _ _ _ _ a k).trans ?_
  simp only [block0 m c t a _ (by omega), block1 m c t a _ (by omega), block2, block3, block4 m c t a _ (by omega), block5, block6]
  refine congrArg₂ (MixSpec.result (aA m c) (aB m c) (aW m c) (aR m c) (aG m c) (aH m c)) (Fin.ext ?_) (Fin.ext ?_)
  · show 512 * t.val + a.val = _
    blk_simp [idx7]
    omega
  · blk_simp [idx7]

end Cert.MixIdeal.Array

namespace Cert.MixRefIdeal.Read

open Cert.MixRefIdeal Cert.MixRefIdeal.Gen Cert.MixRefIdeal.Value Cert.MixSpec Cert.FfnSpec
open Idealize.ShloMosaic Idealize.ShloMosaic.TcCoe Idealize.SL.Sem

variable (m : (ℓ : Loc nD τ sig) → Buf (Elt Ideal) ℓ) (c : Dev nD)

/-- The reference's result at an index. -/
theorem out_apply (i : Fin 16384) (k : Fin 1024) : res_out0 m c (ix2 i k : S16384x1024.Idx)
    = result (m (c.tc.loc main_arg0)) (m (c.tc.loc main_arg1)) (m (c.tc.loc main_arg2)) (m (c.tc.loc main_arg3))
        (m (c.tc.loc main_arg4)) (m (c.tc.loc main_arg5)) i k := by
  pointwise [res_main_v28]
  simp only [MixSpec.result, normed, mean, MixSpec.raw, sum_sides]
  rfl

end Cert.MixRefIdeal.Read

end
-- ==== Proof.Mix.Claim.lean ====
/-
  The output projection's value claim: the kernel and the reference leave the same normalised rows.
-/
module

public import proofs.«01_k».proof.Defs
public import proofs.«01_k».proof.Proof.Mix.Array

@[expose] public section

noncomputable section

namespace Cert.MixClaim

open Idealize.ShloMosaic Idealize.ShloMosaic.TcCoe Idealize.SL.Sem Cert.MixSpec

/-- The two programs agree, from the same arrays. -/
theorem algebraic : Cert.algebraic_MixIdeal_MixRefIdeal (hMixIdeal := Cert.MixIdeal.Gen.facts) (hMixRefIdeal := Cert.MixRefIdeal.Gen.facts) := by
  intro m g m' g' hpre hagree
  refine ⟨fun c => (Cert.MixIdeal.Gen.dats m 0 c).arrAt 7 Cert.MixIdeal.cfg0.N, Cert.MixIdeal.Value.run_blocks m g, ?_⟩
  refine (θ_run _ _ _).mono (fun r h c => ?_) (Cert.MixRefIdeal.Value.run m' g')
  obtain ⟨h0, h2⟩ := h c
  obtain ⟨e0, e1, e2, e3, e4, e5⟩ := hagree c
  refine ⟨h0.trans ?_, h2⟩
  dsimp only
  rw [Cert.MixIdeal.Array.arr7]
  funext i
  refine (congrArg (Cert.MixRefIdeal.Value.res_main_v28 m' c) (eq_ix2 i)).trans ?_
  refine (Cert.MixRefIdeal.Read.out_apply _ _ (i 0) (i 1)).trans ?_
  rw [e0, e1, e2, e3, e4, e5]

/-- The reference runs and leaves its arguments alone; it has no semaphore, so every counter ends at zero. -/
theorem frame_ref : Cert.quiescent_MixRefIdeal (hMixRefIdeal := Cert.MixRefIdeal.Gen.facts) := fun m g _ =>
  (θ_run (Cert.MixRefIdeal.defs (F := Ideal)) _ _).mono
    (fun r h => ⟨fun c => (h c).2, sem_eq_zero_of_no_sems (by decide) r.2⟩) (Cert.MixRefIdeal.Value.run m g)

end Cert.MixClaim

end
-- ==== Proof.Rope.Array.lean ====
/-
  The turning of the branches' queries and keys by their positions. The kernel's three arrays and the reference's results are
  the turned lanes.
-/
module

public import proofs.«01_k».proof.Proof.Gen.RopeIdeal.Value
public import proofs.«01_k».proof.Proof.Gen.RopeRefIdeal.Run
public import proofs.«01_k».proof.Proof.Rope.Lanes
public import Idealize.ShloMosaic.Lib.Pipeline.ValueKit
public import Idealize.ShloMosaic.Lib.Pointwise

@[expose] public section

set_option maxRecDepth 16384

noncomputable section

namespace Cert.RopeSpec

open Idealize.ShloMosaic Cert.FfnSpec Cert.Lanes

/-- A row's lanes, turned by its number. -/
def lane {r n : ℕ} (hw : 64 ∣ n) (X : Mat r n) (i : Fin r) (k : Fin n) : EReal :=
  turned i.val k.val (X (ix2 i k)) (X (ix2 i (partner hw k)))

theorem wide : 64 ∣ 512 := by decide
theorem narrow : 64 ∣ 128 := by decide

end Cert.RopeSpec

namespace Cert.RopeIdeal.Array

open Cert.RopeIdeal Cert.RopeIdeal.Gen Cert.RopeSpec Cert.FfnSpec Cert.Lanes
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

/-! The arguments' arrays. -/

abbrev aQ : Mat 16384 512 := m ((c.tc : Thread nD τ).loc main_arg0)
abbrev aK : Mat 16384 128 := m ((c.tc : Thread nD τ).loc main_arg1)
abbrev aL : Mat 16384 128 := m ((c.tc : Thread nD τ).loc main_arg2)

/-! What each window is cut from. -/

/-- The table of the cosines. -/
theorem entry0 (u : S16384x128.Idx) (i k : ℕ) (hi : (u 0).val = i) (hk : (u 1).val = k) : V m c main_v19 u = cosines i k := by
  obtain ⟨a, b, rfl⟩ : ∃ (a : Fin 16384) (b : Fin 128), u = ix2 a b := ⟨u 0, u 1, eq_ix2 u⟩
  subst hi hk
  entry_read
  pointwise
  rfl

/-- The table of the signed sines. -/
theorem entry1 (u : S16384x128.Idx) (i k : ℕ) (hi : (u 0).val = i) (hk : (u 1).val = k) : V m c main_v24 u = sines i k := by
  obtain ⟨a, b, rfl⟩ : ∃ (a : Fin 16384) (b : Fin 128), u = ix2 a b := ⟨u 0, u 1, eq_ix2 u⟩
  subst hi hk
  entry_read
  pointwise
  rfl

theorem entry2 (u : S16384x512.Idx) {i : ℕ} (h : i < 16384) (k : Fin 512) (hi : (u 0).val = i) (hk : (u 1).val = k.val) :
    V m c main_arg0 u = aQ m c (ix2 ⟨i, h⟩ k) := by
  obtain ⟨a, b, rfl⟩ : ∃ (a : Fin 16384) (b : Fin 512), u = ix2 a b := ⟨u 0, u 1, eq_ix2 u⟩
  obtain rfl : b = k := Fin.ext hk
  subst hi
  entry_read
  rfl

theorem entry3 (u : S16384x128.Idx) {i : ℕ} (h : i < 16384) (k : Fin 128) (hi : (u 0).val = i) (hk : (u 1).val = k.val) :
    V m c main_arg1 u = aK m c (ix2 ⟨i, h⟩ k) := by
  obtain ⟨a, b, rfl⟩ : ∃ (a : Fin 16384) (b : Fin 128), u = ix2 a b := ⟨u 0, u 1, eq_ix2 u⟩
  obtain rfl : b = k := Fin.ext hk
  subst hi
  entry_read
  rfl

theorem entry4 (u : S16384x128.Idx) {i : ℕ} (h : i < 16384) (k : Fin 128) (hi : (u 0).val = i) (hk : (u 1).val = k.val) :
    V m c main_arg2 u = aL m c (ix2 ⟨i, h⟩ k) := by
  obtain ⟨a, b, rfl⟩ : ∃ (a : Fin 16384) (b : Fin 128), u = ix2 a b := ⟨u 0, u 1, eq_ix2 u⟩
  obtain rfl : b = k := Fin.ext hk
  subst hi
  entry_read
  rfl

/-! And so each block. -/

theorem block0 (t : Fin cfg0.N) (a : Fin 512) (k : Fin 128) : iblk m c 0 t (ix2 a k) = cosines (512 * t.val + a.val) k.val := by
  refine entry0 m c _ _ _ ?_ ?_ <;> blk_simp [idx0] <;> omega

theorem block1 (t : Fin cfg0.N) (a : Fin 512) (k : Fin 128) : iblk m c 1 t (ix2 a k) = sines (512 * t.val + a.val) k.val := by
  refine entry1 m c _ _ _ ?_ ?_ <;> blk_simp [idx1] <;> omega

theorem block2 (t : Fin cfg0.N) (a : Fin 512) (k : Fin 512) (h : 512 * t.val + a.val < 16384) : iblk m c 2 t (ix2 a k) = aQ m c (ix2 ⟨512 * t.val + a.val, h⟩ k) := by
  refine entry2 m c _ h k ?_ ?_ <;> blk_simp [idx2] <;> omega

theorem block3 (t : Fin cfg0.N) (a : Fin 512) (k : Fin 128) (h : 512 * t.val + a.val < 16384) : iblk m c 3 t (ix2 a k) = aK m c (ix2 ⟨512 * t.val + a.val, h⟩ k) := by
  refine entry3 m c _ h k ?_ ?_ <;> blk_simp [idx3] <;> omega

theorem block4 (t : Fin cfg0.N) (a : Fin 512) (k : Fin 128) (h : 512 * t.val + a.val < 16384) : iblk m c 4 t (ix2 a k) = aL m c (ix2 ⟨512 * t.val + a.val, h⟩ k) := by
  refine entry4 m c _ h k ?_ ?_ <;> blk_simp [idx4] <;> omega

/-! A tile, from its blocks. -/

section Tile

variable (p q : Mat 512 128) (x : Mat 512 512) (y z : Mat 512 128) {i : ℕ} {a : Fin 512}
variable (hp : ∀ k : Fin 128, p (ix2 a k) = cosines i k.val) (hq : ∀ k : Fin 128, q (ix2 a k) = sines i k.val)

theorem same (v : Mat 512 128) : shapeCast S512x128 v shapeCasts_S512x128_S512x128 = v := by
  funext i
  rw [eq_ix2 i]
  pointwise

/-- The queries' part is a block of lanes. -/
theorem pay2_eq : k0_pay2 (F := Ideal) x p q = Lanes.block 480#32 iota_S512x512_d1_w32 broadcasts_S512x512_S512x512 rotates_S512x512_d1 x
      (concatenate S512x512 1 (List.ofFn fun _ : Fin 4 => (⟨Sq 128, p⟩ : (s : Shape) × (s.Idx → EReal))) concatenates_S512x128_S512x128_S512x128_S512x128_S512x512_d1)
      (concatenate S512x512 1 (List.ofFn fun _ : Fin 4 => (⟨Sq 128, q⟩ : (s : Shape) × (s.Idx → EReal))) concatenates_S512x128_S512x128_S512x128_S512x128_S512x512_d1) := by
  unfold k0_pay2
  rw [same p, same q]
  rfl

/-- The keys' parts are blocks of lanes as wide as the tables. -/
theorem pay4_eq : k0_pay4 (F := Ideal) y (k0_pay3 (F := Ideal) p) q
    = Lanes.block 96#32 iota_S512x128_d1_w32 broadcasts_S512x128_S512x128 rotates_S512x128_d1 y p q := by
  unfold k0_pay4 k0_pay3
  rw [same p, same q]
  rfl

theorem pay1_eq : k0_pay1 (F := Ideal) z (k0_pay5 (F := Ideal) p) (k0_pay6 (F := Ideal) q) (Scalar.select (Scalar.cmpi .eq 64#32 0#32) 1#32 64#32) k0_pay7
    = Lanes.block 96#32 iota_S512x128_d1_w32 broadcasts_S512x128_S512x128 rotates_S512x128_d1 z p q := by
  unfold k0_pay1 k0_pay5 k0_pay6 k0_pay7
  rw [same p, same q]
  rfl

include hp hq

theorem tile5_apply (k : Fin 512) : out0_5 (F := Ideal) p q x y z (ix2 a k) = turned i k.val (x (ix2 a k)) (x (ix2 a (partner wide k))) := by
  unfold out0_5
  frame_out
  rw [pay2_eq, block_apply (by decide) wide 480#32 (by decide)]
  refine (congrArg₂ (· + ·) (congrArg₂ (· * ·) rfl (copies_apply (N := 4) p (by decide) _ a k))
    (congrArg₂ (· * ·) rfl (copies_apply (N := 4) q (by decide) _ a k))).trans ?_
  rw [hp, hq]
  dsimp only
  rw [cosines_mod, sines_mod, turned_eq]

theorem tile6_apply (k : Fin 128) : out0_6 (F := Ideal) p q x y z (ix2 a k) = turned i k.val (y (ix2 a k)) (y (ix2 a (partner narrow k))) := by
  unfold out0_6
  frame_out
  rw [pay4_eq, block_apply (by decide) narrow 96#32 (by decide), hp, hq, turned_eq]

theorem tile7_apply (k : Fin 128) : out0_7 (F := Ideal) p q x y z (ix2 a k) = turned i k.val (z (ix2 a k)) (z (ix2 a (partner narrow k))) := by
  unfold out0_7
  frame_out
  rw [pay1_eq, block_apply (by decide) narrow 96#32 (by decide), hp, hq, turned_eq]

end Tile

/-! The results' arrays. -/

theorem arr5 : (dats m 0 c).arrAt 5 cfg0.N = fun i => lane wide (aQ m c) (i 0) (i 1) := by
  refine (dats m 0 c).arrAt_eq_of_covers 5 _ (by decide +kernel) fun t hf y => ?_
  obtain ⟨a, k, rfl⟩ : ∃ (a : Fin 512) (k : Fin 512), y = ix2 a k := ⟨y 0, y 1, eq_ix2 y⟩
  have ht : t.val < 32 := t.isLt
  blk_simp [idx5]
  rw [after0_5]
  refine (tile5_apply _ _ _ _ _ (block0 m c t a) (block1 m c t a) k).trans ?_
  rw [block2 m c t a _ (by omega), block2 m c t a _ (by omega)]
  refine congrArg₂ (lane wide (aQ m c)) (x := ⟨512 * t.val + a.val, by omega⟩) (y := k) (Fin.ext ?_) (Fin.ext ?_)
  · show 512 * t.val + a.val = _
    blk_simp [idx5]
    omega
  · blk_simp [idx5]

theorem arr6 : (dats m 0 c).arrAt 6 cfg0.N = fun i => lane narrow (aK m c) (i 0) (i 1) := by
  refine (dats m 0 c).arrAt_eq_of_covers 6 _ (by decide +kernel) fun t hf y => ?_
  obtain ⟨a, k, rfl⟩ : ∃ (a : Fin 512) (k : Fin 128), y = ix2 a k := ⟨y 0, y 1, eq_ix2 y⟩
  have ht : t.val < 32 := t.isLt
  blk_simp [idx6]
  rw [after0_6]
  refine (tile6_apply _ _ _ _ _ (block0 m c t a) (block1 m c t a) k).trans ?_
  rw [block3 m c t a _ (by omega), block3 m c t a _ (by omega)]
  refine congrArg₂ (lane narrow (aK m c)) (x := ⟨512 * t.val + a.val, by omega⟩) (y := k) (Fin.ext ?_) (Fin.ext ?_)
  · show 512 * t.val + a.val = _
    blk_simp [idx6]
    omega
  · blk_simp [idx6]

theorem arr7 : (dats m 0 c).arrAt 7 cfg0.N = fun i => lane narrow (aL m c) (i 0) (i 1) := by
  refine (dats m 0 c).arrAt_eq_of_covers 7 _ (by decide +kernel) fun t hf y => ?_
  obtain ⟨a, k, rfl⟩ : ∃ (a : Fin 512) (k : Fin 128), y = ix2 a k := ⟨y 0, y 1, eq_ix2 y⟩
  have ht : t.val < 32 := t.isLt
  blk_simp [idx7]
  rw [after0_7]
  refine (tile7_apply _ _ _ _ _ (block0 m c t a) (block1 m c t a) k).trans ?_
  rw [block4 m c t a _ (by omega), block4 m c t a _ (by omega)]
  refine congrArg₂ (lane narrow (aL m c)) (x := ⟨512 * t.val + a.val, by omega⟩) (y := k) (Fin.ext ?_) (Fin.ext ?_)
  · show 512 * t.val + a.val = _
    blk_simp [idx7]
    omega
  · blk_simp [idx7]

end Cert.RopeIdeal.Array

end
-- ==== Proof.Rope.Ref.lean ====
/-
  The reference of the turning: head by head, the two halves of a head, and the halves side by side.
-/
module

public import proofs.«01_k».proof.Proof.Gen.RopeRefIdeal.Run
public import proofs.«01_k».proof.Proof.Rope.Array

@[expose] public section

set_option maxRecDepth 16384

noncomputable section

namespace Cert.RopeRefIdeal.Read

open Cert.RopeRefIdeal Cert.RopeRefIdeal.Gen Cert.RopeSpec Cert.FfnSpec Cert.Lanes
open Idealize.ShloMosaic Idealize.ShloMosaic.TcCoe Idealize.SL.Sem

variable (m : (ℓ : Loc nD τ sig) → Buf (Elt Ideal) ℓ) (g : Dev nD → PrngReg)

/-- Every run leaves the turned lanes and the arguments as they were. -/
theorem run_lanes : θ_run defs (onTc (τ := τ) (main (F := Ideal))) ⟨m, fun _ => 0, g⟩ fun r => ∀ c : Dev nD,
      r.2.mem ((c.tc : Thread nD τ).loc main_v32) = (fun i => lane wide (r := 16384) (m (c.tc.loc main_arg0)) (i 0) (i 1))
      ∧ r.2.mem ((c.tc : Thread nD τ).loc main_v64) = (fun i => lane narrow (r := 16384) (m (c.tc.loc main_arg1)) (i 0) (i 1))
      ∧ r.2.mem ((c.tc : Thread nD τ).loc main_v96) = (fun i => lane narrow (r := 16384) (m (c.tc.loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.RopeRefIdeal.Value.run m g)
  obtain ⟨h0, h1, h2, h3⟩ := h c
  refine ⟨h0.trans ?_, h1.trans ?_, h2.trans ?_, h3⟩
  · funext i
    obtain ⟨a, k, rfl⟩ : ∃ (a : Fin 16384) (k : Fin 512), i = ix2 a k := ⟨i 0, i 1, eq_ix2 i⟩
    pointwise
    exact turned_own wide (fun k => m (c.tc.loc main_arg0) (ix2 a k)) a.val k
  · funext i
    obtain ⟨a, k, rfl⟩ : ∃ (a : Fin 16384) (k : Fin 128), i = ix2 a k := ⟨i 0, i 1, eq_ix2 i⟩
    pointwise
    exact turned_own narrow (fun k => m (c.tc.loc main_arg1) (ix2 a k)) a.val k
  · funext i
    obtain ⟨a, k, rfl⟩ : ∃ (a : Fin 16384) (k : Fin 128), i = ix2 a k := ⟨i 0, i 1, eq_ix2 i⟩
    pointwise
    exact turned_own narrow (fun k => m (c.tc.loc main_arg2) (ix2 a k)) a.val k

end Cert.RopeRefIdeal.Read

end
-- ==== Proof.Rope.Claim.lean ====
/-
  The turning's value claim: the kernel and the reference leave the same lanes, in all three results.
-/
module

public import proofs.«01_k».proof.Defs
public import proofs.«01_k».proof.Proof.Rope.Ref

@[expose] public section

noncomputable section

namespace Cert.RopeClaim

open Idealize.ShloMosaic Idealize.ShloMosaic.TcCoe Idealize.SL.Sem

/-- The two programs agree, from the same rows. -/
theorem algebraic : Cert.algebraic_RopeIdeal_RopeRefIdeal (hRopeIdeal := Cert.RopeIdeal.Gen.facts) (hRopeRefIdeal := Cert.RopeRefIdeal.Gen.facts) := by
  intro m g m' g' hpre hagree
  refine ⟨fun c => (Cert.RopeIdeal.Gen.dats m 0 c).arrAt 5 Cert.RopeIdeal.cfg0.N, fun c => (Cert.RopeIdeal.Gen.dats m 0 c).arrAt 6 Cert.RopeIdeal.cfg0.N,
    fun c => (Cert.RopeIdeal.Gen.dats m 0 c).arrAt 7 Cert.RopeIdeal.cfg0.N, Cert.RopeIdeal.Value.run_blocks m g, ?_⟩
  refine (θ_run _ _ _).mono (fun r h c => ?_) (Cert.RopeRefIdeal.Read.run_lanes m' g')
  obtain ⟨h0, h1, h2, h3⟩ := h c
  obtain ⟨e0, e1, e2⟩ := hagree c
  refine ⟨h0.trans ?_, h1.trans ?_, h2.trans ?_, h3⟩
  · dsimp only
    rw [Cert.RopeIdeal.Array.arr5, e0]
    rfl
  · dsimp only
    rw [Cert.RopeIdeal.Array.arr6, e1]
    rfl
  · dsimp only
    rw [Cert.RopeIdeal.Array.arr7, e2]
    rfl

/-- The reference runs and leaves its arguments alone; it has no semaphore, so every counter ends at zero. -/
theorem frame_ref : Cert.quiescent_RopeRefIdeal (hRopeRefIdeal := Cert.RopeRefIdeal.Gen.facts) := fun m g _ =>
  (θ_run (Cert.RopeRefIdeal.defs (F := Ideal)) _ _).mono
    (fun r h => ⟨fun c => (h c).2.2.2, sem_eq_zero_of_no_sems (by decide) r.2⟩) (Cert.RopeRefIdeal.Value.run m g)

end Cert.RopeClaim

end
-- ==== Proof.Near.Array.lean ====
/-
  The two result arrays at dilation 1 at an index, in the entries of the argument.
-/
module

public import proofs.«01_k».proof.Proof.Gen.NearIdeal.Value
public import proofs.«01_k».proof.Proof.Band.Cut
public import Idealize.ShloMosaic.Lib.Claim

@[expose] public section

set_option maxRecDepth 16384

noncomputable section

namespace Cert.NearIdeal.Array

open Cert.NearIdeal Cert.NearIdeal.Gen Cert.BandSpec
open Cert.BandIdeal.Pair (Block bias pairNum)
open Cert.BandIdeal.Body (put tops totals Cut numLoads statLoads numLoads_eq statLoads_eq)
open Idealize.ShloMosaic Idealize.ShloMosaic.TcCoe Idealize.SL.Sem
open Idealize.ShloMosaic.Pipeline (Dat)

variable (m : (ℓ : Loc nD τ sig) → Buf (Elt Ideal) ℓ) (c : Dev nD)

/-- The grid runs over the blocks and the residues; the windows follow it. -/
theorem idx0 : ∀ t : Fin cfg0.N, win0_0.index t = ![(grid0.coords t 0).val, (grid0.coords t 1).val * 3] := by decide +kernel
theorem idx1 : ∀ t : Fin cfg0.N, win0_1.index t = ![(grid0.coords t 0).val - 1, (grid0.coords t 1).val * 3 + 1] := by decide +kernel
theorem idx2 : ∀ t : Fin cfg0.N, win0_2.index t = ![(grid0.coords t 0).val, (grid0.coords t 1).val * 3 + 1] := by decide +kernel
theorem idx3 : ∀ t : Fin cfg0.N, win0_3.index t = ![(grid0.coords t 0).val - 1, (grid0.coords t 1).val * 3 + 2] := by decide +kernel
theorem idx4 : ∀ t : Fin cfg0.N, win0_4.index t = ![(grid0.coords t 0).val, (grid0.coords t 1).val * 3 + 2] := by decide +kernel
theorem idx5 : ∀ t : Fin cfg0.N, win0_5.index t = ![(grid0.coords t 0).val, (grid0.coords t 1).val] := by decide +kernel
theorem idx6 : ∀ t : Fin cfg0.N, win0_6.index t = ![(grid0.coords t 0).val, (grid0.coords t 1).val] := by decide +kernel

/-- The argument's array. -/
abbrev rows : Rows := m ((c.tc : Thread nD τ).loc main_arg0)

/-- The windows are cut from the argument. -/
theorem entry (u : S16384x3072.Idx) {i j : ℕ} (hi : (u 0).val = i) (hj : (u 1).val = j) :
    V m c main_arg0 u = cell (rows m c) i j := by
  have h0 : (u 0).val < 16384 := (u 0).isLt
  have h1 : (u 1).val < 3072 := (u 1).isLt
  subst hi hj
  rw [← cell_eq (rows m c) h0 h1]
  exact congrArg (rows m c) (eq_ix2 u)

/-- The block of queries. -/
theorem block0 (t : Fin cfg0.N) (a : Fin 128) (k : Fin 1024) : iblk m c 0 t (ix2 a k)
    = cell (rows m c) ((grid0.coords t 0).val * (128 * 1) + a * 1 + (grid0.coords t 1).val) (0 + k) := by
  have hr : (grid0.coords t 1).val < 1 := (grid0.coords t 1).isLt
  refine entry m c _ ?_ ?_ <;> blk_simp [idx0] <;> omega

/-- The block of keys before it. -/
theorem block1 (t : Fin cfg0.N) (a : Fin 128) (k : Fin 1024) : iblk m c 1 t (ix2 a k)
    = cell (rows m c) (((grid0.coords t 0).val - 1) * (128 * 1) + a * 1 + (grid0.coords t 1).val) (1024 + k) := by
  have hr : (grid0.coords t 1).val < 1 := (grid0.coords t 1).isLt
  refine entry m c _ ?_ ?_ <;> blk_simp [idx1] <;> omega

/-- The block of keys. -/
theorem block2 (t : Fin cfg0.N) (a : Fin 128) (k : Fin 1024) : iblk m c 2 t (ix2 a k)
    = cell (rows m c) ((grid0.coords t 0).val * (128 * 1) + a * 1 + (grid0.coords t 1).val) (1024 + k) := by
  have hr : (grid0.coords t 1).val < 1 := (grid0.coords t 1).isLt
  refine entry m c _ ?_ ?_ <;> blk_simp [idx2] <;> omega

/-- The block of values before it. -/
theorem block3 (t : Fin cfg0.N) (a : Fin 128) (k : Fin 1024) : iblk m c 3 t (ix2 a k)
    = cell (rows m c) (((grid0.coords t 0).val - 1) * (128 * 1) + a * 1 + (grid0.coords t 1).val) (2048 + k) := by
  have hr : (grid0.coords t 1).val < 1 := (grid0.coords t 1).isLt
  refine entry m c _ ?_ ?_ <;> blk_simp [idx3] <;> omega

/-- The block of values. -/
theorem block4 (t : Fin cfg0.N) (a : Fin 128) (k : Fin 1024) : iblk m c 4 t (ix2 a k)
    = cell (rows m c) ((grid0.coords t 0).val * (128 * 1) + a * 1 + (grid0.coords t 1).val) (2048 + k) := by
  have hr : (grid0.coords t 1).val < 1 := (grid0.coords t 1).isLt
  refine entry m c _ ?_ ?_ <;> blk_simp [idx4] <;> omega

/-- At this dilation the blocks enter the body without a cast to their own shape. -/
def tops' (n : ℕ) (q kp kc : Block) : FVec Ideal S256x1 .f32 := k0_pay8 (bias n) (k0_pay5 q) (k0_pay6 kp kc)
def totals' (n : ℕ) (q kp kc : Block) : FVec Ideal S256x1 .f32 :=
  shapeCast S256x1 (multiReduction .add [1] S256 (k0_pay9 (bias n) (k0_pay5 q) (k0_pay6 kp kc)) 0x00000000#32 reduces_S256x256_S256 (.inl rfl) rfl) shapeCasts_S256_S256x1
def pairNum' (n : ℕ) (q kp kc vp vc : Block) : FVec Ideal S128x128 .f32 := k0_pay10 (bias n) k0_pay3 (k0_pay5 q) (k0_pay6 kp kc) vp vc

/-- The cast changes nothing. -/
theorem query_eq (q : Block) : k0_pay5 (F := Ideal) q = Cert.BandIdeal.Gen.k0_pay4 (F := Ideal) q := by
  unfold Cert.BandIdeal.Gen.k0_pay4
  rw [shapeCast_self]
  rfl

theorem key_eq (k : Block) : Cert.BandIdeal.Gen.k0_pay5 (F := Ideal) k = k := by
  unfold Cert.BandIdeal.Gen.k0_pay5
  exact shapeCast_self _ _

theorem key_eq' (k : Block) : Cert.BandIdeal.Gen.k0_pay6 (F := Ideal) k = k := by
  unfold Cert.BandIdeal.Gen.k0_pay6
  exact shapeCast_self _ _

theorem score_eq (b : FVec Ideal S256x256 .f32) (q kp kc : Block) : k0_pay7 b (k0_pay5 q) (k0_pay6 kp kc)
    = Cert.BandIdeal.Gen.k0_pay7 b (Cert.BandIdeal.Gen.k0_pay4 q) (Cert.BandIdeal.Gen.k0_pay5 kp) (Cert.BandIdeal.Gen.k0_pay6 kc) := by
  rw [query_eq, key_eq, key_eq']
  rfl

theorem top_eq (b : FVec Ideal S256x256 .f32) (q kp kc : Block) : k0_pay8 b (k0_pay5 q) (k0_pay6 kp kc)
    = Cert.BandIdeal.Gen.k0_pay8 b (Cert.BandIdeal.Gen.k0_pay4 q) (Cert.BandIdeal.Gen.k0_pay5 kp) (Cert.BandIdeal.Gen.k0_pay6 kc) := by
  unfold k0_pay8
  rw [score_eq]
  rfl

theorem exp_eq (b : FVec Ideal S256x256 .f32) (q kp kc : Block) : k0_pay9 b (k0_pay5 q) (k0_pay6 kp kc)
    = Cert.BandIdeal.Gen.k0_pay9 b (Cert.BandIdeal.Gen.k0_pay4 q) (Cert.BandIdeal.Gen.k0_pay5 kp) (Cert.BandIdeal.Gen.k0_pay6 kc) := by
  unfold k0_pay9
  rw [score_eq, top_eq]
  rfl

theorem tops_eq (n : ℕ) (q kp kc : Block) : tops' n q kp kc = tops n q kp kc := top_eq _ q kp kc

theorem totals_eq (n : ℕ) (q kp kc : Block) : totals' n q kp kc = totals n q kp kc := by
  unfold totals'
  rw [exp_eq]
  rfl

theorem pairNum_eq (n : ℕ) (q kp kc vp vc : Block) : pairNum' n q kp kc vp vc = pairNum n q kp kc vp vc := by
  unfold pairNum' pairNum k0_pay10 Cert.BandIdeal.Gen.k0_pay10
  rw [exp_eq, shapeCast_self, shapeCast_self]
  rfl

/-- The body writes the same two blocks as at the other dilations. -/
theorem out5_eq (g : grid0.Coords) (x0 x1 x2 x3 x4 : Cert.BandIdeal.Body.Window) : out0_5 g x0 x1 x2 x3 x4 = numLoads (g 0) x0 x1 x2 x3 x4 := by
  have h : out0_5 g x0 x1 x2 x3 x4 = View.canon [⟨r0_7, pairNum' (g 0) (View.ld x0 r0_7) (View.ld x1 r0_7) (View.ld x2 r0_7) (View.ld x3 r0_7) (View.ld x4 r0_7)⟩,
      ⟨r0_6, pairNum' (g 0) (View.ld x0 r0_6) (View.ld x1 r0_6) (View.ld x2 r0_6) (View.ld x3 r0_6) (View.ld x4 r0_6)⟩,
      ⟨r0_5, pairNum' (g 0) (View.ld x0 r0_5) (View.ld x1 r0_5) (View.ld x2 r0_5) (View.ld x3 r0_5) (View.ld x4 r0_5)⟩,
      ⟨r0_4, pairNum' (g 0) (View.ld x0 r0_4) (View.ld x1 r0_4) (View.ld x2 r0_4) (View.ld x3 r0_4) (View.ld x4 r0_4)⟩,
      ⟨r0_3, pairNum' (g 0) (View.ld x0 r0_3) (View.ld x1 r0_3) (View.ld x2 r0_3) (View.ld x3 r0_3) (View.ld x4 r0_3)⟩,
      ⟨r0_2, pairNum' (g 0) (View.ld x0 r0_2) (View.ld x1 r0_2) (View.ld x2 r0_2) (View.ld x3 r0_2) (View.ld x4 r0_2)⟩,
      ⟨r0_1, pairNum' (g 0) (View.ld x0 r0_1) (View.ld x1 r0_1) (View.ld x2 r0_1) (View.ld x3 r0_1) (View.ld x4 r0_1)⟩,
      ⟨r0_0, pairNum' (g 0) (View.ld x0 r0_0) (View.ld x1 r0_0) (View.ld x2 r0_0) (View.ld x3 r0_0) (View.ld x4 r0_0)⟩] := by
    unfold_out out0_5
    rfl
  rw [h]
  simp only [pairNum_eq]
  rfl

theorem out6_eq (g : grid0.Coords) (x0 x1 x2 x3 x4 : Cert.BandIdeal.Body.Window) : out0_6 g x0 x1 x2 x3 x4 = statLoads (g 0) x0 x1 x2 := by
  have h : out0_6 g x0 x1 x2 x3 x4 = View.canon [⟨r0_8, put 14#32 (tops' (g 0) (View.ld x0 r0_7) (View.ld x1 r0_7) (View.ld x2 r0_7)) (totals' (g 0) (View.ld x0 r0_7) (View.ld x1 r0_7) (View.ld x2 r0_7))
      (put 12#32 (tops' (g 0) (View.ld x0 r0_6) (View.ld x1 r0_6) (View.ld x2 r0_6)) (totals' (g 0) (View.ld x0 r0_6) (View.ld x1 r0_6) (View.ld x2 r0_6))
      (put 10#32 (tops' (g 0) (View.ld x0 r0_5) (View.ld x1 r0_5) (View.ld x2 r0_5)) (totals' (g 0) (View.ld x0 r0_5) (View.ld x1 r0_5) (View.ld x2 r0_5))
      (put 8#32 (tops' (g 0) (View.ld x0 r0_4) (View.ld x1 r0_4) (View.ld x2 r0_4)) (totals' (g 0) (View.ld x0 r0_4) (View.ld x1 r0_4) (View.ld x2 r0_4))
      (put 6#32 (tops' (g 0) (View.ld x0 r0_3) (View.ld x1 r0_3) (View.ld x2 r0_3)) (totals' (g 0) (View.ld x0 r0_3) (View.ld x1 r0_3) (View.ld x2 r0_3))
      (put 4#32 (tops' (g 0) (View.ld x0 r0_2) (View.ld x1 r0_2) (View.ld x2 r0_2)) (totals' (g 0) (View.ld x0 r0_2) (View.ld x1 r0_2) (View.ld x2 r0_2))
      (put 2#32 (tops' (g 0) (View.ld x0 r0_1) (View.ld x1 r0_1) (View.ld x2 r0_1)) (totals' (g 0) (View.ld x0 r0_1) (View.ld x1 r0_1) (View.ld x2 r0_1))
      (put 0#32 (tops' (g 0) (View.ld x0 r0_0) (View.ld x1 r0_0) (View.ld x2 r0_0)) (totals' (g 0) (View.ld x0 r0_0) (View.ld x1 r0_0) (View.ld x2 r0_0))
      k0_pay4)))))))⟩] := by
    unfold_out out0_6
    rfl
  rw [h]
  simp only [tops_eq, totals_eq]
  rfl

/-- What a point finds in its windows. -/
theorem cut (t : Fin cfg0.N) : Cut (rows m c) 1 (grid0.coords t 0) (grid0.coords t 1)
    (iblk m c 0 t) (iblk m c 1 t) (iblk m c 2 t) (iblk m c 3 t) (iblk m c 4 t) :=
  ⟨block0 m c t, block1 m c t, block2 m c t, block3 m c t, block4 m c t⟩

/-- The numerators' array. -/
theorem arr5 : (dats m 0 c).arrAt 5 cfg0.N = fun i => num (rows m c) 1 ((i 0).val / 128) ((i 1).val / 1024) ((i 1).val / 64 % 16)
    ((i 0).val % 128) ((i 1).val % 64) := by
  refine (dats m 0 c).arrAt_eq_of_covers 5 _ (by decide +kernel) fun t hf y => ?_
  obtain ⟨a, k, rfl⟩ : ∃ (a : Fin 128) (k : Fin 1024), y = ix2 a k := ⟨y 0, y 1, eq_ix2 y⟩
  blk_simp [idx5]
  rw [after0_5, out5_eq, numLoads_eq]
  refine ((cut m c t).num a k).trans ?_
  have hr : (grid0.coords t 1).val < 1 := (grid0.coords t 1).isLt
  have hb : (grid0.bound 1 : ℕ) = 1 := rfl
  congr 1 <;> omega

/-- The statistics' array. -/
theorem arr6 : (dats m 0 c).arrAt 6 cfg0.N = fun i => stat (rows m c) 1 ((i 0).val / 128) ((i 1).val / 128)
    ((i 0).val % 128) ((i 1).val % 128) := by
  refine (dats m 0 c).arrAt_eq_of_covers 6 _ (by decide +kernel) fun t hf y => ?_
  obtain ⟨a, l, rfl⟩ : ∃ (a l : Fin 128), y = ix2 a l := ⟨y 0, y 1, eq_ix2 y⟩
  blk_simp [idx6]
  rw [after0_6, out6_eq, statLoads_eq]
  refine ((cut m c t).stat a l).trans ?_
  have hr : (grid0.coords t 1).val < 1 := (grid0.coords t 1).isLt
  have hb : (grid0.bound 1 : ℕ) = 1 := rfl
  congr 1 <;> omega

end Cert.NearIdeal.Array

end
-- ==== Proof.Near.Ref.lean ====
/-
  The reference's two results at dilation 1, read at an index, are the formulas of the specification.
-/
module

public import proofs.«01_k».proof.Proof.Gen.NearRefIdeal.Run
public import proofs.«01_k».proof.Proof.Band.Spec

@[expose] public section

set_option maxRecDepth 16384

noncomputable section

namespace Cert.NearRefIdeal.Read

open Cert.NearRefIdeal Cert.NearRefIdeal.Gen Cert.NearRefIdeal.Value Cert.BandSpec
open Idealize.ShloMosaic Idealize.ShloMosaic.TcCoe Idealize.SL.Sem

variable (m : (ℓ : Loc nD τ sig) → Buf (Elt Ideal) ℓ) (c : Dev nD)

/-- At dilation 1 there is one residue, and a place is a position. -/
theorem scores_near (X : Rows) (n h a : ℕ) : scores X 1 n 0 h a = fun j : Fin 256 => masked (sees n a j)
    ((∑ e : Fin 64, cell X (n * 128 + a) (h * 64 + e)
      * if j.val < 128 then if n < 1 then 0 else cell X ((n - 1) * 128 + j) (1024 + (h * 64 + e))
        else cell X (n * 128 + (j - 128)) (1024 + (h * 64 + e))) * scale) := by
  funext j
  simp only [scores, score, pairRow, Nat.mul_one, Nat.add_zero]

set_option maxHeartbeats 1000000 in
/-- The first result: the numerators. -/
theorem num_apply (i : Fin 16384) (j : Fin 1024) :
    res_out0 m c (ix2 i j : S16384x1024.Idx)
      = num (m (c.tc.loc main_arg0)) 1 (i / 128) (j / 1024) (j / 64 % 16) (i % 128) (j % 64) := by
  have h0 : j.val / 1024 = 0 := by omega
  have h1 : j.val / 64 % 16 = j.val / 64 := by omega
  pointwise [res_main_v65]
  simp only [cell_eq, id_eq, constant, broadcast, start_eq, dite_eq_ite]
  rw [h0, h1]
  simp only [num, blend, weight, top, scores_near, pairRow, sees, masked, sum_blocks, Fin.is_lt, if_true,
    Nat.add_sub_cancel_left, Nat.reduceMul, Nat.mul_one, Nat.add_zero, Nat.div_add_mod',
    show ∀ x : Fin 128, ¬ 128 + x.val < 128 from fun x => by omega, if_false]
  rfl

set_option maxHeartbeats 1000000 in
/-- The second result: the statistics. -/
theorem stat_apply (i : Fin 16384) (j : Fin 128) :
    res_out1 m c (ix2 i j : S16384x128.Idx)
      = stat (m (c.tc.loc main_arg0)) 1 (i / 128) (j / 128) (i % 128) (j % 128) := by
  have h0 : j.val / 128 = 0 := by omega
  have h1 : j.val % 128 = j.val := by omega
  pointwise [res_main_v68]
  simp only [cell_eq, id_eq, constant, broadcast, start_eq, dite_eq_ite]
  rw [h0, h1]
  simp only [stat, total, weight, top, scores_near, sees, masked, sum_blocks, Fin.is_lt, if_true,
    Nat.add_sub_cancel_left, Nat.reduceMul, Nat.div_add_mod', show ∀ x : Fin 128, ¬ 128 + x.val < 128 from fun x => by omega, if_false]
  by_cases a1 : j.val < 16
  · rw [if_pos a1, if_pos a1]
    rfl
  · rw [if_neg a1, if_neg a1]
    by_cases a2 : j.val < 32
    · rw [if_pos a2, if_pos (by omega)]
      rfl
    · rw [if_neg a2, if_neg (by omega)]

end Cert.NearRefIdeal.Read

end
-- ==== Proof.Near.Claim.lean ====
/-
  The value claim of the band attention at dilation 1: the kernel and the reference leave the same numerators and statistics.
-/
module

public import proofs.«01_k».proof.Defs
public import proofs.«01_k».proof.Proof.Near.Array
public import proofs.«01_k».proof.Proof.Near.Ref

@[expose] public section

noncomputable section

namespace Cert.NearClaim

open Idealize.ShloMosaic Idealize.ShloMosaic.TcCoe Idealize.SL.Sem Cert.BandSpec

/-- The two programs agree, from the same rows. -/
theorem algebraic : Cert.algebraic_NearIdeal_NearRefIdeal (hNearIdeal := Cert.NearIdeal.Gen.facts) (hNearRefIdeal := Cert.NearRefIdeal.Gen.facts) := by
  intro m g m' g' hpre hagree
  refine ⟨fun c => (Cert.NearIdeal.Gen.dats m 0 c).arrAt 5 Cert.NearIdeal.cfg0.N,
    fun c => (Cert.NearIdeal.Gen.dats m 0 c).arrAt 6 Cert.NearIdeal.cfg0.N, Cert.NearIdeal.Value.run_blocks m g, ?_⟩
  refine (θ_run _ _ _).mono (fun r h c => ?_) (Cert.NearRefIdeal.Value.run m' g')
  obtain ⟨h0, h1, h2⟩ := h c
  refine ⟨h0.trans ?_, h1.trans ?_, h2⟩
  · dsimp only
    rw [Cert.NearIdeal.Array.arr5]
    funext i
    rw [eq_ix2 i]
    refine (Cert.NearRefIdeal.Read.num_apply m' c (i 0) (i 1)).trans ?_
    rw [hagree c]
    rfl
  · dsimp only
    rw [Cert.NearIdeal.Array.arr6]
    funext i
    rw [eq_ix2 i]
    refine (Cert.NearRefIdeal.Read.stat_apply m' c (i 0) (i 1)).trans ?_
    rw [hagree c]
    rfl

/-- The reference runs and leaves its argument alone; it has no semaphore, so every counter ends at zero. -/
theorem frame_ref : Cert.quiescent_NearRefIdeal (hNearRefIdeal := Cert.NearRefIdeal.Gen.facts) := fun m g _ =>
  (θ_run (Cert.NearRefIdeal.defs (F := Ideal)) _ _).mono
    (fun r h => ⟨fun c => (h c).2.2, sem_eq_zero_of_no_sems (by decide) r.2⟩) (Cert.NearRefIdeal.Value.run m g)

end Cert.NearClaim

end
-- ==== Proof.Far.Array.lean ====
/-
  The two result arrays at dilation 16 at an index, in the entries of the argument.
-/
module

public import proofs.«01_k».proof.Proof.Gen.FarIdeal.Value
public import proofs.«01_k».proof.Proof.Band.Cut
public import Idealize.ShloMosaic.Lib.Claim

@[expose] public section

set_option maxRecDepth 16384

noncomputable section

namespace Cert.FarIdeal.Array

open Cert.FarIdeal Cert.FarIdeal.Gen Cert.BandSpec
open Cert.BandIdeal.Body (Cut numLoads statLoads numLoads_eq statLoads_eq)
open Idealize.ShloMosaic Idealize.ShloMosaic.TcCoe Idealize.SL.Sem
open Idealize.ShloMosaic.Pipeline (Dat)

variable (m : (ℓ : Loc nD τ sig) → Buf (Elt Ideal) ℓ) (c : Dev nD)

/-- The grid runs over the blocks and the residues; the windows follow it. -/
theorem idx0 : ∀ t : Fin cfg0.N, win0_0.index t = ![(grid0.coords t 0).val, (grid0.coords t 1).val * 3] := by decide +kernel
theorem idx1 : ∀ t : Fin cfg0.N, win0_1.index t = ![(grid0.coords t 0).val - 1, (grid0.coords t 1).val * 3 + 1] := by decide +kernel
theorem idx2 : ∀ t : Fin cfg0.N, win0_2.index t = ![(grid0.coords t 0).val, (grid0.coords t 1).val * 3 + 1] := by decide +kernel
theorem idx3 : ∀ t : Fin cfg0.N, win0_3.index t = ![(grid0.coords t 0).val - 1, (grid0.coords t 1).val * 3 + 2] := by decide +kernel
theorem idx4 : ∀ t : Fin cfg0.N, win0_4.index t = ![(grid0.coords t 0).val, (grid0.coords t 1).val * 3 + 2] := by decide +kernel
theorem idx5 : ∀ t : Fin cfg0.N, win0_5.index t = ![(grid0.coords t 0).val, (grid0.coords t 1).val] := by decide +kernel
theorem idx6 : ∀ t : Fin cfg0.N, win0_6.index t = ![(grid0.coords t 0).val, (grid0.coords t 1).val] := by decide +kernel

/-- The argument's array. -/
abbrev rows : Rows := m ((c.tc : Thread nD τ).loc main_arg0)

/-- The array the windows are cut from has sixteen rows of the argument side by side in each of its own. -/
theorem entry (u : S1024x49152.Idx) {i j : ℕ} (hi : (u 0).val * 16 + (u 1).val / 3072 = i) (hj : (u 1).val % 3072 = j) :
    V m c main_v0 u = cell (rows m c) i j := by
  have h0 : (u 0).val < 1024 := (u 0).isLt
  have h1 : (u 1).val < 49152 := (u 1).isLt
  subst hi hj
  rw [← cell_eq (rows m c) (by omega) (by omega)]
  entry_read
  pointwise

/-- The block of queries. -/
theorem block0 (t : Fin cfg0.N) (a : Fin 128) (k : Fin 1024) : iblk m c 0 t (ix2 a k)
    = cell (rows m c) ((grid0.coords t 0).val * (128 * 16) + a * 16 + (grid0.coords t 1).val) (0 + k) := by
  have hr : (grid0.coords t 1).val < 16 := (grid0.coords t 1).isLt
  refine entry m c _ ?_ ?_ <;> blk_simp [idx0] <;> omega

/-- The block of keys before it. -/
theorem block1 (t : Fin cfg0.N) (a : Fin 128) (k : Fin 1024) : iblk m c 1 t (ix2 a k)
    = cell (rows m c) (((grid0.coords t 0).val - 1) * (128 * 16) + a * 16 + (grid0.coords t 1).val) (1024 + k) := by
  have hr : (grid0.coords t 1).val < 16 := (grid0.coords t 1).isLt
  refine entry m c _ ?_ ?_ <;> blk_simp [idx1] <;> omega

/-- The block of keys. -/
theorem block2 (t : Fin cfg0.N) (a : Fin 128) (k : Fin 1024) : iblk m c 2 t (ix2 a k)
    = cell (rows m c) ((grid0.coords t 0).val * (128 * 16) + a * 16 + (grid0.coords t 1).val) (1024 + k) := by
  have hr : (grid0.coords t 1).val < 16 := (grid0.coords t 1).isLt
  refine entry m c _ ?_ ?_ <;> blk_simp [idx2] <;> omega

/-- The block of values before it. -/
theorem block3 (t : Fin cfg0.N) (a : Fin 128) (k : Fin 1024) : iblk m c 3 t (ix2 a k)
    = cell (rows m c) (((grid0.coords t 0).val - 1) * (128 * 16) + a * 16 + (grid0.coords t 1).val) (2048 + k) := by
  have hr : (grid0.coords t 1).val < 16 := (grid0.coords t 1).isLt
  refine entry m c _ ?_ ?_ <;> blk_simp [idx3] <;> omega

/-- The block of values. -/
theorem block4 (t : Fin cfg0.N) (a : Fin 128) (k : Fin 1024) : iblk m c 4 t (ix2 a k)
    = cell (rows m c) ((grid0.coords t 0).val * (128 * 16) + a * 16 + (grid0.coords t 1).val) (2048 + k) := by
  have hr : (grid0.coords t 1).val < 16 := (grid0.coords t 1).isLt
  refine entry m c _ ?_ ?_ <;> blk_simp [idx4] <;> omega

/-- The body writes the same two blocks as at the other dilations. -/
theorem out5_eq (g : grid0.Coords) (x0 x1 x2 x3 x4 : Cert.BandIdeal.Body.Window) : out0_5 g x0 x1 x2 x3 x4 = numLoads (g 0) x0 x1 x2 x3 x4 := by
  unfold_out out0_5
  rfl

theorem out6_eq (g : grid0.Coords) (x0 x1 x2 x3 x4 : Cert.BandIdeal.Body.Window) : out0_6 g x0 x1 x2 x3 x4 = statLoads (g 0) x0 x1 x2 := by
  unfold_out out0_6
  rfl

/-- What a point finds in its windows. -/
theorem cut (t : Fin cfg0.N) : Cut (rows m c) 16 (grid0.coords t 0) (grid0.coords t 1)
    (iblk m c 0 t) (iblk m c 1 t) (iblk m c 2 t) (iblk m c 3 t) (iblk m c 4 t) :=
  ⟨block0 m c t, block1 m c t, block2 m c t, block3 m c t, block4 m c t⟩

/-- The numerators' array. -/
theorem arr5 : (dats m 0 c).arrAt 5 cfg0.N = fun i => num (rows m c) 16 ((i 0).val / 128) ((i 1).val / 1024) ((i 1).val / 64 % 16)
    ((i 0).val % 128) ((i 1).val % 64) := by
  refine (dats m 0 c).arrAt_eq_of_covers 5 _ (by decide +kernel) fun t hf y => ?_
  obtain ⟨a, k, rfl⟩ : ∃ (a : Fin 128) (k : Fin 1024), y = ix2 a k := ⟨y 0, y 1, eq_ix2 y⟩
  blk_simp [idx5]
  rw [after0_5, out5_eq, numLoads_eq]
  refine ((cut m c t).num a k).trans ?_
  congr 1 <;> omega

/-- The statistics' array. -/
theorem arr6 : (dats m 0 c).arrAt 6 cfg0.N = fun i => stat (rows m c) 16 ((i 0).val / 128) ((i 1).val / 128)
    ((i 0).val % 128) ((i 1).val % 128) := by
  refine (dats m 0 c).arrAt_eq_of_covers 6 _ (by decide +kernel) fun t hf y => ?_
  obtain ⟨a, l, rfl⟩ : ∃ (a l : Fin 128), y = ix2 a l := ⟨y 0, y 1, eq_ix2 y⟩
  blk_simp [idx6]
  rw [after0_6, out6_eq, statLoads_eq]
  refine ((cut m c t).stat a l).trans ?_
  congr 1 <;> omega

end Cert.FarIdeal.Array

end
-- ==== Proof.Far.Ref.lean ====
/-
  The reference's two results at dilation 16, read at an index, are the formulas of the specification.
-/
module

public import proofs.«01_k».proof.Proof.Gen.FarRefIdeal.Run
public import proofs.«01_k».proof.Proof.Band.Spec

@[expose] public section

set_option maxRecDepth 16384

noncomputable section

namespace Cert.FarRefIdeal.Read

open Cert.FarRefIdeal Cert.FarRefIdeal.Gen Cert.FarRefIdeal.Value Cert.BandSpec
open Idealize.ShloMosaic Idealize.ShloMosaic.TcCoe Idealize.SL.Sem

variable (m : (ℓ : Loc nD τ sig) → Buf (Elt Ideal) ℓ) (c : Dev nD)

set_option maxHeartbeats 1000000 in
/-- The first result: the numerators. -/
theorem num_apply (i : Fin 1024) (j : Fin 16384) :
    res_out0 m c (ix2 i j : S1024x16384.Idx)
      = num (m (c.tc.loc main_arg0)) 16 (i / 128) (j / 1024) (j / 64 % 16) (i % 128) (j % 64) := by
  pointwise [res_main_v65]
  simp only [cell_eq, id_eq, constant, broadcast, start_eq, dite_eq_ite]
  simp only [num, blend, weight, top, scores, score, pairRow, sees, masked, sum_blocks, Fin.is_lt, if_true,
    Nat.add_sub_cancel_left, Nat.reduceMul, show ∀ x : Fin 128, ¬ 128 + x.val < 128 from fun x => by omega, if_false]
  rfl

set_option maxHeartbeats 1000000 in
/-- The second result: the statistics. -/
theorem stat_apply (i : Fin 1024) (j : Fin 2048) :
    res_out1 m c (ix2 i j : S1024x2048.Idx)
      = stat (m (c.tc.loc main_arg0)) 16 (i / 128) (j / 128) (i % 128) (j % 128) := by
  pointwise [res_main_v68]
  simp only [cell_eq, id_eq, constant, broadcast, start_eq, dite_eq_ite]
  simp only [stat, total, weight, top, scores, score, pairRow, sees, masked, sum_blocks, Fin.is_lt, if_true,
    Nat.add_sub_cancel_left, Nat.reduceMul, show ∀ x : Fin 128, ¬ 128 + x.val < 128 from fun x => by omega, if_false]
  by_cases h1 : j.val % 128 < 16
  · rw [if_pos h1, if_pos h1]
    rfl
  · rw [if_neg h1, if_neg h1]
    by_cases h2 : j.val % 128 < 32
    · rw [if_pos h2, if_pos (by omega)]
      rfl
    · rw [if_neg h2, if_neg (by omega)]

end Cert.FarRefIdeal.Read

end
-- ==== Proof.Far.Claim.lean ====
/-
  The value claim of the band attention at dilation 16: the kernel and the reference leave the same numerators and statistics.
-/
module

public import proofs.«01_k».proof.Defs
public import proofs.«01_k».proof.Proof.Far.Array
public import proofs.«01_k».proof.Proof.Far.Ref

@[expose] public section

noncomputable section

namespace Cert.FarClaim

open Idealize.ShloMosaic Idealize.ShloMosaic.TcCoe Idealize.SL.Sem Cert.BandSpec

/-- The two programs agree, from the same rows. -/
theorem algebraic : Cert.algebraic_FarIdeal_FarRefIdeal (hFarIdeal := Cert.FarIdeal.Gen.facts) (hFarRefIdeal := Cert.FarRefIdeal.Gen.facts) := by
  intro m g m' g' hpre hagree
  refine ⟨fun c => (Cert.FarIdeal.Gen.dats m 0 c).arrAt 5 Cert.FarIdeal.cfg0.N,
    fun c => (Cert.FarIdeal.Gen.dats m 0 c).arrAt 6 Cert.FarIdeal.cfg0.N, Cert.FarIdeal.Value.run_blocks m g, ?_⟩
  refine (θ_run _ _ _).mono (fun r h c => ?_) (Cert.FarRefIdeal.Value.run m' g')
  obtain ⟨h0, h1, h2⟩ := h c
  refine ⟨h0.trans ?_, h1.trans ?_, h2⟩
  · dsimp only
    rw [Cert.FarIdeal.Array.arr5]
    funext i
    rw [eq_ix2 i]
    refine (Cert.FarRefIdeal.Read.num_apply m' c (i 0) (i 1)).trans ?_
    rw [hagree c]
    rfl
  · dsimp only
    rw [Cert.FarIdeal.Array.arr6]
    funext i
    rw [eq_ix2 i]
    refine (Cert.FarRefIdeal.Read.stat_apply m' c (i 0) (i 1)).trans ?_
    rw [hagree c]
    rfl

/-- The reference runs and leaves its argument alone; it has no semaphore, so every counter ends at zero. -/
theorem frame_ref : Cert.quiescent_FarRefIdeal (hFarRefIdeal := Cert.FarRefIdeal.Gen.facts) := fun m g _ =>
  (θ_run (Cert.FarRefIdeal.defs (F := Ideal)) _ _).mono
    (fun r h => ⟨fun c => (h c).2.2, sem_eq_zero_of_no_sems (by decide) r.2⟩) (Cert.FarRefIdeal.Value.run m g)

end Cert.FarClaim

end
-- ==== Proof.NewA.Array.lean ====
/-
  The projection of the newest rows: each times the weights, the columns past the weights' own being zero. The kernel's array and the
  reference's result are that product.
-/
module

public import proofs.«01_k».proof.Proof.Gen.NewAIdeal.Value
public import proofs.«01_k».proof.Proof.Gen.NewARefIdeal.Run
public import Idealize.ShloMosaic.Lib.Pipeline.ValueKit
public import Idealize.ShloMosaic.Lib.Pointwise

@[expose] public section

set_option maxRecDepth 16384

noncomputable section

namespace Cert.NewASpec

open Idealize.ShloMosaic

/-- The newest row of each sample, and the weights. -/
abbrev Rows := (⟨3, ![32, 1, 1024]⟩ : Shape).Idx → EReal
abbrev Weights := (⟨2, ![1024, 3368]⟩ : Shape).Idx → EReal

/-- A weight, zero past the last column. -/
def weight (W : Weights) (k : Fin 1024) (j : ℕ) : EReal := if h : j < 3368 then W (ix2 k ⟨j, h⟩) else 0

/-- Row `i` times column `j`. -/
def product (X : Rows) (W : Weights) (i : Fin 32) (j : ℕ) : EReal := ∑ k, X (ix3 i 0 k) * weight W k j

end Cert.NewASpec

namespace Cert.NewAIdeal.Array

open Cert.NewAIdeal Cert.NewAIdeal.Gen Cert.NewASpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The arguments' arrays. -/
abbrev aX : Rows := m ((c.tc : Thread nD τ).loc main_arg0)
abbrev aW : Weights := m ((c.tc : Thread nD τ).loc main_arg1)

/-- What the region finds in the rows' array. -/
theorem found_rows : V m c main_v1 = shapeCast S32x1024 (m ((c.tc : Thread nD τ).loc main_arg0)) shapeCasts_S32x1x1024_S32x1024 := by
  unfold V
  simp only [List.flatten_cons, List.flatten_nil, List.append_nil, List.cons_append, List.nil_append]
  after_results
  all_goals rfl

/-- And in the weights': the weights, padded. -/
theorem found_weights : V m c main_v2 = (pad S1024x3456 ![0, 0] ![0, 88] ![0, 0] (m ((c.tc : Thread nD τ).loc main_arg1))
    (sitofp (F := Ideal) .f32 (constantI S_ 32 0#32)) pads_S1024x3368_S1024x3456_000_0880 h_S_ : S1024x3456.Idx → EReal) := by
  unfold V
  simp only [List.flatten_cons, List.flatten_nil, List.append_nil, List.cons_append, List.nil_append]
  after_results
  all_goals rfl

/-- The samples' rows, one under the other. -/
theorem flat_apply (X : Rows) (a : Fin 32) (k : Fin 1024) :
    shapeCast S32x1024 X shapeCasts_S32x1x1024_S32x1024 (ix2 a k) = X (ix3 a 0 k) := by
  pointwise

/-- The padded weights. -/
theorem padded_apply (W : Weights) (k : Fin 1024) (j : Fin 3456) :
    pad S1024x3456 ![0, 0] ![0, 88] ![0, 0] W (sitofp (F := Ideal) .f32 (constantI S_ 32 0#32)) pads_S1024x3368_S1024x3456_000_0880 h_S_ (ix2 k j)
      = weight W k j.val := by
  have h0 : FloatOps.sitofp (F := Ideal) FTy.f32 (0#32 : BitVec 32) = (0 : EReal) := by
    show (((0#32 : BitVec 32).toInt : ℝ) : EReal) = 0
    simp
  pointwise
  rw [h0]
  rfl

/-- The rows' window is cut from them. -/
theorem entry0 (u : S32x1024.Idx) {i : ℕ} (h : i < 32) (k : Fin 1024) (hi : (u 0).val = i) (hk : (u 1).val = k.val) :
    V m c main_v1 u = aX m c (ix3 ⟨i, h⟩ 0 k) := by
  obtain ⟨a, b, rfl⟩ : ∃ (a : Fin 32) (b : Fin 1024), u = ix2 a b := ⟨u 0, u 1, eq_ix2 u⟩
  obtain rfl : b = k := Fin.ext hk
  subst hi
  rw [found_rows]
  exact flat_apply (aX m c) a b

/-- The weights' window is cut from the padded weights. -/
theorem entry1 (u : S1024x3456.Idx) (k : Fin 1024) {j : ℕ} (hk : (u 0).val = k.val) (hj : (u 1).val = j) :
    V m c main_v2 u = weight (aW m c) k j := by
  obtain ⟨a, b, rfl⟩ : ∃ (a : Fin 1024) (b : Fin 3456), u = ix2 a b := ⟨u 0, u 1, eq_ix2 u⟩
  obtain rfl : a = k := Fin.ext hk
  subst hj
  rw [found_weights]
  exact padded_apply (aW m c) a b

theorem block0 (t : Fin cfg0.N) (a : Fin 32) (k : Fin 1024) (h : 32 * t.val + a.val < 32) :
    iblk m c 0 t (ix2 a k) = aX m c (ix3 ⟨32 * t.val + a.val, h⟩ 0 k) := by
  refine entry0 m c _ h k ?_ ?_ <;> blk_simp [idx0] <;> omega

theorem block1 (t : Fin cfg0.N) (k : Fin 1024) (j : Fin 3456) : iblk m c 1 t (ix2 k j) = weight (aW m c) k j.val := by
  refine entry1 m c _ k ?_ ?_ <;> blk_simp [idx1]

/-- A tile's product. -/
theorem tile_apply (x : (⟨2, ![32, 1024]⟩ : Shape).Idx → EReal) (w : (⟨2, ![1024, 3456]⟩ : Shape).Idx → EReal) (a : Fin 32) (j : Fin 3456) :
    out0_2 (F := Ideal) x w (ix2 a j) = ∑ k, x (ix2 a k) * w (ix2 k j) := by
  unfold out0_2
  refine Eq.trans (b := k0_pay1 (F := Ideal) x w (ix2 a j)) ?_ ?_
  · frame_out
  · pointwise [k0_pay1]

/-- The result's array. -/
theorem arr2 : (dats m 0 c).arrAt 2 cfg0.N = fun i => product (aX m c) (aW m c) (i 0) (i 1).val := by
  refine (dats m 0 c).arrAt_eq_of_covers 2 _ (by decide +kernel) fun t hf y => ?_
  obtain ⟨a, j, rfl⟩ : ∃ (a : Fin 32) (j : Fin 3456), y = ix2 a j := ⟨y 0, y 1, eq_ix2 y⟩
  blk_simp [idx2]
  rw [after0_2]
  refine (tile_apply _ _ a j).trans ?_
  unfold product
  refine Finset.sum_congr rfl fun k _ => ?_
  have ht : t.val < 1 := t.isLt
  rw [block0 m c t a k (by omega), block1]
  refine congrArg (fun i => aX m c (ix3 i 0 k) * _) (Fin.ext ?_)
  show 32 * t.val + a.val = _
  blk_simp [idx2]
  omega

end Cert.NewAIdeal.Array

namespace Cert.NewARefIdeal.Read

open Cert.NewARefIdeal Cert.NewARefIdeal.Gen Cert.NewASpec
open Idealize.ShloMosaic Idealize.ShloMosaic.TcCoe Idealize.SL.Sem

/-- The reference's result at an index. -/
theorem out_apply (X : Rows) (W : Weights) (i : Fin 32) (j : Fin 3456) :
    concatenate S32x3456 1 [⟨S32x3368, (Host.dotGeneral (F := Ideal) (φ₁ := .f32) (φ₂ := .f32) dot_S32x1024_S1024x3368_S32x3368_1_0_0_1_n_n none (shapeCast _ X shapeCasts_S32x1x1024_S32x1024) W)⟩,
      ⟨S32x88, (broadcastInDim S32x88 ![] bcast_S_S32x88 (constant (F := Ideal) S_ .f32 0x00000000#32))⟩] concatenates_S32x3368_S32x88_S32x3456_d1 (ix2 i j)
      = product X W i j.val := by
  unfold product weight
  pointwise
  by_cases h : j.val < 3368
  · simp only [dif_pos h]
  · simp only [dif_neg h, mul_zero, Finset.sum_const_zero]

end Cert.NewARefIdeal.Read

end
-- ==== Proof.NewA.Claim.lean ====
/-
  The value claim of the newest rows' projection: the kernel and the reference leave the same product.
-/
module

public import proofs.«01_k».proof.Defs
public import proofs.«01_k».proof.Proof.NewA.Array

@[expose] public section

noncomputable section

namespace Cert.NewAClaim

open Idealize.ShloMosaic Idealize.ShloMosaic.TcCoe Idealize.SL.Sem Cert.NewASpec

/-- The two programs agree, from the same newest rows and weights. -/
theorem algebraic : Cert.algebraic_NewAIdeal_NewARefIdeal (hNewAIdeal := Cert.NewAIdeal.Gen.facts) (hNewARefIdeal := Cert.NewARefIdeal.Gen.facts) := by
  intro m g m' g' hpre hagree
  refine ⟨fun c => (Cert.NewAIdeal.Gen.dats m 0 c).arrAt 2 Cert.NewAIdeal.cfg0.N, Cert.NewAIdeal.Value.run_blocks m g, ?_⟩
  refine (θ_run _ _ _).mono (fun r h c => ?_) (Cert.NewARefIdeal.Value.run m' g')
  obtain ⟨h0, h2⟩ := h c
  obtain ⟨e0, e1⟩ := hagree c
  refine ⟨h0.trans ?_, h2⟩
  dsimp only
  rw [Cert.NewAIdeal.Array.arr2]
  funext i
  rw [eq_ix2 i, e0, e1]
  exact Cert.NewARefIdeal.Read.out_apply _ _ (i 0) (i 1)

/-- The reference runs and leaves its arguments alone; it has no semaphore, so every counter ends at zero. -/
theorem frame_ref : Cert.quiescent_NewARefIdeal (hNewARefIdeal := Cert.NewARefIdeal.Gen.facts) := fun m g _ =>
  (θ_run (Cert.NewARefIdeal.defs (F := Ideal)) _ _).mono
    (fun r h => ⟨fun c => (h c).2, sem_eq_zero_of_no_sems (by decide) r.2⟩) (Cert.NewARefIdeal.Value.run m g)

end Cert.NewAClaim

end
-- ==== Proof.NewC.Array.lean ====
/-
  The newest rows' projection onto the dilated attention's queries, keys and values: each row times the weights. The
  kernel's array and the reference's result are that product.
-/
module

public import proofs.«01_k».proof.Proof.Gen.NewCIdeal.Value
public import proofs.«01_k».proof.Proof.Gen.NewCRefIdeal.Run
public import Idealize.ShloMosaic.Lib.Pipeline.ValueKit
public import Idealize.ShloMosaic.Lib.Pointwise

@[expose] public section

set_option maxRecDepth 16384

noncomputable section

namespace Cert.NewCSpec

open Idealize.ShloMosaic

/-- The newest row of each sample, and the weights. -/
abbrev Rows := (⟨3, ![32, 1, 1024]⟩ : Shape).Idx → EReal
abbrev Weights := (⟨2, ![1024, 3072]⟩ : Shape).Idx → EReal

/-- Row `i` times column `j`. -/
def product (X : Rows) (W : Weights) (i : Fin 32) (j : Fin 3072) : EReal := ∑ k, X (ix3 i 0 k) * W (ix2 k j)

end Cert.NewCSpec

namespace Cert.NewCIdeal.Array

open Cert.NewCIdeal Cert.NewCIdeal.Gen Cert.NewCSpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The arguments' arrays. -/
abbrev aX : Rows := m ((c.tc : Thread nD τ).loc main_arg0)
abbrev aW : Weights := m ((c.tc : Thread nD τ).loc main_arg1)

/-- What the region finds in the rows' array. -/
theorem found_rows : V m c main_v1 = shapeCast S32x1024 (m ((c.tc : Thread nD τ).loc main_arg0)) shapeCasts_S32x1x1024_S32x1024 := by
  unfold V
  simp only [List.flatten_cons, List.flatten_nil, List.append_nil, List.cons_append, List.nil_append]
  after_results
  all_goals rfl

/-- And in the weights': the weights, padded by nothing. -/
theorem found_weights : V m c main_v2 = (pad S1024x3072 ![0, 0] ![0, 0] ![0, 0] (m ((c.tc : Thread nD τ).loc main_arg1))
    (sitofp (F := Ideal) .f32 (constantI S_ 32 0#32)) pads_S1024x3072_S1024x3072_000_000 h_S_ : S1024x3072.Idx → EReal) := by
  unfold V
  simp only [List.flatten_cons, List.flatten_nil, List.append_nil, List.cons_append, List.nil_append]
  after_results
  all_goals rfl

/-- The samples' rows, one under the other. -/
theorem flat_apply (X : Rows) (a : Fin 32) (k : Fin 1024) :
    shapeCast S32x1024 X shapeCasts_S32x1x1024_S32x1024 (ix2 a k) = X (ix3 a 0 k) := by
  pointwise

/-- The padded weights. -/
theorem padded_apply (W : Weights) (k : Fin 1024) (j : Fin 3072) :
    pad S1024x3072 ![0, 0] ![0, 0] ![0, 0] W (sitofp (F := Ideal) .f32 (constantI S_ 32 0#32)) pads_S1024x3072_S1024x3072_000_000 h_S_ (ix2 k j)
      = W (ix2 k j) := by
  pointwise

/-- The rows' window is cut from them. -/
theorem entry0 (u : S32x1024.Idx) {i : ℕ} (h : i < 32) (k : Fin 1024) (hi : (u 0).val = i) (hk : (u 1).val = k.val) :
    V m c main_v1 u = aX m c (ix3 ⟨i, h⟩ 0 k) := by
  obtain ⟨a, b, rfl⟩ : ∃ (a : Fin 32) (b : Fin 1024), u = ix2 a b := ⟨u 0, u 1, eq_ix2 u⟩
  obtain rfl : b = k := Fin.ext hk
  subst hi
  rw [found_rows]
  exact flat_apply (aX m c) a b

/-- The weights' window is cut from the padded weights. -/
theorem entry1 (u : S1024x3072.Idx) (k : Fin 1024) (j : Fin 3072) (hk : (u 0).val = k.val) (hj : (u 1).val = j.val) :
    V m c main_v2 u = aW m c (ix2 k j) := by
  obtain ⟨a, b, rfl⟩ : ∃ (a : Fin 1024) (b : Fin 3072), u = ix2 a b := ⟨u 0, u 1, eq_ix2 u⟩
  obtain rfl : a = k := Fin.ext hk
  obtain rfl : b = j := Fin.ext hj
  rw [found_weights]
  exact padded_apply (aW m c) a b

theorem block0 (t : Fin cfg0.N) (a : Fin 32) (k : Fin 1024) (h : 32 * t.val + a.val < 32) :
    iblk m c 0 t (ix2 a k) = aX m c (ix3 ⟨32 * t.val + a.val, h⟩ 0 k) := by
  refine entry0 m c _ h k ?_ ?_ <;> blk_simp [idx0] <;> omega

theorem block1 (t : Fin cfg0.N) (k : Fin 1024) (j : Fin 3072) : iblk m c 1 t (ix2 k j) = aW m c (ix2 k j) := by
  refine entry1 m c _ k j ?_ ?_ <;> blk_simp [idx1]

/-- A tile's product. -/
theorem tile_apply (x : (⟨2, ![32, 1024]⟩ : Shape).Idx → EReal) (w : (⟨2, ![1024, 3072]⟩ : Shape).Idx → EReal) (a : Fin 32) (j : Fin 3072) :
    out0_2 (F := Ideal) x w (ix2 a j) = ∑ k, x (ix2 a k) * w (ix2 k j) := by
  unfold out0_2
  refine Eq.trans (b := k0_pay1 (F := Ideal) x w (ix2 a j)) ?_ ?_
  · frame_out
  · pointwise [k0_pay1]

/-- The result's array. -/
theorem arr2 : (dats m 0 c).arrAt 2 cfg0.N = fun i => product (aX m c) (aW m c) (i 0) (i 1) := by
  refine (dats m 0 c).arrAt_eq_of_covers 2 _ (by decide +kernel) fun t hf y => ?_
  obtain ⟨a, j, rfl⟩ : ∃ (a : Fin 32) (j : Fin 3072), y = ix2 a j := ⟨y 0, y 1, eq_ix2 y⟩
  blk_simp [idx2]
  rw [after0_2]
  refine (tile_apply _ _ a j).trans ?_
  unfold product
  refine Finset.sum_congr rfl fun k _ => ?_
  have ht : t.val < 1 := t.isLt
  rw [block0 m c t a k (by omega), block1]
  refine congrArg₂ (fun i j => aX m c (ix3 i 0 k) * aW m c (ix2 k j)) (Fin.ext ?_) (Fin.ext ?_)
  · show 32 * t.val + a.val = _
    blk_simp [idx2]
    omega
  · blk_simp [idx2]

end Cert.NewCIdeal.Array

namespace Cert.NewCRefIdeal.Read

open Cert.NewCRefIdeal Cert.NewCRefIdeal.Gen Cert.NewCSpec
open Idealize.ShloMosaic Idealize.ShloMosaic.TcCoe Idealize.SL.Sem

/-- The reference's result at an index. -/
theorem out_apply (X : Rows) (W : Weights) (i : Fin 32) (j : Fin 3072) :
    Host.dotGeneral (F := Ideal) (φ₁ := .f32) (φ₂ := .f32) dot_S32x1024_S1024x3072_S32x3072_1_0_0_1_n_n none (shapeCast _ X shapeCasts_S32x1x1024_S32x1024) W (ix2 i j)
      = product X W i j := by
  unfold product
  pointwise

end Cert.NewCRefIdeal.Read

end
-- ==== Proof.NewC.Claim.lean ====
/-
  The value claim of the newest rows' projection onto the dilated attention's columns: the kernel and the reference leave the same product.
-/
module

public import proofs.«01_k».proof.Defs
public import proofs.«01_k».proof.Proof.NewC.Array

@[expose] public section

noncomputable section

namespace Cert.NewCClaim

open Idealize.ShloMosaic Idealize.ShloMosaic.TcCoe Idealize.SL.Sem Cert.NewCSpec

/-- The two programs agree, from the same newest rows and weights. -/
theorem algebraic : Cert.algebraic_NewCIdeal_NewCRefIdeal (hNewCIdeal := Cert.NewCIdeal.Gen.facts) (hNewCRefIdeal := Cert.NewCRefIdeal.Gen.facts) := by
  intro m g m' g' hpre hagree
  refine ⟨fun c => (Cert.NewCIdeal.Gen.dats m 0 c).arrAt 2 Cert.NewCIdeal.cfg0.N, Cert.NewCIdeal.Value.run_blocks m g, ?_⟩
  refine (θ_run _ _ _).mono (fun r h c => ?_) (Cert.NewCRefIdeal.Value.run m' g')
  obtain ⟨h0, h2⟩ := h c
  obtain ⟨e0, e1⟩ := hagree c
  refine ⟨h0.trans ?_, h2⟩
  dsimp only
  rw [Cert.NewCIdeal.Array.arr2]
  funext i
  rw [eq_ix2 i, e0, e1]
  exact Cert.NewCRefIdeal.Read.out_apply _ _ (i 0) (i 1)

/-- The reference runs and leaves its arguments alone; it has no semaphore, so every counter ends at zero. -/
theorem frame_ref : Cert.quiescent_NewCRefIdeal (hNewCRefIdeal := Cert.NewCRefIdeal.Gen.facts) := fun m g _ =>
  (θ_run (Cert.NewCRefIdeal.defs (F := Ideal)) _ _).mono
    (fun r h => ⟨fun c => (h c).2, sem_eq_zero_of_no_sems (by decide) r.2⟩) (Cert.NewCRefIdeal.Value.run m g)

end Cert.NewCClaim

end
-- ==== Proof.Merge.Spec.lean ====
/-
  The merging of the three dilations: a head's weights, its denominator, and the merged value, both as the sum divided by
  the denominator and as a sum of quotients. Where the maxima are finite and the denominators positive the two are one.
-/
module

public import proofs.«01_k».proof.Proof.Ffn.Spec
public import Idealize.ShloMosaic.Lib.Pointwise

@[expose] public section

noncomputable section

namespace Cert.MergeSpec

open Idealize.ShloMosaic Cert.FfnSpec

/-- The weight of a dilation whose maximum is `x`, among maxima `a`, `b`, `c`. -/
def weight (a b c x : EReal) : EReal := Ideal.exp (x - max (max a b) c)

/-- The weighted sum of three numbers. -/
def mixture (a b c x y z : EReal) : EReal := weight a b c a * x + weight a b c b * y + weight a b c c * z

/-- The weight of a finite maximum among finite ones is a positive real. -/
theorem weight_real (a b c x : ℝ) : ∃ r : ℝ, 0 < r ∧ weight a b c x = r := by
  refine ⟨Real.exp (x - max (max a b) c), Real.exp_pos _, ?_⟩
  have h : (x : EReal) - max (max (a : EReal) b) c = ((x - max (max a b) c : ℝ) : EReal) := by
    rw [EReal.coe_sub, EReal.coe_strictMono.monotone.map_max, EReal.coe_strictMono.monotone.map_max]
  unfold weight
  rw [h]
  rfl

/-- The mixture of three positive numbers is positive. -/
theorem mixture_pos (a b c : ℝ) {x y z : EReal} (hx : 0 < x) (hy : 0 < y) (hz : 0 < z) : 0 < mixture a b c x y z := by
  obtain ⟨p, hp, ep⟩ := weight_real a b c a
  obtain ⟨q, hq, eq⟩ := weight_real a b c b
  obtain ⟨r, hr, er⟩ := weight_real a b c c
  unfold mixture
  rw [ep, eq, er]
  have h1 : 0 < (p : EReal) * x := EReal.mul_pos (EReal.coe_pos.2 hp) hx
  have h2 : 0 < (q : EReal) * y := EReal.mul_pos (EReal.coe_pos.2 hq) hy
  have h3 : 0 < (r : EReal) * z := EReal.mul_pos (EReal.coe_pos.2 hr) hz
  exact (h1.trans_le (le_add_of_nonneg_right h2.le)).trans_le (le_add_of_nonneg_right h3.le)

/-- The inverse of a positive number is a real. -/
theorem inv_real {d : EReal} (h : 0 < d) : ∃ r : ℝ, 0 ≤ r ∧ d⁻¹ = r := by
  induction d with
  | bot => exact absurd h (by simp)
  | top => exact ⟨0, le_refl _, by simp⟩
  | coe d => exact ⟨d⁻¹, inv_nonneg.2 (EReal.coe_pos.1 h).le, (EReal.coe_inv d).symm⟩

/-- A weight over a positive denominator is a real. -/
theorem quotient_real (a b c x : ℝ) {d : EReal} (h : 0 < d) : ∃ r : ℝ, Ideal.div (weight a b c x) d = r := by
  obtain ⟨p, -, ep⟩ := weight_real a b c x
  obtain ⟨q, -, eq⟩ := inv_real h
  refine ⟨p * q, ?_⟩
  unfold Ideal.div
  rw [if_neg h.ne', ep, eq, EReal.coe_mul]

/-- The sum of quotients times the numerators is the mixture over the denominator. -/
theorem mixture_div (a b c x y z d : EReal) (h : 0 < d) :
    Ideal.div (weight a b c a) d * x + Ideal.div (weight a b c b) d * y + Ideal.div (weight a b c c) d * z
      = Ideal.div (mixture a b c x y z) d := by
  obtain ⟨q, hq, eq⟩ := inv_real h
  have hn : (0 : EReal) ≤ q := EReal.coe_nonneg.2 hq
  have ht : (q : EReal) ≠ ⊤ := EReal.coe_ne_top q
  unfold Ideal.div mixture
  simp only [if_neg h.ne', eq]
  rw [EReal.right_distrib_of_nonneg_of_ne_top hn ht, EReal.right_distrib_of_nonneg_of_ne_top hn ht,
    mul_right_comm, mul_right_comm _ (q : EReal), mul_right_comm _ (q : EReal)]

/-- The lane of the column's head. -/
def lane (j : Fin 1024) : Fin 128 := ⟨j.val / 64, by omega⟩

/-- The lane with the denominator of a lane's head: sixteen to the right, round the end. -/
def next (l : Fin 128) : Fin 128 := ⟨(l.val + 16) % 128, Nat.mod_lt _ (by decide)⟩

/-- A row of values spread to the columns by a matrix of zeros and ones, in three parts. -/
def spread (s : Fin 128 → EReal) (e : Fin 128 → EReal) : EReal :=
  (∑ l, s l * e l) + (∑ l, (s l - s l) * e l) + ∑ l, (s l - s l - (s l - s l)) * e l

/-- Of a row of reals, the spread to the column whose head is at lane `k` is the value at `k`. -/
theorem spread_eq (s : Fin 128 → EReal) (hs : ∀ l, ∃ r : ℝ, s l = r) (k : Fin 128) (e : Fin 128 → EReal)
    (he : ∀ l, e l = if l = k then 1 else 0) : spread s e = s k := by
  have hz : ∀ l, s l - s l = 0 := fun l => by
    obtain ⟨r, hr⟩ := hs l
    rw [hr, ← EReal.coe_sub, sub_self]
    rfl
  unfold spread
  simp only [hz, sub_self, sub_zero, zero_mul, Finset.sum_const_zero, add_zero]
  rw [Finset.sum_eq_single k (fun l _ h => by rw [he, if_neg h, mul_zero]) (fun h => absurd (Finset.mem_univ k) h)]
  rw [he, if_pos rfl, mul_one]

variable (N0 N1 N2 : Mat 16384 1024) (S0 S1 S2 : Mat 16384 128) (W : Mat 1024 1024) (R : Mat 16384 1024) (G H : Row 1024)

/-- The merged value of a row at a column. -/
def value (i : Fin 16384) (j : Fin 1024) : EReal :=
  Ideal.div (mixture (S0 (ix2 i (lane j))) (S1 (ix2 i (lane j))) (S2 (ix2 i (lane j))) (N0 (ix2 i j)) (N1 (ix2 i j)) (N2 (ix2 i j)))
    (mixture (S0 (ix2 i (lane j))) (S1 (ix2 i (lane j))) (S2 (ix2 i (lane j)))
      (S0 (ix2 i (next (lane j)))) (S1 (ix2 i (next (lane j)))) (S2 (ix2 i (next (lane j)))))

/-- Row `i` before the normalisation. -/
def raw (i : Fin 16384) (k : Fin 1024) : EReal :=
  Ideal.ofBits FTy.f32 0x3FB504F3#32 * R (ix2 i k) + ∑ j, value N0 N1 N2 S0 S1 S2 i j * W (ix2 j k)

/-- The result. -/
def result (i : Fin 16384) (k : Fin 1024) : EReal := normed (raw N0 N1 N2 S0 S1 S2 W R i) (G (ix1 k)) (H (ix1 k)) k

end Cert.MergeSpec

end
-- ==== Proof.Merge.Tile.lean ====
/-
  One tile of the merging kernel, from its blocks: every dilation's quotients are spread to the columns and multiplied by
  its numerators; the sum of the three goes through the output weights, and the row is normalised.
-/
module

public import proofs.«01_k».proof.Proof.Gen.MergeIdeal.Value
public import proofs.«01_k».proof.Proof.Merge.Spec
public import Idealize.ShloMosaic.Lib.Pipeline.ValueKit

@[expose] public section

set_option maxRecDepth 16384

noncomputable section

namespace Cert.MergeIdeal.Tile

open Cert.MergeIdeal Cert.MergeIdeal.Gen Cert.MergeSpec Cert.FfnSpec
open Idealize.ShloMosaic Idealize.ShloMosaic.TcCoe Idealize.SL.Sem

variable (p q r : Mat 512 128)

/-- The denominator beside a lane's maxima. -/
def below (a : Fin 512) (l : Fin 128) : EReal :=
  mixture (p (ix2 a l)) (q (ix2 a l)) (r (ix2 a l)) (p (ix2 a (next l))) (q (ix2 a (next l))) (r (ix2 a (next l)))

/-- The quotient of the dilation with maxima `g`, zero past the heads' lanes. -/
def share (g : Mat 512 128) (a : Fin 512) (l : Fin 128) : EReal :=
  if l.val < 16 then Ideal.div (weight (p (ix2 a l)) (q (ix2 a l)) (r (ix2 a l)) (g (ix2 a l))) (below p q r a l) else 0

/-- The rotation by 112 lanes takes the lane sixteen to the right. -/
theorem turned (l : Fin 128) (h : (l.val + 128 - 112) % 128 < 128) : (⟨(l.val + 128 - 112) % 128, h⟩ : Fin 128) = next l :=
  Fin.ext (congrArg (· % 128) (by omega : l.val + 128 - 112 = l.val + 16))

theorem below_apply (a : Fin 512) (l : Fin 128) : k0_pay5 (F := Ideal) p q r (ix2 a l) = below p q r a l := by
  pointwise [k0_pay5, k0_pay4, k0_pay3, k0_pay2, k0_pay1]
  simp only [turned]
  rfl

theorem lanes16 : ∀ l : Fin 128, IntOp.cmpi CmpIPredicate.slt (BitVec.ofNat 32 l.val) 16#32 = if l.val < 16 then 1#1 else 0#1 := by
  decide +kernel

theorem mask_apply (a : Fin 512) (l : Fin 128) : k0_pay6 (ix2 a l) = if l.val < 16 then 1#1 else 0#1 := by
  pointwise [k0_pay6]
  exact lanes16 l

/-- A choice by a lane's bit. -/
theorem choice (l : Fin 128) (x : EReal) : Scalar.select (if l.val < 16 then 1#1 else 0#1) x 0 = if l.val < 16 then x else 0 := by
  by_cases h : l.val < 16
  · simp only [if_pos h]; rfl
  · simp only [if_neg h]; rfl

/-- A product under a choice between it and zero. -/
theorem choice_mul (b : BitVec 1) (x y : EReal) : Scalar.select b (x * y) 0 = Scalar.select b x 0 * y := by
  unfold Scalar.select
  split
  · rfl
  · exact (zero_mul y).symm

/-- The first dilation's quotients. -/
theorem share0 (a : Fin 512) (l : Fin 128) : k0_pay7 (F := Ideal) p q r (ix2 a l) = share p q r p a l := by
  pointwise [k0_pay7, k0_pay2, k0_pay1]
  rw [below_apply, mask_apply, choice]
  rfl

/-- The second's. -/
theorem share1 (a : Fin 512) (l : Fin 128) :
    Scalar.select (k0_pay6 (ix2 a l)) (Ideal.div (k0_pay3 (F := Ideal) p q r (ix2 a l)) (k0_pay5 (F := Ideal) p q r (ix2 a l))) 0
      = share p q r q a l := by
  rw [below_apply, mask_apply, choice]
  pointwise [k0_pay3, k0_pay1]
  rfl

/-- The third's. -/
theorem share2 (a : Fin 512) (l : Fin 128) :
    k0_pay15 (F := Ideal) (k0_pay4 (F := Ideal) p q r) (k0_pay5 (F := Ideal) p q r) k0_pay6 (ix2 a l) = share p q r r a l := by
  pointwise [k0_pay15, k0_pay4, k0_pay1]
  rw [below_apply, mask_apply, choice]
  rfl

variable (n0 n1 n2 : Mat 512 1024) (e : Mat 128 1024)

/-- The merged value at a column. -/
def merged (a : Fin 512) (j : Fin 1024) : EReal :=
  spread (share p q r p a) (fun l => e (ix2 l j)) * n0 (ix2 a j) + spread (share p q r q a) (fun l => e (ix2 l j)) * n1 (ix2 a j)
    + spread (share p q r r a) (fun l => e (ix2 l j)) * n2 (ix2 a j)

/-- A tile, from its blocks. -/
theorem tile_apply (w : Mat 1024 1024) (x : Mat 512 1024) (g h : Mat 1 1024) (a : Fin 512) (k : Fin 1024) :
    out0_11 (F := Ideal) n0 n1 n2 p q r e w x g h (ix2 a k)
      = normed (fun k => Ideal.ofBits FTy.f32 0x3FB504F3#32 * x (ix2 a k) + ∑ j, merged p q r n0 n1 n2 e a j * w (ix2 j k))
          (g (ix2 0 k)) (h (ix2 0 k)) k := by
  unfold_out out0_11
  frame_out
  pointwise [k0_pay22, k0_pay21, k0_pay20, k0_pay19, k0_pay18, k0_pay17, k0_pay16, k0_pay14, k0_pay13, k0_pay12, k0_pay11, k0_pay10, k0_pay9, k0_pay8]
  simp only [choice_mul, share0, share1, share2]
  rfl

/-- The quotients of finite maxima over positive denominators are reals. -/
theorem share_real (g : Mat 512 128) (a : Fin 512)
    (hf : ∀ l : Fin 128, l.val < 16 → ∃ x y z : ℝ, p (ix2 a l) = x ∧ q (ix2 a l) = y ∧ r (ix2 a l) = z)
    (hg : ∀ l : Fin 128, l.val < 16 → ∃ x : ℝ, g (ix2 a l) = x)
    (hd : ∀ l : Fin 128, l.val < 16 → 0 < p (ix2 a (next l)) ∧ 0 < q (ix2 a (next l)) ∧ 0 < r (ix2 a (next l))) (l : Fin 128) :
    ∃ x : ℝ, share p q r g a l = x := by
  unfold share
  by_cases h : l.val < 16
  · obtain ⟨x, y, z, ex, ey, ez⟩ := hf l h
    obtain ⟨w, ew⟩ := hg l h
    obtain ⟨d0, d1, d2⟩ := hd l h
    rw [if_pos h, ew]
    unfold below
    rw [ex, ey, ez]
    exact quotient_real x y z w (mixture_pos x y z d0 d1 d2)
  · exact ⟨0, if_neg h⟩

/-- The merged value is the weighted sum of the numerators over the weighted sum of the denominators. -/
theorem merged_eq (N0 N1 N2 : Mat 16384 1024) (S0 S1 S2 : Mat 16384 128) (a : Fin 512) (i : Fin 16384)
    (h3 : ∀ l, p (ix2 a l) = S0 (ix2 i l)) (h4 : ∀ l, q (ix2 a l) = S1 (ix2 i l)) (h5 : ∀ l, r (ix2 a l) = S2 (ix2 i l))
    (h0 : ∀ j, n0 (ix2 a j) = N0 (ix2 i j)) (h1 : ∀ j, n1 (ix2 a j) = N1 (ix2 i j)) (h2 : ∀ j, n2 (ix2 a j) = N2 (ix2 i j))
    (h6 : ∀ l j, e (ix2 l j) = if l = lane j then (1 : EReal) else 0)
    (hs : ∀ h : Fin 16, let l : Fin 128 := ⟨h.val, by omega⟩
      (∃ x y z : ℝ, S0 (ix2 i l) = x ∧ S1 (ix2 i l) = y ∧ S2 (ix2 i l) = z)
        ∧ 0 < S0 (ix2 i (next l)) ∧ 0 < S1 (ix2 i (next l)) ∧ 0 < S2 (ix2 i (next l))) (j : Fin 1024) :
    merged p q r n0 n1 n2 e a j = value N0 N1 N2 S0 S1 S2 i j := by
  have hf : ∀ l : Fin 128, l.val < 16 → ∃ x y z : ℝ, p (ix2 a l) = x ∧ q (ix2 a l) = y ∧ r (ix2 a l) = z := fun l h => by
    rw [h3, h4, h5]
    exact (hs ⟨l.val, h⟩).1
  have hd : ∀ l : Fin 128, l.val < 16 → 0 < p (ix2 a (next l)) ∧ 0 < q (ix2 a (next l)) ∧ 0 < r (ix2 a (next l)) := fun l h => by
    rw [h3, h4, h5]
    exact (hs ⟨l.val, h⟩).2
  have hl : (lane j).val < 16 := show j.val / 64 < 16 by omega
  have hsel : ∀ l, (fun l => e (ix2 l j)) l = if l = lane j then (1 : EReal) else 0 := fun l => h6 l j
  unfold merged
  rw [spread_eq _ (share_real p q r p a hf (fun l h => (hf l h).imp fun _ ⟨_, _, w, _, _⟩ => w) hd) (lane j) _ hsel,
    spread_eq _ (share_real p q r q a hf (fun l h => let ⟨_, y, _, _, w, _⟩ := hf l h; ⟨y, w⟩) hd) (lane j) _ hsel,
    spread_eq _ (share_real p q r r a hf (fun l h => let ⟨_, _, z, _, _, w⟩ := hf l h; ⟨z, w⟩) hd) (lane j) _ hsel]
  obtain ⟨x, y, z, ex, ey, ez⟩ := hf _ hl
  obtain ⟨d0, d1, d2⟩ := hd _ hl
  have hpos : 0 < below p q r a (lane j) := by
    unfold below
    rw [ex, ey, ez]
    exact mixture_pos x y z d0 d1 d2
  unfold share
  rw [if_pos hl, if_pos hl, if_pos hl, mixture_div _ _ _ _ _ _ _ hpos]
  unfold below value
  rw [h3, h4, h5, h0, h1, h2, h3, h4, h5]

end Cert.MergeIdeal.Tile

end
-- ==== Proof.Merge.Array.lean ====
/-
  The merging kernel's result array at an index, in the entries of the arguments.
-/
module

public import proofs.«01_k».proof.Proof.Merge.Tile

@[expose] public section

set_option maxRecDepth 16384

noncomputable section

namespace Cert.MergeIdeal.Array

open Cert.MergeIdeal Cert.MergeIdeal.Gen Cert.MergeIdeal.Tile Cert.MergeSpec Cert.FfnSpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val, 0] := by decide +kernel

/-! The arguments' arrays: numerators, statistics, weights, layer input, scale and shift. -/

abbrev aN0 : Mat 16384 1024 := m ((c.tc : Thread nD τ).loc main_arg0)
abbrev aN1 : Mat 16384 1024 := m ((c.tc : Thread nD τ).loc main_arg1)
abbrev aN2 : Mat 16384 1024 := m ((c.tc : Thread nD τ).loc main_arg2)
abbrev aS0 : Mat 16384 128 := m ((c.tc : Thread nD τ).loc main_arg3)
abbrev aS1 : Mat 16384 128 := m ((c.tc : Thread nD τ).loc main_arg4)
abbrev aS2 : Mat 16384 128 := m ((c.tc : Thread nD τ).loc main_arg5)
abbrev aW : Mat 1024 1024 := m ((c.tc : Thread nD τ).loc main_arg6)
abbrev aR : Mat 16384 1024 := m ((c.tc : Thread nD τ).loc main_arg7)
abbrev aG : Row 1024 := m ((c.tc : Thread nD τ).loc main_arg8)
abbrev aH : Row 1024 := m ((c.tc : Thread nD τ).loc main_arg9)

/-! The matrix that spreads the heads to their columns. -/

/-- A number at every column. -/
def fill (v : BitVec 32) : IVec S1x1024 32 := broadcastInDim S1x1024 ![] bcast_S_S1x1024 (constantI S_ 32 v)

/-- The columns' numbers. -/
def column : IVec S1x1024 32 := broadcastInDim S1x1024 ![1] bcast_S1024_S1x1024_1 (iotaInDim S1024 32 0)

/-- The columns' heads: the quotient by 64, rounded down. -/
def head : IVec S1x1024 32 :=
  select (andi (cmpi .ne (signi column) (broadcastInDim S1x1024 ![] bcast_S_S1x1024 (signi (constantI S_ 32 64#32))))
      (cmpi .ne (Host.remsi column (fill 64#32)) (fill 0#32)))
    (subi (Host.divsi column (fill 64#32)) (fill 1#32)) (Host.divsi column (fill 64#32))

/-- One where the lane is the column's head's. -/
def selector : FVec Ideal S128x1024 .bf16 :=
  uitofp .bf16 (cmpi .eq (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 head))

theorem column_apply (j : Fin 1024) : column (ix2 0 j) = BitVec.ofNat 32 j.val := by pointwise [column]

theorem fill_apply (v : BitVec 32) (j : Fin 1024) : fill v (ix2 0 j) = v := by pointwise [fill]

/-- A word's sign. -/
def signWord (v : BitVec 32) : BitVec 32 := if v = 0 then 0 else if v.msb = true then -1 else 1

/-- The word of a column's head. -/
def headWord (v : BitVec 32) : BitVec 32 :=
  Scalar.select (IntOp.andi (IntOp.cmpi .ne (signWord v) (signWord 64#32)) (IntOp.cmpi .ne (IntOp.remsi .host v 64#32) 0#32))
    (IntOp.subi (IntOp.divsi .host v 64#32) 1#32) (IntOp.divsi .host v 64#32)

theorem head_apply (j : Fin 1024) : head (ix2 0 j) = headWord (BitVec.ofNat 32 j.val) := by
  pointwise [head]
  simp only [column_apply, fill_apply]
  rfl

theorem headWord_eq : ∀ j : Fin 1024, headWord (BitVec.ofNat 32 j.val) = BitVec.ofNat 32 (j.val / 64) := by decide +kernel

/-- A lane's word is a head's when their numbers are one. -/
theorem same_word : ∀ (l : Fin 128) (h : Fin 16),
    IntOp.cmpi CmpIPredicate.eq (BitVec.ofNat 32 l.val) (BitVec.ofNat 32 h.val) = if l.val = h.val then 1#1 else 0#1 := by
  decide +kernel

theorem selector_apply (l : Fin 128) (j : Fin 1024) : selector (ix2 l j) = if l = lane j then (1 : EReal) else 0 := by
  have h1 : FloatOps.uitofp (F := Ideal) FTy.bf16 (1#1 : BitVec 1) = (1 : EReal) := by
    show (((1#1 : BitVec 1).toNat : ℝ) : EReal) = 1
    simp
  have h0 : FloatOps.uitofp (F := Ideal) FTy.bf16 (0#1 : BitVec 1) = (0 : EReal) := by
    show (((0#1 : BitVec 1).toNat : ℝ) : EReal) = 0
    simp
  pointwise [selector]
  rw [head_apply, headWord_eq, same_word l ⟨j.val / 64, by omega⟩]
  by_cases h : l = lane j
  · rw [if_pos h, if_pos (show l.val = j.val / 64 from congrArg Fin.val h), h1]
  · rw [if_neg h, if_neg (fun e : l.val = j.val / 64 => h (Fin.ext e)), h0]

/-- What the region finds there. -/
theorem found_selector : V m c main_v8 = selector := by
  unfold V
  simp only [List.flatten_cons, List.flatten_nil, List.append_nil, List.cons_append, List.nil_append]
  after_results
  all_goals rfl

/-- In the weights' array, the weights. -/
theorem found_weights : V m c main_v9 = (truncf .bf16 (m ((c.tc : Thread nD τ).loc main_arg6)) bitsLt_bf16_f32 : FVec Ideal S1024x1024 .bf16) := by
  unfold V
  simp only [List.flatten_cons, List.flatten_nil, List.append_nil, List.cons_append, List.nil_append]
  after_results
  all_goals rfl

/-- In the scale's, the scale as a row. -/
theorem found_scale : V m c main_v10 = shapeCast S1x1024 (m ((c.tc : Thread nD τ).loc main_arg8)) shapeCasts_S1024_S1x1024 := by
  unfold V
  simp only [List.flatten_cons, List.flatten_nil, List.append_nil, List.cons_append, List.nil_append]
  after_results
  all_goals rfl

/-- In the shift's, the shift. -/
theorem found_shift : V m c main_v11 = shapeCast S1x1024 (m ((c.tc : Thread nD τ).loc main_arg9)) shapeCasts_S1024_S1x1024 := by
  unfold V
  simp only [List.flatten_cons, List.flatten_nil, List.append_nil, List.cons_append, List.nil_append]
  after_results
  all_goals rfl

/-- A row of numbers as an array of one row. -/
theorem flat_apply (x : Row 1024) (a : Fin 1) (j : Fin 1024) : shapeCast S1x1024 x shapeCasts_S1024_S1x1024 (ix2 a j) = x (ix1 j) := by
  pointwise

/-! What each window is cut from. -/

theorem entry0 (u : S16384x1024.Idx) {i : ℕ} (h : i < 16384) (k : Fin 1024) (hi : (u 0).val = i) (hk : (u 1).val = k.val) :
    V m c main_arg0 u = aN0 m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry1 (u : S16384x1024.Idx) {i : ℕ} (h : i < 16384) (k : Fin 1024) (hi : (u 0).val = i) (hk : (u 1).val = k.val) :
    V m c main_arg1 u = aN1 m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry2 (u : S16384x1024.Idx) {i : ℕ} (h : i < 16384) (k : Fin 1024) (hi : (u 0).val = i) (hk : (u 1).val = k.val) :
    V m c main_arg2 u = aN2 m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry3 (u : S16384x128.Idx) {i : ℕ} (h : i < 16384) (l : Fin 128) (hi : (u 0).val = i) (hk : (u 1).val = l.val) :
    V m c main_arg3 u = aS0 m c (ix2 ⟨i, h⟩ l) := by
  obtain ⟨a, b, rfl⟩ : ∃ (a : Fin 16384) (b : Fin 128), u = ix2 a b := ⟨u 0, u 1, eq_ix2 u⟩
  obtain rfl : b = l := Fin.ext hk
  subst hi
  entry_read
  rfl

theorem entry4 (u : S16384x128.Idx) {i : ℕ} (h : i < 16384) (l : Fin 128) (hi : (u 0).val = i) (hk : (u 1).val = l.val) :
    V m c main_arg4 u = aS1 m c (ix2 ⟨i, h⟩ l) := by
  obtain ⟨a, b, rfl⟩ : ∃ (a : Fin 16384) (b : Fin 128), u = ix2 a b := ⟨u 0, u 1, eq_ix2 u⟩
  obtain rfl : b = l := Fin.ext hk
  subst hi
  entry_read
  rfl

theorem entry5 (u : S16384x128.Idx) {i : ℕ} (h : i < 16384) (l : Fin 128) (hi : (u 0).val = i) (hk : (u 1).val = l.val) :
    V m c main_arg5 u = aS2 m c (ix2 ⟨i, h⟩ l) := by
  obtain ⟨a, b, rfl⟩ : ∃ (a : Fin 16384) (b : Fin 128), u = ix2 a b := ⟨u 0, u 1, eq_ix2 u⟩
  obtain rfl : b = l := Fin.ext hk
  subst hi
  entry_read
  rfl

theorem entry6 (u : S128x1024.Idx) (l : Fin 128) (j : Fin 1024) (hl : (u 0).val = l.val) (hj : (u 1).val = j.val) :
    V m c main_v8 u = if l = lane j then (1 : EReal) else 0 := by
  obtain ⟨a, b, rfl⟩ : ∃ (a : Fin 128) (b : Fin 1024), u = ix2 a b := ⟨u 0, u 1, eq_ix2 u⟩
  obtain rfl : a = l := Fin.ext hl
  obtain rfl : b = j := Fin.ext hj
  rw [found_selector]
  exact selector_apply a b

theorem entry7 (u : S1024x1024.Idx) (j k : Fin 1024) (hj : (u 0).val = j.val) (hk : (u 1).val = k.val) :
    V m c main_v9 u = aW m c (ix2 j k) := by
  obtain ⟨a, b, rfl⟩ : ∃ (a : Fin 1024) (b : Fin 1024), u = ix2 a b := ⟨u 0, u 1, eq_ix2 u⟩
  obtain rfl : a = j := Fin.ext hj
  obtain rfl : b = k := Fin.ext hk
  rw [found_weights]
  rfl

theorem entry8 (u : S16384x1024.Idx) {i : ℕ} (h : i < 16384) (k : Fin 1024) (hi : (u 0).val = i) (hk : (u 1).val = k.val) :
    V m c main_arg7 u = aR m c (ix2 ⟨i, h⟩ k) := by
  obtain ⟨a, b, rfl⟩ : ∃ (a : Fin 16384) (b : Fin 1024), u = ix2 a b := ⟨u 0, u 1, eq_ix2 u⟩
  obtain rfl : b = k := Fin.ext hk
  subst hi
  entry_read
  rfl

theorem entry9 (u : S1x1024.Idx) (j : Fin 1024) (hj : (u 1).val = j.val) : V m c main_v10 u = aG m c (ix1 j) := by
  obtain ⟨a, b, rfl⟩ : ∃ (a : Fin 1) (b : Fin 1024), u = ix2 a b := ⟨u 0, u 1, eq_ix2 u⟩
  obtain rfl : b = j := Fin.ext hj
  rw [found_scale]
  exact flat_apply (aG m c) a b

theorem entry10 (u : S1x1024.Idx) (j : Fin 1024) (hj : (u 1).val = j.val) : V m c main_v11 u = aH m c (ix1 j) := by
  obtain ⟨a, b, rfl⟩ : ∃ (a : Fin 1) (b : Fin 1024), u = ix2 a b := ⟨u 0, u 1, eq_ix2 u⟩
  obtain rfl : b = j := Fin.ext hj
  rw [found_shift]
  exact flat_apply (aH m c) a b

/-! And so each block. -/

theorem block0 (t : Fin cfg0.N) (a : Fin 512) (k : Fin 1024) (h : 512 * t.val + a.val < 16384) : iblk m c 0 t (ix2 a k) = aN0 m c (ix2 ⟨512 * t.val + a.val, h⟩ k) := by
  refine entry0 m c _ h k ?_ ?_ <;> blk_simp [idx0] <;> omega

theorem block1 (t : Fin cfg0.N) (a : Fin 512) (k : Fin 1024) (h : 512 * t.val + a.val < 16384) : iblk m c 1 t (ix2 a k) = aN1 m c (ix2 ⟨512 * t.val + a.val, h⟩ k) := by
  refine entry1 m c _ h k ?_ ?_ <;> blk_simp [idx1] <;> omega

theorem block2 (t : Fin cfg0.N) (a : Fin 512) (k : Fin 1024) (h : 512 * t.val + a.val < 16384) : iblk m c 2 t (ix2 a k) = aN2 m c (ix2 ⟨512 * t.val + a.val, h⟩ k) := by
  refine entry2 m c _ h k ?_ ?_ <;> blk_simp [idx2] <;> omega

theorem block3 (t : Fin cfg0.N) (a : Fin 512) (l : Fin 128) (h : 512 * t.val + a.val < 16384) : iblk m c 3 t (ix2 a l) = aS0 m c (ix2 ⟨512 * t.val + a.val, h⟩ l) := by
  refine entry3 m c _ h l ?_ ?_ <;> blk_simp [idx3] <;> omega

theorem block4 (t : Fin cfg0.N) (a : Fin 512) (l : Fin 128) (h : 512 * t.val + a.val < 16384) : iblk m c 4 t (ix2 a l) = aS1 m c (ix2 ⟨512 * t.val + a.val, h⟩ l) := by
  refine entry4 m c _ h l ?_ ?_ <;> blk_simp [idx4] <;> omega

theorem block5 (t : Fin cfg0.N) (a : Fin 512) (l : Fin 128) (h : 512 * t.val + a.val < 16384) : iblk m c 5 t (ix2 a l) = aS2 m c (ix2 ⟨512 * t.val + a.val, h⟩ l) := by
  refine entry5 m c _ h l ?_ ?_ <;> blk_simp [idx5] <;> omega

theorem block6 (t : Fin cfg0.N) (l : Fin 128) (j : Fin 1024) : iblk m c 6 t (ix2 l j) = if l = lane j then (1 : EReal) else 0 := by
  refine entry6 m c _ l j ?_ ?_ <;> blk_simp [idx6]

theorem block7 (t : Fin cfg0.N) (j k : Fin 1024) : iblk m c 7 t (ix2 j k) = aW m c (ix2 j k) := by
  refine entry7 m c _ j k ?_ ?_ <;> blk_simp [idx7]

theorem block8 (t : Fin cfg0.N) (a : Fin 512) (k : Fin 1024) (h : 512 * t.val + a.val < 16384) : iblk m c 8 t (ix2 a k) = aR m c (ix2 ⟨512 * t.val + a.val, h⟩ k) := by
  refine entry8 m c _ h k ?_ ?_ <;> blk_simp [idx8] <;> omega

theorem block9 (t : Fin cfg0.N) (j : Fin 1024) : iblk m c 9 t (ix2 (0 : Fin 1) j) = aG m c (ix1 j) := by
  refine entry9 m c _ j ?_ <;> blk_simp [idx9]

theorem block10 (t : Fin cfg0.N) (j : Fin 1024) : iblk m c 10 t (ix2 (0 : Fin 1) j) = aH m c (ix1 j) := by
  refine entry10 m c _ j ?_ <;> blk_simp [idx10]

/-- Every maximum a weight is of is finite, and every denominator positive. -/
def Sound : Prop :=
  ∀ (i : Fin 16384) (h : Fin 16) , let l : Fin 128 := ⟨h.val, by omega⟩
    (∃ a b d : ℝ, aS0 m c (ix2 i l) = a ∧ aS1 m c (ix2 i l) = b ∧ aS2 m c (ix2 i l) = d)
      ∧ 0 < aS0 m c (ix2 i (next l)) ∧ 0 < aS1 m c (ix2 i (next l)) ∧ 0 < aS2 m c (ix2 i (next l))

/-- The result's array, of sound statistics. -/
theorem arr11 (hs : Sound m c) : (dats m 0 c).arrAt 11 cfg0.N
    = fun i => MergeSpec.result (aN0 m c) (aN1 m c) (aN2 m c) (aS0 m c) (aS1 m c) (aS2 m c) (aW m c) (aR m c) (aG m c) (aH m c) (i 0) (i 1) := by
  refine (dats m 0 c).arrAt_eq_of_covers 11 _ (by decide +kernel) fun t hf y => ?_
  obtain ⟨a, k, rfl⟩ : ∃ (a : Fin 512) (k : Fin 1024), y = ix2 a k := ⟨y 0, y 1, eq_ix2 y⟩
  have ht : t.val < 32 := t.isLt
  blk_simp [idx11]
  rw [after0_11]
  refine (tile_apply _ _ _ _ _ _ _ _ _ _ _ a k).trans ?_
  have hm : ∀ j, merged (iblk m c 3 t) (iblk m c 4 t) (iblk m c 5 t) (iblk m c 0 t) (iblk m c 1 t) (iblk m c 2 t) (iblk m c 6 t) a j
      = MergeSpec.value (aN0 m c) (aN1 m c) (aN2 m c) (aS0 m c) (aS1 m c) (aS2 m c) ⟨512 * t.val + a.val, by omega⟩ j := fun j =>
    merged_eq _ _ _ _ _ _ _ (aN0 m c) (aN1 m c) (aN2 m c) (aS0 m c) (aS1 m c) (aS2 m c) a _
      (fun l => block3 m c t a l (by omega)) (fun l => block4 m c t a l (by omega)) (fun l => block5 m c t a l (by omega))
      (fun j => block0 m c t a j (by omega)) (fun j => block1 m c t a j (by omega)) (fun j => block2 m c t a j (by omega))
      (fun l j => block6 m c t l j) (fun h => hs _ h) j
  simp only [hm, block7, block8 m c t a _ (by omega), block9, block10]
  refine congrArg₂ (MergeSpec.result (aN0 m c) (aN1 m c) (aN2 m c) (aS0 m c) (aS1 m c) (aS2 m c) (aW m c) (aR m c) (aG m c) (aH m c)) (Fin.ext ?_) (Fin.ext ?_)
  · show 512 * t.val + a.val = _
    blk_simp [idx11]
    omega
  · blk_simp [idx11]

end Cert.MergeIdeal.Array

end
-- ==== Proof.Merge.Ref.lean ====
/-
  The merging's reference result at an index.
-/
module

public import proofs.«01_k».proof.Proof.Gen.MergeRefIdeal.Run
public import proofs.«01_k».proof.Proof.Merge.Spec

@[expose] public section

set_option maxRecDepth 16384

noncomputable section

namespace Cert.MergeRefIdeal.Read

open Cert.MergeRefIdeal Cert.MergeRefIdeal.Gen Cert.MergeRefIdeal.Value Cert.MergeSpec Cert.FfnSpec
open Idealize.ShloMosaic Idealize.ShloMosaic.TcCoe Idealize.SL.Sem

variable (m : (ℓ : Loc nD τ sig) → Buf (Elt Ideal) ℓ) (c : Dev nD)

/-- The lane of a head's denominators. -/
theorem denominator_lane (j : Fin 1024) (h : 16 + j.val / 64 < 128) : (⟨16 + j.val / 64, h⟩ : Fin 128) = next (lane j) :=
  Fin.ext (show 16 + j.val / 64 = (j.val / 64 + 16) % 128 by omega)

/-- The reference's result at an index. -/
theorem out_apply (i : Fin 16384) (k : Fin 1024) : res_out0 m c (ix2 i k : S16384x1024.Idx)
    = result (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) i k := by
  pointwise [res_main_v64]
  simp only [denominator_lane]
  rfl

end Cert.MergeRefIdeal.Read

end
-- ==== Proof.Merge.Claim.lean ====
/-
  The merging's value claim: from the same arrays, with finite maxima and positive denominators, the kernel and the
  reference leave the same rows.
-/
module

public import proofs.«01_k».proof.Defs
public import proofs.«01_k».proof.Proof.Merge.Array
public import proofs.«01_k».proof.Proof.Merge.Ref

@[expose] public section

set_option maxRecDepth 16384

noncomputable section

namespace Cert.MergeClaim

open Idealize.ShloMosaic Idealize.ShloMosaic.TcCoe Idealize.SL.Sem Cert.MergeSpec

/-- The precondition's shapes. -/
theorem statisticsFacts : Cert.Pre_softmax_statistics.Facts := ⟨by decide, by decide, by decide, by decide⟩

/-- The two infinities' words. -/
theorem bottom : Ideal.ofBits FTy.f32 4286578688#32 = (⊥ : EReal) := by simp [Ideal.ofBits, Ideal.ieee]
theorem top : Ideal.ofBits FTy.f32 2139095040#32 = (⊤ : EReal) := by simp [Ideal.ofBits, Ideal.ieee]

/-- Three conditions' bits are all one when the conditions hold. -/
theorem three_bits (a b d : Bool) (h : IntOp.andi (IntOp.andi (BitVec.ofBool a) (BitVec.ofBool b)) (BitVec.ofBool d) = 1#1) :
    a = true ∧ b = true ∧ d = true := by
  revert a b d
  decide

/-- What the bit of a maximum and a denominator says: the one is a real, the other positive. -/
theorem sound_bit (x y : EReal)
    (h : IntOp.andi (IntOp.andi (BitVec.ofBool (decide (Ideal.ofBits FTy.f32 4286578688#32 < x)))
      (BitVec.ofBool (decide (x < Ideal.ofBits FTy.f32 2139095040#32)))) (BitVec.ofBool (decide (0 < y))) = 1#1) :
    (∃ r : ℝ, x = r) ∧ 0 < y := by
  obtain ⟨h1, h2, h3⟩ := three_bits _ _ _ h
  rw [bottom] at h1
  rw [top] at h2
  exact ⟨⟨x.toReal, (EReal.coe_toReal (of_decide_eq_true h2).ne (of_decide_eq_true h1).ne').symm⟩, of_decide_eq_true h3⟩

variable (x0 x1 x2 : FVec Ideal ⟨2, ![16384, 1024]⟩ .f32) (s0 s1 s2 : FVec Ideal ⟨2, ![16384, 128]⟩ .f32) (w : FVec Ideal ⟨2, ![1024, 1024]⟩ .f32)
  (r : FVec Ideal ⟨2, ![16384, 1024]⟩ .f32) (g h : FVec Ideal ⟨1, ![1024]⟩ .f32) (i : Fin 16384) (k : Fin 16)

/-- A head's lane, and the lane of its denominators. -/
theorem next_head : next ⟨k.val, by omega⟩ = ⟨16 + k.val, by omega⟩ := Fin.ext (show (k.val + 16) % 128 = 16 + k.val by omega)

/-- The precondition at the first dilation. -/
theorem sound0 (H : @Cert.Pre_softmax_statistics.fn statisticsFacts Ideal _ x0 x1 x2 s0 s1 s2 w r g h (ix2 i ⟨k.val, by omega⟩) = 1#1) :
    (∃ a : ℝ, s0 (ix2 i ⟨k.val, by omega⟩) = a) ∧ 0 < s0 (ix2 i (next ⟨k.val, by omega⟩)) := by
  unfold Cert.Pre_softmax_statistics.fn at H
  pointwise at H
  rw [next_head]
  exact sound_bit _ _ H

/-- The precondition at the second dilation. -/
theorem sound1 (H : @Cert.Pre_softmax_statistics.fn statisticsFacts Ideal _ x0 x1 x2 s0 s1 s2 w r g h (ix2 i ⟨16 + k.val, by omega⟩) = 1#1) :
    (∃ a : ℝ, s1 (ix2 i ⟨k.val, by omega⟩) = a) ∧ 0 < s1 (ix2 i (next ⟨k.val, by omega⟩)) := by
  unfold Cert.Pre_softmax_statistics.fn at H
  pointwise at H
  rw [next_head]
  exact sound_bit _ _ H

/-- The precondition at the third dilation. -/
theorem sound2 (H : @Cert.Pre_softmax_statistics.fn statisticsFacts Ideal _ x0 x1 x2 s0 s1 s2 w r g h (ix2 i ⟨32 + k.val, by omega⟩) = 1#1) :
    (∃ a : ℝ, s2 (ix2 i ⟨k.val, by omega⟩) = a) ∧ 0 < s2 (ix2 i (next ⟨k.val, by omega⟩)) := by
  unfold Cert.Pre_softmax_statistics.fn at H
  pointwise at H
  have e : 32 + k.val - 16 - 16 = k.val := by omega
  simp only [dif_neg (show ¬32 + k.val < 16 by omega), dif_neg (show ¬32 + k.val - 16 < 16 by omega), e] at H
  rw [next_head]
  exact sound_bit _ _ H

/-- The precondition makes the statistics sound. -/
theorem sound (m : (ℓ : Loc Cert.MergeIdeal.nD Cert.MergeIdeal.τ Cert.MergeIdeal.sig) → Buf (Elt Ideal) ℓ)
    (hpre : Cert.Pre_MergeIdeal_softmax_statistics (hPre_softmax_statistics := statisticsFacts) m) (c : Dev Cert.MergeIdeal.nD) :
    Cert.MergeIdeal.Array.Sound m c := fun i k => by
  obtain ⟨⟨a, ea⟩, da⟩ := sound0 _ _ _ _ _ _ _ _ _ _ i k (congrFun (hpre c) _)
  obtain ⟨⟨b, eb⟩, db⟩ := sound1 _ _ _ _ _ _ _ _ _ _ i k (congrFun (hpre c) _)
  obtain ⟨⟨d, ed⟩, dd⟩ := sound2 _ _ _ _ _ _ _ _ _ _ i k (congrFun (hpre c) _)
  exact ⟨⟨a, b, d, ea, eb, ed⟩, da, db, dd⟩

/-- The two programs agree, from the same arrays. -/
theorem algebraic : Cert.algebraic_MergeIdeal_MergeRefIdeal_pre_softmax_statistics (hMergeIdeal := Cert.MergeIdeal.Gen.facts)
    (hMergeRefIdeal := Cert.MergeRefIdeal.Gen.facts) (hPre_softmax_statistics := statisticsFacts) := by
  intro m g m' g' hpre hagree
  refine ⟨fun c => (Cert.MergeIdeal.Gen.dats m 0 c).arrAt 11 Cert.MergeIdeal.cfg0.N, Cert.MergeIdeal.Value.run_blocks m g, ?_⟩
  refine (θ_run _ _ _).mono (fun r h c => ?_) (Cert.MergeRefIdeal.Value.run m' g')
  obtain ⟨h0, h2⟩ := h c
  obtain ⟨e0, e1, e2, e3, e4, e5, e6, e7, e8, e9⟩ := hagree c
  refine ⟨h0.trans ?_, h2⟩
  dsimp only
  rw [Cert.MergeIdeal.Array.arr11 m c (sound m hpre c)]
  funext i
  refine (congrArg (Cert.MergeRefIdeal.Value.res_main_v64 m' c) (eq_ix2 i)).trans ?_
  refine (Cert.MergeRefIdeal.Read.out_apply _ _ (i 0) (i 1)).trans ?_
  rw [e0, e1, e2, e3, e4, e5, e6, e7, e8, e9]

/-- The reference runs and leaves its arguments alone; it has no semaphore, so every counter ends at zero. -/
theorem frame_ref : Cert.quiescent_MergeRefIdeal (hMergeRefIdeal := Cert.MergeRefIdeal.Gen.facts) := fun m g _ =>
  (θ_run (Cert.MergeRefIdeal.defs (F := Ideal)) _ _).mono
    (fun r h => ⟨fun c => (h c).2, sem_eq_zero_of_no_sems (by decide) r.2⟩) (Cert.MergeRefIdeal.Value.run m g)

/-- And under the precondition. -/
theorem frame_ref_pre : Cert.quiescent_MergeRefIdeal_pre_softmax_statistics (hMergeRefIdeal := Cert.MergeRefIdeal.Gen.facts)
    (hPre_softmax_statistics := statisticsFacts) := fun m g _ => frame_ref m g trivial

end Cert.MergeClaim

end
-- ==== Proof.Dils.Spec.lean ====
/-
  One new row's dilated attention over the rows kept before it, in plain formulas over the extended reals.

  The new row is row 2048, behind the 2048 kept ones. At dilation `d` it sees the 129 rows at the distances `0`, `d`, …,
  `128 d`. Summing over all rows with the unseen ones' weights zero is summing over the rows seen.
-/
module

public import proofs.«01_k».proof.Proof.Ffn.Spec
public import Idealize.ShloMosaic.Lib.Pointwise

@[expose] public section

noncomputable section

namespace Cert.DilsSpec

open Idealize.ShloMosaic Cert.FfnSpec

/-- A number of each row. -/
abbrev Rows := Fin 2049 → EReal

/-- The row at place `j` of those seen at dilation `d`, the farthest first. -/
def place (d : Fin 17) (j : Fin 129) : Fin 2049 := ⟨2048 - 128 * d.val + d.val * j.val, by
  have h := Nat.mul_le_mul_left d.val (Nat.le_of_lt_succ j.isLt)
  omega⟩

/-- The largest score seen. -/
def top (d : Fin 17) (s : Rows) : EReal := (Finset.univ : Finset (Fin 129)).fold max ⊥ fun j => s (place d j)

/-- The weight of a row before division by the sum of all. -/
def weight (d : Fin 17) (s : Rows) (j : Fin 2049) : EReal := Ideal.exp (s j - top d s)

/-- The sum of the weights seen. -/
def total (d : Fin 17) (s : Rows) : EReal := ∑ j, weight d s (place d j)

/-- The weighted sum of the values seen. -/
def blend (d : Fin 17) (s v : Rows) : EReal := ∑ j, weight d s (place d j) * v (place d j)

/-- The largest score of the three dilations. -/
def peak (s : Rows) : EReal := max (max (top 1 s) (top 4 s)) (top 16 s)

/-- A dilation's share. -/
def share (d : Fin 17) (s : Rows) : EReal := Ideal.exp (top d s - peak s)

/-- The three dilations' sums, each by its share. -/
def allTotal (s : Rows) : EReal := share 1 s * total 1 s + share 4 s * total 4 s + share 16 s * total 16 s

/-- The three dilations' weighted sums, each by its share. -/
def allBlend (s v : Rows) : EReal := share 1 s * blend 1 s v + share 4 s * blend 4 s v + share 16 s * blend 16 s v

/-- The attention. -/
def attention (s v : Rows) : EReal := Ideal.div (allBlend s v) (allTotal s)

/-- Kept row `x` is seen at dilation `d`. -/
abbrev Seen (d : Fin 17) (x : Fin 2048) : Prop := (2048 - x.val) % d.val = 0 ∧ (2048 - x.val) / d.val ≤ 128

/-- Row `x` of all rows. -/
abbrev kept (x : Fin 2048) : Fin 2049 := ⟨x.val, by omega⟩

/-- The new row. -/
abbrev new : Fin 2049 := ⟨2048, by omega⟩

/-- The nearest place is the new row. -/
theorem place_last (d : Fin 17) : place d (Fin.last 128) = new := Fin.ext (by
  have := d.isLt
  show 2048 - 128 * d.val + d.val * 128 = 2048
  omega)

/-- Every other place is a kept row. -/
def before (d : Fin 17) (hd : 0 < d.val) (j : Fin 128) : Fin 2048 := ⟨2048 - 128 * d.val + d.val * j.val, by
  have h := Nat.mul_le_mul_left d.val (Nat.le_of_lt_succ (show j.val < 127 + 1 from j.isLt))
  have := d.isLt
  omega⟩

theorem place_before (d : Fin 17) (hd : 0 < d.val) (j : Fin 128) : place d j.castSucc = kept (before d hd j) := rfl

/-- The distance of such a place. -/
theorem distance (d : Fin 17) (hd : 0 < d.val) (j : Fin 128) : 2048 - (before d hd j).val = d.val * (128 - j.val) := by
  have h := Nat.mul_le_mul_left d.val (Nat.le_of_lt j.isLt)
  have := d.isLt
  rw [Nat.mul_sub]
  show 2048 - (2048 - 128 * d.val + d.val * j.val) = _
  omega

theorem before_seen (d : Fin 17) (hd : 0 < d.val) (j : Fin 128) : Seen d (before d hd j) := by
  unfold Seen
  rw [distance d hd j, Nat.mul_mod_right, Nat.mul_div_cancel_left _ hd]
  exact ⟨rfl, Nat.sub_le _ _⟩

theorem before_injective (d : Fin 17) (hd : 0 < d.val) : Function.Injective (before d hd) := fun i j h => by
  have h1 := congrArg (fun x : Fin 2048 => x.val) h
  have h2 : d.val * i.val = d.val * j.val := Nat.add_left_cancel h1
  exact Fin.ext (Nat.eq_of_mul_eq_mul_left hd h2)

/-- Every kept row seen is such a place. -/
theorem seen_before (d : Fin 17) (hd : 0 < d.val) (x : Fin 2048) (h : Seen d x) : ∃ j, before d hd j = x := by
  obtain ⟨h1, h2⟩ := h
  have h3 : d.val * ((2048 - x.val) / d.val) = 2048 - x.val := Nat.mul_div_cancel' (Nat.dvd_of_mod_eq_zero h1)
  have h4 : 0 < (2048 - x.val) / d.val := by
    rcases Nat.eq_zero_or_pos ((2048 - x.val) / d.val) with h0 | h0
    · rw [h0] at h3
      omega
    · exact h0
  refine ⟨⟨128 - (2048 - x.val) / d.val, by omega⟩, Fin.ext ?_⟩
  show 2048 - 128 * d.val + d.val * (128 - (2048 - x.val) / d.val) = x.val
  have h5 := Nat.mul_le_mul_left d.val h2
  rw [Nat.mul_sub, h3]
  have := d.isLt
  omega

/-- A sum over the rows seen, as one over all kept rows and the new one. -/
theorem sum_seen (d : Fin 17) (hd : 0 < d.val) (f : Rows) :
    ∑ j, f (place d j) = (∑ x : Fin 2048, if Seen d x then f (kept x) else 0) + f new := by
  rw [Fin.sum_univ_castSucc, place_last]
  refine congrArg (· + f new) (Finset.sum_of_injOn (before d hd) (before_injective d hd).injOn (fun _ _ => Finset.mem_coe.2 (Finset.mem_univ _)) (fun x _ h => ?_) fun j _ => ?_)
  · refine if_neg fun hs => h ?_
    obtain ⟨j, rfl⟩ := seen_before d hd x hs
    exact ⟨j, Finset.mem_coe.2 (Finset.mem_univ _), rfl⟩
  · rw [if_pos (before_seen d hd j)]
    rfl

/-- The score of a kept row where it is seen, minus infinity elsewhere. -/
def masked (d : Fin 17) (s : Rows) (x : Fin 2048) : EReal := if Seen d x then s (kept x) else ⊥

/-- The largest masked score and the new row's. -/
def topMasked (d : Fin 17) (s : Rows) : EReal := max ((Finset.univ : Finset (Fin 2048)).fold max ⊥ (masked d s)) (s new)

/-- It is the largest score seen. -/
theorem topMasked_eq (d : Fin 17) (hd : 0 < d.val) (s : Rows) : topMasked d s = top d s := by
  have h1 : topMasked d s = max (Finset.univ.sup (masked d s)) (s new) := rfl
  have h2 : top d s = Finset.univ.sup fun j => s (place d j) := rfl
  rw [h1, h2]
  refine le_antisymm (max_le (Finset.sup_le fun x _ => ?_) ?_) (Finset.sup_le fun j _ => ?_)
  · unfold masked
    by_cases h : Seen d x
    · rw [if_pos h]
      obtain ⟨j, rfl⟩ := seen_before d hd x h
      exact Finset.le_sup (f := fun j => s (place d j)) (Finset.mem_univ j.castSucc)
    · rw [if_neg h]
      exact bot_le
  · have := Finset.le_sup (f := fun j => s (place d j)) (Finset.mem_univ (Fin.last 128))
    rwa [place_last] at this
  · induction j using Fin.lastCases with
    | last => rw [place_last]; exact le_max_right _ _
    | cast j =>
      rw [place_before d hd j]
      refine le_trans (le_of_eq ?_) (le_trans (Finset.le_sup (f := masked d s) (Finset.mem_univ (before d hd j))) (le_max_left _ _))
      exact (if_pos (before_seen d hd j)).symm

/-- The weight of a masked score: a row not seen has none. -/
theorem weight_masked (d : Fin 17) (s : Rows) (x : Fin 2048) :
    Ideal.exp (masked d s x - top d s) = if Seen d x then weight d s (kept x) else 0 := by
  unfold masked weight
  by_cases h : Seen d x
  · rw [if_pos h, if_pos h]
  · rw [if_neg h, if_neg h, EReal.bot_sub, Ideal.exp_bot]

/-- The sum of all weights is the sum of those seen. -/
theorem total_masked (d : Fin 17) (hd : 0 < d.val) (s : Rows) :
    (∑ x, Ideal.exp (masked d s x - top d s)) + Ideal.exp (s new - top d s) = total d s := by
  unfold total
  rw [sum_seen d hd (weight d s)]
  simp only [weight_masked]
  rfl

/-- The weighted sum of all values is that of those seen. -/
theorem blend_masked (d : Fin 17) (hd : 0 < d.val) (s v : Rows) :
    (∑ x, Ideal.exp (masked d s x - top d s) * v (kept x)) + Ideal.exp (s new - top d s) * v new = blend d s v := by
  unfold blend
  rw [sum_seen d hd fun j => weight d s j * v j]
  simp only [weight_masked]
  refine congrArg (· + _) (Finset.sum_congr rfl fun x _ => ?_)
  by_cases h : Seen d x
  · rw [if_pos h, if_pos h]
  · rw [if_neg h, if_neg h, zero_mul]

/-- An exponential is not negative. -/
theorem exp_nonneg (x : EReal) : 0 ≤ Ideal.exp x := by
  induction x with
  | bot => rw [Ideal.exp_bot]
  | top => exact le_top
  | coe r => exact EReal.coe_nonneg.2 (Real.exp_pos r).le

/-- A difference to something no smaller has a finite exponential. -/
theorem exp_ne_top {x y : EReal} (h : x ≤ y) : Ideal.exp (x - y) ≠ ⊤ := by
  induction x with
  | bot => rw [EReal.bot_sub, Ideal.exp_bot]; exact EReal.zero_ne_top
  | top =>
    rw [top_le_iff.1 h, show (⊤ : EReal) - ⊤ = ⊥ from rfl, Ideal.exp_bot]
    exact EReal.zero_ne_top
  | coe r =>
    induction y with
    | bot => exact absurd h (by simp)
    | top =>
      rw [show (r : EReal) - ⊤ = ⊥ from rfl, Ideal.exp_bot]
      exact EReal.zero_ne_top
    | coe q =>
      rw [← EReal.coe_sub]
      exact EReal.coe_ne_top (Real.exp (r - q))

theorem share_nonneg (d : Fin 17) (s : Rows) : 0 ≤ share d s := exp_nonneg _
theorem share_one (s : Rows) : share 1 s ≠ ⊤ := exp_ne_top ((le_max_left _ _).trans (le_max_left _ _))
theorem share_four (s : Rows) : share 4 s ≠ ⊤ := exp_ne_top ((le_max_right _ _).trans (le_max_left _ _))
theorem share_sixteen (s : Rows) : share 16 s ≠ ⊤ := exp_ne_top (le_max_right _ _)

/-- A finite factor that is not negative goes into a sum. -/
theorem mul_sum {ι : Type} (w : EReal) (h0 : 0 ≤ w) (ht : w ≠ ⊤) (t : Finset ι) (f : ι → EReal) : w * (∑ i ∈ t, f i) = ∑ i ∈ t, w * f i := by
  classical
  induction t using Finset.induction_on with
  | empty => simp
  | insert a t ha ih =>
    rw [Finset.sum_insert ha, Finset.sum_insert ha, ← ih, EReal.left_distrib_of_nonneg_of_ne_top h0 ht]

/-- Three products that are not negative, added and multiplied. -/
theorem three_mul (a b c x y z v : EReal) (ha : 0 ≤ a) (hb : 0 ≤ b) (hc : 0 ≤ c) (hx : 0 ≤ x) (hy : 0 ≤ y) (hz : 0 ≤ z) :
    (a * x + b * y + c * z) * v = a * (x * v) + b * (y * v) + c * (z * v) := by
  rw [EReal.right_distrib_of_nonneg (add_nonneg (mul_nonneg ha hx) (mul_nonneg hb hy)) (mul_nonneg hc hz),
    EReal.right_distrib_of_nonneg (mul_nonneg ha hx) (mul_nonneg hb hy), mul_assoc, mul_assoc, mul_assoc]

/-- The three dilations' weights of a masked score, each by its share. -/
def allWeight (s : Rows) (x : Fin 2048) : EReal :=
  share 1 s * Ideal.exp (masked 1 s x - top 1 s) + share 4 s * Ideal.exp (masked 4 s x - top 4 s) + share 16 s * Ideal.exp (masked 16 s x - top 16 s)

/-- And those of the new row. -/
def allNew (s : Rows) : EReal :=
  share 1 s * Ideal.exp (s new - top 1 s) + share 4 s * Ideal.exp (s new - top 4 s) + share 16 s * Ideal.exp (s new - top 16 s)

/-- One weighted sum with the merged weights is the merged weighted sums. -/
theorem allBlend_eq (s v : Rows) : (∑ x, allWeight s x * v (kept x)) + allNew s * v new = allBlend s v := by
  unfold allBlend allWeight allNew
  rw [← blend_masked 1 (by decide) s v, ← blend_masked 4 (by decide) s v, ← blend_masked 16 (by decide) s v,
    EReal.left_distrib_of_nonneg_of_ne_top (share_nonneg 1 s) (share_one s),
    EReal.left_distrib_of_nonneg_of_ne_top (share_nonneg 4 s) (share_four s),
    EReal.left_distrib_of_nonneg_of_ne_top (share_nonneg 16 s) (share_sixteen s),
    mul_sum _ (share_nonneg 1 s) (share_one s), mul_sum _ (share_nonneg 4 s) (share_four s), mul_sum _ (share_nonneg 16 s) (share_sixteen s)]
  simp only [three_mul _ _ _ _ _ _ _ (share_nonneg 1 s) (share_nonneg 4 s) (share_nonneg 16 s) (exp_nonneg _) (exp_nonneg _) (exp_nonneg _),
    Finset.sum_add_distrib]
  abel

end Cert.DilsSpec

end
-- ==== Proof.Dils.Buffer.lean ====
/-
  The sampled token's kernel leaves, in each half of the buffer, the rows moved up by one place and the new row last.
-/
module

public import proofs.«01_k».proof.Proof.Gen.DilsIdeal.Value
public import proofs.«01_k».proof.Proof.Dils.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DilsIdeal.Tile

open Cert.DilsIdeal Cert.DilsIdeal.Gen Cert.DilsSpec
open Idealize.ShloMosaic Idealize.ShloMosaic.TcCoe Idealize.SL.Sem

/-- A column's word is the last one's when the column is the last. -/
theorem last_word : ∀ x : Fin 2048, IntOp.cmpi CmpIPredicate.eq (BitVec.ofNat 32 x.val) 2047#32 = if x.val = 2047 then 1#1 else 0#1 := by
  decide +kernel

/-- A half's word is zero's when it is the first. -/
theorem half_word : ∀ g : Fin 2, Scalar.cmpi CmpIPredicate.eq (BitVec.ofNat 32 g.val) 0#32 = if g.val = 0 then 1#1 else 0#1 := by
  decide +kernel

/-- A chunk: its columns moved one place to the left, the new row's column at the end. -/
theorem chunk_apply (i : grid0.Coords) (a b : Vec Ideal S1x64x1 .f32) (v : Vec Ideal S1x1x64x2048 .f32) (r : Fin 64) (x : Fin 2048) :
    k0_pay34 i a b v (ix4 0 0 r x)
      = if h : x.val = 2047 then (if (i 1).val = 0 then a (ix3 0 r 0) else b (ix3 0 r 0)) else v (ix4 0 0 r ⟨x.val + 1, by omega⟩) := by
  pointwise [k0_pay34]
  rw [last_word x]
  have hi : Scalar.cmpi CmpIPredicate.eq (BitVec.ofNat 32 (i 1).val) 0#32 = if (i 1).val = 0 then 1#1 else 0#1 := half_word (i 1)
  rw [hi]
  by_cases h : x.val = 2047
  · rw [if_pos h, dif_pos h]
    by_cases h' : (i 1).val = 0
    · rw [if_pos h', if_pos h']; rfl
    · rw [if_neg h', if_neg h']; rfl
  · rw [if_neg h, dif_neg h]
    exact congrArg (fun y => v (ix4 0 0 r y)) (Fin.ext (show (x.val + 2048 - 2047) % 2048 = x.val + 1 by omega))

/-- Where an entry of a chunk stands in the block. -/
theorem place_chunk (o : ℕ) (inb : ∀ d, (![0, 0, o, 0] : Fin 4 → ℕ) d + (![1, 1, 64, 2048] : Fin 4 → ℕ) d ≤ S1x1x1024x2048.size d) (r : Fin 64) (x : Fin 2048) :
    ((Rect.unit (s := S1x1x1024x2048) ![0, 0, o, 0] ![1, 1, 64, 2048] inb).emb (ix4 0 0 r x) 2).val = o + r.val
      ∧ ((Rect.unit (s := S1x1x1024x2048) ![0, 0, o, 0] ![1, 1, 64, 2048] inb).emb (ix4 0 0 r x) 3).val = x.val :=
  ⟨ValueKit.rect_emb_unit_val (s := S1x1x1024x2048) ![0, 0, o, 0] ![1, 1, 64, 2048] inb (ix4 0 0 r x) 2,
    (ValueKit.rect_emb_unit_val (s := S1x1x1024x2048) ![0, 0, o, 0] ![1, 1, 64, 2048] inb (ix4 0 0 r x) 3).trans (Nat.zero_add x.val)⟩

/-- The half's rows after the step: moved up by one place, the new row last. -/
def moved (g : ℕ) (x1 : Vec Ideal S1x1x1024x2048 .f32) (x2 : Vec Ideal S1x1024x128 .f32) (k : Fin 1024) (x : Fin 2048) : EReal :=
  if h : x.val = 2047 then (if g = 0 then x2 (ix3 0 k 0) else x2 (ix3 0 k 1)) else x1 (ix4 0 0 k ⟨x.val + 1, by omega⟩)

/-- A chunk, cut from the blocks, is the moved half's there. -/
theorem piece (i : grid0.Coords) (x1 : Vec Ideal S1x1x1024x2048 .f32) (x2 : Vec Ideal S1x1024x128 .f32) (o : ℕ)
    (inb : ∀ d, (![0, 0, o, 0] : Fin 4 → ℕ) d + (![1, 1, 64, 2048] : Fin 4 → ℕ) d ≤ S1x1x1024x2048.size d)
    (inb0 : ∀ d, (![0, o, 0] : Fin 3 → ℕ) d + (![1, 64, 1] : Fin 3 → ℕ) d ≤ S1x1024x128.size d)
    (inb1 : ∀ d, (![0, o, 1] : Fin 3 → ℕ) d + (![1, 64, 1] : Fin 3 → ℕ) d ≤ S1x1024x128.size d) (y : S1x1x64x2048.Idx) :
    k0_pay34 (F := Ideal) i (View.ld (Val := Elt Ideal) (e' := .f32) (S := S1x1024x128) x2 (Rect.unit ![0, o, 0] ![1, 64, 1] inb0))
        (View.ld (Val := Elt Ideal) (e' := .f32) (S := S1x1024x128) x2 (Rect.unit ![0, o, 1] ![1, 64, 1] inb1))
        (View.ld (Val := Elt Ideal) (e' := .f32) (S := S1x1x1024x2048) x1 (Rect.unit ![0, 0, o, 0] ![1, 1, 64, 2048] inb)) y
      = moved (i 1).val x1 x2 ((Rect.unit (s := S1x1x1024x2048) ![0, 0, o, 0] ![1, 1, 64, 2048] inb).emb y 2)
          ((Rect.unit (s := S1x1x1024x2048) ![0, 0, o, 0] ![1, 1, 64, 2048] inb).emb y 3) := by
  obtain ⟨a, b, r, x, rfl⟩ : ∃ (a : Fin 1) (b : Fin 1) (r : Fin 64) (x : Fin 2048), y = ix4 a b r x := ⟨y 0, y 1, y 2, y 3, eq_ix4 y⟩
  obtain rfl : a = 0 := Subsingleton.elim _ _
  obtain rfl : b = 0 := Subsingleton.elim _ _
  have ho : o + 64 ≤ 1024 := inb 2
  have hk : (Rect.unit (s := S1x1x1024x2048) ![0, 0, o, 0] ![1, 1, 64, 2048] inb).emb (ix4 0 0 r x) 2 = (⟨o + r.val, by omega⟩ : Fin 1024) :=
    Fin.ext (place_chunk o inb r x).1
  have hx : (Rect.unit (s := S1x1x1024x2048) ![0, 0, o, 0] ![1, 1, 64, 2048] inb).emb (ix4 0 0 r x) 3 = x := Fin.ext (place_chunk o inb r x).2
  rw [chunk_apply, hk, hx]
  unfold moved
  by_cases h : x.val = 2047
  · rw [dif_pos h, dif_pos h]
    by_cases h' : (i 1).val = 0
    · rw [if_pos h', if_pos h']
      refine View.ld_unit_apply_of _ _ _ _ _ _ ?_
      intro d
      fin_cases d <;> rfl
    · rw [if_neg h', if_neg h']
      refine View.ld_unit_apply_of _ _ _ _ _ _ ?_
      intro d
      fin_cases d <;> rfl
  · rw [dif_neg h, dif_neg h]
    refine View.ld_unit_apply_of _ _ _ _ _ _ ?_
    intro d
    fin_cases d <;> first | rfl | exact (Nat.zero_add _).symm

variable (m : (ℓ : Loc nD τ sig) → Buf (Elt Ideal) ℓ) (c : Dev nD)

/-- The sixteen chunks of a half. -/
theorem half_first (t : Fin cfg0.N) (h0 : t.val % 2 = 0) (h1 : ¬ t.val % 2 = 1) (k : Fin 1024) (x : Fin 2048) :
    (outsAt0 m c t.val t.isLt).2.1 (ix4 0 0 k x) = moved (grid0.coords t 1).val (iblk m c 1 t) (iblk m c 2 t) k x := by
  rw [outsAt0_A m c t h0 h1]
  dsimp only
  frame_out
  refine View.canon_append_of_piecesOf (Val := Elt Ideal) (s := S1x1x1024x2048) (e := .f32) (fun y => moved (grid0.coords t 1).val (iblk m c 1 t) (iblk m c 2 t) (y 2) (y 3)) []
    [_, _, _, _, _, _, _, _, _, _, _, _, _, _, _, _]
    ⟨fun y => ?_, fun y => ?_, fun y => ?_, fun y => ?_, fun y => ?_, fun y => ?_, fun y => ?_, fun y => ?_,
      fun y => ?_, fun y => ?_, fun y => ?_, fun y => ?_, fun y => ?_, fun y => ?_, fun y => ?_, fun y => ?_, trivial⟩ (ix4 0 0 k x)
    (View.cover_of_tiledL _ ![1, 1, 64, 2048] (by sl_kernel_rfl) _)
  all_goals exact piece (grid0.coords t) (iblk m c 1 t) (iblk m c 2 t) _ _ _ _ y
theorem half_second (t : Fin cfg0.N) (h0 : ¬ t.val % 2 = 0) (h1 : t.val % 2 = 1) (k : Fin 1024) (x : Fin 2048) :
    (outsAt0 m c t.val t.isLt).2.1 (ix4 0 0 k x) = moved (grid0.coords t 1).val (iblk m c 1 t) (iblk m c 2 t) k x := by
  rw [outsAt0_B m c t h0 h1]
  dsimp only
  frame_out
  refine View.canon_append_of_piecesOf (Val := Elt Ideal) (s := S1x1x1024x2048) (e := .f32) (fun y => moved (grid0.coords t 1).val (iblk m c 1 t) (iblk m c 2 t) (y 2) (y 3)) []
    [_, _, _, _, _, _, _, _, _, _, _, _, _, _, _, _]
    ⟨fun y => ?_, fun y => ?_, fun y => ?_, fun y => ?_, fun y => ?_, fun y => ?_, fun y => ?_, fun y => ?_,
      fun y => ?_, fun y => ?_, fun y => ?_, fun y => ?_, fun y => ?_, fun y => ?_, fun y => ?_, fun y => ?_, trivial⟩ (ix4 0 0 k x)
    (View.cover_of_tiledL _ ![1, 1, 64, 2048] (by sl_kernel_rfl) _)
  all_goals exact piece (grid0.coords t) (iblk m c 1 t) (iblk m c 2 t) _ _ _ _ y

/-- Either way. -/
theorem half (t : Fin cfg0.N) (k : Fin 1024) (x : Fin 2048) :
    (outsAt0 m c t.val t.isLt).2.1 (ix4 0 0 k x) = moved (grid0.coords t 1).val (iblk m c 1 t) (iblk m c 2 t) k x := by
  by_cases h : t.val % 2 = 0
  · exact half_first m c t h (by omega) k x
  · exact half_second m c t h (by omega) k x

end Cert.DilsIdeal.Tile

end
-- ==== Proof.Dils.Pay.lean ====
/-
  The attention's steps in the kernel's body, read at a head and a row, where the scores and the masks are known.
-/
module

public import proofs.«01_k».proof.Proof.Gen.DilsIdeal.Skeleton
public import proofs.«01_k».proof.Proof.Dils.Spec
public import proofs.«01_k».proof.Proof.Band.Spec

@[expose] public section

set_option maxRecDepth 16384

noncomputable section

namespace Cert.DilsIdeal.Pay

open Cert.DilsIdeal Cert.DilsIdeal.Gen Cert.DilsSpec
open Idealize.ShloMosaic Idealize.ShloMosaic.TcCoe Idealize.SL.Sem

/-- A score plus its mask is the masked score. -/
theorem add_mask (d : Fin 17) (s : Rows) (x : Fin 2048) (b : EReal) (h : b = if Seen d x then 0 else ⊥) : s (kept x) + b = masked d s x := by
  unfold masked
  rw [h]
  by_cases hs : Seen d x
  · rw [if_pos hs, if_pos hs, add_zero]
  · rw [if_neg hs, if_neg hs, EReal.add_bot]

variable (q : FVec Ideal S16x1024 .f32) (k : Vec Ideal S1x1x1024x2048 .f32) (r : Vec Ideal S1x1x1024 .f32) (b1 b4 b16 : Vec Ideal S1x2048 .f32)
variable (S : Fin 16 → Rows)
variable (hs : ∀ h x, k0_pay3 q k (ix2 h x) = S h (kept x)) (hn : ∀ h, k0_pay4 q r (ix2 h 0) = S h new)
variable (h1 : ∀ x : Fin 2048, b1 (ix2 0 x) = if Seen 1 x then 0 else ⊥) (h4 : ∀ x : Fin 2048, b4 (ix2 0 x) = if Seen 4 x then 0 else ⊥)
  (h16 : ∀ x : Fin 2048, b16 (ix2 0 x) = if Seen 16 x then 0 else ⊥)

include hs h1 in
theorem masked1 (h : Fin 16) (x : Fin 2048) : k0_pay5 q k b1 (ix2 h x) = masked 1 (S h) x := by
  pointwise [k0_pay5]
  rw [hs]
  exact add_mask 1 (S h) x _ (h1 x)

include hs h4 in
theorem masked4 (h : Fin 16) (x : Fin 2048) : k0_pay10 q k b4 (ix2 h x) = masked 4 (S h) x := by
  pointwise [k0_pay10]
  rw [hs]
  exact add_mask 4 (S h) x _ (h4 x)

include hs h16 in
theorem masked16 (h : Fin 16) (x : Fin 2048) : k0_pay15 (k0_pay3 q k) b16 (ix2 h x) = masked 16 (S h) x := by
  pointwise [k0_pay15]
  rw [hs]
  exact add_mask 16 (S h) x _ (h16 x)

include hs hn h1 in
theorem top1 (h : Fin 16) : k0_pay6 q k r b1 (ix2 h 0) = top 1 (S h) := by
  rw [← topMasked_eq 1 (by decide)]
  pointwise [k0_pay6]
  simp only [masked1 q k b1 S hs h1, hn, Cert.BandSpec.start_eq]
  rfl

include hs hn h4 in
theorem top4 (h : Fin 16) : k0_pay11 q k r b4 (ix2 h 0) = top 4 (S h) := by
  rw [← topMasked_eq 4 (by decide)]
  pointwise [k0_pay11]
  simp only [masked4 q k b4 S hs h4, hn, Cert.BandSpec.start_eq]
  rfl

include hs hn h16 in
theorem top16 (h : Fin 16) : k0_pay16 (k0_pay3 q k) (k0_pay4 q r) b16 (ix2 h 0) = top 16 (S h) := by
  rw [← topMasked_eq 16 (by decide)]
  pointwise [k0_pay16]
  simp only [masked16 q k b16 S hs h16, hn, Cert.BandSpec.start_eq]
  rfl

include hs hn h1 in
theorem weight1 (h : Fin 16) (x : Fin 2048) : k0_pay7 q k r b1 (ix2 h x) = Ideal.exp (masked 1 (S h) x - top 1 (S h)) := by
  pointwise [k0_pay7]
  rw [masked1 q k b1 S hs h1, top1 q k r b1 S hs hn h1]

include hs hn h4 in
theorem weight4 (h : Fin 16) (x : Fin 2048) : k0_pay12 q k r b4 (ix2 h x) = Ideal.exp (masked 4 (S h) x - top 4 (S h)) := by
  pointwise [k0_pay12]
  rw [masked4 q k b4 S hs h4, top4 q k r b4 S hs hn h4]

include hs hn h16 in
theorem weight16 (h : Fin 16) (x : Fin 2048) :
    k0_pay17 (k0_pay3 q k) (k0_pay4 q r) b16 (ix2 h x) = Ideal.exp (masked 16 (S h) x - top 16 (S h)) := by
  pointwise [k0_pay17]
  rw [masked16 q k b16 S hs h16, top16 q k r b16 S hs hn h16]

include hs hn h1 in
theorem new1 (h : Fin 16) : k0_pay8 q k r b1 (ix2 h 0) = Ideal.exp (S h new - top 1 (S h)) := by
  pointwise [k0_pay8]
  rw [hn, top1 q k r b1 S hs hn h1]

include hs hn h4 in
theorem new4 (h : Fin 16) : k0_pay13 q k r b4 (ix2 h 0) = Ideal.exp (S h new - top 4 (S h)) := by
  pointwise [k0_pay13]
  rw [hn, top4 q k r b4 S hs hn h4]

include hs hn h16 in
theorem new16 (h : Fin 16) : k0_pay18 (k0_pay3 q k) (k0_pay4 q r) b16 (ix2 h 0) = Ideal.exp (S h new - top 16 (S h)) := by
  pointwise [k0_pay18]
  rw [hn, top16 q k r b16 S hs hn h16]

include hs hn h1 in
theorem total1 (h : Fin 16) : k0_pay9 q k r b1 (ix2 h 0) = total 1 (S h) := by
  rw [← total_masked 1 (by decide)]
  pointwise [k0_pay9]
  simp only [weight1 q k r b1 S hs hn h1, new1 q k r b1 S hs hn h1]

include hs hn h4 in
theorem total4 (h : Fin 16) : k0_pay14 q k r b4 (ix2 h 0) = total 4 (S h) := by
  rw [← total_masked 4 (by decide)]
  pointwise [k0_pay14]
  simp only [weight4 q k r b4 S hs hn h4, new4 q k r b4 S hs hn h4]

include hs hn h16 in
theorem total16 (h : Fin 16) : k0_pay19 (k0_pay3 q k) (k0_pay4 q r) b16 (ix2 h 0) = total 16 (S h) := by
  rw [← total_masked 16 (by decide)]
  pointwise [k0_pay19]
  simp only [weight16 q k r b16 S hs hn h16, new16 q k r b16 S hs hn h16]

include hs hn h1 h4 h16 in
theorem peak_apply (h : Fin 16) :
    k0_pay20 (k0_pay3 q k) (k0_pay4 q r) (k0_pay6 q k r b1) (k0_pay11 q k r b4) b16 (ix2 h 0) = peak (S h) := by
  pointwise [k0_pay20]
  rw [top1 q k r b1 S hs hn h1, top4 q k r b4 S hs hn h4, top16 q k r b16 S hs hn h16]
  rfl

include hs hn h1 h4 h16 in
theorem share1 (h : Fin 16) :
    k0_pay21 (k0_pay3 q k) (k0_pay4 q r) (k0_pay6 q k r b1) (k0_pay11 q k r b4) b16 (ix2 h 0) = share 1 (S h) := by
  pointwise [k0_pay21]
  rw [top1 q k r b1 S hs hn h1, peak_apply q k r b1 b4 b16 S hs hn h1 h4 h16]
  rfl

include hs hn h1 h4 h16 in
theorem share4 (h : Fin 16) :
    k0_pay22 (k0_pay3 q k) (k0_pay4 q r) (k0_pay6 q k r b1) (k0_pay11 q k r b4) b16 (ix2 h 0) = share 4 (S h) := by
  pointwise [k0_pay22]
  rw [top4 q k r b4 S hs hn h4, peak_apply q k r b1 b4 b16 S hs hn h1 h4 h16]
  rfl

include hs hn h1 h4 h16 in
theorem share16 (h : Fin 16) :
    k0_pay23 (k0_pay3 q k) (k0_pay4 q r) (k0_pay6 q k r b1) (k0_pay11 q k r b4) b16 (ix2 h 0) = share 16 (S h) := by
  pointwise [k0_pay23]
  rw [top16 q k r b16 S hs hn h16, peak_apply q k r b1 b4 b16 S hs hn h1 h4 h16]
  rfl

include hs hn h1 h4 h16 in
/-- The merged weights. -/
theorem allWeight_apply (h : Fin 16) (x : Fin 2048) :
    k0_pay24 (k0_pay3 q k) (k0_pay4 q r) (k0_pay6 q k r b1) (k0_pay7 q k r b1) (k0_pay11 q k r b4) (k0_pay12 q k r b4) b16 (ix2 h x)
      = allWeight (S h) x := by
  pointwise [k0_pay24]
  rw [share1 q k r b1 b4 b16 S hs hn h1 h4 h16, share4 q k r b1 b4 b16 S hs hn h1 h4 h16, share16 q k r b1 b4 b16 S hs hn h1 h4 h16,
    weight1 q k r b1 S hs hn h1, weight4 q k r b4 S hs hn h4, weight16 q k r b16 S hs hn h16]
  rfl

include hs hn h1 h4 h16 in
/-- The merged weight of the new row. -/
theorem allNew_apply (h : Fin 16) :
    k0_pay25 (k0_pay3 q k) (k0_pay4 q r) (k0_pay6 q k r b1) (k0_pay8 q k r b1) (k0_pay11 q k r b4) (k0_pay13 q k r b4) b16 (ix2 h 0)
      = allNew (S h) := by
  pointwise [k0_pay25]
  rw [share1 q k r b1 b4 b16 S hs hn h1 h4 h16, share4 q k r b1 b4 b16 S hs hn h1 h4 h16, share16 q k r b1 b4 b16 S hs hn h1 h4 h16,
    new1 q k r b1 S hs hn h1, new4 q k r b4 S hs hn h4, new16 q k r b16 S hs hn h16]
  rfl

include hs hn h1 h4 h16 in
/-- The merged sum of the weights. -/
theorem allTotal_apply (h : Fin 16) :
    k0_pay32 (k0_pay14 q k r b4) (k0_pay19 (k0_pay3 q k) (k0_pay4 q r) b16)
      (k0_pay22 (k0_pay3 q k) (k0_pay4 q r) (k0_pay6 q k r b1) (k0_pay11 q k r b4) b16)
      (k0_pay23 (k0_pay3 q k) (k0_pay4 q r) (k0_pay6 q k r b1) (k0_pay11 q k r b4) b16)
      (k0_pay26 (k0_pay3 q k) (k0_pay4 q r) (k0_pay6 q k r b1) (k0_pay9 q k r b1) (k0_pay11 q k r b4) b16) (ix2 h 0)
      = allTotal (S h) := by
  pointwise [k0_pay32, k0_pay26]
  rw [share1 q k r b1 b4 b16 S hs hn h1 h4 h16, share4 q k r b1 b4 b16 S hs hn h1 h4 h16, share16 q k r b1 b4 b16 S hs hn h1 h4 h16,
    total1 q k r b1 S hs hn h1, total4 q k r b4 S hs hn h4, total16 q k r b16 S hs hn h16]
  rfl

end Cert.DilsIdeal.Pay

end
-- ==== Proof.Dils.Tile.lean ====
/-
  What the sampled token's kernel keeps after a row's first half and leaves after its second, in the entries of its blocks.
-/
module

public import proofs.«01_k».proof.Proof.Dils.Buffer
public import proofs.«01_k».proof.Proof.Dils.Pay

@[expose] public section

set_option maxRecDepth 16384

noncomputable section

namespace Cert.DilsIdeal.Tile

open Cert.DilsIdeal Cert.DilsIdeal.Gen Cert.DilsSpec Cert.DilsIdeal.Pay
open Idealize.ShloMosaic Idealize.ShloMosaic.TcCoe Idealize.SL.Sem

/-! The scores. -/

/-- A head's score of a row of the buffer. -/
def scoreOf (x0 : Vec Ideal S1x16x1024 .f32) (x1 : Vec Ideal S1x1x1024x2048 .f32) (h : Fin 16) (x : Fin 2048) : EReal :=
  ∑ j : Fin 1024, (x0 (ix3 0 h j) : EReal) * x1 (ix4 0 0 j x)

/-- A head's score of the new row. -/
def scoreNew (x0 : Vec Ideal S1x16x1024 .f32) (x3 : Vec Ideal S1x8x1024 .f32) (h : Fin 16) : EReal :=
  ∑ j : Fin 1024, (x0 (ix3 0 h j) : EReal) * x3 (ix3 0 0 j)

theorem queries_apply (x0 : Vec Ideal S1x16x1024 .f32) (h : Fin 16) (j : Fin 1024) : k0_pay31 x0 (ix2 h j) = x0 (ix3 0 h j) := by
  pointwise [k0_pay31]

theorem score_apply (x0 : Vec Ideal S1x16x1024 .f32) (x1 : Vec Ideal S1x1x1024x2048 .f32) (h : Fin 16) (x : Fin 2048) :
    k0_pay3 (k0_pay31 x0) x1 (ix2 h x) = scoreOf x0 x1 h x := by
  unfold scoreOf
  pointwise [k0_pay3]
  simp only [queries_apply]

/-! The row of the new keys, that of the new values, and the masks. -/

def keyRow (x3 : Vec Ideal S1x8x1024 .f32) : Vec Ideal S1x1x1024 .f32 :=
  View.ld (Val := Elt Ideal) (e' := .f32) (S := S1x8x1024) x3 (Rect.unit ![0, 0, 0] ![1, 1, 1024] inb_S1x8x1024_S1x1x1024_0_0_0)
def valueRow (x3 : Vec Ideal S1x8x1024 .f32) : Vec Ideal S1x1x1024 .f32 :=
  View.ld (Val := Elt Ideal) (e' := .f32) (S := S1x8x1024) x3 (Rect.unit ![0, 1, 0] ![1, 1, 1024] inb_S1x8x1024_S1x1x1024_0_1_0)
def mask1 (x4 : Vec Ideal S8x2048 .f32) : Vec Ideal S1x2048 .f32 :=
  View.ld (Val := Elt Ideal) (e' := .f32) (S := S8x2048) x4 (Rect.unit ![0, 0] ![1, 2048] inb_S8x2048_S1x2048_0_0)
def mask4 (x4 : Vec Ideal S8x2048 .f32) : Vec Ideal S1x2048 .f32 :=
  View.ld (Val := Elt Ideal) (e' := .f32) (S := S8x2048) x4 (Rect.unit ![1, 0] ![1, 2048] inb_S8x2048_S1x2048_1_0)
def mask16 (x4 : Vec Ideal S8x2048 .f32) : Vec Ideal S1x2048 .f32 :=
  View.ld (Val := Elt Ideal) (e' := .f32) (S := S8x2048) x4 (Rect.unit ![2, 0] ![1, 2048] inb_S8x2048_S1x2048_2_0)

theorem keyRow_apply (x3 : (⟨3, ![1, 8, 1024]⟩ : Shape).Idx → EReal) (j : Fin 1024) : keyRow x3 (ix3 0 0 j) = x3 (ix3 0 0 j) := by pointwise [keyRow]
theorem valueRow_apply (x3 : (⟨3, ![1, 8, 1024]⟩ : Shape).Idx → EReal) (j : Fin 1024) : valueRow x3 (ix3 0 0 j) = x3 (ix3 0 1 j) := by pointwise [valueRow]
theorem mask1_apply (x4 : (⟨2, ![8, 2048]⟩ : Shape).Idx → EReal) (x : Fin 2048) : mask1 x4 (ix2 0 x) = x4 (ix2 0 x) := by pointwise [mask1]
theorem mask4_apply (x4 : (⟨2, ![8, 2048]⟩ : Shape).Idx → EReal) (x : Fin 2048) : mask4 x4 (ix2 0 x) = x4 (ix2 1 x) := by pointwise [mask4]
theorem mask16_apply (x4 : (⟨2, ![8, 2048]⟩ : Shape).Idx → EReal) (x : Fin 2048) : mask16 x4 (ix2 0 x) = x4 (ix2 2 x) := by pointwise [mask16]

theorem score_new_apply (x0 : Vec Ideal S1x16x1024 .f32) (x3 : Vec Ideal S1x8x1024 .f32) (h : Fin 16) :
    k0_pay4 (k0_pay31 x0) (keyRow x3) (ix2 h 0) = scoreNew x0 x3 h := by
  unfold scoreNew
  pointwise [k0_pay4]
  simp only [queries_apply, keyRow_apply]

variable (m : (ℓ : Loc nD τ sig) → Buf (Elt Ideal) ℓ) (c : Dev nD)

section
variable (t : Fin cfg0.N) (h0 : t.val % 2 = 0) (S : Fin 16 → Rows)
variable (hs : ∀ h x, scoreOf (iblk m c 0 t) (iblk m c 1 t) h x = S h (kept x)) (hn : ∀ h, scoreNew (iblk m c 0 t) (iblk m c 3 t) h = S h new)
variable (h1 : ∀ x : Fin 2048, iblk m c 4 t (ix2 0 x) = if Seen 1 x then (0 : EReal) else ⊥) (h4 : ∀ x : Fin 2048, iblk m c 4 t (ix2 1 x) = if Seen 4 x then (0 : EReal) else ⊥)
  (h16 : ∀ x : Fin 2048, iblk m c 4 t (ix2 2 x) = if Seen 16 x then (0 : EReal) else ⊥)

include h0 hs hn h1 h4 h16 in
/-- The merged weights are kept for the second half. -/
theorem weights (h : Fin 16) (x : Fin 2048) : (outsAt0 m c t.val t.isLt).2.2.1 (ix2 h x) = allWeight (S h) x := by
  rw [outsAt0_A m c t h0 (by omega)]
  dsimp only
  frame_out
  exact allWeight_apply (k0_pay31 (iblk m c 0 t)) (iblk m c 1 t) (keyRow (iblk m c 3 t)) (mask1 (iblk m c 4 t)) (mask4 (iblk m c 4 t)) (mask16 (iblk m c 4 t)) S
    (fun h x => (score_apply _ _ h x).trans (hs h x))
    (fun h => (score_new_apply _ _ h).trans (hn h))
    (fun x => (mask1_apply _ x).trans (h1 x)) (fun x => (mask4_apply _ x).trans (h4 x)) (fun x => (mask16_apply _ x).trans (h16 x)) h x

include h0 hs hn h1 h4 h16 in
/-- So is the new row's. -/
theorem newWeight (h : Fin 16) : (outsAt0 m c t.val t.isLt).2.2.2.1 (ix2 h 0) = allNew (S h) := by
  rw [outsAt0_A m c t h0 (by omega)]
  dsimp only
  frame_out
  exact allNew_apply (k0_pay31 (iblk m c 0 t)) (iblk m c 1 t) (keyRow (iblk m c 3 t)) (mask1 (iblk m c 4 t)) (mask4 (iblk m c 4 t)) (mask16 (iblk m c 4 t)) S
    (fun h x => (score_apply _ _ h x).trans (hs h x))
    (fun h => (score_new_apply _ _ h).trans (hn h))
    (fun x => (mask1_apply _ x).trans (h1 x)) (fun x => (mask4_apply _ x).trans (h4 x)) (fun x => (mask16_apply _ x).trans (h16 x)) h

include h0 hs hn h1 h4 h16 in
/-- And the sum of all. -/
theorem totals (h : Fin 16) : (outsAt0 m c t.val t.isLt).2.2.2.2 (ix2 h 0) = allTotal (S h) := by
  rw [outsAt0_A m c t h0 (by omega)]
  dsimp only
  frame_out
  exact allTotal_apply (k0_pay31 (iblk m c 0 t)) (iblk m c 1 t) (keyRow (iblk m c 3 t)) (mask1 (iblk m c 4 t)) (mask4 (iblk m c 4 t)) (mask16 (iblk m c 4 t)) S
    (fun h x => (score_apply _ _ h x).trans (hs h x))
    (fun h => (score_new_apply _ _ h).trans (hn h))
    (fun x => (mask1_apply _ x).trans (h1 x)) (fun x => (mask4_apply _ x).trans (h4 x)) (fun x => (mask16_apply _ x).trans (h16 x)) h

end

/-! The second half. -/

/-- A column's head. -/
abbrev headOf (j : Fin 1024) : Fin 16 := ⟨j.val / 64, by omega⟩

/-- The word of a column's head. -/
def headWord (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32) (IntOp.divsi .vector v 64#32)

theorem headWord_eq : ∀ (j : Fin 1024) (h : Fin 16), IntOp.cmpi .eq (headWord (BitVec.ofNat 32 j.val)) (BitVec.ofNat 32 h.val) = BitVec.ofBool (h = headOf j) := by
  decide +kernel

/-- A row's values, weighted, over the sum. -/
theorem quotient_apply (p : Vec Ideal S16x2048 .f32) (x1 : Vec Ideal S1x1x1024x2048 .f32) (pn : Vec Ideal S16x1 .f32) (r : Vec Ideal S1x1x1024 .f32) (d : Vec Ideal S16x1 .f32)
    (h : Fin 16) (j : Fin 1024) :
    k0_pay27 p x1 pn r d (ix2 h j)
      = Ideal.div ((∑ x : Fin 2048, (p (ix2 h x) : EReal) * x1 (ix4 0 0 j x)) + pn (ix2 h 0) * r (ix3 0 0 j)) (d (ix2 h 0)) := by
  pointwise [k0_pay27]

/-- Each column takes its head's. -/
theorem pick_apply (f : FVec Ideal S16x1024 .f32) (a : Fin 8) (j : Fin 1024) :
    k0_pay33 f k0_pay28 k0_pay29 k0_pay30 (ix3 0 a j) = f (ix2 (headOf j) j) := by
  pointwise [k0_pay33, k0_pay28, k0_pay29, k0_pay30]
  show (∑ x : Fin 16, Scalar.select (IntOp.cmpi .eq (headWord (BitVec.ofNat 32 j.val)) (BitVec.ofNat 32 x.val)) (f (ix2 x j)) 0) = _
  simp only [headWord_eq, Scalar.select_ofBool]
  simp

/-- The second half weighs the values with what the point before kept. -/
theorem out_second (t : Fin cfg0.N) (h0 : t.val % 2 = 1) (a : Fin 8) (j : Fin 1024) :
    (outsAt0 m c t.val t.isLt).1 (ix3 0 a j)
      = k0_pay27 (outsAt0 m c (t.val - 1) (Nat.lt_of_le_of_lt (Nat.sub_le _ _) t.isLt)).2.2.1 (iblk m c 1 t)
          (outsAt0 m c (t.val - 1) (Nat.lt_of_le_of_lt (Nat.sub_le _ _) t.isLt)).2.2.2.1 (valueRow (iblk m c 3 t))
          (outsAt0 m c (t.val - 1) (Nat.lt_of_le_of_lt (Nat.sub_le _ _) t.isLt)).2.2.2.2 (ix2 (headOf j) j) := by
  rw [outsAt0_B m c t (by omega) h0]
  dsimp only
  frame_out
  simp only [read_unread_whole]
  exact pick_apply _ a j

end Cert.DilsIdeal.Tile

end
-- ==== Proof.Dils.Host.lean ====
/-
  The arrays the sampled token's kernel finds: the queries of every head over all columns, the new rows twice, the masks, and the buffer by
  columns.
-/
module

public import proofs.«01_k».proof.Proof.Dils.Buffer
public import proofs.«01_k».proof.Proof.Band.Spec

@[expose] public section

set_option maxRecDepth 16384

noncomputable section

namespace Cert.DilsIdeal.Array

open Cert.DilsIdeal Cert.DilsIdeal.Gen Cert.DilsSpec
open Idealize.ShloMosaic Idealize.ShloMosaic.TcCoe Idealize.SL.Sem

/-! The masks. -/

/-- A number at every row. -/
def fill (v : BitVec 32) : IVec S2048 32 := broadcastInDim S2048 ![] bcast_S_S2048 (constantI S_ 32 v)

/-- The rows' distances from the new one. -/
def away : IVec S2048 32 := subi (fill 2048#32) (iotaInDim S2048 32 0)

/-- The dilation, or one where it is zero. -/
def step (d : BitVec 32) : IVec S_ 32 := select (cmpi .eq (constantI S_ 32 d) (constantI S_ 32 0#32)) (constantI S_ 32 1#32) (constantI S_ 32 d)

/-- The step at every row. -/
def steps (d : BitVec 32) : IVec S2048 32 := broadcastInDim S2048 ![] bcast_S_S2048 (step d)

/-- The distances' remainders. -/
def rest (d : BitVec 32) : IVec S2048 32 := Host.remsi away (steps d)

/-- The remainders with the dilation's sign. -/
def signedRest (d : BitVec 32) : IVec S2048 32 :=
  select (andi (cmpi .ne (cmpi .slt (rest d) (fill 0#32)) (broadcastInDim S2048 ![] bcast_S_S2048 (cmpi .slt (step d) (constantI S_ 32 0#32)))) (cmpi .ne (rest d) (fill 0#32)))
    (addi (rest d) (steps d)) (rest d)

/-- The distances divided, rounded down. -/
def quotient (d : BitVec 32) : IVec S2048 32 :=
  select (andi (cmpi .ne (signi away) (broadcastInDim S2048 ![] bcast_S_S2048 (signi (constantI S_ 32 d)))) (cmpi .ne (Host.remsi away (fill d)) (fill 0#32)))
    (subi (Host.divsi away (fill d)) (fill 1#32)) (Host.divsi away (fill d))

/-- The mask: nought where the row is seen, the lowest number elsewhere. -/
def mask (d : BitVec 32) : FVec Ideal S2048 .f32 :=
  select (andi (cmpi .eq (signedRest d) (fill 0#32)) (cmpi .sle (quotient d) (fill 128#32)))
    (broadcastInDim S2048 ![] bcast_S_S2048 (constant S_ .f32 0x00000000#32)) (broadcastInDim S2048 ![] bcast_S_S2048 (constant S_ .f32 0xFF800000#32))

/-- A mask as a row. -/
def maskRow (d : BitVec 32) : FVec Ideal S1x2048 .f32 := broadcastInDim S1x2048 ![1] bcast_S2048_S1x2048_1 (mask d)

/-- The three masks and five rows of noughts. -/
def masks : FVec Ideal S8x2048 .f32 :=
  pad S8x2048 ![0, 0] ![5, 0] ![0, 0]
    (concatenate S3x2048 0 [⟨S1x2048, maskRow 1#32⟩, ⟨S1x2048, maskRow 4#32⟩, ⟨S1x2048, maskRow 16#32⟩] concatenates_S1x2048_S1x2048_S1x2048_S3x2048_d0)
    (sitofp .f32 (constantI S_ 32 0#32)) pads_S3x2048_S8x2048_050_000 h_S_

/-! The mask's words at a row. -/

def awayWord (x : BitVec 32) : BitVec 32 := IntOp.subi 2048#32 x
def stepWord (d : BitVec 32) : BitVec 32 := Scalar.select (IntOp.cmpi .eq d 0#32) 1#32 d
def restWord (d x : BitVec 32) : BitVec 32 := IntOp.remsi .host (awayWord x) (stepWord d)
def signedRestWord (d x : BitVec 32) : BitVec 32 :=
  Scalar.select (IntOp.andi (IntOp.cmpi .ne (IntOp.cmpi .slt (restWord d x) 0#32) (IntOp.cmpi .slt (stepWord d) 0#32)) (IntOp.cmpi .ne (restWord d x) 0#32))
    (IntOp.addi (restWord d x) (stepWord d)) (restWord d x)
def signWord (v : BitVec 32) : BitVec 32 := if v = 0 then 0 else if v.msb = true then -1 else 1
def quotientWord (d x : BitVec 32) : BitVec 32 :=
  Scalar.select (IntOp.andi (IntOp.cmpi .ne (signWord (awayWord x)) (signWord d)) (IntOp.cmpi .ne (IntOp.remsi .host (awayWord x) d) 0#32))
    (IntOp.subi (IntOp.divsi .host (awayWord x) d) 1#32) (IntOp.divsi .host (awayWord x) d)
def seenWord (d x : BitVec 32) : BitVec 1 := IntOp.andi (IntOp.cmpi .eq (signedRestWord d x) 0#32) (IntOp.cmpi .sle (quotientWord d x) 128#32)

/-! The arrays at a row. -/

theorem fill_apply (v : BitVec 32) (x : Fin 2048) : fill v (ix1 x) = v := by pointwise [fill]
theorem away_apply (x : Fin 2048) : away (ix1 x) = awayWord (BitVec.ofNat 32 x.val) := by
  pointwise [away, fill]
  rfl
theorem steps_apply (d : BitVec 32) (x : Fin 2048) : steps d (ix1 x) = stepWord d := by
  pointwise [steps, step]
  rfl
theorem rest_apply (d : BitVec 32) (x : Fin 2048) : rest d (ix1 x) = restWord d (BitVec.ofNat 32 x.val) := by
  pointwise [rest]
  rw [away_apply, steps_apply]
  rfl
theorem signedRest_apply (d : BitVec 32) (x : Fin 2048) : signedRest d (ix1 x) = signedRestWord d (BitVec.ofNat 32 x.val) := by
  pointwise [signedRest, step]
  simp only [rest_apply, steps_apply, fill_apply]
  rfl
theorem quotient_apply (d : BitVec 32) (x : Fin 2048) : quotient d (ix1 x) = quotientWord d (BitVec.ofNat 32 x.val) := by
  pointwise [quotient]
  simp only [away_apply, fill_apply]
  rfl

/-- The words say whether the row is seen. -/
theorem seenWord_one : ∀ x : Fin 2048, seenWord 1#32 (BitVec.ofNat 32 x.val) = if Seen 1 x then 1#1 else 0#1 := by decide +kernel
theorem seenWord_four : ∀ x : Fin 2048, seenWord 4#32 (BitVec.ofNat 32 x.val) = if Seen 4 x then 1#1 else 0#1 := by decide +kernel
theorem seenWord_sixteen : ∀ x : Fin 2048, seenWord 16#32 (BitVec.ofNat 32 x.val) = if Seen 16 x then 1#1 else 0#1 := by decide +kernel

theorem mask_apply (d : BitVec 32) (x : Fin 2048) :
    mask d (ix1 x) = Scalar.select (seenWord d (BitVec.ofNat 32 x.val)) (0 : EReal) ⊥ := by
  pointwise [mask]
  simp only [signedRest_apply, quotient_apply, fill_apply, Cert.BandSpec.start_eq]
  rfl

/-- A choice by such a word. -/
theorem select_if (p : Prop) [Decidable p] (a b : EReal) : Scalar.select (if p then 1#1 else 0#1) a b = if p then a else b := by
  by_cases h : p
  · rw [if_pos h, if_pos h]; rfl
  · rw [if_neg h, if_neg h]; rfl

theorem masks_zero (x : Fin 2048) : masks (ix2 0 x) = if Seen 1 x then 0 else ⊥ := by
  pointwise [masks, maskRow]
  rw [mask_apply, seenWord_one, select_if]
theorem masks_one (x : Fin 2048) : masks (ix2 1 x) = if Seen 4 x then 0 else ⊥ := by
  pointwise [masks, maskRow]
  rw [mask_apply, seenWord_four, select_if]
theorem masks_two (x : Fin 2048) : masks (ix2 2 x) = if Seen 16 x then 0 else ⊥ := by
  pointwise [masks, maskRow]
  rw [mask_apply, seenWord_sixteen, select_if]

/-! The new rows. -/

/-- By rows, with six rows of noughts. -/
def newRows (k v : FVec Ideal S32x1024 .f32) : FVec Ideal S32x8x1024 .f32 :=
  pad S32x8x1024 ![0, 0, 0] ![0, 6, 0] ![0, 0, 0]
    (concatenate S32x2x1024 1 [⟨S32x1x1024, broadcastInDim S32x1x1024 ![0, 2] bcast_S32x1024_S32x1x1024_0_2 k⟩,
      ⟨S32x1x1024, broadcastInDim S32x1x1024 ![0, 2] bcast_S32x1024_S32x1x1024_0_2 v⟩] concatenates_S32x1x1024_S32x1x1024_S32x2x1024_d1)
    (sitofp .f32 (constantI S_ 32 0#32)) pads_S32x2x1024_S32x8x1024_000_060_000 h_S_

/-- By columns, with 126 columns of noughts. -/
def newCols (k v : FVec Ideal S32x1024 .f32) : FVec Ideal S32x1024x128 .f32 :=
  pad S32x1024x128 ![0, 0, 0] ![0, 0, 126] ![0, 0, 0]
    (concatenate S32x1024x2 2 [⟨S32x1024x1, broadcastInDim S32x1024x1 ![0, 1] bcast_S32x1024_S32x1024x1_0_1 k⟩,
      ⟨S32x1024x1, broadcastInDim S32x1024x1 ![0, 1] bcast_S32x1024_S32x1024x1_0_1 v⟩] concatenates_S32x1024x1_S32x1024x1_S32x1024x2_d2)
    (sitofp .f32 (constantI S_ 32 0#32)) pads_S32x1024x2_S32x1024x128_000_000_01260 h_S_

theorem newRows_zero (k v : FVec Ideal S32x1024 .f32) (b : Fin 32) (j : Fin 1024) : newRows k v (ix3 b 0 j) = k (ix2 b j) := by
  pointwise [newRows]
theorem newRows_one (k v : FVec Ideal S32x1024 .f32) (b : Fin 32) (j : Fin 1024) : newRows k v (ix3 b 1 j) = v (ix2 b j) := by
  pointwise [newRows]
theorem newCols_zero (k v : FVec Ideal S32x1024 .f32) (b : Fin 32) (j : Fin 1024) : newCols k v (ix3 b j 0) = k (ix2 b j) := by
  pointwise [newCols]
theorem newCols_one (k v : FVec Ideal S32x1024 .f32) (b : Fin 32) (j : Fin 1024) : newCols k v (ix3 b j 1) = v (ix2 b j) := by
  pointwise [newCols]

variable (m : (ℓ : Loc nD τ sig) → Buf (Elt Ideal) ℓ) (c : Dev nD)

/-! The arguments' arrays: the queries, the new key, the new value, the buffer. -/

abbrev aQ : (⟨3, ![32, 16, 64]⟩ : Shape).Idx → EReal := m ((c.tc : Thread nD τ).loc main_arg0)
abbrev aK : (⟨2, ![32, 1024]⟩ : Shape).Idx → EReal := m ((c.tc : Thread nD τ).loc main_arg1)
abbrev aV : (⟨2, ![32, 1024]⟩ : Shape).Idx → EReal := m ((c.tc : Thread nD τ).loc main_arg2)
abbrev aB : (⟨5, ![32, 2048, 2, 16, 64]⟩ : Shape).Idx → EReal := m ((c.tc : Thread nD τ).loc main_arg3)

/-! What the region finds. -/

/-- Three stacked rows, each read apart. -/
theorem stack_congr (a b d a' b' d' : FVec Ideal S1x2048 .f32) (h : a = a') (h' : b = b') (h'' : d = d') :
    concatenate S3x2048 0 [⟨S1x2048, a⟩, ⟨S1x2048, b⟩, ⟨S1x2048, d⟩] concatenates_S1x2048_S1x2048_S1x2048_S3x2048_d0
      = concatenate S3x2048 0 [⟨S1x2048, a'⟩, ⟨S1x2048, b'⟩, ⟨S1x2048, d'⟩] concatenates_S1x2048_S1x2048_S1x2048_S3x2048_d0 := by
  rw [h, h', h'']

/-- The operands of the stack, by their names. -/
theorem row0 (W : Valuation τ sig (Elt Ideal)) :
    (W (Proc.tc.devRef ((![main_v51, main_v52, main_v53] : Fin 3 → Ref sig .tc) 0)) : FVec Ideal S1x2048 .f32) = StableHlo.after [] W (Proc.tc.devRef main_v51) := rfl
theorem row1 (W : Valuation τ sig (Elt Ideal)) :
    (W (Proc.tc.devRef ((![main_v51, main_v52, main_v53] : Fin 3 → Ref sig .tc) 1)) : FVec Ideal S1x2048 .f32) = StableHlo.after [] W (Proc.tc.devRef main_v52) := rfl
theorem row2 (W : Valuation τ sig (Elt Ideal)) :
    (W (Proc.tc.devRef ((![main_v51, main_v52, main_v53] : Fin 3 → Ref sig .tc) 2)) : FVec Ideal S1x2048 .f32) = StableHlo.after [] W (Proc.tc.devRef main_v53) := rfl

theorem found_masks : V m c main_v56 = masks := by
  unfold V
  simp only [List.flatten_cons, List.flatten_nil, List.append_nil, List.cons_append, List.nil_append]
  after_results
  refine congrArg (fun z : FVec Ideal S3x2048 .f32 => pad S8x2048 ![0, 0] ![5, 0] ![0, 0] z (sitofp .f32 (constantI S_ 32 0#32)) pads_S3x2048_S8x2048_050_000 h_S_)
    (stack_congr _ _ _ (maskRow 1#32) (maskRow 4#32) (maskRow 16#32) ?_ ?_ ?_)
  · refine (row0 _).trans ?_
    after_results
    simp -implicitDefEqProofs only [StableHlo.TRef.toBuf, StableHlo.TRef.ofBuf, cast_cast, cast_eq]
    rfl
  · refine (row1 _).trans ?_
    after_results
    simp -implicitDefEqProofs only [StableHlo.TRef.toBuf, StableHlo.TRef.ofBuf, cast_cast, cast_eq]
    rfl
  · refine (row2 _).trans ?_
    after_results
    simp -implicitDefEqProofs only [StableHlo.TRef.toBuf, StableHlo.TRef.ofBuf, cast_cast, cast_eq]
    rfl

theorem found_rows : V m c main_v19 = newRows (aK m c) (aV m c) := by
  unfold V
  simp only [List.flatten_cons, List.flatten_nil, List.append_nil, List.cons_append, List.nil_append]
  after_results
  all_goals rfl

theorem found_cols : V m c main_v23 = newCols (aK m c) (aV m c) := by
  unfold V
  simp only [List.flatten_cons, List.flatten_nil, List.append_nil, List.cons_append, List.nil_append]
  after_results
  all_goals rfl

/-- A head's word against another's. -/
theorem head_word : ∀ h g : Fin 16, IntOp.cmpi CmpIPredicate.eq (IntOp.addi (BitVec.ofNat 32 h.val) 0#32) (BitVec.ofNat 32 g.val) = if h = g then 1#1 else 0#1 := by
  decide +kernel

/-- The queries, scaled, each head's over its own columns. -/
theorem found_queries (b : Fin 32) (h : Fin 16) (j : Fin 1024) :
    V m c main_v15 (ix3 b h j) = aQ m c (ix3 b h ⟨j.val % 64, Nat.mod_lt _ (by omega)⟩) * Cert.BandSpec.scale * (if h.val = j.val / 64 then (1 : EReal) else 0) := by
  have h1 : FloatOps.uitofp (F := Ideal) FTy.f32 (1#1 : BitVec 1) = (1 : EReal) := by
    show (((1#1 : BitVec 1).toNat : ℝ) : EReal) = 1
    simp
  have h0 : FloatOps.uitofp (F := Ideal) FTy.f32 (0#1 : BitVec 1) = (0 : EReal) := by
    show (((0#1 : BitVec 1).toNat : ℝ) : EReal) = 0
    simp
  have hw := head_word h ⟨j.val / 64, by omega⟩
  unfold V
  simp only [List.flatten_cons, List.flatten_nil, List.append_nil, List.cons_append, List.nil_append]
  after_results
  pointwise
  rw [hw]
  by_cases hj : h.val = j.val / 64
  · rw [if_pos (Fin.ext hj), if_pos hj, h1]
  · rw [if_neg (fun e => hj (congrArg Fin.val e)), if_neg hj, h0]

/-- The buffer by columns. -/
theorem found_buffer (b : Fin 32) (g : Fin 2) (j : Fin 1024) (x : Fin 2048) :
    V m c main_v1 (ix4 b g j x) = aB m c (ix5 b x g ⟨j.val / 64, by omega⟩ ⟨j.val % 64, Nat.mod_lt _ (by omega)⟩) := by
  unfold V
  simp only [List.flatten_cons, List.flatten_nil, List.append_nil, List.cons_append, List.nil_append]
  after_results
  pointwise
  try rfl

end Cert.DilsIdeal.Array

end
-- ==== Proof.Dils.Layer.lean ====
/-
  What the sampled token's step computes from the queries, the buffer and the new row.
-/
module

public import proofs.«01_k».proof.Proof.Dils.Spec
public import proofs.«01_k».proof.Proof.Band.Pair

@[expose] public section

noncomputable section

namespace Cert.DilsSpec

open Idealize.ShloMosaic

/-- Queries, by sample, head and lane. -/
abbrev Queries := (⟨3, ![32, 16, 64]⟩ : Shape).Idx → EReal
/-- A new row of keys or of values. -/
abbrev NewRow := (⟨2, ![32, 1024]⟩ : Shape).Idx → EReal
/-- The buffer, by sample, row, keys or values, head and lane. -/
abbrev Buffer := (⟨5, ![32, 2048, 2, 16, 64]⟩ : Shape).Idx → EReal

/-- Where a head's lane lies in a row. -/
def column (h : Fin 16) (k : Fin 64) : Fin 1024 := ⟨h.val * 64 + k.val, by omega⟩

/-- The buffer's rows with the new one behind, in one lane. -/
def extended (B : Buffer) (n : NewRow) (g : Fin 2) (b : Fin 32) (h : Fin 16) (k : Fin 64) : Rows := fun j =>
  if hj : j.val < 2048 then B (ix5 b ⟨j.val, hj⟩ g h k) else n (ix2 b (column h k))

/-- A head's scores. -/
def score (q : Queries) (B : Buffer) (kn : NewRow) (b : Fin 32) (h : Fin 16) : Rows := fun j =>
  (∑ k : Fin 64, q (ix3 b h k) * extended B kn 0 b h k j) * Cert.BandSpec.scale

/-- A head's attention, in one lane. -/
def attend (q : Queries) (B : Buffer) (kn vn : NewRow) (b : Fin 32) (h : Fin 16) (k : Fin 64) : EReal :=
  attention (score q B kn b h) (extended B vn 1 b h k)

/-- The attention, in one column. -/
def attendAt (q : Queries) (B : Buffer) (kn vn : NewRow) (b : Fin 32) (j : Fin 1024) : EReal :=
  attend q B kn vn b ⟨j.val / 64, by omega⟩ ⟨j.val % 64, Nat.mod_lt _ (by omega)⟩

/-- The buffer moved up by one row, with the new one last. -/
def pushed (B : Buffer) (kn vn : NewRow) (b : Fin 32) (g : Fin 2) (j : Fin 1024) (x : Fin 2048) : EReal :=
  if hx : x.val = 2047 then (if g.val = 0 then kn (ix2 b j) else vn (ix2 b j))
  else B (ix5 b ⟨x.val + 1, by omega⟩ g ⟨j.val / 64, by omega⟩ ⟨j.val % 64, Nat.mod_lt _ (by omega)⟩)

theorem extended_kept (B : Buffer) (n : NewRow) (g : Fin 2) (b : Fin 32) (h : Fin 16) (k : Fin 64) (x : Fin 2048) :
    extended B n g b h k (kept x) = B (ix5 b x g h k) := dif_pos x.isLt

theorem extended_new (B : Buffer) (n : NewRow) (g : Fin 2) (b : Fin 32) (h : Fin 16) (k : Fin 64) :
    extended B n g b h k new = n (ix2 b (column h k)) := dif_neg (by simp [new])

/-- A sum over a row's columns that only a head's lanes feed. -/
theorem sum_columns (h : Fin 16) (q : Fin 64 → EReal) (w : EReal) (f : Fin 1024 → EReal) :
    (∑ j : Fin 1024, q ⟨j.val % 64, Nat.mod_lt _ (by omega)⟩ * w * (if h.val = j.val / 64 then (1 : EReal) else 0) * f j)
      = ∑ k : Fin 64, q k * w * f (column h k) := by
  symm
  refine Finset.sum_of_injOn (column h) (fun a _ b _ e => Fin.ext (by have := congrArg Fin.val e; simp only [column] at this; omega)) (fun _ _ => Finset.mem_coe.mpr (Finset.mem_univ _)) ?_ ?_
  · intro j _ hj
    rw [if_neg, mul_zero, zero_mul]
    intro e
    exact hj ⟨⟨j.val % 64, Nat.mod_lt _ (by omega)⟩, Finset.mem_coe.mpr (Finset.mem_univ _), Fin.ext (by show h.val * 64 + j.val % 64 = j.val; omega)⟩
  · intro k _
    have e1 : (column h k).val % 64 = k.val := by simp only [column]; omega
    have e2 : h.val = (column h k).val / 64 := by simp only [column]; omega
    rw [if_pos e2, mul_one]
    exact congrArg (fun z => q z * w * f (column h k)) (Fin.ext e1.symm)

/-- The scale moved out of a head's score. -/
theorem sum_scaled (h : Fin 16) (q : Fin 64 → EReal) (f : Fin 1024 → EReal) :
    (∑ j : Fin 1024, q ⟨j.val % 64, Nat.mod_lt _ (by omega)⟩ * Cert.BandSpec.scale * (if h.val = j.val / 64 then (1 : EReal) else 0) * f j)
      = (∑ k : Fin 64, q k * f (column h k)) * Cert.BandSpec.scale := by
  rw [sum_columns, Cert.BandIdeal.Pair.sum_scale]
  exact Finset.sum_congr rfl fun k _ => mul_right_comm _ _ _

end Cert.DilsSpec

end
-- ==== Proof.Dils.Array.lean ====
/-
  The sampled token's kernel's result arrays at an index, in the entries of the arguments.
-/
module

public import proofs.«01_k».proof.Proof.Dils.Tile
public import proofs.«01_k».proof.Proof.Dils.Host
public import proofs.«01_k».proof.Proof.Dils.Layer

@[expose] public section

set_option maxRecDepth 16384

noncomputable section

namespace Cert.DilsIdeal.Array

open Cert.DilsIdeal Cert.DilsIdeal.Gen Cert.DilsIdeal.Tile Cert.DilsSpec
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 2, 0, 0] := by decide +kernel
theorem idx1 : ∀ t : Fin cfg0.N, win0_1.index t = ![t.val / 2, t.val % 2, 0, 0] := by decide +kernel
theorem idx2 : ∀ t : Fin cfg0.N, win0_2.index t = ![t.val / 2, 0, 0] := by decide +kernel
theorem idx3 : ∀ t : Fin cfg0.N, win0_3.index t = ![t.val / 2, 0, 0] := by decide +kernel
theorem idx4 : ∀ t : Fin cfg0.N, win0_4.index t = ![0, 0] := by decide +kernel
theorem idx5 : ∀ t : Fin cfg0.N, win0_5.index t = ![t.val / 2, 0, 0] := by decide +kernel
theorem idx6 : ∀ t : Fin cfg0.N, win0_6.index t = ![t.val / 2, t.val % 2, 0, 0] := by decide +kernel
theorem half_of : ∀ t : Fin cfg0.N, (grid0.coords t 1).val = t.val % 2 := by decide +kernel

/-! What each window is cut from. -/

theorem entry0 (u : S32x16x1024.Idx) (b : Fin 32) (h : Fin 16) (j : Fin 1024) (hb : (u 0).val = b.val) (hh : (u 1).val = h.val) (hj : (u 2).val = j.val) :
    V m c main_v15 u = aQ m c (ix3 b h ⟨j.val % 64, Nat.mod_lt _ (by omega)⟩) * Cert.BandSpec.scale * (if h.val = j.val / 64 then (1 : EReal) else 0) := by
  obtain ⟨b', h', j', rfl⟩ : ∃ (b' : Fin 32) (h' : Fin 16) (j' : Fin 1024), u = ix3 b' h' j' := ⟨u 0, u 1, u 2, eq_ix3 u⟩
  obtain rfl : b' = b := Fin.ext hb
  obtain rfl : h' = h := Fin.ext hh
  obtain rfl : j' = j := Fin.ext hj
  exact found_queries m c b' h' j'

theorem entry1 (u : S32x2x1024x2048.Idx) (b : Fin 32) (g : Fin 2) (j : Fin 1024) (x : Fin 2048) (hb : (u 0).val = b.val) (hg : (u 1).val = g.val)
    (hj : (u 2).val = j.val) (hx : (u 3).val = x.val) :
    V m c main_v1 u = aB m c (ix5 b x g ⟨j.val / 64, by omega⟩ ⟨j.val % 64, Nat.mod_lt _ (by omega)⟩) := by
  obtain ⟨b', g', j', x', rfl⟩ : ∃ (b' : Fin 32) (g' : Fin 2) (j' : Fin 1024) (x' : Fin 2048), u = ix4 b' g' j' x' := ⟨u 0, u 1, u 2, u 3, eq_ix4 u⟩
  obtain rfl : b' = b := Fin.ext hb
  obtain rfl : g' = g := Fin.ext hg
  obtain rfl : j' = j := Fin.ext hj
  obtain rfl : x' = x := Fin.ext hx
  exact found_buffer m c b' g' j' x'

theorem entry2 (u : S32x1024x128.Idx) (b : Fin 32) (j : Fin 1024) (l : Fin 128) (hb : (u 0).val = b.val) (hj : (u 1).val = j.val) (hl : (u 2).val = l.val) :
    V m c main_v23 u = newCols (aK m c) (aV m c) (ix3 b j l) := by
  obtain ⟨b', j', l', rfl⟩ : ∃ (b' : Fin 32) (j' : Fin 1024) (l' : Fin 128), u = ix3 b' j' l' := ⟨u 0, u 1, u 2, eq_ix3 u⟩
  obtain rfl : b' = b := Fin.ext hb
  obtain rfl : j' = j := Fin.ext hj
  obtain rfl : l' = l := Fin.ext hl
  rw [found_cols]

theorem entry3 (u : S32x8x1024.Idx) (b : Fin 32) (a : Fin 8) (j : Fin 1024) (hb : (u 0).val = b.val) (ha : (u 1).val = a.val) (hj : (u 2).val = j.val) :
    V m c main_v19 u = newRows (aK m c) (aV m c) (ix3 b a j) := by
  obtain ⟨b', a', j', rfl⟩ : ∃ (b' : Fin 32) (a' : Fin 8) (j' : Fin 1024), u = ix3 b' a' j' := ⟨u 0, u 1, u 2, eq_ix3 u⟩
  obtain rfl : b' = b := Fin.ext hb
  obtain rfl : a' = a := Fin.ext ha
  obtain rfl : j' = j := Fin.ext hj
  rw [found_rows]

theorem entry4 (u : S8x2048.Idx) (a : Fin 8) (x : Fin 2048) (ha : (u 0).val = a.val) (hx : (u 1).val = x.val) :
    V m c main_v56 u = masks (ix2 a x) := by
  obtain ⟨a', x', rfl⟩ : ∃ (a' : Fin 8) (x' : Fin 2048), u = ix2 a' x' := ⟨u 0, u 1, eq_ix2 u⟩
  obtain rfl : a' = a := Fin.ext ha
  obtain rfl : x' = x := Fin.ext hx
  rw [found_masks]

/-! And so each block. -/

/-- A point's row, and its half. -/
abbrev rowOf (t : Fin cfg0.N) : Fin 32 := ⟨t.val / 2, by have : t.val < 64 := t.isLt; omega⟩
abbrev halfOf (t : Fin cfg0.N) : Fin 2 := ⟨t.val % 2, Nat.mod_lt _ (by omega)⟩

theorem block0 (t : Fin cfg0.N) (h : Fin 16) (j : Fin 1024) :
    iblk m c 0 t (ix3 (0 : Fin 1) h j) = aQ m c (ix3 (rowOf t) h ⟨j.val % 64, Nat.mod_lt _ (by omega)⟩) * Cert.BandSpec.scale * (if h.val = j.val / 64 then (1 : EReal) else 0) := by
  refine entry0 m c _ (rowOf t) h j ?_ ?_ ?_ <;> (blk_simp [idx0]; try rfl)

theorem block1 (t : Fin cfg0.N) (j : Fin 1024) (x : Fin 2048) :
    iblk m c 1 t (ix4 (0 : Fin 1) (0 : Fin 1) j x) = aB m c (ix5 (rowOf t) x (halfOf t) ⟨j.val / 64, by omega⟩ ⟨j.val % 64, Nat.mod_lt _ (by omega)⟩) := by
  refine entry1 m c _ (rowOf t) (halfOf t) j x ?_ ?_ ?_ ?_ <;> (blk_simp [idx1]; try rfl)

theorem block2 (t : Fin cfg0.N) (j : Fin 1024) (l : Fin 128) :
    iblk m c 2 t (ix3 (0 : Fin 1) j l) = newCols (aK m c) (aV m c) (ix3 (rowOf t) j l) := by
  refine entry2 m c _ (rowOf t) j l ?_ ?_ ?_ <;> (blk_simp [idx2]; try rfl)

theorem block3 (t : Fin cfg0.N) (a : Fin 8) (j : Fin 1024) :
    iblk m c 3 t (ix3 (0 : Fin 1) a j) = newRows (aK m c) (aV m c) (ix3 (rowOf t) a j) := by
  refine entry3 m c _ (rowOf t) a j ?_ ?_ ?_ <;> (blk_simp [idx3]; try rfl)

theorem block4 (t : Fin cfg0.N) (a : Fin 8) (x : Fin 2048) : iblk m c 4 t (ix2 a x) = masks (ix2 a x) := by
  refine entry4 m c _ a x ?_ ?_ <;> (blk_simp [idx4]; try rfl)

/-! The scores. -/

/-- A point of the first half scores the rows by the layer's scores. -/
theorem kept_scores (t : Fin cfg0.N) (h0 : t.val % 2 = 0) (h : Fin 16) (x : Fin 2048) :
    scoreOf (iblk m c 0 t) (iblk m c 1 t) h x = score (aQ m c) (aB m c) (aK m c) (rowOf t) h (kept x) := by
  unfold scoreOf score
  simp only [block0, block1, extended_kept]
  rw [sum_scaled h (fun k => aQ m c (ix3 (rowOf t) h k))]
  refine congrArg (· * Cert.BandSpec.scale) (Finset.sum_congr rfl fun k _ => congrArg (aQ m c (ix3 (rowOf t) h k) * ·) (congrArg (aB m c) ?_))
  have e1 : (column h k).val / 64 = h.val := by simp only [column]; omega
  have e2 : (column h k).val % 64 = k.val := by simp only [column]; omega
  have e3 : halfOf t = 0 := Fin.ext h0
  rw [e3]
  exact congrArg₂ (ix5 (rowOf t) x 0) (Fin.ext e1) (Fin.ext e2)

theorem new_scores (t : Fin cfg0.N) (h : Fin 16) :
    scoreNew (iblk m c 0 t) (iblk m c 3 t) h = score (aQ m c) (aB m c) (aK m c) (rowOf t) h new := by
  unfold scoreNew score
  simp only [block0, block3, newRows_zero, extended_new]
  rw [sum_scaled h (fun k => aQ m c (ix3 (rowOf t) h k))]

/-! The first result. -/

/-- What the point before a second half kept. -/
theorem before_weights (t : Fin cfg0.N) (h0 : t.val % 2 = 1) (h : Fin 16) (x : Fin 2048) :
    (outsAt0 m c (t.val - 1) (Nat.lt_of_le_of_lt (Nat.sub_le _ _) t.isLt)).2.2.1 (ix2 h x) = allWeight (score (aQ m c) (aB m c) (aK m c) (rowOf t) h) x := by
  have e : rowOf ⟨t.val - 1, Nat.lt_of_le_of_lt (Nat.sub_le _ _) t.isLt⟩ = rowOf t := Fin.ext (by show (t.val - 1) / 2 = t.val / 2; omega)
  rw [← e]
  exact weights m c ⟨t.val - 1, Nat.lt_of_le_of_lt (Nat.sub_le _ _) t.isLt⟩ (by show (t.val - 1) % 2 = 0; omega) (score (aQ m c) (aB m c) (aK m c) _)
    (kept_scores m c _ (by show (t.val - 1) % 2 = 0; omega)) (new_scores m c _)
    (fun x => (block4 m c _ 0 x).trans (masks_zero x)) (fun x => (block4 m c _ 1 x).trans (masks_one x)) (fun x => (block4 m c _ 2 x).trans (masks_two x)) h x

theorem before_new (t : Fin cfg0.N) (h0 : t.val % 2 = 1) (h : Fin 16) :
    (outsAt0 m c (t.val - 1) (Nat.lt_of_le_of_lt (Nat.sub_le _ _) t.isLt)).2.2.2.1 (ix2 h 0) = allNew (score (aQ m c) (aB m c) (aK m c) (rowOf t) h) := by
  have e : rowOf ⟨t.val - 1, Nat.lt_of_le_of_lt (Nat.sub_le _ _) t.isLt⟩ = rowOf t := Fin.ext (by show (t.val - 1) / 2 = t.val / 2; omega)
  rw [← e]
  exact newWeight m c ⟨t.val - 1, Nat.lt_of_le_of_lt (Nat.sub_le _ _) t.isLt⟩ (by show (t.val - 1) % 2 = 0; omega) (score (aQ m c) (aB m c) (aK m c) _)
    (kept_scores m c _ (by show (t.val - 1) % 2 = 0; omega)) (new_scores m c _)
    (fun x => (block4 m c _ 0 x).trans (masks_zero x)) (fun x => (block4 m c _ 1 x).trans (masks_one x)) (fun x => (block4 m c _ 2 x).trans (masks_two x)) h

theorem before_total (t : Fin cfg0.N) (h0 : t.val % 2 = 1) (h : Fin 16) :
    (outsAt0 m c (t.val - 1) (Nat.lt_of_le_of_lt (Nat.sub_le _ _) t.isLt)).2.2.2.2 (ix2 h 0) = allTotal (score (aQ m c) (aB m c) (aK m c) (rowOf t) h) := by
  have e : rowOf ⟨t.val - 1, Nat.lt_of_le_of_lt (Nat.sub_le _ _) t.isLt⟩ = rowOf t := Fin.ext (by show (t.val - 1) / 2 = t.val / 2; omega)
  rw [← e]
  exact totals m c ⟨t.val - 1, Nat.lt_of_le_of_lt (Nat.sub_le _ _) t.isLt⟩ (by show (t.val - 1) % 2 = 0; omega) (score (aQ m c) (aB m c) (aK m c) _)
    (kept_scores m c _ (by show (t.val - 1) % 2 = 0; omega)) (new_scores m c _)
    (fun x => (block4 m c _ 0 x).trans (masks_zero x)) (fun x => (block4 m c _ 1 x).trans (masks_one x)) (fun x => (block4 m c _ 2 x).trans (masks_two x)) h

/-- A second half's block is the layer's attention. -/
theorem block_out (t : Fin cfg0.N) (h0 : t.val % 2 = 1) (a : Fin 8) (j : Fin 1024) :
    (outsAt0 m c t.val t.isLt).1 (ix3 0 a j)
      = attendAt (aQ m c) (aB m c) (aK m c) (aV m c) (rowOf t) j := by
  have e : halfOf t = 1 := Fin.ext h0
  have ec : column (headOf j) ⟨j.val % 64, Nat.mod_lt _ (by omega)⟩ = j := Fin.ext (by show j.val / 64 * 64 + j.val % 64 = j.val; omega)
  refine (out_second m c t h0 a j).trans ((Tile.quotient_apply _ _ _ _ _ _ _).trans ?_)
  unfold attendAt attend attention
  rw [← allBlend_eq, before_new m c t h0, before_total m c t h0, valueRow_apply, block3, newRows_one, extended_new, ec]
  refine congrArg (Ideal.div · _) (congrArg (· + _) (Finset.sum_congr rfl fun x _ => ?_))
  rw [before_weights m c t h0, block1, extended_kept, e]

/-- The kernel's first result at an index: each of a sample's eight rows is the layer's attention. -/
theorem arr5 : (dats m 0 c).arrAt 5 cfg0.N = fun i => attendAt (aQ m c) (aB m c) (aK m c) (aV m c) (i 0) (i 2) := by
  refine (dats m 0 c).arrAt_eq_of_covers 5 _ (by decide +kernel) fun t hf y => ?_
  obtain ⟨o, a, k, rfl⟩ : ∃ (o : Fin 1) (a : Fin 8) (k : Fin 1024), y = ix3 o a k := ⟨y 0, y 1, y 2, eq_ix3 y⟩
  obtain rfl : o = 0 := Subsingleton.elim _ _
  have ht : t.val < 64 := t.isLt
  have hodd := (flush0_5 t).mp hf
  blk_simp [idx5]
  rw [after0_5]
  refine (block_out m c t hodd a k).trans ?_
  refine congrArg₂ (attendAt (aQ m c) (aB m c) (aK m c) (aV m c)) (Fin.ext ?_) (Fin.ext ?_) <;> (blk_simp [idx5]; try rfl)

/-- The kernel's second result at an index: the buffer moved up by one row. -/
theorem arr6 : (dats m 0 c).arrAt 6 cfg0.N = fun i => pushed (aB m c) (aK m c) (aV m c) (i 0) (i 1) (i 2) (i 3) := by
  refine (dats m 0 c).arrAt_eq_of_covers 6 _ (by decide +kernel) fun t hf y => ?_
  obtain ⟨o, o', k, x, rfl⟩ : ∃ (o o' : Fin 1) (k : Fin 1024) (x : Fin 2048), y = ix4 o o' k x := ⟨y 0, y 1, y 2, y 3, eq_ix4 y⟩
  obtain rfl : o = 0 := Subsingleton.elim _ _
  obtain rfl : o' = 0 := Subsingleton.elim _ _
  have ht : t.val < 64 := t.isLt
  blk_simp [idx6]
  rw [after0_6]
  refine (half m c t k x).trans ?_
  have e : moved (grid0.coords t 1).val (iblk m c 1 t) (iblk m c 2 t) k x = pushed (aB m c) (aK m c) (aV m c) (rowOf t) (halfOf t) k x := by
    unfold moved pushed
    simp only [half_of, block1, block2, newCols_zero, newCols_one]
  refine e.trans ?_
  have e0 : ∀ (b b' : Fin 32) (g g' : Fin 2) (j j' : Fin 1024) (x x' : Fin 2048), b = b' → g = g' → j = j' → x = x' →
      pushed (aB m c) (aK m c) (aV m c) b g j x = pushed (aB m c) (aK m c) (aV m c) b' g' j' x' := by
    rintro b _ g _ j _ x _ rfl rfl rfl rfl
    rfl
  refine e0 _ _ _ _ _ _ _ _ (Fin.ext ?_) (Fin.ext ?_) (Fin.ext ?_) (Fin.ext ?_) <;> (blk_simp [idx6]; try rfl)

end Cert.DilsIdeal.Array

end
-- ==== Proof.Dils.Ref.lean ====
/-
  The sampled token's reference results at an index.
-/
module

public import proofs.«01_k».proof.Proof.Gen.DilsRefIdeal.Run
public import proofs.«01_k».proof.Proof.Dils.Layer

@[expose] public section

set_option maxRecDepth 16384

noncomputable section

namespace Cert.DilsRefIdeal.Read

open Cert.DilsRefIdeal Cert.DilsRefIdeal.Gen Cert.DilsRefIdeal.Value Cert.DilsSpec Cert.FfnSpec
open Idealize.ShloMosaic Idealize.ShloMosaic.TcCoe Idealize.SL.Sem

/-! The rows. -/

/-- All rows of keys, the new one last. -/
def keysAll (B : FVec Ideal S32x2048x2x16x64 .f32) (n : FVec Ideal S32x1024 .f32) : FVec Ideal S32x2049x16x64 .f32 :=
  concatenate S32x2049x16x64 1 [⟨S32x2048x16x64, (shapeCast _ (extractStridedSlice S32x2048x1x16x64 ![0, 0, 0, 0, 0] B slices_S32x2048x2x16x64_S32x2048x1x16x64_0_0_0_0_0) shapeCasts_S32x2048x1x16x64_S32x2048x16x64)⟩, ⟨S32x1x16x64, (shapeCast _ n shapeCasts_S32x1024_S32x1x16x64)⟩] concatenates_S32x2048x16x64_S32x1x16x64_S32x2049x16x64_d1

/-- All rows of values, the new one last. -/
def valuesAll (B : FVec Ideal S32x2048x2x16x64 .f32) (n : FVec Ideal S32x1024 .f32) : FVec Ideal S32x2049x16x64 .f32 :=
  concatenate S32x2049x16x64 1 [⟨S32x2048x16x64, (shapeCast _ (extractStridedSlice S32x2048x1x16x64 ![0, 0, 1, 0, 0] B slices_S32x2048x2x16x64_S32x2048x1x16x64_0_0_1_0_0) shapeCasts_S32x2048x1x16x64_S32x2048x16x64)⟩, ⟨S32x1x16x64, (shapeCast _ n shapeCasts_S32x1024_S32x1x16x64)⟩] concatenates_S32x2048x16x64_S32x1x16x64_S32x2049x16x64_d1

theorem keysAll_apply (B : FVec Ideal S32x2048x2x16x64 .f32) (n : FVec Ideal S32x1024 .f32) (b : Fin 32) (j : Fin 2049) (h : Fin 16) (l : Fin 64) :
    keysAll B n (ix4 b j h l) = extended B n 0 b h l j := by
  unfold extended column
  pointwise [keysAll]

theorem valuesAll_apply (B : FVec Ideal S32x2048x2x16x64 .f32) (n : FVec Ideal S32x1024 .f32) (b : Fin 32) (j : Fin 2049) (h : Fin 16) (l : Fin 64) :
    valuesAll B n (ix4 b j h l) = extended B n 1 b h l j := by
  unfold extended column
  pointwise [valuesAll]

/-- The rows seen at each dilation. -/
def seen1 (x : FVec Ideal S32x2049x16x64 .f32) : FVec Ideal S32x129x16x64 .f32 :=
  extractStridedSlice S32x129x16x64 ![0, 1920, 0, 0] x slices_S32x2049x16x64_S32x129x16x64_0_1920_0_0
def seen4 (x : FVec Ideal S32x2049x16x64 .f32) : FVec Ideal S32x129x16x64 .f32 :=
  Host.slice S32x129x16x64 ![0, 1536, 0, 0] ![1, 4, 1, 1] x slicesBy_S32x2049x16x64_S32x129x16x64_0s1_1536s4_0s1_0s1
def seen16 (x : FVec Ideal S32x2049x16x64 .f32) : FVec Ideal S32x129x16x64 .f32 :=
  Host.slice S32x129x16x64 ![0, 0, 0, 0] ![1, 16, 1, 1] x slicesBy_S32x2049x16x64_S32x129x16x64_0s1_0s16_0s1_0s1

theorem place1 (j : Fin 129) (h : 1920 + j.val < 2049) : (⟨1920 + j.val, h⟩ : Fin 2049) = place 1 j := Fin.ext (by show 1920 + j.val = 2048 - 128 * 1 + 1 * j.val; omega)
theorem place4 (j : Fin 129) (h : 1536 + 4 * j.val < 2049) : (⟨1536 + 4 * j.val, h⟩ : Fin 2049) = place 4 j := Fin.ext (by show 1536 + 4 * j.val = 2048 - 128 * 4 + 4 * j.val; omega)
theorem place16 (j : Fin 129) (h : 16 * j.val < 2049) : (⟨16 * j.val, h⟩ : Fin 2049) = place 16 j := Fin.ext (by show 16 * j.val = 2048 - 128 * 16 + 16 * j.val; omega)

theorem seen1_apply (x : FVec Ideal S32x2049x16x64 .f32) (b : Fin 32) (j : Fin 129) (h : Fin 16) (l : Fin 64) : seen1 x (ix4 b j h l) = x (ix4 b (place 1 j) h l) := by
  pointwise [seen1]
  rw [place1]
theorem seen4_apply (x : FVec Ideal S32x2049x16x64 .f32) (b : Fin 32) (j : Fin 129) (h : Fin 16) (l : Fin 64) : seen4 x (ix4 b j h l) = x (ix4 b (place 4 j) h l) := by
  pointwise [seen4]
  rw [place4]
theorem seen16_apply (x : FVec Ideal S32x2049x16x64 .f32) (b : Fin 32) (j : Fin 129) (h : Fin 16) (l : Fin 64) : seen16 x (ix4 b j h l) = x (ix4 b (place 16 j) h l) := by
  pointwise [seen16]
  rw [place16]

/-! The attention at one dilation, from the rows seen. -/

def scores (q : FVec Ideal S32x16x64 .f32) (k : FVec Ideal S32x129x16x64 .f32) : FVec Ideal S32x16x129 .f32 :=
  mulf (Host.dotGeneral dot_S32x16x64_S32x129x16x64_S32x16x129_2_3_n_1_01_02 none q k) (broadcastInDim S32x16x129 ![] bcast_S_S32x16x129 (constant S_ .f32 0x3E000000#32))
def tops (s : FVec Ideal S32x16x129 .f32) : FVec Ideal S32x16 .f32 :=
  Host.reduce FloatOps.maximumf s (constant S_ .f32 0xFF800000#32) reducesTo_S32x16x129_S32x16_d2 h_S_
def weights (s : FVec Ideal S32x16x129 .f32) : FVec Ideal S32x16x129 .f32 :=
  Host.exp (subf s (broadcastInDim S32x16x129 ![0, 1, 2] bcast_S32x16x1_S32x16x129_0_1_2 (broadcastInDim S32x16x1 ![0, 1] bcast_S32x16_S32x16x1_0_1 (tops s))))
def totals (s : FVec Ideal S32x16x129 .f32) : FVec Ideal S32x16 .f32 :=
  Host.reduceAdd (weights s) (constant S_ .f32 0x00000000#32) reducesTo_S32x16x129_S32x16_d2 h_S_
def blends (s : FVec Ideal S32x16x129 .f32) (v : FVec Ideal S32x129x16x64 .f32) : FVec Ideal S32x16x64 .f32 :=
  Host.dotGeneral dot_S32x16x129_S32x129x16x64_S32x16x64_2_1_n_3_01_02 none (weights s) v

theorem scores_apply (q : FVec Ideal S32x16x64 .f32) (k : FVec Ideal S32x129x16x64 .f32) (b : Fin 32) (h : Fin 16) (j : Fin 129) :
    scores q k (ix3 b h j) = (∑ l : Fin 64, q (ix3 b h l) * k (ix4 b j h l)) * Cert.BandSpec.scale := by
  pointwise [scores]
theorem tops_apply (s : FVec Ideal S32x16x129 .f32) (b : Fin 32) (h : Fin 16) :
    tops s (ix2 b h) = (Finset.univ : Finset (Fin 129)).fold max ⊥ fun j => s (ix3 b h j) := by
  pointwise [tops]
  rw [Cert.BandSpec.start_eq]
theorem weights_apply (s : FVec Ideal S32x16x129 .f32) (b : Fin 32) (h : Fin 16) (j : Fin 129) :
    weights s (ix3 b h j) = Ideal.exp (s (ix3 b h j) - tops s (ix2 b h)) := by
  pointwise [weights]
theorem totals_apply (s : FVec Ideal S32x16x129 .f32) (b : Fin 32) (h : Fin 16) : totals s (ix2 b h) = ∑ j : Fin 129, weights s (ix3 b h j) := by
  pointwise [totals]
theorem blends_apply (s : FVec Ideal S32x16x129 .f32) (v : FVec Ideal S32x129x16x64 .f32) (b : Fin 32) (h : Fin 16) (l : Fin 64) :
    blends s v (ix3 b h l) = ∑ j : Fin 129, weights s (ix3 b h j) * v (ix4 b j h l) := by
  pointwise [blends]

/-! The three merged. -/

def highest (a b d : FVec Ideal S32x16 .f32) : FVec Ideal S32x16 .f32 := maximumf (maximumf a b) d
def shares (a p : FVec Ideal S32x16 .f32) : FVec Ideal S32x16 .f32 := Host.exp (subf a p)
def spread (w : FVec Ideal S32x16 .f32) : FVec Ideal S32x16x64 .f32 :=
  broadcastInDim S32x16x64 ![0, 1, 2] bcast_S32x16x1_S32x16x64_0_1_2 (broadcastInDim S32x16x1 ![0, 1] bcast_S32x16_S32x16x1_0_1 w)
def over (n : FVec Ideal S32x16x64 .f32) (d : FVec Ideal S32x16 .f32) : FVec Ideal S32x8x1024 .f32 :=
  broadcastInDim S32x8x1024 ![0, 1, 2] bcast_S32x1x1024_S32x8x1024_0_1_2 (shapeCast _ (Host.divf n (spread d)) shapeCasts_S32x16x64_S32x1x1024)

/-- The merged weighted values, and the merged sums. -/
def numerator (s1 s4 s16 : FVec Ideal S32x16x129 .f32) (v1 v4 v16 : FVec Ideal S32x129x16x64 .f32) : FVec Ideal S32x16x64 .f32 :=
  addf (addf (mulf (spread (shares (tops s1) (highest (tops s1) (tops s4) (tops s16)))) (blends s1 v1))
    (mulf (spread (shares (tops s4) (highest (tops s1) (tops s4) (tops s16)))) (blends s4 v4)))
    (mulf (spread (shares (tops s16) (highest (tops s1) (tops s4) (tops s16)))) (blends s16 v16))
def denominator (s1 s4 s16 : FVec Ideal S32x16x129 .f32) : FVec Ideal S32x16 .f32 :=
  addf (addf (mulf (shares (tops s1) (highest (tops s1) (tops s4) (tops s16))) (totals s1))
    (mulf (shares (tops s4) (highest (tops s1) (tops s4) (tops s16))) (totals s4)))
    (mulf (shares (tops s16) (highest (tops s1) (tops s4) (tops s16))) (totals s16))

theorem numerator_apply (s1 s4 s16 : FVec Ideal S32x16x129 .f32) (v1 v4 v16 : FVec Ideal S32x129x16x64 .f32) (b : Fin 32) (h : Fin 16) (l : Fin 64) :
    numerator s1 s4 s16 v1 v4 v16 (ix3 b h l)
      = Ideal.exp (tops s1 (ix2 b h) - max (max (tops s1 (ix2 b h)) (tops s4 (ix2 b h))) (tops s16 (ix2 b h))) * blends s1 v1 (ix3 b h l)
        + Ideal.exp (tops s4 (ix2 b h) - max (max (tops s1 (ix2 b h)) (tops s4 (ix2 b h))) (tops s16 (ix2 b h))) * blends s4 v4 (ix3 b h l)
        + Ideal.exp (tops s16 (ix2 b h) - max (max (tops s1 (ix2 b h)) (tops s4 (ix2 b h))) (tops s16 (ix2 b h))) * blends s16 v16 (ix3 b h l) := by
  pointwise [numerator, spread, shares, highest]
theorem denominator_apply (s1 s4 s16 : FVec Ideal S32x16x129 .f32) (b : Fin 32) (h : Fin 16) :
    denominator s1 s4 s16 (ix2 b h)
      = Ideal.exp (tops s1 (ix2 b h) - max (max (tops s1 (ix2 b h)) (tops s4 (ix2 b h))) (tops s16 (ix2 b h))) * totals s1 (ix2 b h)
        + Ideal.exp (tops s4 (ix2 b h) - max (max (tops s1 (ix2 b h)) (tops s4 (ix2 b h))) (tops s16 (ix2 b h))) * totals s4 (ix2 b h)
        + Ideal.exp (tops s16 (ix2 b h) - max (max (tops s1 (ix2 b h)) (tops s4 (ix2 b h))) (tops s16 (ix2 b h))) * totals s16 (ix2 b h) := by
  pointwise [denominator, shares, highest]
theorem over_apply (n : FVec Ideal S32x16x64 .f32) (d : FVec Ideal S32x16 .f32) (b : Fin 32) (a : Fin 8) (j : Fin 1024) :
    over n d (ix3 b a j) = Ideal.div (n (ix3 b ⟨j.val / 64, by omega⟩ ⟨j.val % 64, Nat.mod_lt _ (by omega)⟩)) (d (ix2 b ⟨j.val / 64, by omega⟩)) := by
  pointwise [over, spread]

/-! What these are where the scores and the rows are the layer's. -/

theorem tops_eq (s : FVec Ideal S32x16x129 .f32) (d : Fin 17) (S : Rows) (b : Fin 32) (h : Fin 16) (hs : ∀ j, s (ix3 b h j) = S (place d j)) :
    tops s (ix2 b h) = top d S := by
  rw [tops_apply]
  exact congrArg (fun f => (Finset.univ : Finset (Fin 129)).fold max ⊥ f) (funext hs)
theorem weights_eq (s : FVec Ideal S32x16x129 .f32) (d : Fin 17) (S : Rows) (b : Fin 32) (h : Fin 16) (hs : ∀ j, s (ix3 b h j) = S (place d j)) (j : Fin 129) :
    weights s (ix3 b h j) = weight d S (place d j) := by
  rw [weights_apply, hs, tops_eq s d S b h hs]
  rfl
theorem totals_eq (s : FVec Ideal S32x16x129 .f32) (d : Fin 17) (S : Rows) (b : Fin 32) (h : Fin 16) (hs : ∀ j, s (ix3 b h j) = S (place d j)) :
    totals s (ix2 b h) = total d S := by
  rw [totals_apply]
  exact Finset.sum_congr rfl fun j _ => weights_eq s d S b h hs j
theorem blends_eq (s : FVec Ideal S32x16x129 .f32) (v : FVec Ideal S32x129x16x64 .f32) (d : Fin 17) (S v' : Rows) (b : Fin 32) (h : Fin 16) (l : Fin 64)
    (hs : ∀ j, s (ix3 b h j) = S (place d j)) (hv : ∀ j, v (ix4 b j h l) = v' (place d j)) : blends s v (ix3 b h l) = blend d S v' := by
  rw [blends_apply]
  exact Finset.sum_congr rfl fun j _ => by rw [weights_eq s d S b h hs j, hv]

theorem score1 (q : FVec Ideal S32x16x64 .f32) (B : FVec Ideal S32x2048x2x16x64 .f32) (n : FVec Ideal S32x1024 .f32) (b : Fin 32) (h : Fin 16) (j : Fin 129) :
    scores q (seen1 (keysAll B n)) (ix3 b h j) = score q B n b h (place 1 j) := by
  rw [scores_apply]
  simp only [seen1_apply, keysAll_apply]
  rfl
theorem score4 (q : FVec Ideal S32x16x64 .f32) (B : FVec Ideal S32x2048x2x16x64 .f32) (n : FVec Ideal S32x1024 .f32) (b : Fin 32) (h : Fin 16) (j : Fin 129) :
    scores q (seen4 (keysAll B n)) (ix3 b h j) = score q B n b h (place 4 j) := by
  rw [scores_apply]
  simp only [seen4_apply, keysAll_apply]
  rfl
theorem score16 (q : FVec Ideal S32x16x64 .f32) (B : FVec Ideal S32x2048x2x16x64 .f32) (n : FVec Ideal S32x1024 .f32) (b : Fin 32) (h : Fin 16) (j : Fin 129) :
    scores q (seen16 (keysAll B n)) (ix3 b h j) = score q B n b h (place 16 j) := by
  rw [scores_apply]
  simp only [seen16_apply, keysAll_apply]
  rfl

/-- The reference's attention from its arguments. -/
def attended (q : FVec Ideal S32x16x64 .f32) (kn vn : FVec Ideal S32x1024 .f32) (B : FVec Ideal S32x2048x2x16x64 .f32) : FVec Ideal S32x8x1024 .f32 :=
  over
    (numerator (scores q (seen1 (keysAll B kn))) (scores q (seen4 (keysAll B kn))) (scores q (seen16 (keysAll B kn)))
      (seen1 (valuesAll B vn)) (seen4 (valuesAll B vn)) (seen16 (valuesAll B vn)))
    (denominator (scores q (seen1 (keysAll B kn))) (scores q (seen4 (keysAll B kn))) (scores q (seen16 (keysAll B kn))))

theorem attended_apply (q : FVec Ideal S32x16x64 .f32) (kn vn : FVec Ideal S32x1024 .f32) (B : FVec Ideal S32x2048x2x16x64 .f32)
    (b : Fin 32) (a : Fin 8) (j : Fin 1024) :
    attended q kn vn B (ix3 b a j) = attendAt q B kn vn b j := by
  unfold attended
  rw [over_apply, numerator_apply, denominator_apply,
    tops_eq _ 1 _ _ _ (score1 q B kn _ _), tops_eq _ 4 _ _ _ (score4 q B kn _ _), tops_eq _ 16 _ _ _ (score16 q B kn _ _),
    totals_eq _ 1 _ _ _ (score1 q B kn _ _), totals_eq _ 4 _ _ _ (score4 q B kn _ _), totals_eq _ 16 _ _ _ (score16 q B kn _ _),
    blends_eq _ _ 1 _ (extended B vn 1 b _ _) _ _ _ (score1 q B kn _ _) (fun _ => by rw [seen1_apply, valuesAll_apply]),
    blends_eq _ _ 4 _ (extended B vn 1 b _ _) _ _ _ (score4 q B kn _ _) (fun _ => by rw [seen4_apply, valuesAll_apply]),
    blends_eq _ _ 16 _ (extended B vn 1 b _ _) _ _ _ (score16 q B kn _ _) (fun _ => by rw [seen16_apply, valuesAll_apply])]
  rfl

variable (m : (ℓ : Loc nD τ sig) → Buf (Elt Ideal) ℓ) (c : Dev nD)

/-- The reference's first result at an index. -/
theorem out_apply (b : Fin 32) (a : Fin 8) (j : Fin 1024) : res_main_v72 m c (ix3 b a j : S32x8x1024.Idx)
    = attendAt (m (c.tc.loc main_arg0)) (m (c.tc.loc main_arg3)) (m (c.tc.loc main_arg1)) (m (c.tc.loc main_arg2)) b j := by
  have e : res_main_v72 m c = attended (m (c.tc.loc main_arg0)) (m (c.tc.loc main_arg1)) (m (c.tc.loc main_arg2)) (m (c.tc.loc main_arg3)) := by
    unfold res_main_v72
    rfl
  rw [e]
  exact attended_apply _ _ _ _ b a j

/-! The second result. -/

/-- All rows but the first, laid out with the rows in the lanes. -/
def laid (x : FVec Ideal S32x2049x16x64 .f32) : FVec Ideal S32x1x1024x2048 .f32 :=
  broadcastInDim S32x1x1024x2048 ![0, 2, 3] bcast_S32x1024x2048_S32x1x1024x2048_0_2_3 (transpose S32x1024x2048 [0, 2, 1] (shapeCast _ (extractStridedSlice S32x2048x16x64 ![0, 1, 0, 0] x slices_S32x2049x16x64_S32x2048x16x64_0_1_0_0) shapeCasts_S32x2048x16x64_S32x2048x1024) transposes_S32x2048x1024_S32x1024x2048_0_2_1)

theorem laid_apply (x : FVec Ideal S32x2049x16x64 .f32) (b : Fin 32) (j : Fin 1024) (r : Fin 2048) :
    laid x (ix4 b 0 j r) = x (ix4 b ⟨r.val + 1, by omega⟩ ⟨j.val / 64, by omega⟩ ⟨j.val % 64, Nat.mod_lt _ (by omega)⟩) := by
  pointwise [laid]
  exact congrArg (fun r' => x (ix4 b r' _ _)) (Fin.ext (Nat.add_comm _ _))

/-- The keys and the values, one behind the other. -/
def both (k v : FVec Ideal S32x1x1024x2048 .f32) : FVec Ideal S32x2x1024x2048 .f32 :=
  concatenate S32x2x1024x2048 1 [⟨S32x1x1024x2048, k⟩, ⟨S32x1x1024x2048, v⟩] concatenates_S32x1x1024x2048_S32x1x1024x2048_S32x2x1024x2048_d1

theorem both_zero (k v : FVec Ideal S32x1x1024x2048 .f32) (b : Fin 32) (j : Fin 1024) (r : Fin 2048) : both k v (ix4 b 0 j r) = k (ix4 b 0 j r) := by
  pointwise [both]
theorem both_one (k v : FVec Ideal S32x1x1024x2048 .f32) (b : Fin 32) (j : Fin 1024) (r : Fin 2048) : both k v (ix4 b 1 j r) = v (ix4 b 0 j r) := by
  pointwise [both]

theorem extended_next (B : Buffer) (kn vn : NewRow) (b : Fin 32) (j : Fin 1024) (r : Fin 2048) (g : Fin 2) (n : NewRow)
    (hn : n (ix2 b j) = if g.val = 0 then kn (ix2 b j) else vn (ix2 b j)) :
    extended B n g b ⟨j.val / 64, by omega⟩ ⟨j.val % 64, Nat.mod_lt _ (by omega)⟩ ⟨r.val + 1, by omega⟩ = pushed B kn vn b g j r := by
  have ec : column ⟨j.val / 64, by omega⟩ ⟨j.val % 64, Nat.mod_lt _ (by omega)⟩ = j := Fin.ext (by show j.val / 64 * 64 + j.val % 64 = j.val; omega)
  unfold extended pushed
  by_cases hr : r.val = 2047
  · rw [dif_neg (by show ¬ r.val + 1 < 2048; omega), dif_pos hr, ec, hn]
  · rw [dif_pos (by show r.val + 1 < 2048; omega), dif_neg hr]

/-- The reference's second result at an index. -/
theorem moved_apply (B : FVec Ideal S32x2048x2x16x64 .f32) (kn vn : FVec Ideal S32x1024 .f32) (b : Fin 32) (g : Fin 2) (j : Fin 1024) (r : Fin 2048) :
    both (laid (keysAll B kn)) (laid (valuesAll B vn)) (ix4 b g j r) = pushed B kn vn b g j r := by
  fin_cases g
  · exact (both_zero _ _ b j r).trans ((laid_apply _ b j r).trans ((keysAll_apply _ _ _ _ _ _).trans (extended_next B kn vn b j r 0 kn rfl)))
  · exact (both_one _ _ b j r).trans ((laid_apply _ b j r).trans ((valuesAll_apply _ _ _ _ _ _).trans (extended_next B kn vn b j r 1 vn rfl)))

end Cert.DilsRefIdeal.Read

end
-- ==== Proof.Dils.Claim.lean ====
/-
  The sampled token's kernel and its reference agree.
-/
module

public import proofs.«01_k».proof.Proof.Dils.Array
public import proofs.«01_k».proof.Proof.Dils.Ref
public import proofs.«01_k».proof.Proof.Gen.DilsIdeal.Value
public import proofs.«01_k».proof.Defs

@[expose] public section

set_option maxRecDepth 16384

noncomputable section

namespace Cert.DilsClaim

open Idealize.ShloMosaic Idealize.ShloMosaic.TcCoe Idealize.SL.Sem Cert.DilsSpec

/-- The two programs agree on the attention and on the buffer, from the same arrays. -/
theorem algebraic : Cert.algebraic_DilsIdeal_DilsRefIdeal (hDilsIdeal := Cert.DilsIdeal.Gen.facts) (hDilsRefIdeal := Cert.DilsRefIdeal.Gen.facts) := by
  intro m g m' g' hpre hagree
  refine ⟨fun c => (Cert.DilsIdeal.Gen.dats m 0 c).arrAt 5 Cert.DilsIdeal.cfg0.N, fun c => (Cert.DilsIdeal.Gen.dats m 0 c).arrAt 6 Cert.DilsIdeal.cfg0.N,
    Cert.DilsIdeal.Value.run_blocks m g, ?_⟩
  refine (θ_run _ _ _).mono (fun r h c => ?_) (Cert.DilsRefIdeal.Value.run m' g')
  obtain ⟨h0, h1, h2⟩ := h c
  obtain ⟨e0, e1, e2, e3⟩ := hagree c
  refine ⟨h0.trans ?_, h1.trans ?_, h2⟩
  · dsimp only
    rw [Cert.DilsIdeal.Array.arr5]
    funext i
    refine (congrArg (Cert.DilsRefIdeal.Value.res_main_v72 m' c) (eq_ix3 i)).trans ?_
    refine (Cert.DilsRefIdeal.Read.out_apply _ _ (i 0) (i 1) (i 2)).trans ?_
    rw [e0, e1, e2, e3]
  · dsimp only
    rw [Cert.DilsIdeal.Array.arr6, e1, e2, e3]
    funext i
    rw [eq_ix4 i]
    exact Cert.DilsRefIdeal.Read.moved_apply _ _ _ (i 0) (i 1) (i 2) (i 3)

/-- The reference runs and leaves its arguments alone; it has no semaphore, so every counter ends at zero. -/
theorem frame_ref : Cert.quiescent_DilsRefIdeal (hDilsRefIdeal := Cert.DilsRefIdeal.Gen.facts) := fun m g _ =>
  (θ_run (Cert.DilsRefIdeal.defs (F := Ideal)) _ _).mono
    (fun r h => ⟨fun c => (h c).2.2, sem_eq_zero_of_no_sems (by decide) r.2⟩) (Cert.DilsRefIdeal.Value.run m g)

end Cert.DilsClaim

end
-- ==== Proof.lean ====
/-
  The proof of the claims about the thirteen calls: the frames, the named mask and the values.
-/
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.BandIdeal.Value
public import proofs.«01_k».proof.Proof.Gen.FfnIdeal.Value
public import proofs.«01_k».proof.Proof.Gen.BandRefIdeal.Run
public import proofs.«01_k».proof.Proof.Gen.FfnRefIdeal.Run
public import proofs.«01_k».proof.Proof.Gen.Step
public import proofs.«01_k».proof.Proof.Gen.StepIdeal
public import proofs.«01_k».proof.Proof.Gen.Step.Skeleton
public import proofs.«01_k».proof.Proof.Gen.StepIdeal.Skeleton
public import proofs.«01_k».proof.Proof.Gen.Step.Launch
public import proofs.«01_k».proof.Proof.Gen.StepIdeal.Launch
public import proofs.«01_k».proof.Proof.Gen.Step.Points
public import proofs.«01_k».proof.Proof.Gen.StepIdeal.Points
public import proofs.«01_k».proof.Proof.Gen.Step.Frame
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Gen.Proj
public import proofs.«01_k».proof.Proof.Gen.ProjIdeal
public import proofs.«01_k».proof.Proof.Gen.Proj.Skeleton
public import proofs.«01_k».proof.Proof.Gen.ProjIdeal.Skeleton
public import proofs.«01_k».proof.Proof.Gen.Proj.Launch
public import proofs.«01_k».proof.Proof.Gen.ProjIdeal.Launch
public import proofs.«01_k».proof.Proof.Gen.Proj.Points
public import proofs.«01_k».proof.Proof.Gen.ProjIdeal.Points
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Dilp
public import proofs.«01_k».proof.Proof.Gen.DilpIdeal
public import proofs.«01_k».proof.Proof.Gen.Dilp.Skeleton
public import proofs.«01_k».proof.Proof.Gen.DilpIdeal.Skeleton
public import proofs.«01_k».proof.Proof.Gen.Dilp.Launch
public import proofs.«01_k».proof.Proof.Gen.DilpIdeal.Launch
public import proofs.«01_k».proof.Proof.Gen.Dilp.Points
public import proofs.«01_k».proof.Proof.Gen.DilpIdeal.Points
public import proofs.«01_k».proof.Proof.Gen.Dilp.Frame
public import proofs.«01_k».proof.Proof.Gen.DilpIdeal.Frame
public import proofs.«01_k».proof.Proof.Gen.DilpIdeal.Value
public import proofs.«01_k».proof.Proof.Gen.DilpRefIdeal
public import proofs.«01_k».proof.Proof.Gen.DilpRefIdeal.Run
public import proofs.«01_k».proof.Proof.Gen.Mix
public import proofs.«01_k».proof.Proof.Gen.MixIdeal
public import proofs.«01_k».proof.Proof.Gen.Mix.Skeleton
public import proofs.«01_k».proof.Proof.Gen.MixIdeal.Skeleton
public import proofs.«01_k».proof.Proof.Gen.Mix.Launch
public import proofs.«01_k».proof.Proof.Gen.MixIdeal.Launch
public import proofs.«01_k».proof.Proof.Gen.Mix.Points
public import proofs.«01_k».proof.Proof.Gen.MixIdeal.Points
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Rope
public import proofs.«01_k».proof.Proof.Gen.RopeIdeal
public import proofs.«01_k».proof.Proof.Gen.Rope.Skeleton
public import proofs.«01_k».proof.Proof.Gen.RopeIdeal.Skeleton
public import proofs.«01_k».proof.Proof.Gen.Rope.Launch
public import proofs.«01_k».proof.Proof.Gen.RopeIdeal.Launch
public import proofs.«01_k».proof.Proof.Gen.Rope.Points
public import proofs.«01_k».proof.Proof.Gen.RopeIdeal.Points
public import proofs.«01_k».proof.Proof.Gen.Rope.Frame
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Band.Claim
public import proofs.«01_k».proof.Proof.Ffn.Claim
public import proofs.«01_k».proof.Proof.Step.Claim
public import proofs.«01_k».proof.Proof.Proj.Claim
public import proofs.«01_k».proof.Proof.Dilp.Claim
public import proofs.«01_k».proof.Proof.Mix.Claim
public import proofs.«01_k».proof.Proof.Rope.Claim
public import proofs.«01_k».proof.Proof.Near.Claim
public import proofs.«01_k».proof.Proof.Far.Claim
public import proofs.«01_k».proof.Proof.NewA.Claim
public import proofs.«01_k».proof.Proof.NewC.Claim
public import proofs.«01_k».proof.Proof.Gen.Near
public import proofs.«01_k».proof.Proof.Gen.NearIdeal
public import proofs.«01_k».proof.Proof.Gen.Near.Skeleton
public import proofs.«01_k».proof.Proof.Gen.NearIdeal.Skeleton
public import proofs.«01_k».proof.Proof.Gen.Near.Launch
public import proofs.«01_k».proof.Proof.Gen.NearIdeal.Launch
public import proofs.«01_k».proof.Proof.Gen.Near.Points
public import proofs.«01_k».proof.Proof.Gen.NearIdeal.Points
public import proofs.«01_k».proof.Proof.Gen.Near.Frame
public import proofs.«01_k».proof.Proof.Gen.NearIdeal.Frame
public import proofs.«01_k».proof.Proof.Gen.NearIdeal.Value
public import proofs.«01_k».proof.Proof.Gen.NearRefIdeal
public import proofs.«01_k».proof.Proof.Gen.NearRefIdeal.Run
public import proofs.«01_k».proof.Proof.Gen.Far
public import proofs.«01_k».proof.Proof.Gen.FarIdeal
public import proofs.«01_k».proof.Proof.Gen.Far.Skeleton
public import proofs.«01_k».proof.Proof.Gen.FarIdeal.Skeleton
public import proofs.«01_k».proof.Proof.Gen.Far.Launch
public import proofs.«01_k».proof.Proof.Gen.FarIdeal.Launch
public import proofs.«01_k».proof.Proof.Gen.Far.Points
public import proofs.«01_k».proof.Proof.Gen.FarIdeal.Points
public import proofs.«01_k».proof.Proof.Gen.Far.Frame
public import proofs.«01_k».proof.Proof.Gen.FarIdeal.Frame
public import proofs.«01_k».proof.Proof.Gen.FarIdeal.Value
public import proofs.«01_k».proof.Proof.Gen.FarRefIdeal
public import proofs.«01_k».proof.Proof.Gen.FarRefIdeal.Run
public import proofs.«01_k».proof.Proof.Gen.NewA
public import proofs.«01_k».proof.Proof.Gen.NewAIdeal
public import proofs.«01_k».proof.Proof.Gen.NewA.Skeleton
public import proofs.«01_k».proof.Proof.Gen.NewAIdeal.Skeleton
public import proofs.«01_k».proof.Proof.Gen.NewA.Launch
public import proofs.«01_k».proof.Proof.Gen.NewAIdeal.Launch
public import proofs.«01_k».proof.Proof.Gen.NewA.Points
public import proofs.«01_k».proof.Proof.Gen.NewAIdeal.Points
public import proofs.«01_k».proof.Proof.Gen.NewA.Frame
public import proofs.«01_k».proof.Proof.Gen.NewAIdeal.Frame
public import proofs.«01_k».proof.Proof.Gen.NewAIdeal.Value
public import proofs.«01_k».proof.Proof.Gen.NewARefIdeal
public import proofs.«01_k».proof.Proof.Gen.NewARefIdeal.Run
public import proofs.«01_k».proof.Proof.Gen.NewC
public import proofs.«01_k».proof.Proof.Gen.NewCIdeal
public import proofs.«01_k».proof.Proof.Gen.NewC.Skeleton
public import proofs.«01_k».proof.Proof.Gen.NewCIdeal.Skeleton
public import proofs.«01_k».proof.Proof.Gen.NewC.Launch
public import proofs.«01_k».proof.Proof.Gen.NewCIdeal.Launch
public import proofs.«01_k».proof.Proof.Gen.NewC.Points
public import proofs.«01_k».proof.Proof.Gen.NewCIdeal.Points
public import proofs.«01_k».proof.Proof.Gen.NewC.Frame
public import proofs.«01_k».proof.Proof.Gen.NewCIdeal.Frame
public import proofs.«01_k».proof.Proof.Gen.NewCIdeal.Value
public import proofs.«01_k».proof.Proof.Gen.NewCRefIdeal
public import proofs.«01_k».proof.Proof.Gen.NewCRefIdeal.Run
public import proofs.«01_k».proof.Proof.Gen.Dils
public import proofs.«01_k».proof.Proof.Gen.DilsIdeal
public import proofs.«01_k».proof.Proof.Gen.Dils.Skeleton
public import proofs.«01_k».proof.Proof.Gen.DilsIdeal.Skeleton
public import proofs.«01_k».proof.Proof.Gen.Dils.Launch
public import proofs.«01_k».proof.Proof.Gen.DilsIdeal.Launch
public import proofs.«01_k».proof.Proof.Gen.Dils.Points
public import proofs.«01_k».proof.Proof.Gen.DilsIdeal.Points
public import proofs.«01_k».proof.Proof.Gen.Dils.Frame
public import proofs.«01_k».proof.Proof.Gen.DilsIdeal.Frame
public import proofs.«01_k».proof.Proof.Gen.DilsIdeal.Value
public import proofs.«01_k».proof.Proof.Gen.DilsRefIdeal
public import proofs.«01_k».proof.Proof.Gen.DilsRefIdeal.Run
public import proofs.«01_k».proof.Proof.Gen.Merge
public import proofs.«01_k».proof.Proof.Gen.MergeIdeal
public import proofs.«01_k».proof.Proof.Gen.Merge.Skeleton
public import proofs.«01_k».proof.Proof.Gen.MergeIdeal.Skeleton
public import proofs.«01_k».proof.Proof.Gen.Merge.Launch
public import proofs.«01_k».proof.Proof.Gen.MergeIdeal.Launch
public import proofs.«01_k».proof.Proof.Gen.Merge.Points
public import proofs.«01_k».proof.Proof.Gen.MergeIdeal.Points
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Merge.Claim
public import proofs.«01_k».proof.Proof.Dils.Claim
public import Idealize.ShloMosaic.Adequacy
public import Idealize.ShloMosaic.Init

@[expose] public section

noncomputable section

namespace Cert.Proof

open Idealize.ShloMosaic Idealize.SL.Sem Cert.Band

/-- The reference of the band runs and leaves its argument alone; it has no semaphore, so every counter ends at zero. -/
theorem frame_bandRef : Cert.quiescent_BandRefIdeal (hBandRefIdeal := Cert.BandRefIdeal.Gen.facts) := fun m g _ =>
  (θ_run (Cert.BandRefIdeal.defs (F := Ideal)) _ _).mono
    (fun r h => ⟨fun c => (h c).2.2, sem_eq_zero_of_no_sems (by decide) r.2⟩) (Cert.BandRefIdeal.Value.run m g)

/-- So does the reference of the feed-forward block. -/
theorem frame_ffnRef : Cert.quiescent_FfnRefIdeal (hFfnRefIdeal := Cert.FfnRefIdeal.Gen.facts) := fun m g _ =>
  (θ_run (Cert.FfnRefIdeal.defs (F := Ideal)) _ _).mono
    (fun r h => ⟨fun c => (h c).2.2, sem_eq_zero_of_no_sems (by decide) r.2⟩) (Cert.FfnRefIdeal.Value.run m g)

/-- Every claim of the certificate. -/
theorem claim : Cert.Claim := ⟨Cert.Band.Gen.facts, Cert.BandIdeal.Gen.facts, Cert.BandRefIdeal.Gen.facts,
  Cert.Ffn.Gen.facts, Cert.FfnIdeal.Gen.facts, Cert.FfnRefIdeal.Gen.facts,
  Cert.Step.Gen.facts, Cert.StepIdeal.Gen.facts, Cert.StepRefIdeal.Gen.facts,
  Cert.Proj.Gen.facts, Cert.ProjIdeal.Gen.facts, Cert.ProjRefIdeal.Gen.facts,
  Cert.Dilp.Gen.facts, Cert.DilpIdeal.Gen.facts, Cert.DilpRefIdeal.Gen.facts,
  Cert.Mix.Gen.facts, Cert.MixIdeal.Gen.facts, Cert.MixRefIdeal.Gen.facts,
  Cert.Rope.Gen.facts, Cert.RopeIdeal.Gen.facts, Cert.RopeRefIdeal.Gen.facts,
  Cert.Near.Gen.facts, Cert.NearIdeal.Gen.facts, Cert.NearRefIdeal.Gen.facts,
  Cert.Far.Gen.facts, Cert.FarIdeal.Gen.facts, Cert.FarRefIdeal.Gen.facts,
  Cert.NewA.Gen.facts, Cert.NewAIdeal.Gen.facts, Cert.NewARefIdeal.Gen.facts,
  Cert.NewC.Gen.facts, Cert.NewCIdeal.Gen.facts, Cert.NewCRefIdeal.Gen.facts,
  Cert.Merge.Gen.facts, Cert.MergeIdeal.Gen.facts, Cert.MergeRefIdeal.Gen.facts,
  Cert.Dils.Gen.facts, Cert.DilsIdeal.Gen.facts, Cert.DilsRefIdeal.Gen.facts,
  Cert.MergeClaim.statisticsFacts, Cert.FfnClaim.maskFacts,
  fun m ρ _ => Cert.Band.Gen.frame m ρ, fun m ρ _ => Cert.BandIdeal.Gen.frame m ρ, frame_bandRef,
  fun m ρ _ => Cert.Ffn.Gen.frame m ρ, fun m ρ _ => Cert.FfnIdeal.Gen.frame m ρ, frame_ffnRef,
  fun m ρ _ => Cert.Step.Gen.frame m ρ, fun m ρ _ => Cert.StepIdeal.Gen.frame m ρ, Cert.StepClaim.frame_ref,
  fun m ρ _ => Cert.Proj.Gen.frame m ρ, fun m ρ _ => Cert.ProjIdeal.Gen.frame m ρ, Cert.ProjClaim.frame_ref,
  fun m ρ _ => Cert.Dilp.Gen.frame m ρ, fun m ρ _ => Cert.DilpIdeal.Gen.frame m ρ, Cert.DilpClaim.frame_ref,
  fun m ρ _ => Cert.Mix.Gen.frame m ρ, fun m ρ _ => Cert.MixIdeal.Gen.frame m ρ, Cert.MixClaim.frame_ref,
  fun m ρ _ => Cert.Rope.Gen.frame m ρ, fun m ρ _ => Cert.RopeIdeal.Gen.frame m ρ, Cert.RopeClaim.frame_ref,
  fun m ρ _ => Cert.Near.Gen.frame m ρ, fun m ρ _ => Cert.NearIdeal.Gen.frame m ρ, Cert.NearClaim.frame_ref,
  fun m ρ _ => Cert.Far.Gen.frame m ρ, fun m ρ _ => Cert.FarIdeal.Gen.frame m ρ, Cert.FarClaim.frame_ref,
  fun m ρ _ => Cert.NewA.Gen.frame m ρ, fun m ρ _ => Cert.NewAIdeal.Gen.frame m ρ, Cert.NewAClaim.frame_ref,
  fun m ρ _ => Cert.NewC.Gen.frame m ρ, fun m ρ _ => Cert.NewCIdeal.Gen.frame m ρ, Cert.NewCClaim.frame_ref,
  fun m ρ _ => Cert.Merge.Gen.frame m ρ, fun m ρ _ => Cert.MergeIdeal.Gen.frame m ρ, fun m ρ _ => Cert.MergeIdeal.Gen.frame m ρ,
  Cert.MergeClaim.frame_ref, Cert.MergeClaim.frame_ref_pre,
  fun m ρ _ => Cert.Dils.Gen.frame m ρ, fun m ρ _ => Cert.DilsIdeal.Gen.frame m ρ, Cert.DilsClaim.frame_ref,
  IdealRules.named_const.statement Cert.BandIdeal.κ "mask" .f32 0xF149F2CA#32 ⊥ rfl, Cert.BandClaim.algebraic,
  trivial, Cert.FfnClaim.algebraic,
  trivial, Cert.StepClaim.algebraic,
  trivial, Cert.ProjClaim.algebraic,
  trivial, Cert.DilpClaim.algebraic,
  trivial, Cert.MixClaim.algebraic,
  trivial, Cert.RopeClaim.algebraic,
  IdealRules.named_const.statement Cert.NearIdeal.κ "mask" .f32 0xF149F2CA#32 ⊥ rfl, Cert.NearClaim.algebraic,
  IdealRules.named_const.statement Cert.FarIdeal.κ "mask" .f32 0xF149F2CA#32 ⊥ rfl, Cert.FarClaim.algebraic,
  trivial, Cert.NewAClaim.algebraic,
  trivial, Cert.NewCClaim.algebraic,
  trivial, Cert.MergeClaim.algebraic,
  trivial, Cert.DilsClaim.algebraic⟩

end Cert.Proof

end
